-- ==== Defs.lean ====
def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActKernelIdeal_finite [hPre_finite : Cert.Pre_finite.Facts] (m : (ℓ : Loc Cert.ActKernelIdeal.nD Cert.ActKernelIdeal.τ Cert.ActKernelIdeal.sig) → Buf (Elt Ideal) ℓ) : Prop :=
  ∀ c : Dev Cert.ActKernelIdeal.nD,
    (Cert.Pre_finite.fn (F := Ideal) (m ((c.tc : Thread Cert.ActKernelIdeal.nD Cert.ActKernelIdeal.τ).loc Cert.ActKernelIdeal.main_arg0)) (m ((c.tc : Thread Cert.ActKernelIdeal.nD Cert.ActKernelIdeal.τ).loc Cert.ActKernelIdeal.main_arg1)) (m ((c.tc : Thread Cert.ActKernelIdeal.nD Cert.ActKernelIdeal.τ).loc Cert.ActKernelIdeal.main_arg2)) (m ((c.tc : Thread Cert.ActKernelIdeal.nD Cert.ActKernelIdeal.τ).loc Cert.ActKernelIdeal.main_arg3)) (m ((c.tc : Thread Cert.ActKernelIdeal.nD Cert.ActKernelIdeal.τ).loc Cert.ActKernelIdeal.main_arg4)) (m ((c.tc : Thread Cert.ActKernelIdeal.nD Cert.ActKernelIdeal.τ).loc Cert.ActKernelIdeal.main_arg5))).1 = (fun _ => 1#1)
    ∧ (Cert.Pre_finite.fn (F := Ideal) (m ((c.tc : Thread Cert.ActKernelIdeal.nD Cert.ActKernelIdeal.τ).loc Cert.ActKernelIdeal.main_arg0)) (m ((c.tc : Thread Cert.ActKernelIdeal.nD Cert.ActKernelIdeal.τ).loc Cert.ActKernelIdeal.main_arg1)) (m ((c.tc : Thread Cert.ActKernelIdeal.nD Cert.ActKernelIdeal.τ).loc Cert.ActKernelIdeal.main_arg2)) (m ((c.tc : Thread Cert.ActKernelIdeal.nD Cert.ActKernelIdeal.τ).loc Cert.ActKernelIdeal.main_arg3)) (m ((c.tc : Thread Cert.ActKernelIdeal.nD Cert.ActKernelIdeal.τ).loc Cert.ActKernelIdeal.main_arg4)) (m ((c.tc : Thread Cert.ActKernelIdeal.nD Cert.ActKernelIdeal.τ).loc Cert.ActKernelIdeal.main_arg5))).2.1 = (fun _ => 1#1)
    ∧ (Cert.Pre_finite.fn (F := Ideal) (m ((c.tc : Thread Cert.ActKernelIdeal.nD Cert.ActKernelIdeal.τ).loc Cert.ActKernelIdeal.main_arg0)) (m ((c.tc : Thread Cert.ActKernelIdeal.nD Cert.ActKernelIdeal.τ).loc Cert.ActKernelIdeal.main_arg1)) (m ((c.tc : Thread Cert.ActKernelIdeal.nD Cert.ActKernelIdeal.τ).loc Cert.ActKernelIdeal.main_arg2)) (m ((c.tc : Thread Cert.ActKernelIdeal.nD Cert.ActKernelIdeal.τ).loc Cert.ActKernelIdeal.main_arg3)) (m ((c.tc : Thread Cert.ActKernelIdeal.nD Cert.ActKernelIdeal.τ).loc Cert.ActKernelIdeal.main_arg4)) (m ((c.tc : Thread Cert.ActKernelIdeal.nD Cert.ActKernelIdeal.τ).loc Cert.ActKernelIdeal.main_arg5))).2.2 = (fun _ => 1#1)

def Pre_ActReferenceIdeal (m : (ℓ : Loc Cert.ActReferenceIdeal.nD Cert.ActReferenceIdeal.τ Cert.ActReferenceIdeal.sig) → Buf (Elt Ideal) ℓ) : Prop :=
  True

def Pre_ActReferenceIdeal_finite [hPre_finite : Cert.Pre_finite.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_finite.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3)) (m ((c.tc : Thread Cert.ActReferenceIdeal.nD Cert.ActReferenceIdeal.τ).loc Cert.ActReferenceIdeal.main_arg4)) (m ((c.tc : Thread Cert.ActReferenceIdeal.nD Cert.ActReferenceIdeal.τ).loc Cert.ActReferenceIdeal.main_arg5))).1 = (fun _ => 1#1)
    ∧ (Cert.Pre_finite.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3)) (m ((c.tc : Thread Cert.ActReferenceIdeal.nD Cert.ActReferenceIdeal.τ).loc Cert.ActReferenceIdeal.main_arg4)) (m ((c.tc : Thread Cert.ActReferenceIdeal.nD Cert.ActReferenceIdeal.τ).loc Cert.ActReferenceIdeal.main_arg5))).2.1 = (fun _ => 1#1)
    ∧ (Cert.Pre_finite.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3)) (m ((c.tc : Thread Cert.ActReferenceIdeal.nD Cert.ActReferenceIdeal.τ).loc Cert.ActReferenceIdeal.main_arg4)) (m ((c.tc : Thread Cert.ActReferenceIdeal.nD Cert.ActReferenceIdeal.τ).loc Cert.ActReferenceIdeal.main_arg5))).2.2 = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_WgradKernel (m : (ℓ : Loc Cert.WgradKernel.nD Cert.WgradKernel.τ Cert.WgradKernel.sig) → Buf (Elt Bits) ℓ) : Prop :=
  True

def Pre_WgradKernelIdeal (m : (ℓ : Loc Cert.WgradKernelIdeal.nD Cert.WgradKernelIdeal.τ Cert.WgradKernelIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_RopeKernel (m : (ℓ : Loc Cert.RopeKernel.nD Cert.RopeKernel.τ Cert.RopeKernel.sig) → Buf (Elt Bits) ℓ) : Prop :=
  True

def Pre_RopeKernelIdeal (m : (ℓ : Loc Cert.RopeKernelIdeal.nD Cert.RopeKernelIdeal.τ Cert.RopeKernelIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_PreKernel (m : (ℓ : Loc Cert.PreKernel.nD Cert.PreKernel.τ Cert.PreKernel.sig) → Buf (Elt Bits) ℓ) : Prop :=
  True

def Pre_PreKernelIdeal (m : (ℓ : Loc Cert.PreKernelIdeal.nD Cert.PreKernelIdeal.τ Cert.PreKernelIdeal.sig) → Buf (Elt Ideal) ℓ) : Prop :=
  True

def Pre_PreReferenceIdeal (m : (ℓ : Loc Cert.PreReferenceIdeal.nD Cert.PreReferenceIdeal.τ Cert.PreReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2)
      ∧ r.2.mem ((c.tc : Thread Cert.ActKernel.nD Cert.ActKernel.τ).loc Cert.ActKernel.main_arg3) = m ((c.tc : Thread Cert.ActKernel.nD Cert.ActKernel.τ).loc Cert.ActKernel.main_arg3)
      ∧ r.2.mem ((c.tc : Thread Cert.ActKernel.nD Cert.ActKernel.τ).loc Cert.ActKernel.main_arg4) = m ((c.tc : Thread Cert.ActKernel.nD Cert.ActKernel.τ).loc Cert.ActKernel.main_arg4)
      ∧ r.2.mem ((c.tc : Thread Cert.ActKernel.nD Cert.ActKernel.τ).loc Cert.ActKernel.main_arg5) = m ((c.tc : Thread Cert.ActKernel.nD Cert.ActKernel.τ).loc Cert.ActKernel.main_arg5))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
      ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3)
      ∧ r.2.mem ((c.tc : Thread Cert.ActKernelIdeal.nD Cert.ActKernelIdeal.τ).loc Cert.ActKernelIdeal.main_arg4) = m ((c.tc : Thread Cert.ActKernelIdeal.nD Cert.ActKernelIdeal.τ).loc Cert.ActKernelIdeal.main_arg4)
      ∧ r.2.mem ((c.tc : Thread Cert.ActKernelIdeal.nD Cert.ActKernelIdeal.τ).loc Cert.ActKernelIdeal.main_arg5) = m ((c.tc : Thread Cert.ActKernelIdeal.nD Cert.ActKernelIdeal.τ).loc Cert.ActKernelIdeal.main_arg5))
      ∧ r.2.sem = fun _ => 0)

def quiescent_ActKernelIdeal_pre_finite [hActKernelIdeal : Cert.ActKernelIdeal.Facts] [hPre_finite : Cert.Pre_finite.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal_finite m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
      ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3)
      ∧ r.2.mem ((c.tc : Thread Cert.ActKernelIdeal.nD Cert.ActKernelIdeal.τ).loc Cert.ActKernelIdeal.main_arg4) = m ((c.tc : Thread Cert.ActKernelIdeal.nD Cert.ActKernelIdeal.τ).loc Cert.ActKernelIdeal.main_arg4)
      ∧ r.2.mem ((c.tc : Thread Cert.ActKernelIdeal.nD Cert.ActKernelIdeal.τ).loc Cert.ActKernelIdeal.main_arg5) = m ((c.tc : Thread Cert.ActKernelIdeal.nD Cert.ActKernelIdeal.τ).loc Cert.ActKernelIdeal.main_arg5))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3)
      ∧ r.2.mem ((c.tc : Thread Cert.ActReferenceIdeal.nD Cert.ActReferenceIdeal.τ).loc Cert.ActReferenceIdeal.main_arg4) = m ((c.tc : Thread Cert.ActReferenceIdeal.nD Cert.ActReferenceIdeal.τ).loc Cert.ActReferenceIdeal.main_arg4)
      ∧ r.2.mem ((c.tc : Thread Cert.ActReferenceIdeal.nD Cert.ActReferenceIdeal.τ).loc Cert.ActReferenceIdeal.main_arg5) = m ((c.tc : Thread Cert.ActReferenceIdeal.nD Cert.ActReferenceIdeal.τ).loc Cert.ActReferenceIdeal.main_arg5))
      ∧ r.2.sem = fun _ => 0)

def quiescent_ActReferenceIdeal_pre_finite [hActReferenceIdeal : Cert.ActReferenceIdeal.Facts] [hPre_finite : Cert.Pre_finite.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal_finite m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3)
      ∧ r.2.mem ((c.tc : Thread Cert.ActReferenceIdeal.nD Cert.ActReferenceIdeal.τ).loc Cert.ActReferenceIdeal.main_arg4) = m ((c.tc : Thread Cert.ActReferenceIdeal.nD Cert.ActReferenceIdeal.τ).loc Cert.ActReferenceIdeal.main_arg4)
      ∧ r.2.mem ((c.tc : Thread Cert.ActReferenceIdeal.nD Cert.ActReferenceIdeal.τ).loc Cert.ActReferenceIdeal.main_arg5) = m ((c.tc : Thread Cert.ActReferenceIdeal.nD Cert.ActReferenceIdeal.τ).loc Cert.ActReferenceIdeal.main_arg5))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_WgradKernel [hWgradKernel : Cert.WgradKernel.Facts] : Prop :=
  ∀ (m : (ℓ : Loc Cert.WgradKernel.nD Cert.WgradKernel.τ Cert.WgradKernel.sig) → Buf (Elt Bits) ℓ) (g : Dev Cert.WgradKernel.nD → PrngReg), Pre_WgradKernel m →
    θ_run (Cert.WgradKernel.defs (F := Bits)) (onTc (τ := Cert.WgradKernel.τ) (Cert.WgradKernel.main (F := Bits))) ⟨m, fun _ => 0, g⟩ (fun r => (∀ c : Dev Cert.WgradKernel.nD,
      r.2.mem ((c.tc : Thread Cert.WgradKernel.nD Cert.WgradKernel.τ).loc Cert.WgradKernel.main_arg0) = m ((c.tc : Thread Cert.WgradKernel.nD Cert.WgradKernel.τ).loc Cert.WgradKernel.main_arg0)
      ∧ r.2.mem ((c.tc : Thread Cert.WgradKernel.nD Cert.WgradKernel.τ).loc Cert.WgradKernel.main_arg1) = m ((c.tc : Thread Cert.WgradKernel.nD Cert.WgradKernel.τ).loc Cert.WgradKernel.main_arg1)
      ∧ r.2.mem ((c.tc : Thread Cert.WgradKernel.nD Cert.WgradKernel.τ).loc Cert.WgradKernel.main_arg2) = m ((c.tc : Thread Cert.WgradKernel.nD Cert.WgradKernel.τ).loc Cert.WgradKernel.main_arg2))
      ∧ r.2.sem = fun _ => 0)

def quiescent_WgradKernelIdeal [hWgradKernelIdeal : Cert.WgradKernelIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg), Pre_WgradKernelIdeal m →
    θ_run (Cert.WgradKernelIdeal.defs (F := Ideal)) (onTc (τ := Cert.WgradKernelIdeal.τ) (Cert.WgradKernelIdeal.main (F := Ideal))) ⟨m, fun _ => 0, g⟩ (fun r => (∀ c : Dev Cert.WgradKernelIdeal.nD,
      r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
      ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1)
      ∧ r.2.mem ((c.tc : Thread Cert.WgradKernelIdeal.nD Cert.WgradKernelIdeal.τ).loc Cert.WgradKernelIdeal.main_arg2) = m ((c.tc : Thread Cert.WgradKernelIdeal.nD Cert.WgradKernelIdeal.τ).loc Cert.WgradKernelIdeal.main_arg2))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1)
      ∧ r.2.mem ((c.tc : Thread Cert.WgradReferenceIdeal.nD Cert.WgradReferenceIdeal.τ).loc Cert.WgradReferenceIdeal.main_arg2) = m ((c.tc : Thread Cert.WgradReferenceIdeal.nD Cert.WgradReferenceIdeal.τ).loc Cert.WgradReferenceIdeal.main_arg2))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2)
      ∧ r.2.mem ((c.tc : Thread Cert.InprojKernel.nD Cert.InprojKernel.τ).loc Cert.InprojKernel.main_arg3) = m ((c.tc : Thread Cert.InprojKernel.nD Cert.InprojKernel.τ).loc Cert.InprojKernel.main_arg3)
      ∧ r.2.mem ((c.tc : Thread Cert.InprojKernel.nD Cert.InprojKernel.τ).loc Cert.InprojKernel.main_arg4) = m ((c.tc : Thread Cert.InprojKernel.nD Cert.InprojKernel.τ).loc Cert.InprojKernel.main_arg4)
      ∧ r.2.mem ((c.tc : Thread Cert.InprojKernel.nD Cert.InprojKernel.τ).loc Cert.InprojKernel.main_arg5) = m ((c.tc : Thread Cert.InprojKernel.nD Cert.InprojKernel.τ).loc Cert.InprojKernel.main_arg5)
      ∧ r.2.mem ((c.tc : Thread Cert.InprojKernel.nD Cert.InprojKernel.τ).loc Cert.InprojKernel.main_arg6) = m ((c.tc : Thread Cert.InprojKernel.nD Cert.InprojKernel.τ).loc Cert.InprojKernel.main_arg6)
      ∧ r.2.mem ((c.tc : Thread Cert.InprojKernel.nD Cert.InprojKernel.τ).loc Cert.InprojKernel.main_arg7) = m ((c.tc : Thread Cert.InprojKernel.nD Cert.InprojKernel.τ).loc Cert.InprojKernel.main_arg7))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
      ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
      ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6)
      ∧ r.2.mem ((c.tc : Thread Cert.InprojKernelIdeal.nD Cert.InprojKernelIdeal.τ).loc Cert.InprojKernelIdeal.main_arg7) = m ((c.tc : Thread Cert.InprojKernelIdeal.nD Cert.InprojKernelIdeal.τ).loc Cert.InprojKernelIdeal.main_arg7))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7))
      ∧ r.2.sem = fun _ => 0)

def quiescent_RopeKernel [hRopeKernel : Cert.RopeKernel.Facts] : Prop :=
  ∀ (m : (ℓ : Loc Cert.RopeKernel.nD Cert.RopeKernel.τ Cert.RopeKernel.sig) → Buf (Elt Bits) ℓ) (g : Dev Cert.RopeKernel.nD → PrngReg), Pre_RopeKernel m →
    θ_run (Cert.RopeKernel.defs (F := Bits)) (onTc (τ := Cert.RopeKernel.τ) (Cert.RopeKernel.main (F := Bits))) ⟨m, fun _ => 0, g⟩ (fun r => (∀ c : Dev Cert.RopeKernel.nD,
      r.2.mem ((c.tc : Thread Cert.RopeKernel.nD Cert.RopeKernel.τ).loc Cert.RopeKernel.main_arg0) = m ((c.tc : Thread Cert.RopeKernel.nD Cert.RopeKernel.τ).loc Cert.RopeKernel.main_arg0)
      ∧ r.2.mem ((c.tc : Thread Cert.RopeKernel.nD Cert.RopeKernel.τ).loc Cert.RopeKernel.main_arg1) = m ((c.tc : Thread Cert.RopeKernel.nD Cert.RopeKernel.τ).loc Cert.RopeKernel.main_arg1)
      ∧ r.2.mem ((c.tc : Thread Cert.RopeKernel.nD Cert.RopeKernel.τ).loc Cert.RopeKernel.main_arg2) = m ((c.tc : Thread Cert.RopeKernel.nD Cert.RopeKernel.τ).loc Cert.RopeKernel.main_arg2)
      ∧ r.2.mem ((c.tc : Thread Cert.RopeKernel.nD Cert.RopeKernel.τ).loc Cert.RopeKernel.main_arg3) = m ((c.tc : Thread Cert.RopeKernel.nD Cert.RopeKernel.τ).loc Cert.RopeKernel.main_arg3)
      ∧ r.2.mem ((c.tc : Thread Cert.RopeKernel.nD Cert.RopeKernel.τ).loc Cert.RopeKernel.main_arg4) = m ((c.tc : Thread Cert.RopeKernel.nD Cert.RopeKernel.τ).loc Cert.RopeKernel.main_arg4)
      ∧ r.2.mem ((c.tc : Thread Cert.RopeKernel.nD Cert.RopeKernel.τ).loc Cert.RopeKernel.main_arg5) = m ((c.tc : Thread Cert.RopeKernel.nD Cert.RopeKernel.τ).loc Cert.RopeKernel.main_arg5)
      ∧ r.2.mem ((c.tc : Thread Cert.RopeKernel.nD Cert.RopeKernel.τ).loc Cert.RopeKernel.main_arg6) = m ((c.tc : Thread Cert.RopeKernel.nD Cert.RopeKernel.τ).loc Cert.RopeKernel.main_arg6))
      ∧ r.2.sem = fun _ => 0)

def quiescent_RopeKernelIdeal [hRopeKernelIdeal : Cert.RopeKernelIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
      ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1)
      ∧ r.2.mem ((c.tc : Thread Cert.RopeKernelIdeal.nD Cert.RopeKernelIdeal.τ).loc Cert.RopeKernelIdeal.main_arg2) = m ((c.tc : Thread Cert.RopeKernelIdeal.nD Cert.RopeKernelIdeal.τ).loc Cert.RopeKernelIdeal.main_arg2)
      ∧ r.2.mem ((c.tc : Thread Cert.RopeKernelIdeal.nD Cert.RopeKernelIdeal.τ).loc Cert.RopeKernelIdeal.main_arg3) = m ((c.tc : Thread Cert.RopeKernelIdeal.nD Cert.RopeKernelIdeal.τ).loc Cert.RopeKernelIdeal.main_arg3)
      ∧ r.2.mem ((c.tc : Thread Cert.RopeKernelIdeal.nD Cert.RopeKernelIdeal.τ).loc Cert.RopeKernelIdeal.main_arg4) = m ((c.tc : Thread Cert.RopeKernelIdeal.nD Cert.RopeKernelIdeal.τ).loc Cert.RopeKernelIdeal.main_arg4)
      ∧ r.2.mem ((c.tc : Thread Cert.RopeKernelIdeal.nD Cert.RopeKernelIdeal.τ).loc Cert.RopeKernelIdeal.main_arg5) = m ((c.tc : Thread Cert.RopeKernelIdeal.nD Cert.RopeKernelIdeal.τ).loc Cert.RopeKernelIdeal.main_arg5)
      ∧ r.2.mem ((c.tc : Thread Cert.RopeKernelIdeal.nD Cert.RopeKernelIdeal.τ).loc Cert.RopeKernelIdeal.main_arg6) = m ((c.tc : Thread Cert.RopeKernelIdeal.nD Cert.RopeKernelIdeal.τ).loc Cert.RopeKernelIdeal.main_arg6))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4)
      ∧ r.2.mem ((c.tc : Thread Cert.RopeReferenceIdeal.nD Cert.RopeReferenceIdeal.τ).loc Cert.RopeReferenceIdeal.main_arg5) = m ((c.tc : Thread Cert.RopeReferenceIdeal.nD Cert.RopeReferenceIdeal.τ).loc Cert.RopeReferenceIdeal.main_arg5)
      ∧ r.2.mem ((c.tc : Thread Cert.RopeReferenceIdeal.nD Cert.RopeReferenceIdeal.τ).loc Cert.RopeReferenceIdeal.main_arg6) = m ((c.tc : Thread Cert.RopeReferenceIdeal.nD Cert.RopeReferenceIdeal.τ).loc Cert.RopeReferenceIdeal.main_arg6))
      ∧ r.2.sem = fun _ => 0)

def quiescent_PreKernel [hPreKernel : Cert.PreKernel.Facts] : Prop :=
  ∀ (m : (ℓ : Loc Cert.PreKernel.nD Cert.PreKernel.τ Cert.PreKernel.sig) → Buf (Elt Bits) ℓ) (g : Dev Cert.PreKernel.nD → PrngReg), Pre_PreKernel m →
    θ_run (Cert.PreKernel.defs (F := Bits)) (onTc (τ := Cert.PreKernel.τ) (Cert.PreKernel.main (F := Bits))) ⟨m, fun _ => 0, g⟩ (fun r => (∀ c : Dev Cert.PreKernel.nD,
      r.2.mem ((c.tc : Thread Cert.PreKernel.nD Cert.PreKernel.τ).loc Cert.PreKernel.main_arg0) = m ((c.tc : Thread Cert.PreKernel.nD Cert.PreKernel.τ).loc Cert.PreKernel.main_arg0)
      ∧ r.2.mem ((c.tc : Thread Cert.PreKernel.nD Cert.PreKernel.τ).loc Cert.PreKernel.main_arg1) = m ((c.tc : Thread Cert.PreKernel.nD Cert.PreKernel.τ).loc Cert.PreKernel.main_arg1)
      ∧ r.2.mem ((c.tc : Thread Cert.PreKernel.nD Cert.PreKernel.τ).loc Cert.PreKernel.main_arg2) = m ((c.tc : Thread Cert.PreKernel.nD Cert.PreKernel.τ).loc Cert.PreKernel.main_arg2)
      ∧ r.2.mem ((c.tc : Thread Cert.PreKernel.nD Cert.PreKernel.τ).loc Cert.PreKernel.main_arg3) = m ((c.tc : Thread Cert.PreKernel.nD Cert.PreKernel.τ).loc Cert.PreKernel.main_arg3)
      ∧ r.2.mem ((c.tc : Thread Cert.PreKernel.nD Cert.PreKernel.τ).loc Cert.PreKernel.main_arg4) = m ((c.tc : Thread Cert.PreKernel.nD Cert.PreKernel.τ).loc Cert.PreKernel.main_arg4)
      ∧ r.2.mem ((c.tc : Thread Cert.PreKernel.nD Cert.PreKernel.τ).loc Cert.PreKernel.main_arg5) = m ((c.tc : Thread Cert.PreKernel.nD Cert.PreKernel.τ).loc Cert.PreKernel.main_arg5)
      ∧ r.2.mem ((c.tc : Thread Cert.PreKernel.nD Cert.PreKernel.τ).loc Cert.PreKernel.main_arg6) = m ((c.tc : Thread Cert.PreKernel.nD Cert.PreKernel.τ).loc Cert.PreKernel.main_arg6))
      ∧ r.2.sem = fun _ => 0)

def quiescent_PreKernelIdeal [hPreKernelIdeal : Cert.PreKernelIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
      ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
      ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6))
      ∧ r.2.sem = fun _ => 0)

def quiescent_PreReferenceIdeal [hPreReferenceIdeal : Cert.PreReferenceIdeal.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2)
      ∧ r.2.mem ((c.tc : Thread Cert.PreReferenceIdeal.nD Cert.PreReferenceIdeal.τ).loc Cert.PreReferenceIdeal.main_arg3) = m ((c.tc : Thread Cert.PreReferenceIdeal.nD Cert.PreReferenceIdeal.τ).loc Cert.PreReferenceIdeal.main_arg3)
      ∧ r.2.mem ((c.tc : Thread Cert.PreReferenceIdeal.nD Cert.PreReferenceIdeal.τ).loc Cert.PreReferenceIdeal.main_arg4) = m ((c.tc : Thread Cert.PreReferenceIdeal.nD Cert.PreReferenceIdeal.τ).loc Cert.PreReferenceIdeal.main_arg4)
      ∧ r.2.mem ((c.tc : Thread Cert.PreReferenceIdeal.nD Cert.PreReferenceIdeal.τ).loc Cert.PreReferenceIdeal.main_arg5) = m ((c.tc : Thread Cert.PreReferenceIdeal.nD Cert.PreReferenceIdeal.τ).loc Cert.PreReferenceIdeal.main_arg5)
      ∧ r.2.mem ((c.tc : Thread Cert.PreReferenceIdeal.nD Cert.PreReferenceIdeal.τ).loc Cert.PreReferenceIdeal.main_arg6) = m ((c.tc : Thread Cert.PreReferenceIdeal.nD Cert.PreReferenceIdeal.τ).loc Cert.PreReferenceIdeal.main_arg6))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10)
      ∧ r.2.mem ((c.tc : Thread Cert.MixKernel.nD Cert.MixKernel.τ).loc Cert.MixKernel.main_arg11) = m ((c.tc : Thread Cert.MixKernel.nD Cert.MixKernel.τ).loc Cert.MixKernel.main_arg11))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def preserves_ActKernel_ActKernelIdeal : Prop :=
  True

def algebraic_ActKernelIdeal_ActReferenceIdeal_pre_finite [hActKernelIdeal : Cert.ActKernelIdeal.Facts] [hActReferenceIdeal : Cert.ActReferenceIdeal.Facts] [hPre_finite : Cert.Pre_finite.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal_finite m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)
      ∧ m' ((c.tc : Thread Cert.ActReferenceIdeal.nD Cert.ActReferenceIdeal.τ).loc Cert.ActReferenceIdeal.main_arg2) = m ((c.tc : Thread Cert.ActKernelIdeal.nD Cert.ActKernelIdeal.τ).loc Cert.ActKernelIdeal.main_arg2)
      ∧ m' ((c.tc : Thread Cert.ActReferenceIdeal.nD Cert.ActReferenceIdeal.τ).loc Cert.ActReferenceIdeal.main_arg3) = m ((c.tc : Thread Cert.ActKernelIdeal.nD Cert.ActKernelIdeal.τ).loc Cert.ActKernelIdeal.main_arg3)
      ∧ m' ((c.tc : Thread Cert.ActReferenceIdeal.nD Cert.ActReferenceIdeal.τ).loc Cert.ActReferenceIdeal.main_arg4) = m ((c.tc : Thread Cert.ActKernelIdeal.nD Cert.ActKernelIdeal.τ).loc Cert.ActKernelIdeal.main_arg4)
      ∧ m' ((c.tc : Thread Cert.ActReferenceIdeal.nD Cert.ActReferenceIdeal.τ).loc Cert.ActReferenceIdeal.main_arg5) = m ((c.tc : Thread Cert.ActKernelIdeal.nD Cert.ActKernelIdeal.τ).loc Cert.ActKernelIdeal.main_arg5)) →
    ∃ (v0 : (c : Dev Cert.ActKernelIdeal.nD) → Buf (Elt Ideal) ((c.tc : Thread Cert.ActKernelIdeal.nD Cert.ActKernelIdeal.τ).loc Cert.ActKernelIdeal.main_v78_0)) (v1 : (c : Dev Cert.ActKernelIdeal.nD) → Buf (Elt Ideal) ((c.tc : Thread Cert.ActKernelIdeal.nD Cert.ActKernelIdeal.τ).loc Cert.ActKernelIdeal.main_v78_1)) (v2 : (c : Dev Cert.ActKernelIdeal.nD) → Buf (Elt Ideal) ((c.tc : Thread Cert.ActKernelIdeal.nD Cert.ActKernelIdeal.τ).loc Cert.ActKernelIdeal.main_v78_2)) (v3 : (c : Dev Cert.ActKernelIdeal.nD) → Buf (Elt Ideal) ((c.tc : Thread Cert.ActKernelIdeal.nD Cert.ActKernelIdeal.τ).loc Cert.ActKernelIdeal.main_v78_3)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v78_0) = v0 c
          ∧ r.2.mem ((c.tc : Thread Cert.ActKernelIdeal.nD Cert.ActKernelIdeal.τ).loc Cert.ActKernelIdeal.main_v78_1) = v1 c
          ∧ r.2.mem ((c.tc : Thread Cert.ActKernelIdeal.nD Cert.ActKernelIdeal.τ).loc Cert.ActKernelIdeal.main_v78_2) = v2 c
          ∧ r.2.mem ((c.tc : Thread Cert.ActKernelIdeal.nD Cert.ActKernelIdeal.τ).loc Cert.ActKernelIdeal.main_v78_3) = v3 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
          ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3)
          ∧ r.2.mem ((c.tc : Thread Cert.ActKernelIdeal.nD Cert.ActKernelIdeal.τ).loc Cert.ActKernelIdeal.main_arg4) = m ((c.tc : Thread Cert.ActKernelIdeal.nD Cert.ActKernelIdeal.τ).loc Cert.ActKernelIdeal.main_arg4)
          ∧ r.2.mem ((c.tc : Thread Cert.ActKernelIdeal.nD Cert.ActKernelIdeal.τ).loc Cert.ActKernelIdeal.main_arg5) = m ((c.tc : Thread Cert.ActKernelIdeal.nD Cert.ActKernelIdeal.τ).loc Cert.ActKernelIdeal.main_arg5))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v108) = v0 c
          ∧ r.2.mem ((c.tc : Thread Cert.ActReferenceIdeal.nD Cert.ActReferenceIdeal.τ).loc Cert.ActReferenceIdeal.main_v109) = v1 c
          ∧ r.2.mem ((c.tc : Thread Cert.ActReferenceIdeal.nD Cert.ActReferenceIdeal.τ).loc Cert.ActReferenceIdeal.main_v110) = v2 c
          ∧ r.2.mem ((c.tc : Thread Cert.ActReferenceIdeal.nD Cert.ActReferenceIdeal.τ).loc Cert.ActReferenceIdeal.main_v107) = v3 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3)
          ∧ r.2.mem ((c.tc : Thread Cert.ActReferenceIdeal.nD Cert.ActReferenceIdeal.τ).loc Cert.ActReferenceIdeal.main_arg4) = m' ((c.tc : Thread Cert.ActReferenceIdeal.nD Cert.ActReferenceIdeal.τ).loc Cert.ActReferenceIdeal.main_arg4)
          ∧ r.2.mem ((c.tc : Thread Cert.ActReferenceIdeal.nD Cert.ActReferenceIdeal.τ).loc Cert.ActReferenceIdeal.main_arg5) = m' ((c.tc : Thread Cert.ActReferenceIdeal.nD Cert.ActReferenceIdeal.τ).loc Cert.ActReferenceIdeal.main_arg5))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)
      ∧ m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5)) →
    ∃ (v0 : (c : Dev Cert.UpKernelIdeal.nD) → Buf (Elt Ideal) ((c.tc : Thread Cert.UpKernelIdeal.nD Cert.UpKernelIdeal.τ).loc Cert.UpKernelIdeal.main_v2_0)) (v1 : (c : Dev Cert.UpKernelIdeal.nD) → Buf (Elt Ideal) ((c.tc : Thread Cert.UpKernelIdeal.nD Cert.UpKernelIdeal.τ).loc Cert.UpKernelIdeal.main_v2_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v2_0) = v0 c
          ∧ r.2.mem ((c.tc : Thread Cert.UpKernelIdeal.nD Cert.UpKernelIdeal.τ).loc Cert.UpKernelIdeal.main_v2_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v46) = v0 c
          ∧ r.2.mem ((c.tc : Thread Cert.UpReferenceIdeal.nD Cert.UpReferenceIdeal.τ).loc Cert.UpReferenceIdeal.main_v47) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def preserves_WgradKernel_WgradKernelIdeal : Prop :=
  True

def algebraic_WgradKernelIdeal_WgradReferenceIdeal [hWgradKernelIdeal : Cert.WgradKernelIdeal.Facts] [hWgradReferenceIdeal : Cert.WgradReferenceIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradKernelIdeal m →
    (∀ c : Dev Cert.WgradKernelIdeal.nD,
      m' ((c.tc : Thread Cert.WgradReferenceIdeal.nD Cert.WgradReferenceIdeal.τ).loc Cert.WgradReferenceIdeal.main_arg0) = m ((c.tc : Thread Cert.WgradKernelIdeal.nD Cert.WgradKernelIdeal.τ).loc Cert.WgradKernelIdeal.main_arg0)
      ∧ m' ((c.tc : Thread Cert.WgradReferenceIdeal.nD Cert.WgradReferenceIdeal.τ).loc Cert.WgradReferenceIdeal.main_arg1) = m ((c.tc : Thread Cert.WgradKernelIdeal.nD Cert.WgradKernelIdeal.τ).loc Cert.WgradKernelIdeal.main_arg1)
      ∧ m' ((c.tc : Thread Cert.WgradReferenceIdeal.nD Cert.WgradReferenceIdeal.τ).loc Cert.WgradReferenceIdeal.main_arg2) = m ((c.tc : Thread Cert.WgradKernelIdeal.nD Cert.WgradKernelIdeal.τ).loc Cert.WgradKernelIdeal.main_arg2)) →
    ∃ (v0 : (c : Dev Cert.WgradKernelIdeal.nD) → Buf (Elt Ideal) ((c.tc : Thread Cert.WgradKernelIdeal.nD Cert.WgradKernelIdeal.τ).loc Cert.WgradKernelIdeal.main_v0)),
      θ_run (Cert.WgradKernelIdeal.defs (F := Ideal)) (onTc (τ := Cert.WgradKernelIdeal.τ) (Cert.WgradKernelIdeal.main (F := Ideal))) ⟨m, fun _ => 0, g⟩ (fun r => ∀ c : Dev Cert.WgradKernelIdeal.nD,
          r.2.mem ((c.tc : Thread Cert.WgradKernelIdeal.nD Cert.WgradKernelIdeal.τ).loc Cert.WgradKernelIdeal.main_v0) = v0 c
          ∧ r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
          ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1)
          ∧ r.2.mem ((c.tc : Thread Cert.WgradKernelIdeal.nD Cert.WgradKernelIdeal.τ).loc Cert.WgradKernelIdeal.main_arg2) = m ((c.tc : Thread Cert.WgradKernelIdeal.nD Cert.WgradKernelIdeal.τ).loc Cert.WgradKernelIdeal.main_arg2))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v6) = v0 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1)
          ∧ r.2.mem ((c.tc : Thread Cert.WgradReferenceIdeal.nD Cert.WgradReferenceIdeal.τ).loc Cert.WgradReferenceIdeal.main_arg2) = m' ((c.tc : Thread Cert.WgradReferenceIdeal.nD Cert.WgradReferenceIdeal.τ).loc Cert.WgradReferenceIdeal.main_arg2))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)
      ∧ m' ((c.tc : Thread Cert.InprojReferenceIdeal.nD Cert.InprojReferenceIdeal.τ).loc Cert.InprojReferenceIdeal.main_arg3) = m ((c.tc : Thread Cert.InprojKernelIdeal.nD Cert.InprojKernelIdeal.τ).loc Cert.InprojKernelIdeal.main_arg3)
      ∧ m' ((c.tc : Thread Cert.InprojReferenceIdeal.nD Cert.InprojReferenceIdeal.τ).loc Cert.InprojReferenceIdeal.main_arg4) = m ((c.tc : Thread Cert.InprojKernelIdeal.nD Cert.InprojKernelIdeal.τ).loc Cert.InprojKernelIdeal.main_arg4)
      ∧ m' ((c.tc : Thread Cert.InprojReferenceIdeal.nD Cert.InprojReferenceIdeal.τ).loc Cert.InprojReferenceIdeal.main_arg5) = m ((c.tc : Thread Cert.InprojKernelIdeal.nD Cert.InprojKernelIdeal.τ).loc Cert.InprojKernelIdeal.main_arg5)
      ∧ m' ((c.tc : Thread Cert.InprojReferenceIdeal.nD Cert.InprojReferenceIdeal.τ).loc Cert.InprojReferenceIdeal.main_arg6) = m ((c.tc : Thread Cert.InprojKernelIdeal.nD Cert.InprojKernelIdeal.τ).loc Cert.InprojKernelIdeal.main_arg6)
      ∧ m' ((c.tc : Thread Cert.InprojReferenceIdeal.nD Cert.InprojReferenceIdeal.τ).loc Cert.InprojReferenceIdeal.main_arg7) = m ((c.tc : Thread Cert.InprojKernelIdeal.nD Cert.InprojKernelIdeal.τ).loc Cert.InprojKernelIdeal.main_arg7)) →
    ∃ (v0 : (c : Dev Cert.InprojKernelIdeal.nD) → Buf (Elt Ideal) ((c.tc : Thread Cert.InprojKernelIdeal.nD Cert.InprojKernelIdeal.τ).loc Cert.InprojKernelIdeal.main_v2_0)) (v1 : (c : Dev Cert.InprojKernelIdeal.nD) → Buf (Elt Ideal) ((c.tc : Thread Cert.InprojKernelIdeal.nD Cert.InprojKernelIdeal.τ).loc Cert.InprojKernelIdeal.main_v2_1)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v2_0) = v0 c
          ∧ r.2.mem ((c.tc : Thread Cert.InprojKernelIdeal.nD Cert.InprojKernelIdeal.τ).loc Cert.InprojKernelIdeal.main_v2_1) = v1 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
          ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
          ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
          ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
          ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6)
          ∧ r.2.mem ((c.tc : Thread Cert.InprojKernelIdeal.nD Cert.InprojKernelIdeal.τ).loc Cert.InprojKernelIdeal.main_arg7) = m ((c.tc : Thread Cert.InprojKernelIdeal.nD Cert.InprojKernelIdeal.τ).loc Cert.InprojKernelIdeal.main_arg7))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v51) = v0 c
          ∧ r.2.mem ((c.tc : Thread Cert.InprojReferenceIdeal.nD Cert.InprojReferenceIdeal.τ).loc Cert.InprojReferenceIdeal.main_v53) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7))

def preserves_RopeKernel_RopeKernelIdeal : Prop :=
  True

def algebraic_RopeKernelIdeal_RopeReferenceIdeal [hRopeKernelIdeal : Cert.RopeKernelIdeal.Facts] [hRopeReferenceIdeal : Cert.RopeReferenceIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeKernelIdeal m →
    (∀ c : Dev Cert.RopeKernelIdeal.nD,
      m' ((c.tc : Thread Cert.RopeReferenceIdeal.nD Cert.RopeReferenceIdeal.τ).loc Cert.RopeReferenceIdeal.main_arg0) = m ((c.tc : Thread Cert.RopeKernelIdeal.nD Cert.RopeKernelIdeal.τ).loc Cert.RopeKernelIdeal.main_arg0)
      ∧ m' ((c.tc : Thread Cert.RopeReferenceIdeal.nD Cert.RopeReferenceIdeal.τ).loc Cert.RopeReferenceIdeal.main_arg1) = m ((c.tc : Thread Cert.RopeKernelIdeal.nD Cert.RopeKernelIdeal.τ).loc Cert.RopeKernelIdeal.main_arg1)
      ∧ m' ((c.tc : Thread Cert.RopeReferenceIdeal.nD Cert.RopeReferenceIdeal.τ).loc Cert.RopeReferenceIdeal.main_arg2) = m ((c.tc : Thread Cert.RopeKernelIdeal.nD Cert.RopeKernelIdeal.τ).loc Cert.RopeKernelIdeal.main_arg2)
      ∧ m' ((c.tc : Thread Cert.RopeReferenceIdeal.nD Cert.RopeReferenceIdeal.τ).loc Cert.RopeReferenceIdeal.main_arg3) = m ((c.tc : Thread Cert.RopeKernelIdeal.nD Cert.RopeKernelIdeal.τ).loc Cert.RopeKernelIdeal.main_arg3)
      ∧ m' ((c.tc : Thread Cert.RopeReferenceIdeal.nD Cert.RopeReferenceIdeal.τ).loc Cert.RopeReferenceIdeal.main_arg4) = m ((c.tc : Thread Cert.RopeKernelIdeal.nD Cert.RopeKernelIdeal.τ).loc Cert.RopeKernelIdeal.main_arg4)
      ∧ m' ((c.tc : Thread Cert.RopeReferenceIdeal.nD Cert.RopeReferenceIdeal.τ).loc Cert.RopeReferenceIdeal.main_arg5) = m ((c.tc : Thread Cert.RopeKernelIdeal.nD Cert.RopeKernelIdeal.τ).loc Cert.RopeKernelIdeal.main_arg5)
      ∧ m' ((c.tc : Thread Cert.RopeReferenceIdeal.nD Cert.RopeReferenceIdeal.τ).loc Cert.RopeReferenceIdeal.main_arg6) = m ((c.tc : Thread Cert.RopeKernelIdeal.nD Cert.RopeKernelIdeal.τ).loc Cert.RopeKernelIdeal.main_arg6)) →
    ∃ (v0 : (c : Dev Cert.RopeKernelIdeal.nD) → Buf (Elt Ideal) ((c.tc : Thread Cert.RopeKernelIdeal.nD Cert.RopeKernelIdeal.τ).loc Cert.RopeKernelIdeal.main_v20_0)) (v1 : (c : Dev Cert.RopeKernelIdeal.nD) → Buf (Elt Ideal) ((c.tc : Thread Cert.RopeKernelIdeal.nD Cert.RopeKernelIdeal.τ).loc Cert.RopeKernelIdeal.main_v20_1)),
      θ_run (Cert.RopeKernelIdeal.defs (F := Ideal)) (onTc (τ := Cert.RopeKernelIdeal.τ) (Cert.RopeKernelIdeal.main (F := Ideal))) ⟨m, fun _ => 0, g⟩ (fun r => ∀ c : Dev Cert.RopeKernelIdeal.nD,
          r.2.mem ((c.tc : Thread Cert.RopeKernelIdeal.nD Cert.RopeKernelIdeal.τ).loc Cert.RopeKernelIdeal.main_v20_0) = v0 c
          ∧ r.2.mem ((c.tc : Thread Cert.RopeKernelIdeal.nD Cert.RopeKernelIdeal.τ).loc Cert.RopeKernelIdeal.main_v20_1) = v1 c
          ∧ r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
          ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1)
          ∧ r.2.mem ((c.tc : Thread Cert.RopeKernelIdeal.nD Cert.RopeKernelIdeal.τ).loc Cert.RopeKernelIdeal.main_arg2) = m ((c.tc : Thread Cert.RopeKernelIdeal.nD Cert.RopeKernelIdeal.τ).loc Cert.RopeKernelIdeal.main_arg2)
          ∧ r.2.mem ((c.tc : Thread Cert.RopeKernelIdeal.nD Cert.RopeKernelIdeal.τ).loc Cert.RopeKernelIdeal.main_arg3) = m ((c.tc : Thread Cert.RopeKernelIdeal.nD Cert.RopeKernelIdeal.τ).loc Cert.RopeKernelIdeal.main_arg3)
          ∧ r.2.mem ((c.tc : Thread Cert.RopeKernelIdeal.nD Cert.RopeKernelIdeal.τ).loc Cert.RopeKernelIdeal.main_arg4) = m ((c.tc : Thread Cert.RopeKernelIdeal.nD Cert.RopeKernelIdeal.τ).loc Cert.RopeKernelIdeal.main_arg4)
          ∧ r.2.mem ((c.tc : Thread Cert.RopeKernelIdeal.nD Cert.RopeKernelIdeal.τ).loc Cert.RopeKernelIdeal.main_arg5) = m ((c.tc : Thread Cert.RopeKernelIdeal.nD Cert.RopeKernelIdeal.τ).loc Cert.RopeKernelIdeal.main_arg5)
          ∧ r.2.mem ((c.tc : Thread Cert.RopeKernelIdeal.nD Cert.RopeKernelIdeal.τ).loc Cert.RopeKernelIdeal.main_arg6) = m ((c.tc : Thread Cert.RopeKernelIdeal.nD Cert.RopeKernelIdeal.τ).loc Cert.RopeKernelIdeal.main_arg6))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v127) = v0 c
          ∧ r.2.mem ((c.tc : Thread Cert.RopeReferenceIdeal.nD Cert.RopeReferenceIdeal.τ).loc Cert.RopeReferenceIdeal.main_v129) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3)
          ∧ r.2.mem ((c.tc : Thread Cert.RopeReferenceIdeal.nD Cert.RopeReferenceIdeal.τ).loc Cert.RopeReferenceIdeal.main_arg4) = m' ((c.tc : Thread Cert.RopeReferenceIdeal.nD Cert.RopeReferenceIdeal.τ).loc Cert.RopeReferenceIdeal.main_arg4)
          ∧ r.2.mem ((c.tc : Thread Cert.RopeReferenceIdeal.nD Cert.RopeReferenceIdeal.τ).loc Cert.RopeReferenceIdeal.main_arg5) = m' ((c.tc : Thread Cert.RopeReferenceIdeal.nD Cert.RopeReferenceIdeal.τ).loc Cert.RopeReferenceIdeal.main_arg5)
          ∧ r.2.mem ((c.tc : Thread Cert.RopeReferenceIdeal.nD Cert.RopeReferenceIdeal.τ).loc Cert.RopeReferenceIdeal.main_arg6) = m' ((c.tc : Thread Cert.RopeReferenceIdeal.nD Cert.RopeReferenceIdeal.τ).loc Cert.RopeReferenceIdeal.main_arg6))

def preserves_PreKernel_PreKernelIdeal : Prop :=
  True

def algebraic_PreKernelIdeal_PreReferenceIdeal [hPreKernelIdeal : Cert.PreKernelIdeal.Facts] [hPreReferenceIdeal : Cert.PreReferenceIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg)
    (m' : (ℓ : Loc Cert.PreReferenceIdeal.nD Cert.PreReferenceIdeal.τ Cert.PreReferenceIdeal.sig) → Buf (Elt Ideal) ℓ) (g' : Dev Cert.PreReferenceIdeal.nD → PrngReg), Pre_PreKernelIdeal m →
    (∀ c : Dev Cert.PreKernelIdeal.nD,
      m' ((c.tc : Thread Cert.PreReferenceIdeal.nD Cert.PreReferenceIdeal.τ).loc Cert.PreReferenceIdeal.main_arg0) = m ((c.tc : Thread Cert.PreKernelIdeal.nD Cert.PreKernelIdeal.τ).loc Cert.PreKernelIdeal.main_arg0)
      ∧ m' ((c.tc : Thread Cert.PreReferenceIdeal.nD Cert.PreReferenceIdeal.τ).loc Cert.PreReferenceIdeal.main_arg1) = m ((c.tc : Thread Cert.PreKernelIdeal.nD Cert.PreKernelIdeal.τ).loc Cert.PreKernelIdeal.main_arg1)
      ∧ m' ((c.tc : Thread Cert.PreReferenceIdeal.nD Cert.PreReferenceIdeal.τ).loc Cert.PreReferenceIdeal.main_arg2) = m ((c.tc : Thread Cert.PreKernelIdeal.nD Cert.PreKernelIdeal.τ).loc Cert.PreKernelIdeal.main_arg2)
      ∧ m' ((c.tc : Thread Cert.PreReferenceIdeal.nD Cert.PreReferenceIdeal.τ).loc Cert.PreReferenceIdeal.main_arg3) = m ((c.tc : Thread Cert.PreKernelIdeal.nD Cert.PreKernelIdeal.τ).loc Cert.PreKernelIdeal.main_arg3)
      ∧ m' ((c.tc : Thread Cert.PreReferenceIdeal.nD Cert.PreReferenceIdeal.τ).loc Cert.PreReferenceIdeal.main_arg4) = m ((c.tc : Thread Cert.PreKernelIdeal.nD Cert.PreKernelIdeal.τ).loc Cert.PreKernelIdeal.main_arg4)
      ∧ m' ((c.tc : Thread Cert.PreReferenceIdeal.nD Cert.PreReferenceIdeal.τ).loc Cert.PreReferenceIdeal.main_arg5) = m ((c.tc : Thread Cert.PreKernelIdeal.nD Cert.PreKernelIdeal.τ).loc Cert.PreKernelIdeal.main_arg5)
      ∧ m' ((c.tc : Thread Cert.PreReferenceIdeal.nD Cert.PreReferenceIdeal.τ).loc Cert.PreReferenceIdeal.main_arg6) = m ((c.tc : Thread Cert.PreKernelIdeal.nD Cert.PreKernelIdeal.τ).loc Cert.PreKernelIdeal.main_arg6)) →
    ∃ (v0 : (c : Dev Cert.PreKernelIdeal.nD) → Buf (Elt Ideal) ((c.tc : Thread Cert.PreKernelIdeal.nD Cert.PreKernelIdeal.τ).loc Cert.PreKernelIdeal.main_v22_0)) (v1 : (c : Dev Cert.PreKernelIdeal.nD) → Buf (Elt Ideal) ((c.tc : Thread Cert.PreKernelIdeal.nD Cert.PreKernelIdeal.τ).loc Cert.PreKernelIdeal.main_v22_1)) (v2 : (c : Dev Cert.PreKernelIdeal.nD) → Buf (Elt Ideal) ((c.tc : Thread Cert.PreKernelIdeal.nD Cert.PreKernelIdeal.τ).loc Cert.PreKernelIdeal.main_v22_2)),
      θ_run (Cert.PreKernelIdeal.defs (F := Ideal)) (onTc (τ := Cert.PreKernelIdeal.τ) (Cert.PreKernelIdeal.main (F := Ideal))) ⟨m, fun _ => 0, g⟩ (fun r => ∀ c : Dev Cert.PreKernelIdeal.nD,
          r.2.mem ((c.tc : Thread Cert.PreKernelIdeal.nD Cert.PreKernelIdeal.τ).loc Cert.PreKernelIdeal.main_v22_0) = v0 c
          ∧ r.2.mem ((c.tc : Thread Cert.PreKernelIdeal.nD Cert.PreKernelIdeal.τ).loc Cert.PreKernelIdeal.main_v22_1) = v1 c
          ∧ r.2.mem ((c.tc : Thread Cert.PreKernelIdeal.nD Cert.PreKernelIdeal.τ).loc Cert.PreKernelIdeal.main_v22_2) = v2 c
          ∧ r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
          ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
          ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
          ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
          ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
          ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
          ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6))
      ∧ θ_run (Cert.PreReferenceIdeal.defs (F := Ideal)) (onTc (τ := Cert.PreReferenceIdeal.τ) (Cert.PreReferenceIdeal.main (F := Ideal))) ⟨m', fun _ => 0, g'⟩ (fun r => ∀ c : Dev Cert.PreReferenceIdeal.nD,
          r.2.mem ((c.tc : Thread Cert.PreReferenceIdeal.nD Cert.PreReferenceIdeal.τ).loc Cert.PreReferenceIdeal.main_v81) = v0 c
          ∧ r.2.mem ((c.tc : Thread Cert.PreReferenceIdeal.nD Cert.PreReferenceIdeal.τ).loc Cert.PreReferenceIdeal.main_v82) = v1 c
          ∧ r.2.mem ((c.tc : Thread Cert.PreReferenceIdeal.nD Cert.PreReferenceIdeal.τ).loc Cert.PreReferenceIdeal.main_v84) = v2 c
          ∧ r.2.mem ((c.tc : Thread Cert.PreReferenceIdeal.nD Cert.PreReferenceIdeal.τ).loc Cert.PreReferenceIdeal.main_arg0) = m' ((c.tc : Thread Cert.PreReferenceIdeal.nD Cert.PreReferenceIdeal.τ).loc Cert.PreReferenceIdeal.main_arg0)
          ∧ r.2.mem ((c.tc : Thread Cert.PreReferenceIdeal.nD Cert.PreReferenceIdeal.τ).loc Cert.PreReferenceIdeal.main_arg1) = m' ((c.tc : Thread Cert.PreReferenceIdeal.nD Cert.PreReferenceIdeal.τ).loc Cert.PreReferenceIdeal.main_arg1)
          ∧ r.2.mem ((c.tc : Thread Cert.PreReferenceIdeal.nD Cert.PreReferenceIdeal.τ).loc Cert.PreReferenceIdeal.main_arg2) = m' ((c.tc : Thread Cert.PreReferenceIdeal.nD Cert.PreReferenceIdeal.τ).loc Cert.PreReferenceIdeal.main_arg2)
          ∧ r.2.mem ((c.tc : Thread Cert.PreReferenceIdeal.nD Cert.PreReferenceIdeal.τ).loc Cert.PreReferenceIdeal.main_arg3) = m' ((c.tc : Thread Cert.PreReferenceIdeal.nD Cert.PreReferenceIdeal.τ).loc Cert.PreReferenceIdeal.main_arg3)
          ∧ r.2.mem ((c.tc : Thread Cert.PreReferenceIdeal.nD Cert.PreReferenceIdeal.τ).loc Cert.PreReferenceIdeal.main_arg4) = m' ((c.tc : Thread Cert.PreReferenceIdeal.nD Cert.PreReferenceIdeal.τ).loc Cert.PreReferenceIdeal.main_arg4)
          ∧ r.2.mem ((c.tc : Thread Cert.PreReferenceIdeal.nD Cert.PreReferenceIdeal.τ).loc Cert.PreReferenceIdeal.main_arg5) = m' ((c.tc : Thread Cert.PreReferenceIdeal.nD Cert.PreReferenceIdeal.τ).loc Cert.PreReferenceIdeal.main_arg5)
          ∧ r.2.mem ((c.tc : Thread Cert.PreReferenceIdeal.nD Cert.PreReferenceIdeal.τ).loc Cert.PreReferenceIdeal.main_arg6) = m' ((c.tc : Thread Cert.PreReferenceIdeal.nD Cert.PreReferenceIdeal.τ).loc Cert.PreReferenceIdeal.main_arg6))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)
      ∧ m' ((c.tc : Thread Cert.MixReferenceIdeal.nD Cert.MixReferenceIdeal.τ).loc Cert.MixReferenceIdeal.main_arg11) = m ((c.tc : Thread Cert.MixKernelIdeal.nD Cert.MixKernelIdeal.τ).loc Cert.MixKernelIdeal.main_arg11)) →
    ∃ (v0 : (c : Dev Cert.MixKernelIdeal.nD) → Buf (Elt Ideal) ((c.tc : Thread Cert.MixKernelIdeal.nD Cert.MixKernelIdeal.τ).loc Cert.MixKernelIdeal.main_v2_0)) (v1 : (c : Dev Cert.MixKernelIdeal.nD) → Buf (Elt Ideal) ((c.tc : Thread Cert.MixKernelIdeal.nD Cert.MixKernelIdeal.τ).loc Cert.MixKernelIdeal.main_v2_1)) (v2 : (c : Dev Cert.MixKernelIdeal.nD) → Buf (Elt Ideal) ((c.tc : Thread Cert.MixKernelIdeal.nD Cert.MixKernelIdeal.τ).loc Cert.MixKernelIdeal.main_v2_2)) (v3 : (c : Dev Cert.MixKernelIdeal.nD) → Buf (Elt Ideal) ((c.tc : Thread Cert.MixKernelIdeal.nD Cert.MixKernelIdeal.τ).loc Cert.MixKernelIdeal.main_v2_4)) (v4 : (c : Dev Cert.MixKernelIdeal.nD) → Buf (Elt Ideal) ((c.tc : Thread Cert.MixKernelIdeal.nD Cert.MixKernelIdeal.τ).loc Cert.MixKernelIdeal.main_v2_5)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v2_0) = v0 c
          ∧ r.2.mem ((c.tc : Thread Cert.MixKernelIdeal.nD Cert.MixKernelIdeal.τ).loc Cert.MixKernelIdeal.main_v2_1) = v1 c
          ∧ r.2.mem ((c.tc : Thread Cert.MixKernelIdeal.nD Cert.MixKernelIdeal.τ).loc Cert.MixKernelIdeal.main_v2_2) = v2 c
          ∧ r.2.mem ((c.tc : Thread Cert.MixKernelIdeal.nD Cert.MixKernelIdeal.τ).loc Cert.MixKernelIdeal.main_v2_4) = v3 c
          ∧ r.2.mem ((c.tc : Thread Cert.MixKernelIdeal.nD Cert.MixKernelIdeal.τ).loc Cert.MixKernelIdeal.main_v2_5) = v4 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
          ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v100) = v0 c
          ∧ r.2.mem ((c.tc : Thread Cert.MixReferenceIdeal.nD Cert.MixReferenceIdeal.τ).loc Cert.MixReferenceIdeal.main_v101) = v1 c
          ∧ r.2.mem ((c.tc : Thread Cert.MixReferenceIdeal.nD Cert.MixReferenceIdeal.τ).loc Cert.MixReferenceIdeal.main_v104) = v2 c
          ∧ r.2.mem ((c.tc : Thread Cert.MixReferenceIdeal.nD Cert.MixReferenceIdeal.τ).loc Cert.MixReferenceIdeal.main_v106) = v3 c
          ∧ r.2.mem ((c.tc : Thread Cert.MixReferenceIdeal.nD Cert.MixReferenceIdeal.τ).loc Cert.MixReferenceIdeal.main_v99) = v4 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11))

def Claim : Prop :=
  ∃ (hActKernel : Cert.ActKernel.Facts) (hActKernelIdeal : Cert.ActKernelIdeal.Facts) (hActReferenceIdeal : Cert.ActReferenceIdeal.Facts) (hUpKernel : Cert.UpKernel.Facts) (hUpKernelIdeal : Cert.UpKernelIdeal.Facts) (hUpReferenceIdeal : Cert.UpReferenceIdeal.Facts) (hWgradKernel : Cert.WgradKernel.Facts) (hWgradKernelIdeal : Cert.WgradKernelIdeal.Facts) (hWgradReferenceIdeal : Cert.WgradReferenceIdeal.Facts) (hInprojKernel : Cert.InprojKernel.Facts) (hInprojKernelIdeal : Cert.InprojKernelIdeal.Facts) (hInprojReferenceIdeal : Cert.InprojReferenceIdeal.Facts) (hRopeKernel : Cert.RopeKernel.Facts) (hRopeKernelIdeal : Cert.RopeKernelIdeal.Facts) (hRopeReferenceIdeal : Cert.RopeReferenceIdeal.Facts) (hPreKernel : Cert.PreKernel.Facts) (hPreKernelIdeal : Cert.PreKernelIdeal.Facts) (hPreReferenceIdeal : Cert.PreReferenceIdeal.Facts) (hMixKernel : Cert.MixKernel.Facts) (hMixKernelIdeal : Cert.MixKernelIdeal.Facts) (hMixReferenceIdeal : Cert.MixReferenceIdeal.Facts) (hPre_finite : Cert.Pre_finite.Facts),
    quiescent_ActKernel (hActKernel := hActKernel)
    ∧ quiescent_ActKernelIdeal (hActKernelIdeal := hActKernelIdeal)
    ∧ quiescent_ActKernelIdeal_pre_finite (hActKernelIdeal := hActKernelIdeal) (hPre_finite := hPre_finite)
    ∧ quiescent_ActReferenceIdeal (hActReferenceIdeal := hActReferenceIdeal)
    ∧ quiescent_ActReferenceIdeal_pre_finite (hActReferenceIdeal := hActReferenceIdeal) (hPre_finite := hPre_finite)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_WgradKernel (hWgradKernel := hWgradKernel)
    ∧ quiescent_WgradKernelIdeal (hWgradKernelIdeal := hWgradKernelIdeal)
    ∧ quiescent_WgradReferenceIdeal (hWgradReferenceIdeal := hWgradReferenceIdeal)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ quiescent_RopeKernel (hRopeKernel := hRopeKernel)
    ∧ quiescent_RopeKernelIdeal (hRopeKernelIdeal := hRopeKernelIdeal)
    ∧ quiescent_RopeReferenceIdeal (hRopeReferenceIdeal := hRopeReferenceIdeal)
    ∧ quiescent_PreKernel (hPreKernel := hPreKernel)
    ∧ quiescent_PreKernelIdeal (hPreKernelIdeal := hPreKernelIdeal)
    ∧ quiescent_PreReferenceIdeal (hPreReferenceIdeal := hPreReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ preserves_ActKernel_ActKernelIdeal
    ∧ algebraic_ActKernelIdeal_ActReferenceIdeal_pre_finite (hActKernelIdeal := hActKernelIdeal) (hActReferenceIdeal := hActReferenceIdeal) (hPre_finite := hPre_finite)
    ∧ preserves_UpKernel_UpKernelIdeal
    ∧ algebraic_UpKernelIdeal_UpReferenceIdeal (hUpKernelIdeal := hUpKernelIdeal) (hUpReferenceIdeal := hUpReferenceIdeal)
    ∧ preserves_WgradKernel_WgradKernelIdeal
    ∧ algebraic_WgradKernelIdeal_WgradReferenceIdeal (hWgradKernelIdeal := hWgradKernelIdeal) (hWgradReferenceIdeal := hWgradReferenceIdeal)
    ∧ preserves_InprojKernel_InprojKernelIdeal
    ∧ algebraic_InprojKernelIdeal_InprojReferenceIdeal (hInprojKernelIdeal := hInprojKernelIdeal) (hInprojReferenceIdeal := hInprojReferenceIdeal)
    ∧ preserves_RopeKernel_RopeKernelIdeal
    ∧ algebraic_RopeKernelIdeal_RopeReferenceIdeal (hRopeKernelIdeal := hRopeKernelIdeal) (hRopeReferenceIdeal := hRopeReferenceIdeal)
    ∧ preserves_PreKernel_PreKernelIdeal
    ∧ algebraic_PreKernelIdeal_PreReferenceIdeal (hPreKernelIdeal := hPreKernelIdeal) (hPreReferenceIdeal := hPreReferenceIdeal)
    ∧ preserves_MixKernel_MixKernelIdeal
    ∧ algebraic_MixKernelIdeal_MixReferenceIdeal (hMixKernelIdeal := hMixKernelIdeal) (hMixReferenceIdeal := hMixReferenceIdeal)
-- ==== Pre_finite.lean ====
abbrev S4096x1024 : Shape := ⟨2, ![4096, 1024]⟩
abbrev S4096x2816 : Shape := ⟨2, ![4096, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x2816 : S_.BroadcastsInDim S4096x2816 (![] : Fin 0 → Fin S4096x2816.rank)
  bcast_S_S2816x1024 : S_.BroadcastsInDim S2816x1024 (![] : Fin 0 → Fin S2816x1024.rank)

variable [Facts]

def fn {F : FTy → Type} [FloatOps F] (main_arg0 : FVec F S4096x1024 .bf16) (main_arg1 : FVec F S4096x2816 .bf16) (main_arg2 : FVec F S4096x2816 .f32) (main_arg3 : FVec F S3x2816 .f32) (main_arg4 : FVec F S2816 .f32) (main_arg5 : FVec F S2816x1024 .bf16) : IVec S4096x1024 1 × IVec S4096x2816 1 × IVec S2816x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x2816 .f32 := Host.absf main_arg2
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_v7 : FVec F S2816x1024 .f32 := (extf .f32 · bitsLt_bf16_f32) main_arg5
  let main_v8 : FVec F S2816x1024 .f32 := Host.absf main_v7
  let main_cst_1 : FVec F S_ .f32 := constant S_ .f32 0x7F800000#32
  let main_v9 : FVec F S2816x1024 .f32 := broadcastInDim S2816x1024 ![] bcast_S_S2816x1024 main_cst_1
  let main_v10 : IVec S2816x1024 1 := cmpf .olt main_v8 main_v9
  (main_v3, main_v6, main_v10)
-- ==== ActKernel.lean ====
abbrev S4096x1024 : Shape := ⟨2, ![4096, 1024]⟩
abbrev S4096x2816 : Shape := ⟨2, ![4096, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S8x2816 : Shape := ⟨2, ![8, 2816]⟩
abbrev S512x1024 : Shape := ⟨2, ![512, 1024]⟩
abbrev S512x1408 : Shape := ⟨2, ![512, 1408]⟩
abbrev S16x1408 : Shape := ⟨2, ![16, 1408]⟩
abbrev S1408x1024 : Shape := ⟨2, ![1408, 1024]⟩
abbrev S8x1408 : Shape := ⟨2, ![8, 1408]⟩
abbrev S256x1024 : Shape := ⟨2, ![256, 1024]⟩
abbrev S512x256 : Shape := ⟨2, ![512, 256]⟩
abbrev S528x256 : Shape := ⟨2, ![528, 256]⟩
abbrev S16x256 : Shape := ⟨2, ![16, 256]⟩
abbrev S256 : Shape := ⟨1, ![256]⟩
abbrev S1x256 : Shape := ⟨2, ![1, 256]⟩
abbrev S4x256 : Shape := ⟨2, ![4, 256]⟩
abbrev S8x256 : Shape := ⟨2, ![8, 256]⟩
abbrev S128x1024 : Shape := ⟨2, ![128, 1024]⟩
abbrev S512x128 : Shape := ⟨2, ![512, 128]⟩
abbrev S528x128 : Shape := ⟨2, ![528, 128]⟩
abbrev S16x128 : Shape := ⟨2, ![16, 128]⟩
abbrev S128 : Shape := ⟨1, ![128]⟩
abbrev S1x128 : Shape := ⟨2, ![1, 128]⟩
abbrev S4x128 : Shape := ⟨2, ![4, 128]⟩
abbrev S8x128 : Shape := ⟨2, ![8, 128]⟩

abbrev nBuf : Space → Nat
  | .hbm => 104
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .f32⟩
  | .hbm, ⟨3, _⟩ => ⟨S3x2816, .f32⟩
  | .hbm, ⟨4, _⟩ => ⟨S2816, .f32⟩
  | .hbm, ⟨5, _⟩ => ⟨S2816x1024, .bf16⟩
  | .hbm, ⟨6, _⟩ => ⟨S4096x2816, .f32⟩
  | .hbm, ⟨7, _⟩ => ⟨S_, .f32⟩
  | .hbm, ⟨8, _⟩ => ⟨S2x2816, .f32⟩
  | .hbm, ⟨9, _⟩ => ⟨S4098x2816, .f32⟩
  | .hbm, ⟨10, _⟩ => ⟨S4096x2816, .f32⟩
  | .hbm, ⟨11, _⟩ => ⟨S1x2816, .f32⟩
  | .hbm, ⟨12, _⟩ => ⟨S2816, .f32⟩
  | .hbm, ⟨13, _⟩ => ⟨S1x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S1x2816, .f32⟩
  | .hbm, ⟨18, _⟩ => ⟨S2816, .f32⟩
  | .hbm, ⟨19, _⟩ => ⟨S1x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S1x2816, .f32⟩
  | .hbm, ⟨25, _⟩ => ⟨S2816, .f32⟩
  | .hbm, ⟨26, _⟩ => ⟨S1x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S1x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S_, .f32⟩
  | .hbm, ⟨54, _⟩ => ⟨S4096x2816, .f32⟩
  | .hbm, ⟨55, _⟩ => ⟨S4096x2816, .f32⟩
  | .hbm, ⟨56, _⟩ => ⟨S_, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S_, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S_, .f32⟩
  | .hbm, ⟨65, _⟩ => ⟨S4096x2816, .f32⟩
  | .hbm, ⟨66, _⟩ => ⟨S4096x2816, .f32⟩
  | .hbm, ⟨67, _⟩ => ⟨S_, .f32⟩
  | .hbm, ⟨68, _⟩ => ⟨S4096x2816, .f32⟩
  | .hbm, ⟨69, _⟩ => ⟨S4096x2816, .f32⟩
  | .hbm, ⟨70, _⟩ => ⟨S4096x2816, .f32⟩
  | .hbm, ⟨71, _⟩ => ⟨S_, .f32⟩
  | .hbm, ⟨72, _⟩ => ⟨S4096x2816, .f32⟩
  | .hbm, ⟨73, _⟩ => ⟨S4096x2816, .f32⟩
  | .hbm, ⟨74, _⟩ => ⟨S_, .f32⟩
  | .hbm, ⟨75, _⟩ => ⟨S4096x2816, .f32⟩
  | .hbm, ⟨76, _⟩ => ⟨S4096x2816, .f32⟩
  | .hbm, ⟨77, _⟩ => ⟨S4096x2816, .f32⟩
  | .hbm, ⟨78, _⟩ => ⟨S_, .f32⟩
  | .hbm, ⟨79, _⟩ => ⟨S4096x2816, .f32⟩
  | .hbm, ⟨80, _⟩ => ⟨S4096x2816, .f32⟩
  | .hbm, ⟨81, _⟩ => ⟨S4096x2816, .f32⟩
  | .hbm, ⟨82, _⟩ => ⟨S_, .f32⟩
  | .hbm, ⟨83, _⟩ => ⟨S4096x2816, .f32⟩
  | .hbm, ⟨84, _⟩ => ⟨S4096x2816, .f32⟩
  | .hbm, ⟨85, _⟩ => ⟨S4096x2816, .f32⟩
  | .hbm, ⟨86, _⟩ => ⟨S_, .f32⟩
  | .hbm, ⟨87, _⟩ => ⟨S4096x2816, .f32⟩
  | .hbm, ⟨88, _⟩ => ⟨S4096x2816, .f32⟩
  | .hbm, ⟨89, _⟩ => ⟨S4096x2816, .f32⟩
  | .hbm, ⟨90, _⟩ => ⟨S_, .f32⟩
  | .hbm, ⟨91, _⟩ => ⟨S4096x2816, .f32⟩
  | .hbm, ⟨92, _⟩ => ⟨S4096x2816, .f32⟩
  | .hbm, ⟨93, _⟩ => ⟨S4096x2816, .f32⟩
  | .hbm, ⟨94, _⟩ => ⟨S4096x2816, .f32⟩
  | .hbm, ⟨95, _⟩ => ⟨S4096x2816, .f32⟩
  | .hbm, ⟨96, _⟩ => ⟨S4096x2816, .bf16⟩
  | .hbm, ⟨97, _⟩ => ⟨S4096x2816, .f32⟩
  | .hbm, ⟨98, _⟩ => ⟨S4096x2816, .bf16⟩
  | .hbm, ⟨99, _⟩ => ⟨S4096x2816, .bf16⟩
  | .hbm, ⟨100, _⟩ => ⟨S4096x2816, .bf16⟩
  | .hbm, ⟨101, _⟩ => ⟨S4096x2816, .bf16⟩
  | .hbm, ⟨102, _⟩ => ⟨S2816x1024, .bf16⟩
  | .hbm, ⟨103, _⟩ => ⟨S8x2816, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S16x1408, .bf16⟩
  | .local _ .vmem, ⟨5, _⟩ => ⟨S16x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1408x1024, .bf16⟩
  | .local _ .vmem, ⟨13, _⟩ => ⟨S1408x1024, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S1408x1024, .bf16⟩
  | .local _ .vmem, ⟨19, _⟩ => ⟨S1408x1024, .bf16⟩
  | .local _ .vmem, ⟨20, _⟩ => ⟨S8x1408, .f32⟩
  | .local _ .vmem, ⟨21, _⟩ => ⟨S8x1408, .f32⟩
  | .local _ .vmem, ⟨22, _⟩ => ⟨S1408x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78_0 : Ref sig .tc := ⟨.hbm, 100, rfl⟩
abbrev main_v78_1 : Ref sig .tc := ⟨.hbm, 101, rfl⟩
abbrev main_v78_2 : Ref sig .tc := ⟨.hbm, 102, rfl⟩
abbrev main_v78_3 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v340 : BitVec 1 := Scalar.cmpi .eq arg1 c7_i32
  let v341 : BitVec 32 := Scalar.extui v340
  let c0_i32_209 : BitVec 32 := 0#32
  let v342 : BitVec 1 := Scalar.cmpi .ne v341 c0_i32_209
  v342

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ActReferenceIdeal.lean ====
abbrev S4096x1024 : Shape := ⟨2, ![4096, 1024]⟩
abbrev S4096x2816 : Shape := ⟨2, ![4096, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S1024x2816 : Shape := ⟨2, ![1024, 2816]⟩
abbrev S4x2816 : Shape := ⟨2, ![4, 2816]⟩
abbrev S8x2816 : Shape := ⟨2, ![8, 2816]⟩

abbrev nBuf : Space → Nat
  | .hbm => 144
  | .vmem => 0
  | .smem => 0
  | _ => 0

abbrev hbmTy0_0 (i : Nat) : BufTy := match i % 128 with
  | 0 => ⟨S4096x1024, .bf16⟩
  | 1 => ⟨S4096x2816, .bf16⟩
  | 2 => ⟨S4096x2816, .f32⟩
  | 3 => ⟨S3x2816, .f32⟩
  | 4 => ⟨S2816, .f32⟩
  | 5 => ⟨S2816x1024, .bf16⟩
  | 6 => ⟨S4096x2816, .f32⟩
  | 7 => ⟨S_, .f32⟩
  | 8 => ⟨S2x2816, .f32⟩
  | 9 => ⟨S4098x2816, .f32⟩
  | 10 => ⟨S_, .f32⟩
  | 11 => ⟨S2x2816, .f32⟩
  | 12 => ⟨S4096x2816, .f32⟩
  | 13 => ⟨S1x2816, .f32⟩
  | 14 => ⟨S2816, .f32⟩
  | 15 => ⟨S1x2816, .f32⟩
  | 16 => ⟨S4096x2816, .f32⟩
  | 17 => ⟨S4096x2816, .f32⟩
  | 18 => ⟨S4096x2816, .f32⟩
  | 19 => ⟨S1x2816, .f32⟩
  | 20 => ⟨S2816, .f32⟩
  | 21 => ⟨S1x2816, .f32⟩
  | 22 => ⟨S4096x2816, .f32⟩
  | 23 => ⟨S4096x2816, .f32⟩
  | 24 => ⟨S4096x2816, .f32⟩
  | 25 => ⟨S4096x2816, .f32⟩
  | 26 => ⟨S1x2816, .f32⟩
  | 27 => ⟨S2816, .f32⟩
  | 28 => ⟨S1x2816, .f32⟩
  | 29 => ⟨S4096x2816, .f32⟩
  | 30 => ⟨S4096x2816, .f32⟩
  | 31 => ⟨S4096x2816, .f32⟩
  | 32 => ⟨S1x2816, .f32⟩
  | 33 => ⟨S4096x2816, .f32⟩
  | 34 => ⟨S4096x2816, .f32⟩
  | 35 => ⟨S2816x1024, .f32⟩
  | 36 => ⟨S4096x2816, .f32⟩
  | 37 => ⟨S4096x2816, .f32⟩
  | 38 => ⟨S4096x2816, .f32⟩
  | 39 => ⟨S_, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S4096x2816, .f32⟩
  | 46 => ⟨S_, .f32⟩
  | 47 => ⟨S4096x2816, .f32⟩
  | 48 => ⟨S4096x2816, .f32⟩
  | 49 => ⟨S4096x2816, .f32⟩
  | 50 => ⟨S_, .f32⟩
  | 51 => ⟨S4096x2816, .f32⟩
  | 52 => ⟨S4096x2816, .f32⟩
  | 53 => ⟨S_, .f32⟩
  | 54 => ⟨S4096x2816, .f32⟩
  | 55 => ⟨S4096x2816, .f32⟩
  | 56 => ⟨S4096x2816, .f32⟩
  | 57 => ⟨S_, .f32⟩
  | 58 => ⟨S4096x2816, .f32⟩
  | 59 => ⟨S4096x2816, .f32⟩
  | 60 => ⟨S_, .f32⟩
  | 61 => ⟨S4096x2816, .f32⟩
  | 62 => ⟨S4096x2816, .f32⟩
  | 63 => ⟨S4096x2816, .f32⟩
  | 64 => ⟨S4096x2816, .f32⟩
  | 65 => ⟨S4096x1024, .f32⟩
  | 66 => ⟨S4096x1024, .f32⟩
  | 67 => ⟨S1024x2816, .f32⟩
  | 68 => ⟨S2816x1024, .f32⟩
  | 69 => ⟨S4096x2816, .f32⟩
  | 70 => ⟨S4096x2816, .f32⟩
  | 71 => ⟨S4096x2816, .f32⟩
  | 72 => ⟨S4096x2816, .f32⟩
  | 73 => ⟨S4096x2816, .f32⟩
  | 74 => ⟨S_, .f32⟩
  | 75 => ⟨S4096x2816, .f32⟩
  | 76 => ⟨S4096x2816, .f32⟩
  | 77 => ⟨S4096x2816, .f32⟩
  | 78 => ⟨S_, .f32⟩
  | 79 => ⟨S4096x2816, .f32⟩
  | 80 => ⟨S4096x2816, .f32⟩
  | 81 => ⟨S4096x2816, .f32⟩
  | 82 => ⟨S_, .f32⟩
  | 83 => ⟨S4096x2816, .f32⟩
  | 84 => ⟨S4096x2816, .f32⟩
  | 85 => ⟨S4096x2816, .f32⟩
  | 86 => ⟨S4096x2816, .f32⟩
  | 87 => ⟨S_, .f32⟩
  | 88 => ⟨S2816, .f32⟩
  | 89 => ⟨S1x2816, .f32⟩
  | 90 => ⟨S_, .f32⟩
  | 91 => ⟨S2816, .f32⟩
  | 92 => ⟨S4096x2816, .f32⟩
  | 93 => ⟨S_, .f32⟩
  | 94 => ⟨S2816, .f32⟩
  | 95 => ⟨S1x2816, .f32⟩
  | 96 => ⟨S4096x2816, .f32⟩
  | 97 => ⟨S4096x2816, .f32⟩
  | 98 => ⟨S_, .f32⟩
  | 99 => ⟨S2816, .f32⟩
  | 100 => ⟨S1x2816, .f32⟩
  | 101 => ⟨S_, .f32⟩
  | 102 => ⟨S3x2816, .f32⟩
  | 103 => ⟨S_, .f32⟩
  | 104 => ⟨S4098x2816, .f32⟩
  | 105 => ⟨S4096x2816, .f32⟩
  | 106 => ⟨S_, .f32⟩
  | 107 => ⟨S2816, .f32⟩
  | 108 => ⟨S1x2816, .f32⟩
  | 109 => ⟨S4096x2816, .f32⟩
  | 110 => ⟨S4096x2816, .f32⟩
  | 111 => ⟨S_, .f32⟩
  | 112 => ⟨S2816, .f32⟩
  | 113 => ⟨S1x2816, .f32⟩
  | 114 => ⟨S_, .f32⟩
  | 115 => ⟨S3x2816, .f32⟩
  | 116 => ⟨S3x2816, .f32⟩
  | 117 => ⟨S_, .f32⟩
  | 118 => ⟨S4098x2816, .f32⟩
  | 119 => ⟨S4098x2816, .f32⟩
  | 120 => ⟨S4096x2816, .f32⟩
  | 121 => ⟨S_, .f32⟩
  | 122 => ⟨S2816, .f32⟩
  | 123 => ⟨S1x2816, .f32⟩
  | 124 => ⟨S4096x2816, .f32⟩
  | 125 => ⟨S4096x2816, .f32⟩
  | 126 => ⟨S_, .f32⟩
  | 127 => ⟨S2816, .f32⟩
  | _ => ⟨S4096x1024, .bf16⟩

abbrev hbmTy0_1 (i : Nat) : BufTy := match i % 128 with
  | 0 => ⟨S1x2816, .f32⟩
  | 1 => ⟨S_, .f32⟩
  | 2 => ⟨S3x2816, .f32⟩
  | 3 => ⟨S3x2816, .f32⟩
  | 4 => ⟨S_, .f32⟩
  | 5 => ⟨S4098x2816, .f32⟩
  | 6 => ⟨S4098x2816, .f32⟩
  | 7 => ⟨S2x2816, .f32⟩
  | 8 => ⟨S4096x2816, .f32⟩
  | 9 => ⟨S1x2816, .f32⟩
  | 10 => ⟨S_, .f32⟩
  | 11 => ⟨S4x2816, .f32⟩
  | 12 => ⟨S8x2816, .f32⟩
  | 13 => ⟨S4096x2816, .bf16⟩
  | 14 => ⟨S4096x2816, .bf16⟩
  | 15 => ⟨S2816x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_11 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_cst_13 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_14 : Ref sig .tc := ⟨.hbm, 98, rfl⟩
abbrev main_v77 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_18 : Ref sig .tc := ⟨.hbm, 111, rfl⟩
abbrev main_v86 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_v89 : Ref sig .tc := ⟨.hbm, 116, rfl⟩
abbrev main_cst_20 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_21 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_22 : Ref sig .tc := ⟨.hbm, 126, rfl⟩
abbrev main_v97 : Ref sig .tc := ⟨.hbm, 127, rfl⟩
abbrev main_v98 : Ref sig .tc := ⟨.hbm, 128, rfl⟩
abbrev main_cst_23 : Ref sig .tc := ⟨.hbm, 129, rfl⟩
abbrev main_v99 : Ref sig .tc := ⟨.hbm, 130, rfl⟩
abbrev main_v100 : Ref sig .tc := ⟨.hbm, 131, rfl⟩
abbrev main_cst_24 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_25 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩

abbrev nD : Nat := 1
abbrev τ : Topo := Topo.v7x

variable {F : FTy → Type} [FloatOps F]
-- ==== UpKernel.lean ====
abbrev S4096x2816 : Shape := ⟨2, ![4096, 2816]⟩
abbrev S4096x1024 : Shape := ⟨2, ![4096, 1024]⟩
abbrev S1024x5632 : Shape := ⟨2, ![1024, 5632]⟩
abbrev S3x2816 : Shape := ⟨2, ![3, 2816]⟩
abbrev S2816x1024 : Shape := ⟨2, ![2816, 1024]⟩
abbrev S5632x1024 : Shape := ⟨2, ![5632, 1024]⟩
abbrev S4096x5632 : Shape := ⟨2, ![4096, 5632]⟩
abbrev S512x2816 : Shape := ⟨2, ![512, 2816]⟩
abbrev S16x2816 : Shape := ⟨2, ![16, 2816]⟩
abbrev S512x5632 : Shape := ⟨2, ![512, 5632]⟩
abbrev S512x1024 : Shape := ⟨2, ![512, 1024]⟩
abbrev S528x2816 : Shape := ⟨2, ![528, 2816]⟩
abbrev S1x2816 : Shape := ⟨2, ![1, 2816]⟩

abbrev nBuf : Space → Nat
  | .hbm => 10
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S1024x5632, .f32⟩
  | .hbm, ⟨4, _⟩ => ⟨S3x2816, .f32⟩
  | .hbm, ⟨5, _⟩ => ⟨S2816x1024, .bf16⟩
  | .hbm, ⟨6, _⟩ => ⟨S5632x1024, .f32⟩
  | .hbm, ⟨7, _⟩ => ⟨S5632x1024, .bf16⟩
  | .hbm, ⟨8, _⟩ => ⟨S4096x5632, .bf16⟩
  | .hbm, ⟨9, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S16x2816, .bf16⟩
  | .local _ .vmem, ⟨3, _⟩ => ⟨S16x2816, .bf16⟩
  | .local _ .vmem, ⟨4, _⟩ => ⟨S512x2816, .bf16⟩
  | .local _ .vmem, ⟨5, _⟩ => ⟨S512x2816, .bf16⟩
  | .local _ .vmem, ⟨6, _⟩ => ⟨S3x2816, .f32⟩
  | .local _ .vmem, ⟨7, _⟩ => ⟨S5632x1024, .bf16⟩
  | .local _ .vmem, ⟨8, _⟩ => ⟨S512x5632, .bf16⟩
  | .local _ .vmem, ⟨9, _⟩ => ⟨S512x5632, .bf16⟩
  | .local _ .vmem, ⟨10, _⟩ => ⟨S512x1024, .bf16⟩
  | .local _ .vmem, ⟨11, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpReferenceIdeal.lean ====
abbrev S4096x2816 : Shape := ⟨2, ![4096, 2816]⟩
abbrev S4096x1024 : Shape := ⟨2, ![4096, 1024]⟩
abbrev S1024x5632 : Shape := ⟨2, ![1024, 5632]⟩
abbrev S3x2816 : Shape := ⟨2, ![3, 2816]⟩
abbrev S2816x1024 : Shape := ⟨2, ![2816, 1024]⟩
abbrev S4096x5632 : Shape := ⟨2, ![4096, 5632]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S2816 : Shape := ⟨1, ![2816]⟩

abbrev nBuf : Space → Nat
  | .hbm => 61
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .bf16⟩
  | .hbm, ⟨3, _⟩ => ⟨S1024x5632, .f32⟩
  | .hbm, ⟨4, _⟩ => ⟨S3x2816, .f32⟩
  | .hbm, ⟨5, _⟩ => ⟨S2816x1024, .bf16⟩
  | .hbm, ⟨6, _⟩ => ⟨S4096x1024, .f32⟩
  | .hbm, ⟨7, _⟩ => ⟨S4096x5632, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S2x2816, .f32⟩
  | .hbm, ⟨12, _⟩ => ⟨S4098x2816, .f32⟩
  | .hbm, ⟨13, _⟩ => ⟨S_, .f32⟩
  | .hbm, ⟨14, _⟩ => ⟨S2x2816, .f32⟩
  | .hbm, ⟨15, _⟩ => ⟨S4096x2816, .f32⟩
  | .hbm, ⟨16, _⟩ => ⟨S1x2816, .f32⟩
  | .hbm, ⟨17, _⟩ => ⟨S2816, .f32⟩
  | .hbm, ⟨18, _⟩ => ⟨S1x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S1x2816, .f32⟩
  | .hbm, ⟨23, _⟩ => ⟨S2816, .f32⟩
  | .hbm, ⟨24, _⟩ => ⟨S1x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S1x2816, .f32⟩
  | .hbm, ⟨30, _⟩ => ⟨S2816, .f32⟩
  | .hbm, ⟨31, _⟩ => ⟨S1x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4098x2816, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4098x2816, .f32⟩
  | .hbm, ⟨45, _⟩ => ⟨S4098x2816, .f32⟩
  | .hbm, ⟨46, _⟩ => ⟨S4096x2816, .f32⟩
  | .hbm, ⟨47, _⟩ => ⟨S4096x2816, .f32⟩
  | .hbm, ⟨48, _⟩ => ⟨S_, .f32⟩
  | .hbm, ⟨49, _⟩ => ⟨S4098x2816, .f32⟩
  | .hbm, ⟨50, _⟩ => ⟨S4098x2816, .f32⟩
  | .hbm, ⟨51, _⟩ => ⟨S2x2816, .f32⟩
  | .hbm, ⟨52, _⟩ => ⟨S4096x2816, .f32⟩
  | .hbm, ⟨53, _⟩ => ⟨S_, .f32⟩
  | .hbm, ⟨54, _⟩ => ⟨S4096x5632, .f32⟩
  | .hbm, ⟨55, _⟩ => ⟨S_, .f32⟩
  | .hbm, ⟨56, _⟩ => ⟨S4096x5632, .f32⟩
  | .hbm, ⟨57, _⟩ => ⟨S4096x5632, .f32⟩
  | .hbm, ⟨58, _⟩ => ⟨S4096x1024, .f32⟩
  | .hbm, ⟨59, _⟩ => ⟨S4096x5632, .bf16⟩
  | .hbm, ⟨60, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== WgradKernel.lean ====
abbrev S4096x5632 : Shape := ⟨2, ![4096, 5632]⟩
abbrev S4096x1024 : Shape := ⟨2, ![4096, 1024]⟩
abbrev S1024x5632 : Shape := ⟨2, ![1024, 5632]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S1024x5632, .f32⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradReferenceIdeal.lean ====
abbrev S4096x5632 : Shape := ⟨2, ![4096, 5632]⟩
abbrev S4096x1024 : Shape := ⟨2, ![4096, 1024]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S4096x5632, .f32⟩
  | .hbm, ⟨6, _⟩ => ⟨S5632x1024, .f32⟩
  | .hbm, ⟨7, _⟩ => ⟨S1024x5632, .f32⟩
  | .hbm, ⟨8, _⟩ => ⟨S5632x1024, .f32⟩
  | .hbm, ⟨9, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InprojKernel.lean ====
abbrev S4096x2560 : Shape := ⟨2, ![4096, 2560]⟩
abbrev S1024x2560 : Shape := ⟨2, ![1024, 2560]⟩
abbrev S4096x1024 : Shape := ⟨2, ![4096, 1024]⟩
abbrev S1x1024 : Shape := ⟨2, ![1, 1024]⟩
abbrev S2560x1024 : Shape := ⟨2, ![2560, 1024]⟩
abbrev S8x1024 : Shape := ⟨2, ![8, 1024]⟩
abbrev S512x2560 : Shape := ⟨2, ![512, 2560]⟩
abbrev S512x1024 : Shape := ⟨2, ![512, 1024]⟩
abbrev S256x2560 : Shape := ⟨2, ![256, 2560]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S5x1024 : Shape := ⟨2, ![5, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4096x2560, .bf16⟩
  | .hbm, ⟨1, _⟩ => ⟨S1024x2560, .f32⟩
  | .hbm, ⟨2, _⟩ => ⟨S4096x1024, .f32⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2560x1024, .bf16⟩
  | .hbm, ⟨8, _⟩ => ⟨S2560x1024, .f32⟩
  | .hbm, ⟨9, _⟩ => ⟨S2560x1024, .bf16⟩
  | .hbm, ⟨10, _⟩ => ⟨S4096x1024, .f32⟩
  | .hbm, ⟨11, _⟩ => ⟨S8x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v101 : BitVec 1 := Scalar.cmpi .eq arg0 c0_i32
  let v102 : BitVec 32 := Scalar.extui v101
  let c0_i32_51 : BitVec 32 := 0#32
  let v103 : BitVec 1 := Scalar.cmpi .ne v102 c0_i32_51
  v103

def k0_cond2 (i : grid0.Coords) : BitVec 1 :=
  let arg0 : BitVec 32 := BitVec.ofNat 32 (i 0).val
  let c0_i32_52 : BitVec 32 := 0#32
  let v104 : BitVec 1 := Scalar.cmpi .sgt arg0 c0_i32_52
  let v105 : BitVec 32 := Scalar.extui v104
  let c0_i32_53 : BitVec 32 := 0#32
  let v106 : BitVec 1 := Scalar.cmpi .ne v105 c0_i32_53
  v106

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InprojReferenceIdeal.lean ====
abbrev S4096x2560 : Shape := ⟨2, ![4096, 2560]⟩
abbrev S1024x2560 : Shape := ⟨2, ![1024, 2560]⟩
abbrev S4096x1024 : Shape := ⟨2, ![4096, 1024]⟩
abbrev S1x1024 : Shape := ⟨2, ![1, 1024]⟩
abbrev S2560x1024 : Shape := ⟨2, ![2560, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S1024x2560, .f32⟩
  | .hbm, ⟨2, _⟩ => ⟨S4096x1024, .f32⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2560x1024, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x2560, .f32⟩
  | .hbm, ⟨35, _⟩ => ⟨S4096x2560, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S5x1024, .f32⟩
  | .hbm, ⟨73, _⟩ => ⟨S8x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== RopeKernel.lean ====
abbrev S4096x256 : Shape := ⟨2, ![4096, 256]⟩
abbrev S3x2x4096x128 : Shape := ⟨4, ![3, 2, 4096, 128]⟩
abbrev S4096 : Shape := ⟨1, ![4096]⟩
abbrev S4096x1024 : Shape := ⟨2, ![4096, 1024]⟩
abbrev S1024x2560 : Shape := ⟨2, ![1024, 2560]⟩
abbrev S3x24x128 : Shape := ⟨3, ![3, 24, 128]⟩
abbrev S8 : Shape := ⟨1, ![8]⟩
abbrev S_ : Shape := ⟨0, ![]⟩
abbrev S8x1 : Shape := ⟨2, ![8, 1]⟩
abbrev S1x4096 : Shape := ⟨2, ![1, 4096]⟩
abbrev S8x4096 : Shape := ⟨2, ![8, 4096]⟩
abbrev S24x4096 : Shape := ⟨2, ![24, 4096]⟩
abbrev S4096x2560 : Shape := ⟨2, ![4096, 2560]⟩
abbrev S2560x1024 : Shape := ⟨2, ![2560, 1024]⟩
abbrev S512x256 : Shape := ⟨2, ![512, 256]⟩
abbrev S3x2x512x128 : Shape := ⟨4, ![3, 2, 512, 128]⟩
abbrev S24x512 : Shape := ⟨2, ![24, 512]⟩
abbrev S512x1024 : Shape := ⟨2, ![512, 1024]⟩
abbrev S512x2560 : Shape := ⟨2, ![512, 2560]⟩
abbrev S1x24x128 : Shape := ⟨3, ![1, 24, 128]⟩
abbrev S24x128 : Shape := ⟨2, ![24, 128]⟩
abbrev S512x128 : Shape := ⟨2, ![512, 128]⟩
abbrev S1x1x512x128 : Shape := ⟨4, ![1, 1, 512, 128]⟩
abbrev S512x512 : Shape := ⟨2, ![512, 512]⟩

abbrev nBuf : Space → Nat
  | .hbm => 35
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S3x2x4096x128, .f32⟩
  | .hbm, ⟨2, _⟩ => ⟨S3x2x4096x128, .f32⟩
  | .hbm, ⟨3, _⟩ => ⟨S3x2x4096x128, .f32⟩
  | .hbm, ⟨4, _⟩ => ⟨S4096, .i32⟩
  | .hbm, ⟨5, _⟩ => ⟨S4096x1024, .bf16⟩
  | .hbm, ⟨6, _⟩ => ⟨S1024x2560, .f32⟩
  | .hbm, ⟨7, _⟩ => ⟨S3x24x128, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8x1, .f32⟩
  | .hbm, ⟨23, _⟩ => ⟨S4096, .f32⟩
  | .hbm, ⟨24, _⟩ => ⟨S1x4096, .f32⟩
  | .hbm, ⟨25, _⟩ => ⟨S8x4096, .f32⟩
  | .hbm, ⟨26, _⟩ => ⟨S8x4096, .f32⟩
  | .hbm, ⟨27, _⟩ => ⟨S8x4096, .f32⟩
  | .hbm, ⟨28, _⟩ => ⟨S8x4096, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S24x4096, .f32⟩
  | .hbm, ⟨33, _⟩ => ⟨S4096x2560, .bf16⟩
  | .hbm, ⟨34, _⟩ => ⟨S2560x1024, .bf16⟩
  | .local _ .vmem, ⟨0, _⟩ => ⟨S512x256, .f32⟩
  | .local _ .vmem, ⟨1, _⟩ => ⟨S512x256, .f32⟩
  | .local _ .vmem, ⟨2, _⟩ => ⟨S3x2x512x128, .f32⟩
  | .local _ .vmem, ⟨3, _⟩ => ⟨S3x2x512x128, .f32⟩
  | .local _ .vmem, ⟨4, _⟩ => ⟨S3x2x512x128, .f32⟩
  | .local _ .vmem, ⟨5, _⟩ => ⟨S3x2x512x128, .f32⟩
  | .local _ .vmem, ⟨6, _⟩ => ⟨S3x2x512x128, .f32⟩
  | .local _ .vmem, ⟨7, _⟩ => ⟨S3x2x512x128, .f32⟩
  | .local _ .vmem, ⟨8, _⟩ => ⟨S24x512, .f32⟩
  | .local _ .vmem, ⟨9, _⟩ => ⟨S24x512, .f32⟩
  | .local _ .vmem, ⟨10, _⟩ => ⟨S3x24x128, .f32⟩
  | .local _ .vmem, ⟨11, _⟩ => ⟨S512x1024, .bf16⟩
  | .local _ .vmem, ⟨12, _⟩ => ⟨S512x1024, .bf16⟩
  | .local _ .vmem, ⟨13, _⟩ => ⟨S512x2560, .bf16⟩
  | .local _ .vmem, ⟨14, _⟩ => ⟨S512x2560, .bf16⟩
  | .local _ .vmem, ⟨15, _⟩ => ⟨S2560x1024, .bf16⟩
  | .local _ .vmem, ⟨16, _⟩ => ⟨S2560x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v234 : BitVec 1 := Scalar.cmpi .eq arg0 c7_i32
  let v235 : BitVec 32 := Scalar.extui v234
  let c0_i32_182 : BitVec 32 := 0#32
  let v236 : BitVec 1 := Scalar.cmpi .ne v235 c0_i32_182
  v236

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x2x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x24x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2560 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2560x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RopeReferenceIdeal.lean ====
abbrev S4096x256 : Shape := ⟨2, ![4096, 256]⟩
abbrev S3x2x4096x128 : Shape := ⟨4, ![3, 2, 4096, 128]⟩
abbrev S4096 : Shape := ⟨1, ![4096]⟩
abbrev S4096x1024 : Shape := ⟨2, ![4096, 1024]⟩
abbrev S1024x2560 : Shape := ⟨2, ![1024, 2560]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x2560 : Shape := ⟨2, ![4096, 2560]⟩
abbrev S4096x2304 : Shape := ⟨2, ![4096, 2304]⟩
abbrev S4096x3x12x64 : Shape := ⟨4, ![4096, 3, 12, 64]⟩
abbrev S4096x1x12x64 : Shape := ⟨4, ![4096, 1, 12, 64]⟩
abbrev S4096x12x64 : Shape := ⟨3, ![4096, 12, 64]⟩
abbrev S4096x12x8 : Shape := ⟨3, ![4096, 12, 8]⟩
abbrev S4096x12x48 : Shape := ⟨3, ![4096, 12, 48]⟩
abbrev S4096x3x2x128 : Shape := ⟨4, ![4096, 3, 2, 128]⟩
abbrev S2560x1024 : Shape := ⟨2, ![2560, 1024]⟩

abbrev nBuf : Space → Nat
  | .hbm => 154
  | .vmem => 0
  | .smem => 0
  | _ => 0

abbrev hbmTy0_0 (i : Nat) : BufTy := match i % 128 with
  | 0 => ⟨S4096x256, .f32⟩
  | 1 => ⟨S3x2x4096x128, .f32⟩
  | 2 => ⟨S3x2x4096x128, .f32⟩
  | 3 => ⟨S3x2x4096x128, .f32⟩
  | 4 => ⟨S4096, .i32⟩
  | 5 => ⟨S4096x1024, .bf16⟩
  | 6 => ⟨S1024x2560, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S4096, .f32⟩
  | 22 => ⟨S4096x1, .f32⟩
  | 23 => ⟨S1x8, .f32⟩
  | 24 => ⟨S4096x8, .f32⟩
  | 25 => ⟨S4096x8, .f32⟩
  | 26 => ⟨S4096x8, .f32⟩
  | 27 => ⟨S4096x8, .f32⟩
  | 28 => ⟨S4096x1x8, .f32⟩
  | 29 => ⟨S4096x8, .f32⟩
  | 30 => ⟨S4096x1x8, .f32⟩
  | 31 => ⟨S4096x1024, .f32⟩
  | 32 => ⟨S4096x2560, .f32⟩
  | 33 => ⟨S4096x2304, .f32⟩
  | 34 => ⟨S4096x3x12x64, .f32⟩
  | 35 => ⟨S4096x256, .f32⟩
  | 36 => ⟨S4096x1x12x64, .f32⟩
  | 37 => ⟨S4096x12x64, .f32⟩
  | 38 => ⟨S4096x12x8, .f32⟩
  | 39 => ⟨S4096x12x8, .f32⟩
  | 40 => ⟨S4096x12x8, .f32⟩
  | 41 => ⟨S4096x12x8, .f32⟩
  | 42 => ⟨S4096x12x8, .f32⟩
  | 43 => ⟨S4096x12x8, .f32⟩
  | 44 => ⟨S4096x12x8, .f32⟩
  | 45 => ⟨S4096x12x8, .f32⟩
  | 46 => ⟨S4096x12x8, .f32⟩
  | 47 => ⟨S4096x12x8, .f32⟩
  | 48 => ⟨S4096x12x8, .f32⟩
  | 49 => ⟨S4096x12x8, .f32⟩
  | 50 => ⟨S4096x12x48, .f32⟩
  | 51 => ⟨S4096x12x64, .f32⟩
  | 52 => ⟨S_, .f32⟩
  | 53 => ⟨S4096x12x64, .f32⟩
  | 54 => ⟨S4096x12x64, .f32⟩
  | 55 => ⟨S4096x3x2x128, .f32⟩
  | 56 => ⟨S3x2x4096x128, .f32⟩
  | 57 => ⟨S4096x1x12x64, .f32⟩
  | 58 => ⟨S4096x12x64, .f32⟩
  | 59 => ⟨S4096x12x8, .f32⟩
  | 60 => ⟨S4096x12x8, .f32⟩
  | 61 => ⟨S4096x12x8, .f32⟩
  | 62 => ⟨S4096x12x8, .f32⟩
  | 63 => ⟨S4096x12x8, .f32⟩
  | 64 => ⟨S4096x12x8, .f32⟩
  | 65 => ⟨S4096x12x8, .f32⟩
  | 66 => ⟨S4096x12x8, .f32⟩
  | 67 => ⟨S4096x12x8, .f32⟩
  | 68 => ⟨S4096x12x8, .f32⟩
  | 69 => ⟨S4096x12x8, .f32⟩
  | 70 => ⟨S4096x12x8, .f32⟩
  | 71 => ⟨S4096x12x48, .f32⟩
  | 72 => ⟨S4096x12x64, .f32⟩
  | 73 => ⟨S4096x3x2x128, .f32⟩
  | 74 => ⟨S3x2x4096x128, .f32⟩
  | 75 => ⟨S4096x1x12x64, .f32⟩
  | 76 => ⟨S4096x12x64, .f32⟩
  | 77 => ⟨S4096x3x2x128, .f32⟩
  | 78 => ⟨S3x2x4096x128, .f32⟩
  | 79 => ⟨S4096x3x2x128, .f32⟩
  | 80 => ⟨S4096x12x64, .f32⟩
  | 81 => ⟨S4096x1x12x64, .f32⟩
  | 82 => ⟨S_, .f32⟩
  | 83 => ⟨S4096x3x12x64, .f32⟩
  | 84 => ⟨S4096x3x2x128, .f32⟩
  | 85 => ⟨S4096x12x64, .f32⟩
  | 86 => ⟨S4096x12x8, .f32⟩
  | 87 => ⟨S4096x12x8, .f32⟩
  | 88 => ⟨S4096x12x48, .f32⟩
  | 89 => ⟨S_, .f32⟩
  | 90 => ⟨S4096x12x64, .f32⟩
  | 91 => ⟨S4096x12x8, .f32⟩
  | 92 => ⟨S4096x12x8, .f32⟩
  | 93 => ⟨S4096x12x8, .f32⟩
  | 94 => ⟨S4096x12x8, .f32⟩
  | 95 => ⟨S4096x12x8, .f32⟩
  | 96 => ⟨S4096x12x8, .f32⟩
  | 97 => ⟨S4096x12x8, .f32⟩
  | 98 => ⟨S4096x12x8, .f32⟩
  | 99 => ⟨S4096x12x8, .f32⟩
  | 100 => ⟨S4096x12x8, .f32⟩
  | 101 => ⟨S4096x12x8, .f32⟩
  | 102 => ⟨S_, .f32⟩
  | 103 => ⟨S4096x12x64, .f32⟩
  | 104 => ⟨S4096x12x64, .f32⟩
  | 105 => ⟨S_, .f32⟩
  | 106 => ⟨S4096x12x64, .f32⟩
  | 107 => ⟨S4096x12x64, .f32⟩
  | 108 => ⟨S4096x1x12x64, .f32⟩
  | 109 => ⟨S_, .f32⟩
  | 110 => ⟨S4096x3x12x64, .f32⟩
  | 111 => ⟨S4096x3x12x64, .f32⟩
  | 112 => ⟨S4096x3x2x128, .f32⟩
  | 113 => ⟨S4096x12x64, .f32⟩
  | 114 => ⟨S_, .f32⟩
  | 115 => ⟨S4096x12x64, .f32⟩
  | 116 => ⟨S4096x12x64, .f32⟩
  | 117 => ⟨S4096x12x8, .f32⟩
  | 118 => ⟨S4096x12x8, .f32⟩
  | 119 => ⟨S4096x12x48, .f32⟩
  | 120 => ⟨S_, .f32⟩
  | 121 => ⟨S4096x12x64, .f32⟩
  | 122 => ⟨S4096x12x8, .f32⟩
  | 123 => ⟨S4096x12x8, .f32⟩
  | 124 => ⟨S4096x12x8, .f32⟩
  | 125 => ⟨S4096x12x8, .f32⟩
  | 126 => ⟨S4096x12x8, .f32⟩
  | 127 => ⟨S4096x12x8, .f32⟩
  | _ => ⟨S4096x256, .f32⟩

abbrev hbmTy0_1 (i : Nat) : BufTy := match i % 128 with
  | 0 => ⟨S4096x12x8, .f32⟩
  | 1 => ⟨S4096x12x8, .f32⟩
  | 2 => ⟨S4096x12x8, .f32⟩
  | 3 => ⟨S4096x12x8, .f32⟩
  | 4 => ⟨S4096x12x8, .f32⟩
  | 5 => ⟨S_, .f32⟩
  | 6 => ⟨S4096x12x64, .f32⟩
  | 7 => ⟨S4096x12x64, .f32⟩
  | 8 => ⟨S_, .f32⟩
  | 9 => ⟨S4096x12x64, .f32⟩
  | 10 => ⟨S4096x12x64, .f32⟩
  | 11 => ⟨S4096x1x12x64, .f32⟩
  | 12 => ⟨S_, .f32⟩
  | 13 => ⟨S4096x3x12x64, .f32⟩
  | 14 => ⟨S4096x3x12x64, .f32⟩
  | 15 => ⟨S_, .f32⟩
  | 16 => ⟨S4096x2560, .f32⟩
  | 17 => ⟨S4096x2304, .f32⟩
  | 18 => ⟨S_, .f32⟩
  | 19 => ⟨S4096x2560, .f32⟩
  | 20 => ⟨S4096x2560, .f32⟩
  | 21 => ⟨S2560x1024, .f32⟩
  | 22 => ⟨S1024x2560, .f32⟩
  | 23 => ⟨S4096x2560, .bf16⟩
  | 24 => ⟨S2560x1024, .f32⟩
  | 25 => ⟨S2560x1024, .bf16⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_4 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_5 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_6 : Ref sig .tc := ⟨.hbm, 102, rfl⟩
abbrev main_v88 : Ref sig .tc := ⟨.hbm, 103, rfl⟩
abbrev main_v89 : Ref sig .tc := ⟨.hbm, 104, rfl⟩
abbrev main_cst_7 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_8 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_9 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_10 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_11 : Ref sig .tc := ⟨.hbm, 133, rfl⟩
abbrev main_v114 : Ref sig .tc := ⟨.hbm, 134, rfl⟩
abbrev main_v115 : Ref sig .tc := ⟨.hbm, 135, rfl⟩
abbrev main_cst_12 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_cst_13 : Ref sig .tc := ⟨.hbm, 140, rfl⟩
abbrev main_v119 : Ref sig .tc := ⟨.hbm, 141, rfl⟩
abbrev main_v120 : Ref sig .tc := ⟨.hbm, 142, rfl⟩
abbrev main_cst_14 : Ref sig .tc := ⟨.hbm, 143, rfl⟩
abbrev main_v121 : Ref sig .tc := ⟨.hbm, 144, rfl⟩
abbrev main_v122 : Ref sig .tc := ⟨.hbm, 145, rfl⟩
abbrev main_cst_15 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩

abbrev nD : Nat := 1
abbrev τ : Topo := Topo.v7x

variable {F : FTy → Type} [FloatOps F]
-- ==== PreKernel.lean ====
abbrev S4096x1024 : Shape := ⟨2, ![4096, 1024]⟩
abbrev S1x1024 : Shape := ⟨2, ![1, 1024]⟩
abbrev S1024x2560 : Shape := ⟨2, ![1024, 2560]⟩
abbrev S4096 : Shape := ⟨1, ![4096]⟩
abbrev S2560x1024 : Shape := ⟨2, ![2560, 1024]⟩
abbrev S3x24x128 : Shape := ⟨3, ![3, 24, 128]⟩
abbrev S8 : Shape := ⟨1, ![8]⟩
abbrev S_ : Shape := ⟨0, ![]⟩
abbrev S8x1 : Shape := ⟨2, ![8, 1]⟩
abbrev S1x4096 : Shape := ⟨2, ![1, 4096]⟩
abbrev S8x4096 : Shape := ⟨2, ![8, 4096]⟩
abbrev S24x4096 : Shape := ⟨2, ![24, 4096]⟩
abbrev S4096x256 : Shape := ⟨2, ![4096, 256]⟩
abbrev S18x4096x128 : Shape := ⟨3, ![18, 4096, 128]⟩
abbrev S512x1024 : Shape := ⟨2, ![512, 1024]⟩
abbrev S24x512 : Shape := ⟨2, ![24, 512]⟩
abbrev S512x256 : Shape := ⟨2, ![512, 256]⟩
abbrev S18x512x128 : Shape := ⟨3, ![18, 512, 128]⟩
abbrev S512 : Shape := ⟨1, ![512]⟩
abbrev S512x1 : Shape := ⟨2, ![512, 1]⟩
abbrev S256x1024 : Shape := ⟨2, ![256, 1024]⟩
abbrev S1x24x128 : Shape := ⟨3, ![1, 24, 128]⟩
abbrev S24x128 : Shape := ⟨2, ![24, 128]⟩
abbrev S512x128 : Shape := ⟨2, ![512, 128]⟩
abbrev S1x512x128 : Shape := ⟨3, ![1, 512, 128]⟩

abbrev nBuf : Space → Nat
  | .hbm => 38
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2560, .f32⟩
  | .hbm, ⟨5, _⟩ => ⟨S4096, .i32⟩
  | .hbm, ⟨6, _⟩ => ⟨S2560x1024, .bf16⟩
  | .hbm, ⟨7, _⟩ => ⟨S3x24x128, .f32⟩
  | .hbm, ⟨8, _⟩ => ⟨S2560x1024, .f32⟩
  | .hbm, ⟨9, _⟩ => ⟨S2560x1024, .bf16⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8x1, .f32⟩
  | .hbm, ⟨25, _⟩ => ⟨S4096, .f32⟩
  | .hbm, ⟨26, _⟩ => ⟨S1x4096, .f32⟩
  | .hbm, ⟨27, _⟩ => ⟨S8x4096, .f32⟩
  | .hbm, ⟨28, _⟩ => ⟨S8x4096, .f32⟩
  | .hbm, ⟨29, _⟩ => ⟨S8x4096, .f32⟩
  | .hbm, ⟨30, _⟩ => ⟨S8x4096, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S24x4096, .f32⟩
  | .hbm, ⟨35, _⟩ => ⟨S4096x1024, .bf16⟩
  | .hbm, ⟨36, _⟩ => ⟨S4096x256, .f32⟩
  | .hbm, ⟨37, _⟩ => ⟨S18x4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S2560x1024, .bf16⟩
  | .local _ .vmem, ⟨6, _⟩ => ⟨S24x512, .f32⟩
  | .local _ .vmem, ⟨7, _⟩ => ⟨S24x512, .f32⟩
  | .local _ .vmem, ⟨8, _⟩ => ⟨S3x24x128, .f32⟩
  | .local _ .vmem, ⟨9, _⟩ => ⟨S512x1024, .bf16⟩
  | .local _ .vmem, ⟨10, _⟩ => ⟨S512x1024, .bf16⟩
  | .local _ .vmem, ⟨11, _⟩ => ⟨S512x256, .f32⟩
  | .local _ .vmem, ⟨12, _⟩ => ⟨S512x256, .f32⟩
  | .local _ .vmem, ⟨13, _⟩ => ⟨S18x512x128, .f32⟩
  | .local _ .vmem, ⟨14, _⟩ => ⟨S18x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S24x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x24x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S18x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PreReferenceIdeal.lean ====
abbrev S4096x1024 : Shape := ⟨2, ![4096, 1024]⟩
abbrev S1x1024 : Shape := ⟨2, ![1, 1024]⟩
abbrev S1024x2560 : Shape := ⟨2, ![1024, 2560]⟩
abbrev S4096 : Shape := ⟨1, ![4096]⟩
abbrev S2560x1024 : Shape := ⟨2, ![2560, 1024]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x2560 : Shape := ⟨2, ![4096, 2560]⟩
abbrev S4096x2304 : Shape := ⟨2, ![4096, 2304]⟩
abbrev S4096x3x12x64 : Shape := ⟨4, ![4096, 3, 12, 64]⟩
abbrev S4096x1x12x64 : Shape := ⟨4, ![4096, 1, 12, 64]⟩
abbrev S4096x12x64 : Shape := ⟨3, ![4096, 12, 64]⟩
abbrev S4096x12x8 : Shape := ⟨3, ![4096, 12, 8]⟩
abbrev S4096x12x48 : Shape := ⟨3, ![4096, 12, 48]⟩
abbrev S4096x256 : Shape := ⟨2, ![4096, 256]⟩
abbrev S4096x18x128 : Shape := ⟨3, ![4096, 18, 128]⟩
abbrev S18x4096x128 : Shape := ⟨3, ![18, 4096, 128]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2560, .f32⟩
  | .hbm, ⟨5, _⟩ => ⟨S4096, .i32⟩
  | .hbm, ⟨6, _⟩ => ⟨S2560x1024, .bf16⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S4096, .f32⟩
  | .hbm, ⟨22, _⟩ => ⟨S4096x1, .f32⟩
  | .hbm, ⟨23, _⟩ => ⟨S1x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S4096x1x8, .f32⟩
  | .hbm, ⟨29, _⟩ => ⟨S4096x8, .f32⟩
  | .hbm, ⟨30, _⟩ => ⟨S4096x1x8, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x2560, .f32⟩
  | .hbm, ⟨54, _⟩ => ⟨S4096x2304, .f32⟩
  | .hbm, ⟨55, _⟩ => ⟨S4096x3x12x64, .f32⟩
  | .hbm, ⟨56, _⟩ => ⟨S4096x1x12x64, .f32⟩
  | .hbm, ⟨57, _⟩ => ⟨S4096x12x64, .f32⟩
  | .hbm, ⟨58, _⟩ => ⟨S4096x12x8, .f32⟩
  | .hbm, ⟨59, _⟩ => ⟨S4096x12x8, .f32⟩
  | .hbm, ⟨60, _⟩ => ⟨S4096x12x8, .f32⟩
  | .hbm, ⟨61, _⟩ => ⟨S4096x12x8, .f32⟩
  | .hbm, ⟨62, _⟩ => ⟨S4096x12x8, .f32⟩
  | .hbm, ⟨63, _⟩ => ⟨S4096x12x8, .f32⟩
  | .hbm, ⟨64, _⟩ => ⟨S4096x12x8, .f32⟩
  | .hbm, ⟨65, _⟩ => ⟨S4096x12x8, .f32⟩
  | .hbm, ⟨66, _⟩ => ⟨S4096x12x8, .f32⟩
  | .hbm, ⟨67, _⟩ => ⟨S4096x12x8, .f32⟩
  | .hbm, ⟨68, _⟩ => ⟨S4096x12x8, .f32⟩
  | .hbm, ⟨69, _⟩ => ⟨S4096x12x8, .f32⟩
  | .hbm, ⟨70, _⟩ => ⟨S4096x12x48, .f32⟩
  | .hbm, ⟨71, _⟩ => ⟨S4096x12x64, .f32⟩
  | .hbm, ⟨72, _⟩ => ⟨S_, .f32⟩
  | .hbm, ⟨73, _⟩ => ⟨S4096x12x64, .f32⟩
  | .hbm, ⟨74, _⟩ => ⟨S4096x12x64, .f32⟩
  | .hbm, ⟨75, _⟩ => ⟨S4096x1x12x64, .f32⟩
  | .hbm, ⟨76, _⟩ => ⟨S4096x12x64, .f32⟩
  | .hbm, ⟨77, _⟩ => ⟨S4096x12x8, .f32⟩
  | .hbm, ⟨78, _⟩ => ⟨S4096x12x8, .f32⟩
  | .hbm, ⟨79, _⟩ => ⟨S4096x12x8, .f32⟩
  | .hbm, ⟨80, _⟩ => ⟨S4096x12x8, .f32⟩
  | .hbm, ⟨81, _⟩ => ⟨S4096x12x8, .f32⟩
  | .hbm, ⟨82, _⟩ => ⟨S4096x12x8, .f32⟩
  | .hbm, ⟨83, _⟩ => ⟨S4096x12x8, .f32⟩
  | .hbm, ⟨84, _⟩ => ⟨S4096x12x8, .f32⟩
  | .hbm, ⟨85, _⟩ => ⟨S4096x12x8, .f32⟩
  | .hbm, ⟨86, _⟩ => ⟨S4096x12x8, .f32⟩
  | .hbm, ⟨87, _⟩ => ⟨S4096x12x8, .f32⟩
  | .hbm, ⟨88, _⟩ => ⟨S4096x12x8, .f32⟩
  | .hbm, ⟨89, _⟩ => ⟨S4096x12x48, .f32⟩
  | .hbm, ⟨90, _⟩ => ⟨S4096x12x64, .f32⟩
  | .hbm, ⟨91, _⟩ => ⟨S4096x1x12x64, .f32⟩
  | .hbm, ⟨92, _⟩ => ⟨S4096x12x64, .f32⟩
  | .hbm, ⟨93, _⟩ => ⟨S4096x1x12x64, .f32⟩
  | .hbm, ⟨94, _⟩ => ⟨S4096x1x12x64, .f32⟩
  | .hbm, ⟨95, _⟩ => ⟨S4096x1x12x64, .f32⟩
  | .hbm, ⟨96, _⟩ => ⟨S4096x3x12x64, .f32⟩
  | .hbm, ⟨97, _⟩ => ⟨S4096x1024, .bf16⟩
  | .hbm, ⟨98, _⟩ => ⟨S4096x256, .f32⟩
  | .hbm, ⟨99, _⟩ => ⟨S4096x18x128, .f32⟩
  | .hbm, ⟨100, _⟩ => ⟨S18x4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩

abbrev nD : Nat := 1
abbrev τ : Topo := Topo.v7x

variable {F : FTy → Type} [FloatOps F]
-- ==== MixKernel.lean ====
abbrev S4096x1024 : Shape := ⟨2, ![4096, 1024]⟩
abbrev S4096x512 : Shape := ⟨2, ![4096, 512]⟩
abbrev S4096x256 : Shape := ⟨2, ![4096, 256]⟩
abbrev S512x1024 : Shape := ⟨2, ![512, 1024]⟩
abbrev S1x1024 : Shape := ⟨2, ![1, 1024]⟩
abbrev S5632x1024 : Shape := ⟨2, ![5632, 1024]⟩
abbrev S1024x512 : Shape := ⟨2, ![1024, 512]⟩
abbrev S2x4096x128 : Shape := ⟨3, ![2, 4096, 128]⟩
abbrev S8x1024 : Shape := ⟨2, ![8, 1024]⟩
abbrev S512x512 : Shape := ⟨2, ![512, 512]⟩
abbrev S512x256 : Shape := ⟨2, ![512, 256]⟩
abbrev S2x512x128 : Shape := ⟨3, ![2, 512, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1024 : Shape := ⟨1, ![1024]⟩
abbrev S3x1024 : Shape := ⟨2, ![3, 1024]⟩

abbrev nBuf : Space → Nat
  | .hbm => 20
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .bf16⟩
  | .hbm, ⟨4, _⟩ => ⟨S4096x512, .bf16⟩
  | .hbm, ⟨5, _⟩ => ⟨S4096x256, .f32⟩
  | .hbm, ⟨6, _⟩ => ⟨S512x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S5632x1024, .bf16⟩
  | .hbm, ⟨12, _⟩ => ⟨S1024x512, .f32⟩
  | .hbm, ⟨13, _⟩ => ⟨S1024x512, .bf16⟩
  | .hbm, ⟨14, _⟩ => ⟨S4096x1024, .bf16⟩
  | .hbm, ⟨15, _⟩ => ⟨S4096x256, .f32⟩
  | .hbm, ⟨16, _⟩ => ⟨S2x4096x128, .f32⟩
  | .hbm, ⟨17, _⟩ => ⟨S2x4096x128, .f32⟩
  | .hbm, ⟨18, _⟩ => ⟨S1024x512, .bf16⟩
  | .hbm, ⟨19, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x256, .f32⟩
  | .local _ .vmem, ⟨11, _⟩ => ⟨S512x256, .f32⟩
  | .local _ .vmem, ⟨12, _⟩ => ⟨S1024x512, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S512x256, .f32⟩
  | .local _ .vmem, ⟨20, _⟩ => ⟨S512x256, .f32⟩
  | .local _ .vmem, ⟨21, _⟩ => ⟨S2x512x128, .f32⟩
  | .local _ .vmem, ⟨22, _⟩ => ⟨S2x512x128, .f32⟩
  | .local _ .vmem, ⟨23, _⟩ => ⟨S2x512x128, .f32⟩
  | .local _ .vmem, ⟨24, _⟩ => ⟨S2x512x128, .f32⟩
  | .local _ .vmem, ⟨25, _⟩ => ⟨S1024x512, .bf16⟩
  | .local _ .vmem, ⟨26, _⟩ => ⟨S8x1024, .f32⟩
  | .local _ .vmem, ⟨27, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v2_4 : Ref sig .tc := ⟨.hbm, 18, rfl⟩
abbrev main_v2_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v145 : BitVec 1 := Scalar.cmpi .eq arg0 c7_i32
  let v146 : BitVec 32 := Scalar.extui v145
  let c0_i32_68 : BitVec 32 := 0#32
  let v147 : BitVec 1 := Scalar.cmpi .ne v146 c0_i32_68
  v147

def k0_cond1 (i : grid0.Coords) : BitVec 1 :=
  let arg0 : BitVec 32 := BitVec.ofNat 32 (i 0).val
  let c0_i32 : BitVec 32 := 0#32
  let v139 : BitVec 1 := Scalar.cmpi .eq arg0 c0_i32
  let v140 : BitVec 32 := Scalar.extui v139
  let c0_i32_65 : BitVec 32 := 0#32
  let v141 : BitVec 1 := Scalar.cmpi .ne v140 c0_i32_65
  v141

def k0_cond2 (i : grid0.Coords) : BitVec 1 :=
  let arg0 : BitVec 32 := BitVec.ofNat 32 (i 0).val
  let c0_i32_66 : BitVec 32 := 0#32
  let v142 : BitVec 1 := Scalar.cmpi .sgt arg0 c0_i32_66
  let v143 : BitVec 32 := Scalar.extui v142
  let c0_i32_67 : BitVec 32 := 0#32
  let v144 : BitVec 1 := Scalar.cmpi .ne v143 c0_i32_67
  v144

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MixReferenceIdeal.lean ====
abbrev S4096x1024 : Shape := ⟨2, ![4096, 1024]⟩
abbrev S4096x512 : Shape := ⟨2, ![4096, 512]⟩
abbrev S4096x256 : Shape := ⟨2, ![4096, 256]⟩
abbrev S512x1024 : Shape := ⟨2, ![512, 1024]⟩
abbrev S1x1024 : Shape := ⟨2, ![1, 1024]⟩
abbrev S5632x1024 : Shape := ⟨2, ![5632, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x512 : Shape := ⟨2, ![1024, 512]⟩
abbrev S3x1024 : Shape := ⟨2, ![3, 1024]⟩
abbrev S8x1024 : Shape := ⟨2, ![8, 1024]⟩
abbrev S4096x2x128 : Shape := ⟨3, ![4096, 2, 128]⟩
abbrev S2x4096x128 : Shape := ⟨3, ![2, 4096, 128]⟩

abbrev nBuf : Space → Nat
  | .hbm => 141
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x1024, .f32⟩
  | 3 => ⟨S4096x1024, .bf16⟩
  | 4 => ⟨S4096x512, .bf16⟩
  | 5 => ⟨S4096x256, .f32⟩
  | 6 => ⟨S512x1024, .f32⟩
  | 7 => ⟨S1x1024, .f32⟩
  | 8 => ⟨S1x1024, .f32⟩
  | 9 => ⟨S1x1024, .f32⟩
  | 10 => ⟨S1x1024, .f32⟩
  | 11 => ⟨S5632x1024, .bf16⟩
  | 12 => ⟨S_, .f32⟩
  | 13 => ⟨S1x1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1024, .f32⟩
  | 30 => ⟨S4096x1024, .f32⟩
  | 31 => ⟨S4096x1024, .f32⟩
  | 32 => ⟨S4096x1024, .f32⟩
  | 33 => ⟨S_, .f32⟩
  | 34 => ⟨S1x1024, .f32⟩
  | 35 => ⟨S1x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S_, .f32⟩
  | 42 => ⟨S1024, .f32⟩
  | 43 => ⟨S1x1024, .f32⟩
  | 44 => ⟨S4096x1024, .f32⟩
  | 45 => ⟨S_, .f32⟩
  | 46 => ⟨S1024, .f32⟩
  | 47 => ⟨S1x1024, .f32⟩
  | 48 => ⟨S4096x1024, .f32⟩
  | 49 => ⟨S4096x1024, .f32⟩
  | 50 => ⟨S4096x1024, .f32⟩
  | 51 => ⟨S_, .f32⟩
  | 52 => ⟨S1024, .f32⟩
  | 53 => ⟨S1x1024, .f32⟩
  | 54 => ⟨S4096x1024, .f32⟩
  | 55 => ⟨S4096x1024, .f32⟩
  | 56 => ⟨S4096x1024, .f32⟩
  | 57 => ⟨S_, .f32⟩
  | 58 => ⟨S4096, .f32⟩
  | 59 => ⟨S4096x1, .f32⟩
  | 60 => ⟨S4096x1024, .f32⟩
  | 61 => ⟨S4096x1024, .f32⟩
  | 62 => ⟨S4096x1, .f32⟩
  | 63 => ⟨S_, .f32⟩
  | 64 => ⟨S4096x1, .f32⟩
  | 65 => ⟨S4096x1, .f32⟩
  | 66 => ⟨S_, .f32⟩
  | 67 => ⟨S4096, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S_, .f32⟩
  | 84 => ⟨S4096x1, .f32⟩
  | 85 => ⟨S4096x1, .f32⟩
  | 86 => ⟨S4096x1, .f32⟩
  | 87 => ⟨S4096x1, .f32⟩
  | 88 => ⟨S_, .f32⟩
  | 89 => ⟨S4096x1, .f32⟩
  | 90 => ⟨S4096x1, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S_, .f32⟩
  | 101 => ⟨S1024, .f32⟩
  | 102 => ⟨S1x1024, .f32⟩
  | 103 => ⟨S4096x1024, .f32⟩
  | 104 => ⟨S_, .f32⟩
  | 105 => ⟨S1024, .f32⟩
  | 106 => ⟨S1x1024, .f32⟩
  | 107 => ⟨S4096x1024, .f32⟩
  | 108 => ⟨S4096x1024, .f32⟩
  | 109 => ⟨S4096x1024, .f32⟩
  | 110 => ⟨S_, .f32⟩
  | 111 => ⟨S4096, .f32⟩
  | 112 => ⟨S4096x1, .f32⟩
  | 113 => ⟨S4096x1024, .f32⟩
  | 114 => ⟨S4096x1024, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x512, .f32⟩
  | 127 => ⟨S4096x1024, .f32⟩
  | _ => ⟨S4096x1024, .bf16⟩

abbrev hbmTy0_1 (i : Nat) : BufTy := match i % 128 with
  | 0 => ⟨S1024x512, .f32⟩
  | 1 => ⟨S512x1024, .f32⟩
  | 2 => ⟨S4096x512, .f32⟩
  | 3 => ⟨S_, .f32⟩
  | 4 => ⟨S3x1024, .f32⟩
  | 5 => ⟨S8x1024, .f32⟩
  | 6 => ⟨S4096x1024, .bf16⟩
  | 7 => ⟨S4096x256, .f32⟩
  | 8 => ⟨S4096x256, .f32⟩
  | 9 => ⟨S4096x2x128, .f32⟩
  | 10 => ⟨S2x4096x128, .f32⟩
  | 11 => ⟨S1024x512, .f32⟩
  | 12 => ⟨S1024x512, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_18 : Ref sig .tc := ⟨.hbm, 116, rfl⟩
abbrev main_v85 : Ref sig .tc := ⟨.hbm, 117, rfl⟩
abbrev main_v86 : Ref sig .tc := ⟨.hbm, 118, rfl⟩
abbrev main_cst_19 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_20 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩

abbrev nD : Nat := 1
abbrev τ : Topo := Topo.v7x

variable {F : FTy → Type} [FloatOps F]
-- ==== Proof.NormBwd.lean ====
module

public import Idealize.ShloMosaic.Lib.Pointwise
public import Idealize.ShloMosaic.Lib.Tactic

@[expose] public section

noncomputable section

namespace Cert.NormBwd

open Idealize.ShloMosaic

/-- The literal for the width of a row is the real number 1024. -/
theorem width : Ideal.ofBits .f32 1149239296#32 = ((1024 : ℝ) : EReal) := by
  simp [Ideal.ofBits, Ideal.ieee, -EReal.coe_mul]; norm_num

/-- The literal the mean square is shifted by is a positive real number. -/
theorem shift : ∃ e : ℝ, 0 < e ∧ Ideal.ofBits .f32 897988541#32 = (e : EReal) := by
  refine ⟨_, ?_, by simp [Ideal.ofBits, Ideal.ieee, -EReal.coe_mul]; rfl⟩
  norm_num

/-- The literal of the square root's derivative is the real number minus one half. -/
theorem half : Ideal.ofBits .f32 3204448256#32 = ((-(1 / 2) : ℝ) : EReal) := by
  simp [Ideal.ofBits, Ideal.ieee, -EReal.coe_mul]; norm_num

/-- A nonnegative real factor moves out of a sum of extended reals. -/
theorem sum_mul_real {ι : Type*} (s : Finset ι) (f : ι → EReal) (r : ℝ) (h : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (EReal.coe_nonneg.mpr h) (EReal.coe_ne_top r)]

/-- Twice a real multiple of an extended real is the doubled multiple. -/
theorem twice (S : EReal) (a : ℝ) : S * (a : EReal) + S * (a : EReal) = S * ((a + a : ℝ) : EReal) := by
  induction S with
  | coe s => norm_cast; ring
  | top =>
    rcases lt_trichotomy a 0 with h | h | h
    · rw [EReal.top_mul_coe_of_neg h, EReal.top_mul_coe_of_neg (by linarith)]; rfl
    · simp [h]
    · rw [EReal.top_mul_coe_of_pos h, EReal.top_mul_coe_of_pos (by linarith)]; rfl
  | bot =>
    rcases lt_trichotomy a 0 with h | h | h
    · rw [EReal.bot_mul_coe_of_neg h, EReal.bot_mul_coe_of_neg (by linarith)]; rfl
    · simp [h]
    · rw [EReal.bot_mul_coe_of_pos h, EReal.bot_mul_coe_of_pos (by linarith)]; rfl

/-- A sum of reals is the same sum of extended reals. -/
theorem sum_coe {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The reciprocal square root of infinity is zero. -/
theorem rsqrt_top : Ideal.rsqrt ⊤ = 0 := rfl

/-- The reciprocal square root of a positive real number. -/
theorem rsqrt_pos (v : ℝ) (hv : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.mpr hv.le), if_neg hv.ne']

/-- A square is nonnegative. -/
theorem sq_nonneg (x : EReal) : 0 ≤ x * x := by
  induction x with
  | bot => simp
  | top => simp
  | coe x => exact_mod_cast mul_self_nonneg x

/-- A sum of squares with an infinite member is infinite. -/
theorem sum_sq_top {n : ℕ} (X : Fin n → EReal) (k : Fin n) (h : X k = ⊤ ∨ X k = ⊥) :
    ∑ x, X x * X x = ⊤ := by
  have h1 : X k * X k = ⊤ := by rcases h with h | h <;> simp [h]
  refine top_le_iff.mp (h1 ▸ ?_)
  exact Finset.single_le_sum (f := fun x => X x * X x) (fun i _ => sq_nonneg _) (Finset.mem_univ k)

/-- The shifted mean square of a row. -/
def ms {n : ℕ} (X : Fin n → EReal) : EReal :=
  Ideal.div (∑ x, X x * X x) (Ideal.ofBits .f32 1149239296#32) + Ideal.ofBits .f32 897988541#32

/-- A row is all real with a positive shifted mean square, or that mean is infinite. -/
theorem ms_cases {n : ℕ} (X : Fin n → EReal) :
    ms X = ⊤ ∨ ((∀ k, ∃ x : ℝ, X k = x) ∧ ∃ v : ℝ, 0 < v ∧ ms X = v) := by
  obtain ⟨e, he, hE⟩ := shift
  unfold ms
  rw [width, hE, Ideal.div_coe (by norm_num)]
  by_cases h : ∃ k, X k = ⊤ ∨ X k = ⊥
  · obtain ⟨k, hk⟩ := h
    left
    rw [sum_sq_top X k hk, EReal.top_mul_coe_of_pos (by norm_num), EReal.top_add_coe]
  · right
    have hx : ∀ k, ∃ x : ℝ, X k = x := fun k => by
      by_cases h1 : X k = ⊤
      · exact absurd ⟨k, .inl h1⟩ h
      by_cases h2 : X k = ⊥
      · exact absurd ⟨k, .inr h2⟩ h
      exact ⟨(X k).toReal, (EReal.coe_toReal h1 h2).symm⟩
    refine ⟨hx, ?_⟩
    choose x hx using hx
    refine ⟨(∑ k, x k * x k) * (1 / 1024) + e, ?_, ?_⟩
    · have : 0 ≤ ∑ k, x k * x k := Finset.sum_nonneg fun i _ => mul_self_nonneg _
      positivity
    · simp only [hx]
      push_cast
      rw [sum_coe]
      simp

/-- The gradient through a row's normalisation: the form with the projected gradient taken off equals the form the chain rule gives, whatever the entries are. -/
theorem norm_bwd {n : ℕ} (X Y : Fin n → EReal) (l : Fin n) :
    Ideal.rsqrt (ms X) * (Y l - X l * Ideal.rsqrt (ms X) *
        Ideal.div (∑ x, Y x * (X x * Ideal.rsqrt (ms X))) (Ideal.ofBits .f32 1149239296#32)) =
      Y l * Ideal.rsqrt (ms X) +
        X l * Ideal.div ((∑ x, X x * Y x) *
          (Ideal.ofBits .f32 3204448256#32 * Ideal.div (Ideal.rsqrt (ms X)) (ms X))) (Ideal.ofBits .f32 1149239296#32) +
        Ideal.div ((∑ x, X x * Y x) *
          (Ideal.ofBits .f32 3204448256#32 * Ideal.div (Ideal.rsqrt (ms X)) (ms X))) (Ideal.ofBits .f32 1149239296#32) * X l := by
  rw [width, half, Ideal.div_coe (by norm_num), Ideal.div_coe (by norm_num)]
  rcases ms_cases X with h | ⟨hx, v, hv, h⟩
  · rw [h]
    simp [rsqrt_top, Ideal.div]
  · have hr : Ideal.rsqrt (ms X) = (((Real.sqrt v)⁻¹ : ℝ) : EReal) := by
      rw [h, rsqrt_pos v hv]
    have hs : 0 < (Real.sqrt v)⁻¹ := inv_pos.mpr (Real.sqrt_pos.mpr hv)
    have hsv : (Real.sqrt v)⁻¹ * (Real.sqrt v)⁻¹ = 1 / v := by
      rw [← mul_inv, Real.mul_self_sqrt hv.le, one_div]
    rw [hr, h, Ideal.div_coe hv.ne']
    generalize (Real.sqrt v)⁻¹ = r at hs hsv
    rw [← hsv]
    have e1 : ∑ x, Y x * (X x * (r : EReal)) = (∑ x, X x * Y x) * (r : EReal) := by
      rw [← sum_mul_real _ _ _ hs.le]
      exact Finset.sum_congr rfl fun x _ => by rw [← mul_assoc, mul_comm (Y x)]
    rw [e1]
    generalize (∑ x, X x * Y x) = S
    obtain ⟨x, hx⟩ := hx l
    rw [hx, sub_eq_add_neg, EReal.left_distrib_of_nonneg_of_ne_top (EReal.coe_nonneg.mpr hs.le) (EReal.coe_ne_top r),
      add_assoc, mul_comm (r : EReal) (Y l)]
    congr 1
    have e2 : (x : EReal) * (S * (((-(1 / 2) : ℝ) : EReal) * ((r : EReal) * ((r * r : ℝ) : EReal))) * ((1 / 1024 : ℝ) : EReal))
        = S * ((x * (-(1 / 2) * (r * (r * r))) * (1 / 1024) : ℝ) : EReal) := by
      push_cast; ac_rfl
    rw [mul_comm _ (x : EReal), e2]
    have e3 : (r : EReal) * -((x : EReal) * (r : EReal) * (S * (r : EReal) * ((1 / 1024 : ℝ) : EReal)))
        = S * ((-(r * (x * r * r * (1 / 1024))) : ℝ) : EReal) := by
      rw [EReal.coe_neg, mul_neg, mul_neg]; push_cast; congr 1; ac_rfl
    rw [e3]
    rw [twice]
    congr 2
    ring

end Cert.NormBwd

end
-- ==== Proof.ActMath.lean ====
module

public import proofs.«01_k».proof.Defs
public import proofs.«01_k».proof.Proof.Gen.ActReferenceIdeal.Run
public import proofs.«01_k».proof.Proof.Gen.ActReferenceIdeal.Read
public import proofs.«01_k».proof.Proof.NormBwd
public import Idealize.ShloMosaic.Lib.Pointwise
public import Idealize.ShloMosaic.Lib.Tactic
public import Idealize.ShloMosaic.Lib.Pipeline.ValueKit
public import Idealize.ShloMosaic.Lib.Pipeline.ReadBack
public import Idealize.ShloMosaic.Lib.Quiescent

@[expose] public section

set_option maxRecDepth 16384

noncomputable section

namespace Cert.ActMath

open Cert.ActReferenceIdeal Idealize.ShloMosaic Idealize.ShloMosaic.TcCoe Idealize.SL.Sem
open Cert.ActReferenceIdeal.Read

/-- The literal one half. -/
def half : EReal := Ideal.ofBits .f32 1056964608#32
/-- The literal √(2/π). -/
def rate : EReal := Ideal.ofBits .f32 1061962282#32
/-- The literal 0.044715, the cubic term's weight. -/
def cubic : EReal := Ideal.ofBits .f32 1027024659#32
/-- The literal 3. -/
def three : EReal := Ideal.ofBits .f32 1077936128#32

/-- One half is a positive real number. -/
theorem half_real : ∃ r : ℝ, 0 < r ∧ half = (r : EReal) := by
  refine ⟨_, ?_, by simp [half, Ideal.ofBits, Ideal.ieee, -EReal.coe_mul]; rfl⟩
  norm_num

/-- √(2/π)'s literal is a positive real number. -/
theorem rate_real : ∃ r : ℝ, 0 < r ∧ rate = (r : EReal) := by
  refine ⟨_, ?_, by simp [rate, Ideal.ofBits, Ideal.ieee, -EReal.coe_mul]; rfl⟩
  norm_num

/-- The cubic term's weight is a positive real number. -/
theorem cubic_real : ∃ r : ℝ, 0 < r ∧ cubic = (r : EReal) := by
  refine ⟨_, ?_, by simp [cubic, Ideal.ofBits, Ideal.ieee, -EReal.coe_mul]; rfl⟩
  norm_num

/-- The literal 3 is a positive real number. -/
theorem three_real : ∃ r : ℝ, 0 < r ∧ three = (r : EReal) := by
  refine ⟨_, ?_, by simp [three, Ideal.ofBits, Ideal.ieee, -EReal.coe_mul]; rfl⟩
  norm_num

/-- The tanh inside gelu. -/
def bend (g : EReal) : EReal := Ideal.tanh (rate * (g + cubic * (g * g * g)))

/-- gelu's factor. -/
def gain (g : EReal) : EReal := half * (1 + bend g)

/-- gelu. -/
def gelu (g : EReal) : EReal := g * gain g

/-- gelu's pullback of a cotangent, in the order in which differentiating it gives the terms. -/
def pull (c g : EReal) : EReal :=
  c * gain g + rate * (half * (g * c) * ((1 + bend g) * (1 - bend g)))
    + cubic * (rate * (half * (g * c) * ((1 + bend g) * (1 - bend g)))) * (three * (g * g))

/-- At infinity the tanh is one. -/
theorem bend_top : bend ⊤ = 1 := by
  obtain ⟨k, hk, ek⟩ := rate_real
  obtain ⟨p, hp, ep⟩ := cubic_real
  rw [bend, ek, ep, EReal.top_mul_top, EReal.top_mul_top, EReal.coe_mul_top_of_pos hp, EReal.top_add_top,
    EReal.coe_mul_top_of_pos hk]
  rfl

/-- At minus infinity the tanh is minus one. -/
theorem bend_bot : bend ⊥ = -1 := by
  obtain ⟨k, hk, ek⟩ := rate_real
  obtain ⟨p, hp, ep⟩ := cubic_real
  rw [bend, ek, ep, EReal.bot_mul_bot, EReal.top_mul_bot, EReal.coe_mul_bot_of_pos hp, EReal.bot_add,
    EReal.coe_mul_bot_of_pos hk]
  rfl

/-- At a real number the tanh is a real number. -/
theorem bend_coe (g : ℝ) : ∃ b : ℝ, bend (g : EReal) = (b : EReal) := by
  obtain ⟨k, -, ek⟩ := rate_real
  obtain ⟨p, -, ep⟩ := cubic_real
  refine ⟨Real.tanh (k * (g + p * (g * g * g))), ?_⟩
  rw [bend, ek, ep]
  norm_cast

/-- One minus one. -/
theorem one_sub_one : (1 : EReal) - 1 = 0 := by
  rw [← EReal.coe_one, ← EReal.coe_sub, sub_self, EReal.coe_zero]

/-- One plus minus one. -/
theorem one_add_neg_one : (1 : EReal) + -1 = 0 := by
  rw [← EReal.coe_one, ← EReal.coe_neg, ← EReal.coe_add, add_neg_cancel, EReal.coe_zero]

/-- The pullback of a finite cotangent is the cotangent times gelu's derivative. -/
theorem pull_linear (c : ℝ) (g : EReal) : pull (c : EReal) g = (c : EReal) * pull 1 g := by
  induction g with
  | top =>
    simp only [pull, gain, bend_top, one_sub_one, mul_zero, zero_mul, add_zero, one_mul]
  | bot =>
    simp only [pull, gain, bend_bot, one_add_neg_one, mul_zero, zero_mul, add_zero]
  | coe g =>
    obtain ⟨b, eb⟩ := bend_coe g
    obtain ⟨h, -, eh⟩ := half_real
    obtain ⟨k, -, ek⟩ := rate_real
    obtain ⟨p, -, ep⟩ := cubic_real
    obtain ⟨q, -, eq⟩ := three_real
    rw [pull, pull, gain, eb, eh, ek, ep, eq]
    norm_cast
    ring

/-- The gradient that comes into gelu: the incoming rows through the down projection's transpose, at an index. -/
def down (X0 : FVec Ideal S4096x1024 .bf16) (X5 : FVec Ideal S2816x1024 .bf16) (R : Fin 4096) (L : Fin 2816) : EReal :=
  ∑ k : Fin 1024, X0 (ix2 R k) * X5 (ix2 L k)

/-- The gate `k` rows before, zero before the first row. -/
def back (X1 : FVec Ideal S4096x2816 .bf16) (k : ℕ) (R : Fin 4096) (L : Fin 2816) : EReal :=
  if R.val < k then 0 else X1 (ix2 ⟨R.val - k, by omega⟩ L)

/-- One row's part of the convolution's gradients: its three taps', the bias's, and four rows of zeros. -/
def taps (X1 : FVec Ideal S4096x2816 .bf16) (D : FVec Ideal S4096x2816 .f32) (q : Fin 8) (R : Fin 4096) (L : Fin 2816) : EReal :=
  if q.val < 3 then back X1 (2 - q.val) R L * D (ix2 R L) else if q.val = 3 then D (ix2 R L) else 0

/-- The reference's gradient of the convolution's output. -/
theorem ref_dgc (x0 : FVec Ideal S4096x1024 .bf16) (x1 : FVec Ideal S4096x2816 .bf16) (x2 : FVec Ideal S4096x2816 .f32) (x3 : FVec Ideal S3x2816 .f32) (x4 : FVec Ideal S2816 .f32) (x5 : FVec Ideal S2816x1024 .bf16) (R : Fin 4096) (L : Fin 2816) : val_main_v108 (F := Ideal) x0 x1 x2 x3 x4 x5 (ix2 R L)
    = pull (down x0 x5 R L * x2 (ix2 R L)) (val_main_v26 (F := Ideal) x1 x3 x4 (ix2 R L)) := by
  pointwise [val_main_v108, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]
  rfl

/-- The same before it is rounded. -/
theorem ref_dgc_wide (x0 : FVec Ideal S4096x1024 .bf16) (x1 : FVec Ideal S4096x2816 .bf16) (x2 : FVec Ideal S4096x2816 .f32) (x3 : FVec Ideal S3x2816 .f32) (x4 : FVec Ideal S2816 .f32) (x5 : FVec Ideal S2816x1024 .bf16) (R : Fin 4096) (L : Fin 2816) : val_main_v68 (F := Ideal) x0 x1 x2 x3 x4 x5 (ix2 R L)
    = val_main_v108 (F := Ideal) x0 x1 x2 x3 x4 x5 (ix2 R L) := by
  pointwise [val_main_v108]

/-- The reference's gradient of the value half. -/
theorem ref_dval (x0 : FVec Ideal S4096x1024 .bf16) (x1 : FVec Ideal S4096x2816 .bf16) (x2 : FVec Ideal S4096x2816 .f32) (x3 : FVec Ideal S3x2816 .f32) (x4 : FVec Ideal S2816 .f32) (x5 : FVec Ideal S2816x1024 .bf16) (R : Fin 4096) (L : Fin 2816) : val_main_v109 (F := Ideal) x0 x1 x3 x4 x5 (ix2 R L)
    = gelu (val_main_v26 (F := Ideal) x1 x3 x4 (ix2 R L)) * down x0 x5 R L := by
  pointwise [val_main_v109, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]
  rfl

/-- The reference's activation. -/
theorem ref_act (x1 : FVec Ideal S4096x2816 .bf16) (x3 : FVec Ideal S3x2816 .f32) (x4 : FVec Ideal S2816 .f32) (R : Fin 4096) (L : Fin 2816) :
    val_main_v48 (F := Ideal) x1 x3 x4 (ix2 R L) = gelu (val_main_v26 (F := Ideal) x1 x3 x4 (ix2 R L)) := by
  pointwise [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]
  rfl

/-- The reference's gradient of the down projection: one sum over the tokens. -/
theorem ref_dwd (x0 : FVec Ideal S4096x1024 .bf16) (x1 : FVec Ideal S4096x2816 .bf16) (x2 : FVec Ideal S4096x2816 .f32) (x3 : FVec Ideal S3x2816 .f32) (x4 : FVec Ideal S2816 .f32) (x5 : FVec Ideal S2816x1024 .bf16) (f : Fin 2816) (k : Fin 1024) : val_main_v110 (F := Ideal) x0 x1 x2 x3 x4 (ix2 f k)
    = ∑ R : Fin 4096, x0 (ix2 R k) * val_main_v49 (F := Ideal) x1 x2 x3 x4 (ix2 R f) := by
  pointwise [val_main_v110, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]

/-- A sum whose first two rows are split off. -/
theorem sum_shift (f : Fin 4096 → EReal) (g : Fin 4094 → EReal) (h : ∀ R : Fin 4096, R.val < 2 → f R = 0)
    (hg : ∀ x : Fin 4094, f ⟨2 + x.val, by omega⟩ = g x) : ∑ x, g x = ∑ R, f R := by
  refine ((Fin.sum_univ_add (a := 2) (b := 4094) f).trans ?_).symm
  rw [Finset.sum_eq_zero fun k _ => h _ (by have := k.isLt; simp only [Fin.val_castAdd]; omega), zero_add]
  exact Finset.sum_congr rfl fun x _ => hg x

/-- The reference's gradients of the convolution: one sum over the tokens. -/
theorem ref_dconv (x0 : FVec Ideal S4096x1024 .bf16) (x1 : FVec Ideal S4096x2816 .bf16) (x2 : FVec Ideal S4096x2816 .f32) (x3 : FVec Ideal S3x2816 .f32) (x4 : FVec Ideal S2816 .f32) (x5 : FVec Ideal S2816x1024 .bf16) (q : Fin 8) (L : Fin 2816) : val_main_v107 (F := Ideal) x0 x1 x2 x3 x4 x5 (ix2 q L)
    = ∑ R : Fin 4096, taps x1 (val_main_v68 (F := Ideal) x0 x1 x2 x3 x4 x5) q R L := by
  pointwise [val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69,val_main_v17,val_main_v10,val_main_v4,val_main_v0,val_main_v2,val_main_v1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]
  generalize val_main_v68 (F := Ideal) x0 x1 x2 x3 x4 x5 = D
  fin_cases q
  · simp only [taps, back]
    simp
    refine sum_shift _ _ (fun R hR => ?_) fun x => ?_
    · rw [if_pos (by omega)]
    · rw [if_neg (by simp only; omega)]
      exact congrArg (fun i => x1 (ix2 i L) * D (ix2 _ L)) (Fin.ext (by simp only; omega))
  · simp [taps, back]
    refine Finset.sum_congr rfl fun R _ => ?_
    split_ifs with h
    · rfl
    · exact congrArg (fun i => x1 (ix2 i L) * D (ix2 R L)) (Fin.ext (by simp only; omega))
    · exact absurd rfl ‹_›
  · simp [taps, back]
  · simp [taps, back]
  · simp [taps, back]
  · simp [taps, back]
  · simp [taps, back]
  · simp [taps, back]

end Cert.ActMath

end
-- ==== Proof.ActPieces.lean ====
module

public import proofs.«01_k».proof.Defs
public import proofs.«01_k».proof.Proof.Gen.ActKernelIdeal.Value
public import proofs.«01_k».proof.Proof.Gen.ActReferenceIdeal.Run
public import proofs.«01_k».proof.Proof.Gen.ActReferenceIdeal.Read
public import proofs.«01_k».proof.Proof.ActMath
public import Idealize.ShloMosaic.Lib.Pointwise
public import Idealize.ShloMosaic.Lib.Tactic
public import Idealize.ShloMosaic.Lib.Pipeline.ValueKit
public import Idealize.ShloMosaic.Lib.Pipeline.ReadBack
public import Idealize.ShloMosaic.Lib.Quiescent

@[expose] public section

set_option maxRecDepth 16384

noncomputable section

namespace Cert.ActKernelIdeal.Tile

open Cert.ActKernelIdeal Cert.ActKernelIdeal.Gen Idealize.ShloMosaic Idealize.ShloMosaic.TcCoe Idealize.SL.Sem
open Cert.ActReferenceIdeal.Read

/-! The pieces of a block, over any blocks: what each stores at an index. -/

/-- A tile's gradient that comes into gelu. -/
def downT (B0 : FVec Ideal S512x1024 .bf16) (B6 : FVec Ideal S1408x1024 .bf16) (x : Fin 512) (l : Fin 1408) : EReal :=
  ∑ k : Fin 1024, B0 (ix2 x k) * B6 (ix2 l k)

/-- A tile's gate `k` rows before: from the tile, from the rows before it, or zero before the first tile. -/
def backT (i : ℕ) (G2 : FVec Ideal S16x1408 .bf16) (G1 : FVec Ideal S512x1408 .bf16) (k : ℕ) (x : Fin 512) (l : Fin 1408) : EReal :=
  if x.val < k then (if i = 0 then 0 else G2 (ix2 ⟨(16 + x.val - k) % 16, Nat.mod_lt _ (by decide)⟩ l))
  else G1 (ix2 ⟨x.val - k, by omega⟩ l)

/-- One row's part of a tile's convolution gradients. -/
def tapsT (i : ℕ) (G2 : FVec Ideal S16x1408 .bf16) (G1 : FVec Ideal S512x1408 .bf16) (D : Fin 512 → EReal) (q : Fin 8) (x : Fin 512) (l : Fin 1408) : EReal :=
  if q.val < 3 then D x * backT i G2 G1 (2 - q.val) x l else if q.val = 3 then D x else 0

/-- The row number's comparison: true in the rows before the tile, at the first tile. -/
theorem halo_bit (i e : ℕ) (hi : i < 8) (he : e < 528) :
    IntOp.andi (IntOp.cmpi CmpIPredicate.slt (BitVec.ofNat 32 e) 16#32) (Scalar.cmpi CmpIPredicate.eq (BitVec.ofNat 32 i) 0#32)
      = if e < 16 ∧ i = 0 then 1#1 else 0#1 := by
  have e1 : (BitVec.ofNat 32 i == 0#32) = decide (i = 0) := by
    interval_cases i <;> rfl
  have e2 : (BitVec.ofNat 32 e).slt 16#32 = decide (e < 16) := by
    rw [Bool.eq_iff_iff, decide_eq_true_iff, BitVec.slt_iff_toInt_lt]
    have : (BitVec.ofNat 32 e).toInt = e := by
      rw [BitVec.toInt_eq_toNat_of_lt] <;> simp <;> omega
    rw [this]
    simp
  simp only [IntOp.andi, IntOp.cmpi, Scalar.cmpi, e1, e2]
  by_cases h : i = 0 <;> by_cases h' : e < 16 <;> simp [h, h']

/-- A selected zero or a product, as the product with the shifted gate. -/
theorem pick (i e k : ℕ) (hi : i < 8) (x : Fin 512) (hk : k ≤ 2) (he : e = 16 + x.val - k) (G2 : FVec Ideal S16x1408 .bf16) (G1 : FVec Ideal S512x1408 .bf16) (L : Fin 1408)
    (d a : EReal) (h2 : (hx : e < 16) → a = G2 (ix2 ⟨e, hx⟩ L)) (h1 : (hx : ¬e < 16) → a = G1 (ix2 ⟨e - 16, by have := x.isLt; omega⟩ L)) :
    Scalar.select (IntOp.andi (IntOp.cmpi CmpIPredicate.slt (BitVec.ofNat 32 e) 16#32) (Scalar.cmpi CmpIPredicate.eq (BitVec.ofNat 32 i) 0#32)) (0 : EReal) (d * a)
      = d * backT i G2 G1 k x L := by
  have hx := x.isLt
  rw [halo_bit i e hi (by omega), backT]
  by_cases h : e < 16
  · rw [if_pos (show x.val < k by omega)]
    by_cases h0 : i = 0
    · rw [if_pos ⟨h, h0⟩, if_pos h0, mul_zero]
      rfl
    · rw [if_neg (fun hh => h0 hh.2), if_neg h0, h2 h]
      refine congrArg (fun r => d * G2 (ix2 r L)) (Fin.ext ?_)
      simp only
      omega
  · rw [if_neg (fun hh => h hh.1), if_neg (show ¬x.val < k by omega), h1 h]
    refine congrArg (fun r => d * G1 (ix2 r L)) (Fin.ext ?_)
    simp only
    omega

/-- The eight rows of a tile's part, from the stacked rows. -/
theorem stack (o s0 s1 s2 s3 : EReal) (q : Fin 8) (i : ℕ) (G2 : FVec Ideal S16x1408 .bf16) (G1 : FVec Ideal S512x1408 .bf16) (D : Fin 512 → EReal) (L : Fin 1408)
    (h0 : s0 = ∑ x, D x * backT i G2 G1 2 x L) (h1 : s1 = ∑ x, D x * backT i G2 G1 1 x L) (h2 : s2 = ∑ x, D x * backT i G2 G1 0 x L) (h3 : s3 = ∑ x, D x) :
    (o + if _ : q.val < 1 then s0 else if _ : q.val - 1 < 1 then s1 else if _ : q.val - 1 - 1 < 1 then s2 else if _ : q.val - 1 - 1 - 1 < 1 then s3 else 0)
      = o + ∑ x, tapsT i G2 G1 D q x L := by
  subst h0 h1 h2 h3
  fin_cases q <;> simp [tapsT]

/-- Columns 0 to 255: the matrix product. -/
theorem dot0 (B0 : FVec Ideal S512x1024 .bf16) (B6 : FVec Ideal S1408x1024 .bf16) (v4 : FVec Ideal S256x1024 .bf16) (x : Fin 512) (l : Fin 256) (L : Fin 1408)
    (h6 : ∀ k : Fin 1024, v4 (ix2 l k) = B6 (ix2 L k)) : k0_pay4 (F := Ideal) B0 v4 (ix2 x l) = downT B0 B6 x L := by
  refine Eq.trans ?_ (Finset.sum_congr rfl fun k _ => congrArg _ (h6 k))
  clear h6 B6
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 0 to 255: the gradient of the convolution's output. -/
theorem dgc0 (v5 : FVec Ideal S512x256 .f32) (v29 : FVec Ideal S512x256 .bf16) (x : Fin 512) (l : Fin 256) :
    k0_pay10 (F := Ideal) v5 (k0_pay8 v29) (ix2 x l) = v5 (ix2 x l) * v29 (ix2 x l) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 0 to 255: what is stored of the gradient of the convolution's output. -/
theorem dgcB0 (B0 : FVec Ideal S512x1024 .bf16) (B6 : FVec Ideal S1408x1024 .bf16) (B5 : FVec Ideal S512x1408 .bf16) (v4 : FVec Ideal S256x1024 .bf16) (v29 : FVec Ideal S512x256 .bf16)
    (x : Fin 512) (l : Fin 256) (L : Fin 1408) (h6 : ∀ k : Fin 1024, v4 (ix2 l k) = B6 (ix2 L k)) (h5 : v29 (ix2 x l) = B5 (ix2 x L)) :
    k0_pay10 (F := Ideal) (k0_pay4 B0 v4) (k0_pay8 v29) (ix2 x l) = downT B0 B6 x L * B5 (ix2 x L) :=
  (dgc0 _ _ x l).trans (congrArg₂ _ (dot0 B0 B6 v4 x l L h6) h5)

/-- Columns 0 to 255: the gradient of the value half. -/
theorem dval0 (v5 : FVec Ideal S512x256 .f32) (v29 : FVec Ideal S512x256 .bf16) (x : Fin 512) (l : Fin 256) :
    k0_pay11 (F := Ideal) v5 v29 (ix2 x l) = v5 (ix2 x l) * v29 (ix2 x l) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 0 to 255: what is stored of the gradient of the value half. -/
theorem dvalB0 (B0 : FVec Ideal S512x1024 .bf16) (B6 : FVec Ideal S1408x1024 .bf16) (B4 : FVec Ideal S512x1408 .bf16) (v4 : FVec Ideal S256x1024 .bf16) (v29 : FVec Ideal S512x256 .bf16)
    (x : Fin 512) (l : Fin 256) (L : Fin 1408) (h6 : ∀ k : Fin 1024, v4 (ix2 l k) = B6 (ix2 L k)) (h5 : v29 (ix2 x l) = B4 (ix2 x L)) :
    k0_pay11 (F := Ideal) (k0_pay4 B0 v4) v29 (ix2 x l) = downT B0 B6 x L * B4 (ix2 x L) :=
  (dval0 _ _ x l).trans (congrArg₂ _ (dot0 B0 B6 v4 x l L h6) h5)

/-- Columns 0 to 255: the weight gradient's step. -/
theorem step0 (v3 : FVec Ideal S512x1024 .bf16) (old : FVec Ideal S256x1024 .f32) (v9 : FVec Ideal S512x256 .bf16) (l : Fin 256) (k : Fin 1024) :
    k0_pay6 (F := Ideal) v3 old v9 (ix2 l k) = old (ix2 l k) + ∑ x : Fin 512, v9 (ix2 x l) * v3 (ix2 x k) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 0 to 255: what the weight gradient's accumulator holds after a step. -/
theorem stepB0 (B0 : FVec Ideal S512x1024 .bf16) (B3 : FVec Ideal S512x1408 .bf16) (o : EReal) (old : FVec Ideal S256x1024 .f32) (v9 : FVec Ideal S512x256 .bf16)
    (l : Fin 256) (k : Fin 1024) (L : Fin 1408) (ho : old (ix2 l k) = o) (h9 : ∀ x : Fin 512, v9 (ix2 x l) = B3 (ix2 x L)) :
    k0_pay6 (F := Ideal) B0 old v9 (ix2 l k) = o + ∑ x : Fin 512, B3 (ix2 x L) * B0 (ix2 x k) :=
  (step0 B0 old v9 l k).trans (congrArg₂ _ ho (Finset.sum_congr rfl fun x _ => congrArg (· * _) (h9 x)))

/-- Columns 0 to 255: what the convolution's gradients hold after a step. -/
theorem dconvB0 (i : grid0.Coords) (B0 : FVec Ideal S512x1024 .bf16) (B6 : FVec Ideal S1408x1024 .bf16) (B5 G1 : FVec Ideal S512x1408 .bf16) (G2 : FVec Ideal S16x1408 .bf16)
    (o : EReal) (v4 : FVec Ideal S256x1024 .bf16) (v29 g : FVec Ideal S512x256 .bf16) (gh : FVec Ideal S16x256 .bf16) (old : FVec Ideal S8x256 .f32)
    (q : Fin 8) (l : Fin 256) (L : Fin 1408) (h6 : ∀ k : Fin 1024, v4 (ix2 l k) = B6 (ix2 L k)) (h5 : ∀ x : Fin 512, v29 (ix2 x l) = B5 (ix2 x L))
    (hg : ∀ x : Fin 512, g (ix2 x l) = G1 (ix2 x L)) (hh : ∀ x : Fin 16, gh (ix2 x l) = G2 (ix2 x L)) (ho : old (ix2 q l) = o) :
    k0_pay12 (F := Ideal) (k0_pay4 B0 v4) (k0_pay7 i gh g) (k0_pay8 v29) old (ix2 q l) = o + ∑ x : Fin 512, tapsT (i 1).val G2 G1 (fun x => downT B0 B6 x L * B5 (ix2 x L)) q x L := by
  have hi : (i 1).val < 8 := (i 1).isLt
  have ed : (fun x => downT B0 B6 x L * B5 (ix2 x L)) = fun x : Fin 512 => k0_pay4 (F := Ideal) B0 v4 (ix2 x l) * v29 (ix2 x l) :=
    funext fun x => congrArg₂ _ (dot0 B0 B6 v4 x l L h6).symm (h5 x).symm
  rw [ed, ← ho]
  generalize k0_pay4 (F := Ideal) B0 v4 = v5
  refine Eq.trans (b := old (ix2 q l) + _) ?_ (stack _ _ _ _ _ q _ G2 G1 _ L rfl rfl rfl rfl)
  have e2 : ∀ x : Fin 512, v5 (ix2 x l) * v29 (ix2 x l) * backT (i 1).val G2 G1 2 x L = _ := fun x => (pick _ (((16 + x.val) + 528 - 2) % 528) 2 hi x (by decide) (by have := x.isLt; omega) G2 G1 L _
    (if h : ((16 + x.val) + 528 - 2) % 528 < 16 then gh (ix2 ⟨_, h⟩ l) else g (ix2 ⟨((16 + x.val) + 528 - 2) % 528 - 16, by have := x.isLt; omega⟩ l))
    (fun h => by rw [dif_pos h]; exact hh _) (fun h => by rw [dif_neg h]; exact hg _)).symm
  have e1 : ∀ x : Fin 512, v5 (ix2 x l) * v29 (ix2 x l) * backT (i 1).val G2 G1 1 x L = _ := fun x => (pick _ (((16 + x.val) + 528 - 1) % 528) 1 hi x (by decide) (by have := x.isLt; omega) G2 G1 L _
    (if h : ((16 + x.val) + 528 - 1) % 528 < 16 then gh (ix2 ⟨_, h⟩ l) else g (ix2 ⟨((16 + x.val) + 528 - 1) % 528 - 16, by have := x.isLt; omega⟩ l))
    (fun h => by rw [dif_pos h]; exact hh _) (fun h => by rw [dif_neg h]; exact hg _)).symm
  have e0 : ∀ x : Fin 512, v5 (ix2 x l) * v29 (ix2 x l) * backT (i 1).val G2 G1 0 x L = _ := fun x => (pick _ (16 + x.val) 0 hi x (by decide) (by omega) G2 G1 L _
    (g (ix2 x l)) (fun h => absurd h (by omega)) (fun h => (hg x).trans (congrArg (fun r => G1 (ix2 r L)) (Fin.ext (by simp only; omega))))).symm
  simp only [e2, e1, e0]
  clear e2 e1 e0 ed h6 h5 hg hh ho hi
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 256 to 511: the matrix product. -/
theorem dot1 (B0 : FVec Ideal S512x1024 .bf16) (B6 : FVec Ideal S1408x1024 .bf16) (v4 : FVec Ideal S256x1024 .bf16) (x : Fin 512) (l : Fin 256) (L : Fin 1408)
    (h6 : ∀ k : Fin 1024, v4 (ix2 l k) = B6 (ix2 L k)) : k0_pay5 (F := Ideal) B0 v4 (ix2 x l) = downT B0 B6 x L := by
  refine Eq.trans ?_ (Finset.sum_congr rfl fun k _ => congrArg _ (h6 k))
  clear h6 B6
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 256 to 511: the gradient of the convolution's output. -/
theorem dgc1 (v5 : FVec Ideal S512x256 .f32) (v29 : FVec Ideal S512x256 .bf16) (x : Fin 512) (l : Fin 256) :
    k0_pay17 (F := Ideal) v5 v29 (ix2 x l) = v5 (ix2 x l) * v29 (ix2 x l) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 256 to 511: what is stored of the gradient of the convolution's output. -/
theorem dgcB1 (B0 : FVec Ideal S512x1024 .bf16) (B6 : FVec Ideal S1408x1024 .bf16) (B5 : FVec Ideal S512x1408 .bf16) (v4 : FVec Ideal S256x1024 .bf16) (v29 : FVec Ideal S512x256 .bf16)
    (x : Fin 512) (l : Fin 256) (L : Fin 1408) (h6 : ∀ k : Fin 1024, v4 (ix2 l k) = B6 (ix2 L k)) (h5 : v29 (ix2 x l) = B5 (ix2 x L)) :
    k0_pay17 (F := Ideal) (k0_pay5 B0 v4) v29 (ix2 x l) = downT B0 B6 x L * B5 (ix2 x L) :=
  (dgc1 _ _ x l).trans (congrArg₂ _ (dot1 B0 B6 v4 x l L h6) h5)

/-- Columns 256 to 511: the gradient of the value half. -/
theorem dval1 (v5 : FVec Ideal S512x256 .f32) (v29 : FVec Ideal S512x256 .bf16) (x : Fin 512) (l : Fin 256) :
    k0_pay18 (F := Ideal) v5 v29 (ix2 x l) = v5 (ix2 x l) * v29 (ix2 x l) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 256 to 511: what is stored of the gradient of the value half. -/
theorem dvalB1 (B0 : FVec Ideal S512x1024 .bf16) (B6 : FVec Ideal S1408x1024 .bf16) (B4 : FVec Ideal S512x1408 .bf16) (v4 : FVec Ideal S256x1024 .bf16) (v29 : FVec Ideal S512x256 .bf16)
    (x : Fin 512) (l : Fin 256) (L : Fin 1408) (h6 : ∀ k : Fin 1024, v4 (ix2 l k) = B6 (ix2 L k)) (h5 : v29 (ix2 x l) = B4 (ix2 x L)) :
    k0_pay18 (F := Ideal) (k0_pay5 B0 v4) v29 (ix2 x l) = downT B0 B6 x L * B4 (ix2 x L) :=
  (dval1 _ _ x l).trans (congrArg₂ _ (dot1 B0 B6 v4 x l L h6) h5)

/-- Columns 256 to 511: the weight gradient's step. -/
theorem step1 (v3 : FVec Ideal S512x1024 .bf16) (old : FVec Ideal S256x1024 .f32) (v9 : FVec Ideal S512x256 .bf16) (l : Fin 256) (k : Fin 1024) :
    k0_pay14 (F := Ideal) v3 old v9 (ix2 l k) = old (ix2 l k) + ∑ x : Fin 512, v9 (ix2 x l) * v3 (ix2 x k) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 256 to 511: what the weight gradient's accumulator holds after a step. -/
theorem stepB1 (B0 : FVec Ideal S512x1024 .bf16) (B3 : FVec Ideal S512x1408 .bf16) (o : EReal) (old : FVec Ideal S256x1024 .f32) (v9 : FVec Ideal S512x256 .bf16)
    (l : Fin 256) (k : Fin 1024) (L : Fin 1408) (ho : old (ix2 l k) = o) (h9 : ∀ x : Fin 512, v9 (ix2 x l) = B3 (ix2 x L)) :
    k0_pay14 (F := Ideal) B0 old v9 (ix2 l k) = o + ∑ x : Fin 512, B3 (ix2 x L) * B0 (ix2 x k) :=
  (step1 B0 old v9 l k).trans (congrArg₂ _ ho (Finset.sum_congr rfl fun x _ => congrArg (· * _) (h9 x)))

/-- Columns 256 to 511: what the convolution's gradients hold after a step. -/
theorem dconvB1 (i : grid0.Coords) (B0 : FVec Ideal S512x1024 .bf16) (B6 : FVec Ideal S1408x1024 .bf16) (B5 G1 : FVec Ideal S512x1408 .bf16) (G2 : FVec Ideal S16x1408 .bf16)
    (o : EReal) (v4 : FVec Ideal S256x1024 .bf16) (v29 g : FVec Ideal S512x256 .bf16) (gh : FVec Ideal S16x256 .bf16) (old : FVec Ideal S8x256 .f32)
    (q : Fin 8) (l : Fin 256) (L : Fin 1408) (h6 : ∀ k : Fin 1024, v4 (ix2 l k) = B6 (ix2 L k)) (h5 : ∀ x : Fin 512, v29 (ix2 x l) = B5 (ix2 x L))
    (hg : ∀ x : Fin 512, g (ix2 x l) = G1 (ix2 x L)) (hh : ∀ x : Fin 16, gh (ix2 x l) = G2 (ix2 x L)) (ho : old (ix2 q l) = o) :
    k0_pay20 (F := Ideal) (k0_pay15 (BitVec.ofNat 32 (i 1).val) gh g) (k0_pay16 (k0_pay5 B0 v4) v29) (k0_pay19 (BitVec.ofNat 32 (i 1).val) (k0_pay5 B0 v4) gh g v29) old (ix2 q l) = o + ∑ x : Fin 512, tapsT (i 1).val G2 G1 (fun x => downT B0 B6 x L * B5 (ix2 x L)) q x L := by
  have hi : (i 1).val < 8 := (i 1).isLt
  have ed : (fun x => downT B0 B6 x L * B5 (ix2 x L)) = fun x : Fin 512 => k0_pay5 (F := Ideal) B0 v4 (ix2 x l) * v29 (ix2 x l) :=
    funext fun x => congrArg₂ _ (dot1 B0 B6 v4 x l L h6).symm (h5 x).symm
  rw [ed, ← ho]
  generalize k0_pay5 (F := Ideal) B0 v4 = v5
  refine Eq.trans (b := old (ix2 q l) + _) ?_ (stack _ _ _ _ _ q _ G2 G1 _ L rfl rfl rfl rfl)
  have e2 : ∀ x : Fin 512, v5 (ix2 x l) * v29 (ix2 x l) * backT (i 1).val G2 G1 2 x L = _ := fun x => (pick _ (((16 + x.val) + 528 - 2) % 528) 2 hi x (by decide) (by have := x.isLt; omega) G2 G1 L _
    (if h : ((16 + x.val) + 528 - 2) % 528 < 16 then gh (ix2 ⟨_, h⟩ l) else g (ix2 ⟨((16 + x.val) + 528 - 2) % 528 - 16, by have := x.isLt; omega⟩ l))
    (fun h => by rw [dif_pos h]; exact hh _) (fun h => by rw [dif_neg h]; exact hg _)).symm
  have e1 : ∀ x : Fin 512, v5 (ix2 x l) * v29 (ix2 x l) * backT (i 1).val G2 G1 1 x L = _ := fun x => (pick _ (((16 + x.val) + 528 - 1) % 528) 1 hi x (by decide) (by have := x.isLt; omega) G2 G1 L _
    (if h : ((16 + x.val) + 528 - 1) % 528 < 16 then gh (ix2 ⟨_, h⟩ l) else g (ix2 ⟨((16 + x.val) + 528 - 1) % 528 - 16, by have := x.isLt; omega⟩ l))
    (fun h => by rw [dif_pos h]; exact hh _) (fun h => by rw [dif_neg h]; exact hg _)).symm
  have e0 : ∀ x : Fin 512, v5 (ix2 x l) * v29 (ix2 x l) * backT (i 1).val G2 G1 0 x L = _ := fun x => (pick _ (16 + x.val) 0 hi x (by decide) (by omega) G2 G1 L _
    (g (ix2 x l)) (fun h => absurd h (by omega)) (fun h => (hg x).trans (congrArg (fun r => G1 (ix2 r L)) (Fin.ext (by simp only; omega))))).symm
  simp only [e2, e1, e0]
  clear e2 e1 e0 ed h6 h5 hg hh ho hi
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 512 to 767: the matrix product. -/
theorem dot2 (B0 : FVec Ideal S512x1024 .bf16) (B6 : FVec Ideal S1408x1024 .bf16) (v4 : FVec Ideal S256x1024 .bf16) (x : Fin 512) (l : Fin 256) (L : Fin 1408)
    (h6 : ∀ k : Fin 1024, v4 (ix2 l k) = B6 (ix2 L k)) : k0_pay13 (F := Ideal) B0 v4 (ix2 x l) = downT B0 B6 x L := by
  refine Eq.trans ?_ (Finset.sum_congr rfl fun k _ => congrArg _ (h6 k))
  clear h6 B6
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 512 to 767: the gradient of the convolution's output. -/
theorem dgc2 (v5 : FVec Ideal S512x256 .f32) (v29 : FVec Ideal S512x256 .bf16) (x : Fin 512) (l : Fin 256) :
    k0_pay25 (F := Ideal) v5 v29 (ix2 x l) = v5 (ix2 x l) * v29 (ix2 x l) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 512 to 767: what is stored of the gradient of the convolution's output. -/
theorem dgcB2 (B0 : FVec Ideal S512x1024 .bf16) (B6 : FVec Ideal S1408x1024 .bf16) (B5 : FVec Ideal S512x1408 .bf16) (v4 : FVec Ideal S256x1024 .bf16) (v29 : FVec Ideal S512x256 .bf16)
    (x : Fin 512) (l : Fin 256) (L : Fin 1408) (h6 : ∀ k : Fin 1024, v4 (ix2 l k) = B6 (ix2 L k)) (h5 : v29 (ix2 x l) = B5 (ix2 x L)) :
    k0_pay25 (F := Ideal) (k0_pay13 B0 v4) v29 (ix2 x l) = downT B0 B6 x L * B5 (ix2 x L) :=
  (dgc2 _ _ x l).trans (congrArg₂ _ (dot2 B0 B6 v4 x l L h6) h5)

/-- Columns 512 to 767: the gradient of the value half. -/
theorem dval2 (v5 : FVec Ideal S512x256 .f32) (v29 : FVec Ideal S512x256 .bf16) (x : Fin 512) (l : Fin 256) :
    k0_pay26 (F := Ideal) v5 v29 (ix2 x l) = v5 (ix2 x l) * v29 (ix2 x l) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 512 to 767: what is stored of the gradient of the value half. -/
theorem dvalB2 (B0 : FVec Ideal S512x1024 .bf16) (B6 : FVec Ideal S1408x1024 .bf16) (B4 : FVec Ideal S512x1408 .bf16) (v4 : FVec Ideal S256x1024 .bf16) (v29 : FVec Ideal S512x256 .bf16)
    (x : Fin 512) (l : Fin 256) (L : Fin 1408) (h6 : ∀ k : Fin 1024, v4 (ix2 l k) = B6 (ix2 L k)) (h5 : v29 (ix2 x l) = B4 (ix2 x L)) :
    k0_pay26 (F := Ideal) (k0_pay13 B0 v4) v29 (ix2 x l) = downT B0 B6 x L * B4 (ix2 x L) :=
  (dval2 _ _ x l).trans (congrArg₂ _ (dot2 B0 B6 v4 x l L h6) h5)

/-- Columns 512 to 767: the weight gradient's step. -/
theorem step2 (v3 : FVec Ideal S512x1024 .bf16) (old : FVec Ideal S256x1024 .f32) (v9 : FVec Ideal S512x256 .bf16) (l : Fin 256) (k : Fin 1024) :
    k0_pay22 (F := Ideal) v3 old v9 (ix2 l k) = old (ix2 l k) + ∑ x : Fin 512, v9 (ix2 x l) * v3 (ix2 x k) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 512 to 767: what the weight gradient's accumulator holds after a step. -/
theorem stepB2 (B0 : FVec Ideal S512x1024 .bf16) (B3 : FVec Ideal S512x1408 .bf16) (o : EReal) (old : FVec Ideal S256x1024 .f32) (v9 : FVec Ideal S512x256 .bf16)
    (l : Fin 256) (k : Fin 1024) (L : Fin 1408) (ho : old (ix2 l k) = o) (h9 : ∀ x : Fin 512, v9 (ix2 x l) = B3 (ix2 x L)) :
    k0_pay22 (F := Ideal) B0 old v9 (ix2 l k) = o + ∑ x : Fin 512, B3 (ix2 x L) * B0 (ix2 x k) :=
  (step2 B0 old v9 l k).trans (congrArg₂ _ ho (Finset.sum_congr rfl fun x _ => congrArg (· * _) (h9 x)))

/-- Columns 512 to 767: what the convolution's gradients hold after a step. -/
theorem dconvB2 (i : grid0.Coords) (B0 : FVec Ideal S512x1024 .bf16) (B6 : FVec Ideal S1408x1024 .bf16) (B5 G1 : FVec Ideal S512x1408 .bf16) (G2 : FVec Ideal S16x1408 .bf16)
    (o : EReal) (v4 : FVec Ideal S256x1024 .bf16) (v29 g : FVec Ideal S512x256 .bf16) (gh : FVec Ideal S16x256 .bf16) (old : FVec Ideal S8x256 .f32)
    (q : Fin 8) (l : Fin 256) (L : Fin 1408) (h6 : ∀ k : Fin 1024, v4 (ix2 l k) = B6 (ix2 L k)) (h5 : ∀ x : Fin 512, v29 (ix2 x l) = B5 (ix2 x L))
    (hg : ∀ x : Fin 512, g (ix2 x l) = G1 (ix2 x L)) (hh : ∀ x : Fin 16, gh (ix2 x l) = G2 (ix2 x L)) (ho : old (ix2 q l) = o) :
    k0_pay27 (F := Ideal) (k0_pay13 B0 v4) (k0_pay23 (BitVec.ofNat 32 (i 1).val)) gh g v29 old (ix2 q l) = o + ∑ x : Fin 512, tapsT (i 1).val G2 G1 (fun x => downT B0 B6 x L * B5 (ix2 x L)) q x L := by
  have hi : (i 1).val < 8 := (i 1).isLt
  have ed : (fun x => downT B0 B6 x L * B5 (ix2 x L)) = fun x : Fin 512 => k0_pay13 (F := Ideal) B0 v4 (ix2 x l) * v29 (ix2 x l) :=
    funext fun x => congrArg₂ _ (dot2 B0 B6 v4 x l L h6).symm (h5 x).symm
  rw [ed, ← ho]
  generalize k0_pay13 (F := Ideal) B0 v4 = v5
  refine Eq.trans (b := old (ix2 q l) + _) ?_ (stack _ _ _ _ _ q _ G2 G1 _ L rfl rfl rfl rfl)
  have e2 : ∀ x : Fin 512, v5 (ix2 x l) * v29 (ix2 x l) * backT (i 1).val G2 G1 2 x L = _ := fun x => (pick _ (((16 + x.val) + 528 - 2) % 528) 2 hi x (by decide) (by have := x.isLt; omega) G2 G1 L _
    (if h : ((16 + x.val) + 528 - 2) % 528 < 16 then gh (ix2 ⟨_, h⟩ l) else g (ix2 ⟨((16 + x.val) + 528 - 2) % 528 - 16, by have := x.isLt; omega⟩ l))
    (fun h => by rw [dif_pos h]; exact hh _) (fun h => by rw [dif_neg h]; exact hg _)).symm
  have e1 : ∀ x : Fin 512, v5 (ix2 x l) * v29 (ix2 x l) * backT (i 1).val G2 G1 1 x L = _ := fun x => (pick _ (((16 + x.val) + 528 - 1) % 528) 1 hi x (by decide) (by have := x.isLt; omega) G2 G1 L _
    (if h : ((16 + x.val) + 528 - 1) % 528 < 16 then gh (ix2 ⟨_, h⟩ l) else g (ix2 ⟨((16 + x.val) + 528 - 1) % 528 - 16, by have := x.isLt; omega⟩ l))
    (fun h => by rw [dif_pos h]; exact hh _) (fun h => by rw [dif_neg h]; exact hg _)).symm
  have e0 : ∀ x : Fin 512, v5 (ix2 x l) * v29 (ix2 x l) * backT (i 1).val G2 G1 0 x L = _ := fun x => (pick _ (16 + x.val) 0 hi x (by decide) (by omega) G2 G1 L _
    (g (ix2 x l)) (fun h => absurd h (by omega)) (fun h => (hg x).trans (congrArg (fun r => G1 (ix2 r L)) (Fin.ext (by simp only; omega))))).symm
  simp only [e2, e1, e0]
  clear e2 e1 e0 ed h6 h5 hg hh ho hi
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 768 to 1023: the matrix product. -/
theorem dot3 (B0 : FVec Ideal S512x1024 .bf16) (B6 : FVec Ideal S1408x1024 .bf16) (v4 : FVec Ideal S256x1024 .bf16) (x : Fin 512) (l : Fin 256) (L : Fin 1408)
    (h6 : ∀ k : Fin 1024, v4 (ix2 l k) = B6 (ix2 L k)) : k0_pay21 (F := Ideal) B0 v4 (ix2 x l) = downT B0 B6 x L := by
  refine Eq.trans ?_ (Finset.sum_congr rfl fun k _ => congrArg _ (h6 k))
  clear h6 B6
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 768 to 1023: the gradient of the convolution's output. -/
theorem dgc3 (v5 : FVec Ideal S512x256 .f32) (v29 : FVec Ideal S512x256 .bf16) (x : Fin 512) (l : Fin 256) :
    k0_pay32 (F := Ideal) v5 v29 (ix2 x l) = v5 (ix2 x l) * v29 (ix2 x l) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 768 to 1023: what is stored of the gradient of the convolution's output. -/
theorem dgcB3 (B0 : FVec Ideal S512x1024 .bf16) (B6 : FVec Ideal S1408x1024 .bf16) (B5 : FVec Ideal S512x1408 .bf16) (v4 : FVec Ideal S256x1024 .bf16) (v29 : FVec Ideal S512x256 .bf16)
    (x : Fin 512) (l : Fin 256) (L : Fin 1408) (h6 : ∀ k : Fin 1024, v4 (ix2 l k) = B6 (ix2 L k)) (h5 : v29 (ix2 x l) = B5 (ix2 x L)) :
    k0_pay32 (F := Ideal) (k0_pay21 B0 v4) v29 (ix2 x l) = downT B0 B6 x L * B5 (ix2 x L) :=
  (dgc3 _ _ x l).trans (congrArg₂ _ (dot3 B0 B6 v4 x l L h6) h5)

/-- Columns 768 to 1023: the gradient of the value half. -/
theorem dval3 (v5 : FVec Ideal S512x256 .f32) (v29 : FVec Ideal S512x256 .bf16) (x : Fin 512) (l : Fin 256) :
    k0_pay34 (F := Ideal) v5 (k0_pay33 v29) (ix2 x l) = v5 (ix2 x l) * v29 (ix2 x l) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 768 to 1023: what is stored of the gradient of the value half. -/
theorem dvalB3 (B0 : FVec Ideal S512x1024 .bf16) (B6 : FVec Ideal S1408x1024 .bf16) (B4 : FVec Ideal S512x1408 .bf16) (v4 : FVec Ideal S256x1024 .bf16) (v29 : FVec Ideal S512x256 .bf16)
    (x : Fin 512) (l : Fin 256) (L : Fin 1408) (h6 : ∀ k : Fin 1024, v4 (ix2 l k) = B6 (ix2 L k)) (h5 : v29 (ix2 x l) = B4 (ix2 x L)) :
    k0_pay34 (F := Ideal) (k0_pay21 B0 v4) (k0_pay33 v29) (ix2 x l) = downT B0 B6 x L * B4 (ix2 x L) :=
  (dval3 _ _ x l).trans (congrArg₂ _ (dot3 B0 B6 v4 x l L h6) h5)

/-- Columns 768 to 1023: the weight gradient's step. -/
theorem step3 (v3 : FVec Ideal S512x1024 .bf16) (old : FVec Ideal S256x1024 .f32) (v9 : FVec Ideal S512x256 .bf16) (l : Fin 256) (k : Fin 1024) :
    k0_pay29 (F := Ideal) v3 old v9 (ix2 l k) = old (ix2 l k) + ∑ x : Fin 512, v9 (ix2 x l) * v3 (ix2 x k) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 768 to 1023: what the weight gradient's accumulator holds after a step. -/
theorem stepB3 (B0 : FVec Ideal S512x1024 .bf16) (B3 : FVec Ideal S512x1408 .bf16) (o : EReal) (old : FVec Ideal S256x1024 .f32) (v9 : FVec Ideal S512x256 .bf16)
    (l : Fin 256) (k : Fin 1024) (L : Fin 1408) (ho : old (ix2 l k) = o) (h9 : ∀ x : Fin 512, v9 (ix2 x l) = B3 (ix2 x L)) :
    k0_pay29 (F := Ideal) B0 old v9 (ix2 l k) = o + ∑ x : Fin 512, B3 (ix2 x L) * B0 (ix2 x k) :=
  (step3 B0 old v9 l k).trans (congrArg₂ _ ho (Finset.sum_congr rfl fun x _ => congrArg (· * _) (h9 x)))

/-- Columns 768 to 1023: what the convolution's gradients hold after a step. -/
theorem dconvB3 (i : grid0.Coords) (B0 : FVec Ideal S512x1024 .bf16) (B6 : FVec Ideal S1408x1024 .bf16) (B5 G1 : FVec Ideal S512x1408 .bf16) (G2 : FVec Ideal S16x1408 .bf16)
    (o : EReal) (v4 : FVec Ideal S256x1024 .bf16) (v29 g : FVec Ideal S512x256 .bf16) (gh : FVec Ideal S16x256 .bf16) (old : FVec Ideal S8x256 .f32)
    (q : Fin 8) (l : Fin 256) (L : Fin 1408) (h6 : ∀ k : Fin 1024, v4 (ix2 l k) = B6 (ix2 L k)) (h5 : ∀ x : Fin 512, v29 (ix2 x l) = B5 (ix2 x L))
    (hg : ∀ x : Fin 512, g (ix2 x l) = G1 (ix2 x L)) (hh : ∀ x : Fin 16, gh (ix2 x l) = G2 (ix2 x L)) (ho : old (ix2 q l) = o) :
    k0_pay35 (F := Ideal) (k0_pay30 (BitVec.ofNat 32 (i 1).val) gh g) (k0_pay31 (k0_pay21 B0 v4) v29) old (ix2 q l) = o + ∑ x : Fin 512, tapsT (i 1).val G2 G1 (fun x => downT B0 B6 x L * B5 (ix2 x L)) q x L := by
  have hi : (i 1).val < 8 := (i 1).isLt
  have ed : (fun x => downT B0 B6 x L * B5 (ix2 x L)) = fun x : Fin 512 => k0_pay21 (F := Ideal) B0 v4 (ix2 x l) * v29 (ix2 x l) :=
    funext fun x => congrArg₂ _ (dot3 B0 B6 v4 x l L h6).symm (h5 x).symm
  rw [ed, ← ho]
  generalize k0_pay21 (F := Ideal) B0 v4 = v5
  refine Eq.trans (b := old (ix2 q l) + _) ?_ (stack _ _ _ _ _ q _ G2 G1 _ L rfl rfl rfl rfl)
  have e2 : ∀ x : Fin 512, v5 (ix2 x l) * v29 (ix2 x l) * backT (i 1).val G2 G1 2 x L = _ := fun x => (pick _ (((16 + x.val) + 528 - 2) % 528) 2 hi x (by decide) (by have := x.isLt; omega) G2 G1 L _
    (if h : ((16 + x.val) + 528 - 2) % 528 < 16 then gh (ix2 ⟨_, h⟩ l) else g (ix2 ⟨((16 + x.val) + 528 - 2) % 528 - 16, by have := x.isLt; omega⟩ l))
    (fun h => by rw [dif_pos h]; exact hh _) (fun h => by rw [dif_neg h]; exact hg _)).symm
  have e1 : ∀ x : Fin 512, v5 (ix2 x l) * v29 (ix2 x l) * backT (i 1).val G2 G1 1 x L = _ := fun x => (pick _ (((16 + x.val) + 528 - 1) % 528) 1 hi x (by decide) (by have := x.isLt; omega) G2 G1 L _
    (if h : ((16 + x.val) + 528 - 1) % 528 < 16 then gh (ix2 ⟨_, h⟩ l) else g (ix2 ⟨((16 + x.val) + 528 - 1) % 528 - 16, by have := x.isLt; omega⟩ l))
    (fun h => by rw [dif_pos h]; exact hh _) (fun h => by rw [dif_neg h]; exact hg _)).symm
  have e0 : ∀ x : Fin 512, v5 (ix2 x l) * v29 (ix2 x l) * backT (i 1).val G2 G1 0 x L = _ := fun x => (pick _ (16 + x.val) 0 hi x (by decide) (by omega) G2 G1 L _
    (g (ix2 x l)) (fun h => absurd h (by omega)) (fun h => (hg x).trans (congrArg (fun r => G1 (ix2 r L)) (Fin.ext (by simp only; omega))))).symm
  simp only [e2, e1, e0]
  clear e2 e1 e0 ed h6 h5 hg hh ho hi
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 1024 to 1279: the matrix product. -/
theorem dot4 (B0 : FVec Ideal S512x1024 .bf16) (B6 : FVec Ideal S1408x1024 .bf16) (v4 : FVec Ideal S256x1024 .bf16) (x : Fin 512) (l : Fin 256) (L : Fin 1408)
    (h6 : ∀ k : Fin 1024, v4 (ix2 l k) = B6 (ix2 L k)) : k0_pay28 (F := Ideal) B0 v4 (ix2 x l) = downT B0 B6 x L := by
  refine Eq.trans ?_ (Finset.sum_congr rfl fun k _ => congrArg _ (h6 k))
  clear h6 B6
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 1024 to 1279: the gradient of the convolution's output. -/
theorem dgc4 (v5 : FVec Ideal S512x256 .f32) (v29 : FVec Ideal S512x256 .bf16) (x : Fin 512) (l : Fin 256) :
    k0_pay40 (F := Ideal) v5 v29 (ix2 x l) = v5 (ix2 x l) * v29 (ix2 x l) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 1024 to 1279: what is stored of the gradient of the convolution's output. -/
theorem dgcB4 (B0 : FVec Ideal S512x1024 .bf16) (B6 : FVec Ideal S1408x1024 .bf16) (B5 : FVec Ideal S512x1408 .bf16) (v4 : FVec Ideal S256x1024 .bf16) (v29 : FVec Ideal S512x256 .bf16)
    (x : Fin 512) (l : Fin 256) (L : Fin 1408) (h6 : ∀ k : Fin 1024, v4 (ix2 l k) = B6 (ix2 L k)) (h5 : v29 (ix2 x l) = B5 (ix2 x L)) :
    k0_pay40 (F := Ideal) (k0_pay28 B0 v4) v29 (ix2 x l) = downT B0 B6 x L * B5 (ix2 x L) :=
  (dgc4 _ _ x l).trans (congrArg₂ _ (dot4 B0 B6 v4 x l L h6) h5)

/-- Columns 1024 to 1279: the gradient of the value half. -/
theorem dval4 (v5 : FVec Ideal S512x256 .f32) (v29 : FVec Ideal S512x256 .bf16) (x : Fin 512) (l : Fin 256) :
    k0_pay41 (F := Ideal) v5 v29 (ix2 x l) = v5 (ix2 x l) * v29 (ix2 x l) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 1024 to 1279: what is stored of the gradient of the value half. -/
theorem dvalB4 (B0 : FVec Ideal S512x1024 .bf16) (B6 : FVec Ideal S1408x1024 .bf16) (B4 : FVec Ideal S512x1408 .bf16) (v4 : FVec Ideal S256x1024 .bf16) (v29 : FVec Ideal S512x256 .bf16)
    (x : Fin 512) (l : Fin 256) (L : Fin 1408) (h6 : ∀ k : Fin 1024, v4 (ix2 l k) = B6 (ix2 L k)) (h5 : v29 (ix2 x l) = B4 (ix2 x L)) :
    k0_pay41 (F := Ideal) (k0_pay28 B0 v4) v29 (ix2 x l) = downT B0 B6 x L * B4 (ix2 x L) :=
  (dval4 _ _ x l).trans (congrArg₂ _ (dot4 B0 B6 v4 x l L h6) h5)

/-- Columns 1024 to 1279: the weight gradient's step. -/
theorem step4 (v3 : FVec Ideal S512x1024 .bf16) (old : FVec Ideal S256x1024 .f32) (v9 : FVec Ideal S512x256 .bf16) (l : Fin 256) (k : Fin 1024) :
    k0_pay37 (F := Ideal) v3 old v9 (ix2 l k) = old (ix2 l k) + ∑ x : Fin 512, v9 (ix2 x l) * v3 (ix2 x k) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 1024 to 1279: what the weight gradient's accumulator holds after a step. -/
theorem stepB4 (B0 : FVec Ideal S512x1024 .bf16) (B3 : FVec Ideal S512x1408 .bf16) (o : EReal) (old : FVec Ideal S256x1024 .f32) (v9 : FVec Ideal S512x256 .bf16)
    (l : Fin 256) (k : Fin 1024) (L : Fin 1408) (ho : old (ix2 l k) = o) (h9 : ∀ x : Fin 512, v9 (ix2 x l) = B3 (ix2 x L)) :
    k0_pay37 (F := Ideal) B0 old v9 (ix2 l k) = o + ∑ x : Fin 512, B3 (ix2 x L) * B0 (ix2 x k) :=
  (step4 B0 old v9 l k).trans (congrArg₂ _ ho (Finset.sum_congr rfl fun x _ => congrArg (· * _) (h9 x)))

/-- Columns 1024 to 1279: what the convolution's gradients hold after a step. -/
theorem dconvB4 (i : grid0.Coords) (B0 : FVec Ideal S512x1024 .bf16) (B6 : FVec Ideal S1408x1024 .bf16) (B5 G1 : FVec Ideal S512x1408 .bf16) (G2 : FVec Ideal S16x1408 .bf16)
    (o : EReal) (v4 : FVec Ideal S256x1024 .bf16) (v29 g : FVec Ideal S512x256 .bf16) (gh : FVec Ideal S16x256 .bf16) (old : FVec Ideal S8x256 .f32)
    (q : Fin 8) (l : Fin 256) (L : Fin 1408) (h6 : ∀ k : Fin 1024, v4 (ix2 l k) = B6 (ix2 L k)) (h5 : ∀ x : Fin 512, v29 (ix2 x l) = B5 (ix2 x L))
    (hg : ∀ x : Fin 512, g (ix2 x l) = G1 (ix2 x L)) (hh : ∀ x : Fin 16, gh (ix2 x l) = G2 (ix2 x L)) (ho : old (ix2 q l) = o) :
    k0_pay45 (F := Ideal) (k0_pay39 (k0_pay28 B0 v4) v29) (k0_pay42 (BitVec.ofNat 32 (i 1).val) (k0_pay28 B0 v4) gh g v29) (k0_pay43 (BitVec.ofNat 32 (i 1).val) (k0_pay28 B0 v4) gh g v29) (k0_pay44 (BitVec.ofNat 32 (i 1).val) (k0_pay28 B0 v4) gh g v29) old (ix2 q l) = o + ∑ x : Fin 512, tapsT (i 1).val G2 G1 (fun x => downT B0 B6 x L * B5 (ix2 x L)) q x L := by
  have hi : (i 1).val < 8 := (i 1).isLt
  have ed : (fun x => downT B0 B6 x L * B5 (ix2 x L)) = fun x : Fin 512 => k0_pay28 (F := Ideal) B0 v4 (ix2 x l) * v29 (ix2 x l) :=
    funext fun x => congrArg₂ _ (dot4 B0 B6 v4 x l L h6).symm (h5 x).symm
  rw [ed, ← ho]
  generalize k0_pay28 (F := Ideal) B0 v4 = v5
  refine Eq.trans (b := old (ix2 q l) + _) ?_ (stack _ _ _ _ _ q _ G2 G1 _ L rfl rfl rfl rfl)
  have e2 : ∀ x : Fin 512, v5 (ix2 x l) * v29 (ix2 x l) * backT (i 1).val G2 G1 2 x L = _ := fun x => (pick _ (((16 + x.val) + 528 - 2) % 528) 2 hi x (by decide) (by have := x.isLt; omega) G2 G1 L _
    (if h : ((16 + x.val) + 528 - 2) % 528 < 16 then gh (ix2 ⟨_, h⟩ l) else g (ix2 ⟨((16 + x.val) + 528 - 2) % 528 - 16, by have := x.isLt; omega⟩ l))
    (fun h => by rw [dif_pos h]; exact hh _) (fun h => by rw [dif_neg h]; exact hg _)).symm
  have e1 : ∀ x : Fin 512, v5 (ix2 x l) * v29 (ix2 x l) * backT (i 1).val G2 G1 1 x L = _ := fun x => (pick _ (((16 + x.val) + 528 - 1) % 528) 1 hi x (by decide) (by have := x.isLt; omega) G2 G1 L _
    (if h : ((16 + x.val) + 528 - 1) % 528 < 16 then gh (ix2 ⟨_, h⟩ l) else g (ix2 ⟨((16 + x.val) + 528 - 1) % 528 - 16, by have := x.isLt; omega⟩ l))
    (fun h => by rw [dif_pos h]; exact hh _) (fun h => by rw [dif_neg h]; exact hg _)).symm
  have e0 : ∀ x : Fin 512, v5 (ix2 x l) * v29 (ix2 x l) * backT (i 1).val G2 G1 0 x L = _ := fun x => (pick _ (16 + x.val) 0 hi x (by decide) (by omega) G2 G1 L _
    (g (ix2 x l)) (fun h => absurd h (by omega)) (fun h => (hg x).trans (congrArg (fun r => G1 (ix2 r L)) (Fin.ext (by simp only; omega))))).symm
  simp only [e2, e1, e0]
  clear e2 e1 e0 ed h6 h5 hg hh ho hi
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 1280 to 1407: the matrix product. -/
theorem dot5 (B0 : FVec Ideal S512x1024 .bf16) (B6 : FVec Ideal S1408x1024 .bf16) (v4 : FVec Ideal S128x1024 .bf16) (x : Fin 512) (l : Fin 128) (L : Fin 1408)
    (h6 : ∀ k : Fin 1024, v4 (ix2 l k) = B6 (ix2 L k)) : k0_pay36 (F := Ideal) B0 v4 (ix2 x l) = downT B0 B6 x L := by
  refine Eq.trans ?_ (Finset.sum_congr rfl fun k _ => congrArg _ (h6 k))
  clear h6 B6
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 1280 to 1407: the gradient of the convolution's output. -/
theorem dgc5 (v5 : FVec Ideal S512x128 .f32) (v29 : FVec Ideal S512x128 .bf16) (x : Fin 512) (l : Fin 128) :
    k0_pay49 (F := Ideal) v5 v29 (ix2 x l) = v5 (ix2 x l) * v29 (ix2 x l) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 1280 to 1407: what is stored of the gradient of the convolution's output. -/
theorem dgcB5 (B0 : FVec Ideal S512x1024 .bf16) (B6 : FVec Ideal S1408x1024 .bf16) (B5 : FVec Ideal S512x1408 .bf16) (v4 : FVec Ideal S128x1024 .bf16) (v29 : FVec Ideal S512x128 .bf16)
    (x : Fin 512) (l : Fin 128) (L : Fin 1408) (h6 : ∀ k : Fin 1024, v4 (ix2 l k) = B6 (ix2 L k)) (h5 : v29 (ix2 x l) = B5 (ix2 x L)) :
    k0_pay49 (F := Ideal) (k0_pay36 B0 v4) v29 (ix2 x l) = downT B0 B6 x L * B5 (ix2 x L) :=
  (dgc5 _ _ x l).trans (congrArg₂ _ (dot5 B0 B6 v4 x l L h6) h5)

/-- Columns 1280 to 1407: the gradient of the value half. -/
theorem dval5 (v5 : FVec Ideal S512x128 .f32) (v29 : FVec Ideal S512x128 .bf16) (x : Fin 512) (l : Fin 128) :
    k0_pay50 (F := Ideal) v5 v29 (ix2 x l) = v5 (ix2 x l) * v29 (ix2 x l) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 1280 to 1407: what is stored of the gradient of the value half. -/
theorem dvalB5 (B0 : FVec Ideal S512x1024 .bf16) (B6 : FVec Ideal S1408x1024 .bf16) (B4 : FVec Ideal S512x1408 .bf16) (v4 : FVec Ideal S128x1024 .bf16) (v29 : FVec Ideal S512x128 .bf16)
    (x : Fin 512) (l : Fin 128) (L : Fin 1408) (h6 : ∀ k : Fin 1024, v4 (ix2 l k) = B6 (ix2 L k)) (h5 : v29 (ix2 x l) = B4 (ix2 x L)) :
    k0_pay50 (F := Ideal) (k0_pay36 B0 v4) v29 (ix2 x l) = downT B0 B6 x L * B4 (ix2 x L) :=
  (dval5 _ _ x l).trans (congrArg₂ _ (dot5 B0 B6 v4 x l L h6) h5)

/-- Columns 1280 to 1407: the weight gradient's step. -/
theorem step5 (v3 : FVec Ideal S512x1024 .bf16) (old : FVec Ideal S128x1024 .f32) (v9 : FVec Ideal S512x128 .bf16) (l : Fin 128) (k : Fin 1024) :
    k0_pay46 (F := Ideal) v3 old v9 (ix2 l k) = old (ix2 l k) + ∑ x : Fin 512, v9 (ix2 x l) * v3 (ix2 x k) := by
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

/-- Columns 1280 to 1407: what the weight gradient's accumulator holds after a step. -/
theorem stepB5 (B0 : FVec Ideal S512x1024 .bf16) (B3 : FVec Ideal S512x1408 .bf16) (o : EReal) (old : FVec Ideal S128x1024 .f32) (v9 : FVec Ideal S512x128 .bf16)
    (l : Fin 128) (k : Fin 1024) (L : Fin 1408) (ho : old (ix2 l k) = o) (h9 : ∀ x : Fin 512, v9 (ix2 x l) = B3 (ix2 x L)) :
    k0_pay46 (F := Ideal) B0 old v9 (ix2 l k) = o + ∑ x : Fin 512, B3 (ix2 x L) * B0 (ix2 x k) :=
  (step5 B0 old v9 l k).trans (congrArg₂ _ ho (Finset.sum_congr rfl fun x _ => congrArg (· * _) (h9 x)))

/-- Columns 1280 to 1407: what the convolution's gradients hold after a step. -/
theorem dconvB5 (i : grid0.Coords) (B0 : FVec Ideal S512x1024 .bf16) (B6 : FVec Ideal S1408x1024 .bf16) (B5 G1 : FVec Ideal S512x1408 .bf16) (G2 : FVec Ideal S16x1408 .bf16)
    (o : EReal) (v4 : FVec Ideal S128x1024 .bf16) (v29 g : FVec Ideal S512x128 .bf16) (gh : FVec Ideal S16x128 .bf16) (old : FVec Ideal S8x128 .f32)
    (q : Fin 8) (l : Fin 128) (L : Fin 1408) (h6 : ∀ k : Fin 1024, v4 (ix2 l k) = B6 (ix2 L k)) (h5 : ∀ x : Fin 512, v29 (ix2 x l) = B5 (ix2 x L))
    (hg : ∀ x : Fin 512, g (ix2 x l) = G1 (ix2 x L)) (hh : ∀ x : Fin 16, gh (ix2 x l) = G2 (ix2 x L)) (ho : old (ix2 q l) = o) :
    k0_pay51 (F := Ideal) (k0_pay47 (BitVec.ofNat 32 (i 1).val) gh g) (k0_pay48 (k0_pay36 B0 v4) v29) old (ix2 q l) = o + ∑ x : Fin 512, tapsT (i 1).val G2 G1 (fun x => downT B0 B6 x L * B5 (ix2 x L)) q x L := by
  have hi : (i 1).val < 8 := (i 1).isLt
  have ed : (fun x => downT B0 B6 x L * B5 (ix2 x L)) = fun x : Fin 512 => k0_pay36 (F := Ideal) B0 v4 (ix2 x l) * v29 (ix2 x l) :=
    funext fun x => congrArg₂ _ (dot5 B0 B6 v4 x l L h6).symm (h5 x).symm
  rw [ed, ← ho]
  generalize k0_pay36 (F := Ideal) B0 v4 = v5
  refine Eq.trans (b := old (ix2 q l) + _) ?_ (stack _ _ _ _ _ q _ G2 G1 _ L rfl rfl rfl rfl)
  have e2 : ∀ x : Fin 512, v5 (ix2 x l) * v29 (ix2 x l) * backT (i 1).val G2 G1 2 x L = _ := fun x => (pick _ (((16 + x.val) + 528 - 2) % 528) 2 hi x (by decide) (by have := x.isLt; omega) G2 G1 L _
    (if h : ((16 + x.val) + 528 - 2) % 528 < 16 then gh (ix2 ⟨_, h⟩ l) else g (ix2 ⟨((16 + x.val) + 528 - 2) % 528 - 16, by have := x.isLt; omega⟩ l))
    (fun h => by rw [dif_pos h]; exact hh _) (fun h => by rw [dif_neg h]; exact hg _)).symm
  have e1 : ∀ x : Fin 512, v5 (ix2 x l) * v29 (ix2 x l) * backT (i 1).val G2 G1 1 x L = _ := fun x => (pick _ (((16 + x.val) + 528 - 1) % 528) 1 hi x (by decide) (by have := x.isLt; omega) G2 G1 L _
    (if h : ((16 + x.val) + 528 - 1) % 528 < 16 then gh (ix2 ⟨_, h⟩ l) else g (ix2 ⟨((16 + x.val) + 528 - 1) % 528 - 16, by have := x.isLt; omega⟩ l))
    (fun h => by rw [dif_pos h]; exact hh _) (fun h => by rw [dif_neg h]; exact hg _)).symm
  have e0 : ∀ x : Fin 512, v5 (ix2 x l) * v29 (ix2 x l) * backT (i 1).val G2 G1 0 x L = _ := fun x => (pick _ (16 + x.val) 0 hi x (by decide) (by omega) G2 G1 L _
    (g (ix2 x l)) (fun h => absurd h (by omega)) (fun h => (hg x).trans (congrArg (fun r => G1 (ix2 r L)) (Fin.ext (by simp only; omega))))).symm
  simp only [e2, e1, e0]
  clear e2 e1 e0 ed h6 h5 hg hh ho hi
  pointwise [k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]

end Cert.ActKernelIdeal.Tile

end
-- ==== Proof.ActTile.lean ====
module

public import proofs.«01_k».proof.Defs
public import proofs.«01_k».proof.Proof.Gen.ActKernelIdeal.Value
public import proofs.«01_k».proof.Proof.Gen.ActReferenceIdeal.Run
public import proofs.«01_k».proof.Proof.Gen.ActReferenceIdeal.Read
public import proofs.«01_k».proof.Proof.ActPieces
public import Idealize.ShloMosaic.Lib.Pointwise
public import Idealize.ShloMosaic.Lib.Tactic
public import Idealize.ShloMosaic.Lib.Pipeline.ValueKit
public import Idealize.ShloMosaic.Lib.Pipeline.ReadBack
public import Idealize.ShloMosaic.Lib.Quiescent

@[expose] public section

set_option maxRecDepth 16384

noncomputable section

namespace Cert.ActKernelIdeal.Tile

open Cert.ActKernelIdeal Cert.ActKernelIdeal.Gen Idealize.ShloMosaic Idealize.ShloMosaic.TcCoe Idealize.SL.Sem
open Cert.ActReferenceIdeal.Read

open Cert.ActMath

variable (m : (ℓ : Loc nD τ sig) → Buf (Elt Ideal) ℓ)

/-- Block indices of the windows at a grid point: the row tile runs fastest. -/
theorem index : ∀ t : Fin cfg0.N, win0_0.index t = ![t.val % 8, 0] ∧ win0_1.index t = ![t.val % 8, t.val / 8]
    ∧ win0_2.index t = ![t.val % 8 * 32 - 1, t.val / 8] ∧ win0_3.index t = ![t.val % 8, t.val / 8]
    ∧ win0_4.index t = ![t.val % 8, t.val / 8] ∧ win0_5.index t = ![t.val % 8, t.val / 8] ∧ win0_6.index t = ![t.val / 8, 0]
    ∧ win0_7.index t = ![t.val % 8, t.val / 8] ∧ win0_8.index t = ![t.val % 8, t.val / 8] ∧ win0_9.index t = ![t.val / 8, 0]
    ∧ win0_10.index t = ![0, t.val / 8] ∧ (grid0.coords t 1).val = t.val % 8 :=
  (by decide +kernel : ∀ t : Fin grid0.N, _)

/-- A block of the incoming gradient. -/
theorem block0 (c : Dev nD) (t : Fin cfg0.N) (r : Fin 512) (l : Fin 1024) (R : Fin 4096) (hR : R.val = t.val % 8 * 512 + r.val) :
    iblk m c 0 t (ix2 r l) = m (c.tc.loc main_arg0) (ix2 R l) := by
  blk_ext [iblk, V, index t]

/-- A block of the gate. -/
theorem block1 (c : Dev nD) (t : Fin cfg0.N) (r : Fin 512) (l : Fin 1408) (R : Fin 4096) (L : Fin 2816)
    (hR : R.val = t.val % 8 * 512 + r.val) (hL : L.val = t.val / 8 * 1408 + l.val) :
    iblk m c 1 t (ix2 r l) = m (c.tc.loc main_arg1) (ix2 R L) := by
  blk_ext [iblk, V, index t]

/-- The gate's rows before a tile. -/
theorem block2 (c : Dev nD) (t : Fin cfg0.N) (r : Fin 16) (l : Fin 1408) (R : Fin 4096) (L : Fin 2816)
    (hR : R.val = (t.val % 8 * 32 - 1) * 16 + r.val) (hL : L.val = t.val / 8 * 1408 + l.val) :
    iblk m c 2 t (ix2 r l) = m (c.tc.loc main_arg1) (ix2 R L) := by
  blk_ext [iblk, V, index t]

/-- A block of the activation times the value half: the host's array is the reference's. -/
theorem block3 (c : Dev nD) (t : Fin cfg0.N) (r : Fin 512) (l : Fin 1408) (R : Fin 4096) (L : Fin 2816)
    (hR : R.val = t.val % 8 * 512 + r.val) (hL : L.val = t.val / 8 * 1408 + l.val) : iblk m c 3 t (ix2 r l)
      = (val_main_v49 (F := Ideal) (m (c.tc.loc main_arg1)) (m (c.tc.loc main_arg2)) (m (c.tc.loc main_arg3)) (m (c.tc.loc main_arg4)) : FVec Ideal S4096x2816 .f32) (ix2 R L) := by
  blk_simp [iblk]
  entry_read
  change (val_main_v49 (F := Ideal) (m (c.tc.loc main_arg1)) (m (c.tc.loc main_arg2)) (m (c.tc.loc main_arg3)) (m (c.tc.loc main_arg4)) : FVec Ideal S4096x2816 .f32) _ = _
  blk_ext [index t]

/-- A block of the activation: the host's array is the reference's. -/
theorem block4 (c : Dev nD) (t : Fin cfg0.N) (r : Fin 512) (l : Fin 1408) (R : Fin 4096) (L : Fin 2816)
    (hR : R.val = t.val % 8 * 512 + r.val) (hL : L.val = t.val / 8 * 1408 + l.val) : iblk m c 4 t (ix2 r l)
      = (val_main_v48 (F := Ideal) (m (c.tc.loc main_arg1)) (m (c.tc.loc main_arg3)) (m (c.tc.loc main_arg4)) : FVec Ideal S4096x2816 .f32) (ix2 R L) := by
  blk_simp [iblk]
  entry_read
  change (val_main_v48 (F := Ideal) (m (c.tc.loc main_arg1)) (m (c.tc.loc main_arg3)) (m (c.tc.loc main_arg4)) : FVec Ideal S4096x2816 .f32) _ = _
  blk_ext [index t]

/-- One literal on the array. -/
def lit (b : BitVec 32) : FVec Ideal S4096x2816 .f32 := broadcastInDim S4096x2816 ![] bcast_S_S4096x2816 (constant (F := Ideal) S_ FTy.f32 b)

/-- The host's tanh of an array. -/
def bendH (G : FVec Ideal S4096x2816 .f32) : FVec Ideal S4096x2816 .f32 :=
  Host.tanh (mulf (lit 1061962282#32) (addf G (mulf (lit 1027024659#32) (mulf (mulf G G) G))))

/-- The host's inner derivative of an array. -/
def innerH (G : FVec Ideal S4096x2816 .f32) : FVec Ideal S4096x2816 .f32 :=
  mulf (lit 1061962282#32) (mulf (mulf (lit 1056964608#32) (mulf G (lit 1065353216#32)))
    (mulf (addf (lit 1065353216#32) (bendH G)) (subf (lit 1065353216#32) (bendH G))))

/-- The host's value half times gelu's derivative. -/
def slopeH (G V : FVec Ideal S4096x2816 .f32) : FVec Ideal S4096x2816 .f32 :=
  mulf V (addf (addf (mulf (lit 1065353216#32) (mulf (lit 1056964608#32) (addf (lit 1065353216#32) (bendH G)))) (innerH G))
    (mulf (mulf (lit 1027024659#32) (innerH G)) (mulf (lit 1077936128#32) (mulf G G))))

/-- The same at an index. -/
theorem slope_apply (G V : FVec Ideal S4096x2816 .f32) (R : Fin 4096) (L : Fin 2816) : slopeH G V (ix2 R L) = V (ix2 R L) * pull 1 (G (ix2 R L)) := by
  rw [pull, one_mul, mul_one]
  pointwise [slopeH, innerH, bendH, lit]
  rfl

/-- A block of the value half times gelu's derivative. -/
theorem block5 (c : Dev nD) (t : Fin cfg0.N) (r : Fin 512) (l : Fin 1408) (R : Fin 4096) (L : Fin 2816)
    (hR : R.val = t.val % 8 * 512 + r.val) (hL : L.val = t.val / 8 * 1408 + l.val) : iblk m c 5 t (ix2 r l)
      = slopeH (val_main_v26 (F := Ideal) (m (c.tc.loc main_arg1)) (m (c.tc.loc main_arg3)) (m (c.tc.loc main_arg4))) (m (c.tc.loc main_arg2)) (ix2 R L) := by
  blk_simp [iblk]
  entry_read
  change slopeH (val_main_v26 (F := Ideal) (m (c.tc.loc main_arg1)) (m (c.tc.loc main_arg3)) (m (c.tc.loc main_arg4))) (m (c.tc.loc main_arg2)) _ = _
  blk_ext [index t]

/-- A block of the down projection. -/
theorem block6 (c : Dev nD) (t : Fin cfg0.N) (l : Fin 1408) (k : Fin 1024) (L : Fin 2816) (hL : L.val = t.val / 8 * 1408 + l.val) :
    iblk m c 6 t (ix2 l k) = m (c.tc.loc main_arg5) (ix2 L k) := by
  blk_ext [iblk, V, index t]

/-- What a point stores of the gradient of the convolution's output. -/
theorem out7 (c : Dev nD) (t : Fin cfg0.N) (y : S512x1408.Idx) : (outsAt0 m c t.val t.isLt).1 y
    = downT (iblk m c 0 t) (iblk m c 6 t) (y 0) (y 1) * iblk m c 5 t (ix2 (y 0) (y 1)) := by
  by_cases a0 : t.val % 8 = 0
  · rw [outsAt0_A m c t a0 (by omega)]
    frame_out
    canon_tiles x h using (View.cover_of_tiledBy _ ![512, 128] (by sl_kernel_rfl) _)
    · refine (congrArg _ (eq_ix2 x)).trans ((dgcB5 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB4 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB3 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB2 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB1 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB0 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
  by_cases a1 : t.val % 8 = 7
  · rw [outsAt0_C m c t a0 a1]
    frame_out
    canon_tiles x h using (View.cover_of_tiledBy _ ![512, 128] (by sl_kernel_rfl) _)
    · refine (congrArg _ (eq_ix2 x)).trans ((dgcB5 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB4 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB3 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB2 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB1 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB0 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
  · rw [outsAt0_B m c t a0 a1]
    frame_out
    canon_tiles x h using (View.cover_of_tiledBy _ ![512, 128] (by sl_kernel_rfl) _)
    · refine (congrArg _ (eq_ix2 x)).trans ((dgcB5 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB4 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB3 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB2 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB1 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)
    · refine (congrArg _ (eq_ix2 x)).trans ((dgcB0 _ (iblk m c 6 t) (iblk m c 5 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 5 t (ix2 r (y 1))) (Fin.ext h0.symm)

/-- What a point stores of the gradient of the value half. -/
theorem out8 (c : Dev nD) (t : Fin cfg0.N) (y : S512x1408.Idx) : (outsAt0 m c t.val t.isLt).2.1 y
    = downT (iblk m c 0 t) (iblk m c 6 t) (y 0) (y 1) * iblk m c 4 t (ix2 (y 0) (y 1)) := by
  by_cases a0 : t.val % 8 = 0
  · rw [outsAt0_A m c t a0 (by omega)]
    frame_out
    canon_tiles x h using (View.cover_of_tiledBy _ ![512, 128] (by sl_kernel_rfl) _)
    · refine (congrArg _ (eq_ix2 x)).trans ((dvalB5 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB4 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB3 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB2 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB1 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB0 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
  by_cases a1 : t.val % 8 = 7
  · rw [outsAt0_C m c t a0 a1]
    frame_out
    canon_tiles x h using (View.cover_of_tiledBy _ ![512, 128] (by sl_kernel_rfl) _)
    · refine (congrArg _ (eq_ix2 x)).trans ((dvalB5 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB4 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB3 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB2 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB1 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB0 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
  · rw [outsAt0_B m c t a0 a1]
    frame_out
    canon_tiles x h using (View.cover_of_tiledBy _ ![512, 128] (by sl_kernel_rfl) _)
    · refine (congrArg _ (eq_ix2 x)).trans ((dvalB5 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB4 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB3 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB2 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB1 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)
    · refine (congrArg _ (eq_ix2 x)).trans ((dvalB0 _ (iblk m c 6 t) (iblk m c 4 t) _ _ (x 0) (x 1) (y 1)
        (fun k => View.ld_unit_apply_of _ _ _ _ _ (ix2 (y 1) k) (fun a => by fin_cases a <;> simp [h1]))
        (View.ld_unit_apply_of _ _ _ _ _ (ix2 (x 0) (y 1)) (fun a => by fin_cases a <;> simp [h1]))).trans ?_)
      exact congrArg (fun r => downT (iblk m c 0 t) (iblk m c 6 t) r (y 1) * iblk m c 4 t (ix2 r (y 1))) (Fin.ext h0.symm)

end Cert.ActKernelIdeal.Tile

end
-- ==== Proof.ActAcc.lean ====
module

public import proofs.«01_k».proof.Defs
public import proofs.«01_k».proof.Proof.Gen.ActKernelIdeal.Value
public import proofs.«01_k».proof.Proof.Gen.ActReferenceIdeal.Run
public import proofs.«01_k».proof.Proof.Gen.ActReferenceIdeal.Read
public import proofs.«01_k».proof.Proof.ActTile
public import Idealize.ShloMosaic.Lib.Pointwise
public import Idealize.ShloMosaic.Lib.Tactic
public import Idealize.ShloMosaic.Lib.Pipeline.ValueKit
public import Idealize.ShloMosaic.Lib.Pipeline.ReadBack
public import Idealize.ShloMosaic.Lib.Quiescent

@[expose] public section

set_option maxRecDepth 16384

noncomputable section

namespace Cert.ActKernelIdeal.Tile

open Cert.ActKernelIdeal Cert.ActKernelIdeal.Gen Idealize.ShloMosaic Idealize.ShloMosaic.TcCoe Idealize.SL.Sem
open Cert.ActReferenceIdeal.Read

open Cert.ActMath

variable (m : (ℓ : Loc nD τ sig) → Buf (Elt Ideal) ℓ)

/-- The accumulator is cleared to zeros. -/
theorem zero_acc (y : S1408x1024.Idx) : k0_pay2 (F := Ideal) y = 0 := by
  rw [eq_ix2 y]
  pointwise [k0_pay2]

/-- The convolution's gradients are cleared to zeros. -/
theorem zero_conv (y : S8x1408.Idx) : k0_pay3 (F := Ideal) y = 0 := by
  rw [eq_ix2 y]
  pointwise [k0_pay3]

/-- What earlier stores wrote is gone where later stores cover. -/
theorem canon_drop {Val : EltTy → Type} [∀ e, Nonempty (Val e)] {S : Shape} {e : EltTy} (L' : List (View.Piece Val S e)) (y : S.Idx) :
    ∀ L : List (View.Piece Val S e), (∃ p ∈ L, y ∈ p.1.set) → View.canon (L ++ L') y = View.canon L y
  | [], hc => by obtain ⟨p, hp, _⟩ := hc; exact absurd hp List.not_mem_nil
  | p :: L, hc => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_drop L' y L ?_
      obtain ⟨q, hq, hyq⟩ := hc
      rcases List.mem_cons.mp hq with rfl | hq'
      · exact absurd hyq hm
      · exact ⟨q, hq', hyq⟩

/-- A tile's part of the weight gradient at an index. -/
def prodT (B3 : FVec Ideal S512x1408 .bf16) (B0 : FVec Ideal S512x1024 .bf16) (l : Fin 1408) (k : Fin 1024) : EReal :=
  ∑ r : Fin 512, B3 (ix2 r l) * B0 (ix2 r k)

/-- A tile's part of the convolution's gradients at an index. -/
def convT (i : ℕ) (B0 : FVec Ideal S512x1024 .bf16) (B6 : FVec Ideal S1408x1024 .bf16) (B5 G1 : FVec Ideal S512x1408 .bf16) (G2 : FVec Ideal S16x1408 .bf16)
    (q : Fin 8) (l : Fin 1408) : EReal :=
  ∑ x : Fin 512, tapsT i G2 G1 (fun x => downT B0 B6 x l * B5 (ix2 x l)) q x l

set_option maxHeartbeats 2000000 in
/-- The weight gradient's accumulator after a column block's first tile. -/
theorem acc_first (c : Dev nD) (t : Fin cfg0.N) (a0 : t.val % 8 = 0) (y : S1408x1024.Idx) : (outsAt0 m c t.val t.isLt).2.2.2.2 y
    = 0 + prodT (iblk m c 3 t) (iblk m c 0 t) (y 0) (y 1) := by
  · rw [outsAt0_A m c t a0 (by omega)]
    frame_open
    simp (disch := decide) only [↓ View.readCov_skip, ↓ View.readCov_cons_toLoadRect, ↓ View.readCov_fill]
    frame_out
    refine (canon_drop [_] y [_, _, _, _, _, _] (View.cover_of_tiledBy _ ![128, 1024] (by sl_kernel_rfl) _)).trans ?_
    canon_tiles x h using (View.cover_of_tiledBy _ ![128, 1024] (by sl_kernel_rfl) _)
    · refine (congrArg _ (eq_ix2 x)).trans ((stepB5 _ (iblk m c 3 t) _ _ _ (x 0) (x 1) (y 0) (zero_acc _)
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB4 _ (iblk m c 3 t) _ _ _ (x 0) (x 1) (y 0) (zero_acc _)
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB3 _ (iblk m c 3 t) _ _ _ (x 0) (x 1) (y 0) (zero_acc _)
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB2 _ (iblk m c 3 t) _ _ _ (x 0) (x 1) (y 0) (zero_acc _)
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB1 _ (iblk m c 3 t) _ _ _ (x 0) (x 1) (y 0) (zero_acc _)
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB0 _ (iblk m c 3 t) _ _ _ (x 0) (x 1) (y 0) (zero_acc _)
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)

set_option maxHeartbeats 2000000 in
/-- The weight gradient's accumulator after a later tile. -/
theorem acc_step (c : Dev nD) (t : Fin cfg0.N) (a0 : ¬t.val % 8 = 0) (y : S1408x1024.Idx) : (outsAt0 m c t.val t.isLt).2.2.2.2 y
    = (outsAt0 m c (t.val - 1) (Nat.lt_of_le_of_lt (Nat.sub_le _ _) t.isLt)).2.2.2.2 y + prodT (iblk m c 3 t) (iblk m c 0 t) (y 0) (y 1) := by
  by_cases a1 : t.val % 8 = 7
  · rw [outsAt0_C m c t a0 a1]
    frame_open
    simp (disch := decide) only [↓ View.readCov_skip, ↓ View.readCov_cons_toLoadRect, ↓ View.readCov_fill]
    frame_out
    simp only [read_unread_whole]
    canon_tiles x h using (View.cover_of_tiledBy _ ![128, 1024] (by sl_kernel_rfl) _)
    · refine (congrArg _ (eq_ix2 x)).trans ((stepB5 _ (iblk m c 3 t) _ _ _ (x 0) (x 1) (y 0) (View.ld_unit_apply_of _ _ _ _ _ y (fun a => by fin_cases a <;> simp [h0, h1]))
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB4 _ (iblk m c 3 t) _ _ _ (x 0) (x 1) (y 0) (View.ld_unit_apply_of _ _ _ _ _ y (fun a => by fin_cases a <;> simp [h0, h1]))
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB3 _ (iblk m c 3 t) _ _ _ (x 0) (x 1) (y 0) (View.ld_unit_apply_of _ _ _ _ _ y (fun a => by fin_cases a <;> simp [h0, h1]))
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB2 _ (iblk m c 3 t) _ _ _ (x 0) (x 1) (y 0) (View.ld_unit_apply_of _ _ _ _ _ y (fun a => by fin_cases a <;> simp [h0, h1]))
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB1 _ (iblk m c 3 t) _ _ _ (x 0) (x 1) (y 0) (View.ld_unit_apply_of _ _ _ _ _ y (fun a => by fin_cases a <;> simp [h0, h1]))
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB0 _ (iblk m c 3 t) _ _ _ (x 0) (x 1) (y 0) (View.ld_unit_apply_of _ _ _ _ _ y (fun a => by fin_cases a <;> simp [h0, h1]))
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
  · rw [outsAt0_B m c t a0 a1]
    frame_open
    simp (disch := decide) only [↓ View.readCov_skip, ↓ View.readCov_cons_toLoadRect, ↓ View.readCov_fill]
    frame_out
    simp only [read_unread_whole]
    canon_tiles x h using (View.cover_of_tiledBy _ ![128, 1024] (by sl_kernel_rfl) _)
    · refine (congrArg _ (eq_ix2 x)).trans ((stepB5 _ (iblk m c 3 t) _ _ _ (x 0) (x 1) (y 0) (View.ld_unit_apply_of _ _ _ _ _ y (fun a => by fin_cases a <;> simp [h0, h1]))
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB4 _ (iblk m c 3 t) _ _ _ (x 0) (x 1) (y 0) (View.ld_unit_apply_of _ _ _ _ _ y (fun a => by fin_cases a <;> simp [h0, h1]))
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB3 _ (iblk m c 3 t) _ _ _ (x 0) (x 1) (y 0) (View.ld_unit_apply_of _ _ _ _ _ y (fun a => by fin_cases a <;> simp [h0, h1]))
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB2 _ (iblk m c 3 t) _ _ _ (x 0) (x 1) (y 0) (View.ld_unit_apply_of _ _ _ _ _ y (fun a => by fin_cases a <;> simp [h0, h1]))
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB1 _ (iblk m c 3 t) _ _ _ (x 0) (x 1) (y 0) (View.ld_unit_apply_of _ _ _ _ _ y (fun a => by fin_cases a <;> simp [h0, h1]))
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)
    · refine (congrArg _ (eq_ix2 x)).trans ((stepB0 _ (iblk m c 3 t) _ _ _ (x 0) (x 1) (y 0) (View.ld_unit_apply_of _ _ _ _ _ y (fun a => by fin_cases a <;> simp [h0, h1]))
        (fun r => View.ld_unit_apply_of _ _ _ _ _ (ix2 r (y 0)) (fun a => by fin_cases a <;> simp [h0]))).trans ?_)
      exact congrArg (fun k => _ + prodT (iblk m c 3 t) (iblk m c 0 t) (y 0) k) (Fin.ext h1.symm)

/-- A read of the whole accumulator is what the stores left. -/
theorem read_acc (L : List (View.Piece (Elt Ideal) S1408x1024 .f32)) (y : S1408x1024.Idx) :
    k0_pay1 ((View.whole cc0_scratch0).readCov L (Rect.unit ![0, 0] ![1408, 1024] inb_S1408x1024_S1408x1024_0_0).toLoadRect) y = View.canon L y := by
  rw [View.readCov_eq_canon']
  refine congrArg (View.canon L) (funext fun a => Fin.ext ?_)
  refine (Rect.idx_unit_val ![0, 0] ![1408, 1024] inb_S1408x1024_S1408x1024_0_0 y a).trans ?_
  fin_cases a <;> simp

/-- What a column block's last tile stores of the weight gradient: the accumulator. -/
theorem dwd_last (c : Dev nD) (t : Fin cfg0.N) (a1 : t.val % 8 = 7) (y : S1408x1024.Idx) :
    (outsAt0 m c t.val t.isLt).2.2.1 y = (outsAt0 m c t.val t.isLt).2.2.2.2 y := by
  rw [outsAt0_C m c t (by omega) a1]
  frame_open
  frame_out
  exact read_acc _ y

set_option maxHeartbeats 2000000 in
/-- The convolution's gradients after a column block's first tile. -/
theorem conv_first (c : Dev nD) (t : Fin cfg0.N) (a0 : t.val % 8 = 0) (y : S8x1408.Idx) : (outsAt0 m c t.val t.isLt).2.2.2.1 y
    = 0 + convT (grid0.coords t 1).val (iblk m c 0 t) (iblk m c 6 t) (iblk m c 5 t) (iblk m c 1 t) (iblk m c 2 t) (y 0) (y 1) := by
  · rw [outsAt0_A m c t a0 (by omega)]
    frame_open
    simp (disch := decide) only [↓ View.readCov_skip, ↓ View.readCov_cons_toLoadRect, ↓ View.readCov_fill]
    frame_out
    refine (canon_drop [_] y [_, _, _, _, _, _] (View.cover_of_tiledBy _ ![8, 128] (by sl_kernel_rfl) _)).trans ?_
    canon_tiles x h using (View.cover_of_tiledBy _ ![8, 128] (by sl_kernel_rfl) _)
    · refine (congrArg _ (eq_ix2 x)).trans ((dconvB5 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (zero_conv _)).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB4 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (zero_conv _)).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB3 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (zero_conv _)).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB2 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (zero_conv _)).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB1 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (zero_conv _)).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB0 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (zero_conv _)).trans ?_)
      exact congrArg (fun q => _ + convT (grid0.coords t 1).val (iblk m c 0 t) (iblk m c 6 t) (iblk m c 5 t) (iblk m c 1 t) (iblk m c 2 t) q (y 1)) (Fin.ext h0.symm)

set_option maxHeartbeats 2000000 in
/-- The convolution's gradients after a later tile. -/
theorem conv_step (c : Dev nD) (t : Fin cfg0.N) (a0 : ¬t.val % 8 = 0) (y : S8x1408.Idx) : (outsAt0 m c t.val t.isLt).2.2.2.1 y
    = (outsAt0 m c (t.val - 1) (Nat.lt_of_le_of_lt (Nat.sub_le _ _) t.isLt)).2.2.2.1 y + convT (grid0.coords t 1).val (iblk m c 0 t) (iblk m c 6 t) (iblk m c 5 t) (iblk m c 1 t) (iblk m c 2 t) (y 0) (y 1) := by
  by_cases a1 : t.val % 8 = 7
  · rw [outsAt0_C m c t a0 a1]
    frame_open
    simp (disch := decide) only [↓ View.readCov_skip, ↓ View.readCov_cons_toLoadRect, ↓ View.readCov_fill]
    frame_out
    canon_tiles x h using (View.cover_of_tiledBy _ ![8, 128] (by sl_kernel_rfl) _)
    · refine (congrArg _ (eq_ix2 x)).trans ((dconvB5 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (View.ld_unit_apply_of _ _ _ _ _ y (fun a => by fin_cases a <;> simp [h0, h1]))).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB4 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (View.ld_unit_apply_of _ _ _ _ _ y (fun a => by fin_cases a <;> simp [h0, h1]))).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB3 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (View.ld_unit_apply_of _ _ _ _ _ y (fun a => by fin_cases a <;> simp [h0, h1]))).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB2 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (View.ld_unit_apply_of _ _ _ _ _ y (fun a => by fin_cases a <;> simp [h0, h1]))).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB1 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (View.ld_unit_apply_of _ _ _ _ _ y (fun a => by fin_cases a <;> simp [h0, h1]))).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB0 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (View.ld_unit_apply_of _ _ _ _ _ y (fun a => by fin_cases a <;> simp [h0, h1]))).trans ?_)
      exact congrArg (fun q => _ + convT (grid0.coords t 1).val (iblk m c 0 t) (iblk m c 6 t) (iblk m c 5 t) (iblk m c 1 t) (iblk m c 2 t) q (y 1)) (Fin.ext h0.symm)
  · rw [outsAt0_B m c t a0 a1]
    frame_open
    simp (disch := decide) only [↓ View.readCov_skip, ↓ View.readCov_cons_toLoadRect, ↓ View.readCov_fill]
    frame_out
    canon_tiles x h using (View.cover_of_tiledBy _ ![8, 128] (by sl_kernel_rfl) _)
    · refine (congrArg _ (eq_ix2 x)).trans ((dconvB5 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (View.ld_unit_apply_of _ _ _ _ _ y (fun a => by fin_cases a <;> simp [h0, h1]))).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB4 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (View.ld_unit_apply_of _ _ _ _ _ y (fun a => by fin_cases a <;> simp [h0, h1]))).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB3 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (View.ld_unit_apply_of _ _ _ _ _ y (fun a => by fin_cases a <;> simp [h0, h1]))).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB2 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (View.ld_unit_apply_of _ _ _ _ _ y (fun a => by fin_cases a <;> simp [h0, h1]))).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB1 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (View.ld_unit_apply_of _ _ _ _ _ y (fun a => by fin_cases a <;> simp [h0, h1]))).trans ?_)
      exact congrArg (fun q => _ + convT (grid0.coords t 1).val (iblk m c 0 t) (iblk m c 6 t) (iblk m c 5 t) (iblk m c 1 t) (iblk m c 2 t) q (y 1)) (Fin.ext h0.symm)
    · refine (congrArg _ (eq_ix2 x)).trans ((dconvB0 (grid0.coords t) _ (iblk m c 6 t) (iblk m c 5 t) (iblk m c 1 t) (iblk m c 2 t) _ _ _ _ _ _ (x 0) (x 1) (y 1)
        (fun k => View.ld_unit_apply_of _ _ _ _ _ (ix2 (y 1) k) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (fun r => View.ld_unit_apply_of _ _ _ _ _ (ix2 r (y 1)) (fun a => by fin_cases a <;> simp [h1]))
        (View.ld_unit_apply_of _ _ _ _ _ y (fun a => by fin_cases a <;> simp [h0, h1]))).trans ?_)
      exact congrArg (fun q => _ + convT (grid0.coords t 1).val (iblk m c 0 t) (iblk m c 6 t) (iblk m c 5 t) (iblk m c 1 t) (iblk m c 2 t) q (y 1)) (Fin.ext h0.symm)

end Cert.ActKernelIdeal.Tile

end
-- ==== Proof.ActFinal.lean ====
module

public import proofs.«01_k».proof.Defs
public import proofs.«01_k».proof.Proof.ActMath
public import proofs.«01_k».proof.Proof.ActTile
public import proofs.«01_k».proof.Proof.ActAcc
public import proofs.«01_k».proof.Proof.Gen.ActKernelIdeal.Value
public import proofs.«01_k».proof.Proof.Gen.ActReferenceIdeal.Run
public import proofs.«01_k».proof.Proof.Gen.ActReferenceIdeal.Read
public import Idealize.ShloMosaic.Lib.Pointwise
public import Idealize.ShloMosaic.Lib.Tactic
public import Idealize.ShloMosaic.Lib.Pipeline.ValueKit
public import Idealize.ShloMosaic.Lib.Pipeline.ReadBack
public import Idealize.ShloMosaic.Lib.Quiescent

@[expose] public section

set_option maxRecDepth 16384

noncomputable section

namespace Cert.ActKernelIdeal.Tile

open Cert.ActKernelIdeal Cert.ActKernelIdeal.Gen Idealize.ShloMosaic Idealize.ShloMosaic.TcCoe Idealize.SL.Sem
open Cert.ActReferenceIdeal.Read Cert.ActMath

variable (m : (ℓ : Loc nD τ sig) → Buf (Elt Ideal) ℓ)

/-- Every entry of an array is a real number. -/
def Real2 {n k : ℕ} {e : FTy} (X : FVec Ideal ⟨2, ![n, k]⟩ e) : Prop := ∀ (r : Fin n) (l : Fin k), ∃ v : ℝ, X (ix2 r l) = (v : EReal)

/-- The projection's gradient of real arrays is real. -/
theorem down_real (X0 : FVec Ideal S4096x1024 .bf16) (X5 : FVec Ideal S2816x1024 .bf16) (h0 : Real2 X0) (h5 : Real2 X5)
    (R : Fin 4096) (L : Fin 2816) : ∃ v : ℝ, down X0 X5 R L = (v : EReal) := by
  refine Finset.sum_induction _ (fun x : EReal => ∃ v : ℝ, x = (v : EReal)) ?_ ⟨0, rfl⟩ ?_
  · rintro _ _ ⟨a, rfl⟩ ⟨b, rfl⟩
    exact ⟨a + b, (EReal.coe_add a b).symm⟩
  · intro k _
    obtain ⟨a, ha⟩ := h0 R k
    obtain ⟨b, hb⟩ := h5 L k
    exact ⟨a * b, by rw [ha, hb, EReal.coe_mul]⟩

/-- The kernel's product is the reference's gradient of the convolution's output: pulling back a finite cotangent is multiplying by gelu's derivative. -/
theorem dgc_eq (X0 : FVec Ideal S4096x1024 .bf16) (X1 : FVec Ideal S4096x2816 .bf16) (X2 : FVec Ideal S4096x2816 .f32)
    (X3 : FVec Ideal S3x2816 .f32) (X4 : FVec Ideal S2816 .f32) (X5 : FVec Ideal S2816x1024 .bf16) (h0 : Real2 X0) (h2 : Real2 X2) (h5 : Real2 X5)
    (R : Fin 4096) (L : Fin 2816) :
    down X0 X5 R L * slopeH (val_main_v26 (F := Ideal) X1 X3 X4) X2 (ix2 R L) = val_main_v108 (F := Ideal) X0 X1 X2 X3 X4 X5 (ix2 R L) := by
  rw [slope_apply, ref_dgc]
  obtain ⟨a, ha⟩ := down_real X0 X5 h0 h5 R L
  obtain ⟨b, hb⟩ := h2 R L
  rw [ha, hb, ← EReal.coe_mul, pull_linear, EReal.coe_mul, mul_assoc]

/-- The kernel's product is the reference's gradient of the values. -/
theorem dval_eq (X0 : FVec Ideal S4096x1024 .bf16) (X1 : FVec Ideal S4096x2816 .bf16) (X2 : FVec Ideal S4096x2816 .f32)
    (X3 : FVec Ideal S3x2816 .f32) (X4 : FVec Ideal S2816 .f32) (X5 : FVec Ideal S2816x1024 .bf16) (R : Fin 4096) (L : Fin 2816) :
    down X0 X5 R L * val_main_v48 (F := Ideal) X1 X3 X4 (ix2 R L) = val_main_v109 (F := Ideal) X0 X1 X3 X4 X5 (ix2 R L) := by
  rw [ref_dval X0 X1 X2 X3 X4 X5, ref_act, mul_comm]

/-- A tile of the projection's gradient is the whole's. -/
theorem down_eq (c : Dev nD) (t : Fin cfg0.N) (x : Fin 512) (l : Fin 1408) (R : Fin 4096) (L : Fin 2816)
    (hR : R.val = t.val % 8 * 512 + x.val) (hL : L.val = t.val / 8 * 1408 + l.val) :
    downT (iblk m c 0 t) (iblk m c 6 t) x l = down (m (c.tc.loc main_arg0)) (m (c.tc.loc main_arg5)) R L :=
  Fin.sum_fin_congr fun k => congrArg₂ (fun a b : EReal => a * b) (block0 m c t x k R hR) (block6 m c t l k L hL)

/-- A tile's gate rows before are the whole gate's. -/
theorem back_eq (c : Dev nD) (t : Fin cfg0.N) (k : ℕ) (hk : k ≤ 2) (x : Fin 512) (l : Fin 1408) (R : Fin 4096) (L : Fin 2816)
    (hR : R.val = t.val % 8 * 512 + x.val) (hL : L.val = t.val / 8 * 1408 + l.val) :
    backT (t.val % 8) (iblk m c 2 t) (iblk m c 1 t) k x l = back (m (c.tc.loc main_arg1)) k R L := by
  unfold backT back
  by_cases hx : x.val < k
  · rw [if_pos hx]
    by_cases hi : t.val % 8 = 0
    · rw [if_pos hi, if_pos (by omega)]
    · rw [if_neg hi, if_neg (by omega)]
      exact block2 m c t _ l _ L (by simp only; omega) hL
  · rw [if_neg hx, if_neg (by omega)]
    exact block1 m c t _ l _ L (by simp only; omega) hL

/-- The gradient of the convolution's output, after the run. -/
theorem final7 (c : Dev nD) (h0 : Real2 (n := 4096) (k := 1024) (e := .bf16) (m (c.tc.loc main_arg0))) (h2 : Real2 (n := 4096) (k := 2816) (e := .f32) (m (c.tc.loc main_arg2))) (h5 : Real2 (n := 2816) (k := 1024) (e := .bf16) (m (c.tc.loc main_arg5))) :
    (dats m 0 c).arrAt 7 cfg0.N = val_main_v108 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 7 _ (by decide +kernel) fun t hf y => ?_
  have e0 : (((View.whole main_v78_0).slice (win0_7.rect t)).emb y 0).val = t.val % 8 * 512 + (y 0).val := by
    blk_simp [index t]
  have e1 : (((View.whole main_v78_0).slice (win0_7.rect t)).emb y 1).val = t.val / 8 * 1408 + (y 1).val := by
    blk_simp [index t]
  blk_simp
  rw [after0_7]
  refine (out7 m c t y).trans ?_
  refine (congrArg₂ (fun a b : EReal => a * b) (down_eq m c t (y 0) (y 1) _ _ e0 e1) (block5 m c t (y 0) (y 1) _ _ e0 e1)).trans ?_
  exact (dgc_eq _ _ _ _ _ _ h0 h2 h5 _ _).trans (congrArg _ (eq_ix2 _).symm)

/-- The gradient of the values, after the run. -/
theorem final8 (c : Dev nD) : (dats m 0 c).arrAt 8 cfg0.N = val_main_v109 (F := Ideal) (m (c.tc.loc main_arg0)) (m (c.tc.loc main_arg1)) (m (c.tc.loc main_arg3)) (m (c.tc.loc main_arg4)) (m (c.tc.loc main_arg5)) := by
  refine (dats m 0 c).arrAt_eq_of_covers 8 _ (by decide +kernel) fun t hf y => ?_
  have e0 : (((View.whole main_v78_1).slice (win0_8.rect t)).emb y 0).val = t.val % 8 * 512 + (y 0).val := by
    blk_simp [index t]
  have e1 : (((View.whole main_v78_1).slice (win0_8.rect t)).emb y 1).val = t.val / 8 * 1408 + (y 1).val := by
    blk_simp [index t]
  blk_simp
  rw [after0_8]
  refine (out8 m c t y).trans ?_
  refine (congrArg₂ (fun a b : EReal => a * b) (down_eq m c t (y 0) (y 1) _ _ e0 e1) (block4 m c t (y 0) (y 1) _ _ e0 e1)).trans ?_
  exact (dval_eq _ _ (m (c.tc.loc main_arg2)) _ _ _ _ _).trans (congrArg _ (eq_ix2 _).symm)

/-- The weight gradient's accumulator after a column block: the sum over its tiles. -/
theorem acc_sum (c : Dev nD) (t : Fin cfg0.N) (hr : t.val % 8 = 8 - 1) (y : S1408x1024.Idx) :
    (outsAt0 m c t.val t.isLt).2.2.2.2 y = 0 + ∑ s : Fin 8,
      prodT (iblk m c 3 ⟨8 * (t.val / 8) + s.val, Pipeline.run_point_lt_of_flush t hr s⟩) (iblk m c 0 ⟨8 * (t.val / 8) + s.val, Pipeline.run_point_lt_of_flush t hr s⟩) (y 0) (y 1) :=
  Pipeline.eq_sum_fin_of_reset_step_apply_of_flush (N := cfg0.N) (ι := S1408x1024.Idx) (M := EReal) (fun n h y => (outsAt0 m c n h).2.2.2.2 y) 8 (fun _ => 0)
    (fun t y => prodT (iblk m c 3 t) (iblk m c 0 t) (y 0) (y 1))
    (fun t h y => acc_first m c t h y) (fun t h y => acc_step m c t h y) t hr y

/-- The convolution's gradients after a column block: the sum over its tiles. -/
theorem conv_sum (c : Dev nD) (t : Fin cfg0.N) (hr : t.val % 8 = 8 - 1) (y : S8x1408.Idx) :
    (outsAt0 m c t.val t.isLt).2.2.2.1 y = 0 + ∑ s : Fin 8,
      (fun (u : Fin cfg0.N) => convT (grid0.coords u 1).val (iblk m c 0 u) (iblk m c 6 u) (iblk m c 5 u) (iblk m c 1 u) (iblk m c 2 u) (y 0) (y 1))
        ⟨8 * (t.val / 8) + s.val, Pipeline.run_point_lt_of_flush t hr s⟩ :=
  Pipeline.eq_sum_fin_of_reset_step_apply_of_flush (N := cfg0.N) (ι := S8x1408.Idx) (M := EReal) (fun n h y => (outsAt0 m c n h).2.2.2.1 y) 8 (fun _ => 0)
    (fun u y => convT (grid0.coords u 1).val (iblk m c 0 u) (iblk m c 6 u) (iblk m c 5 u) (iblk m c 1 u) (iblk m c 2 u) (y 0) (y 1))
    (fun t h y => conv_first m c t h y) (fun t h y => conv_step m c t h y) t hr y

/-- A column block's weight gradient: the tiles' sums are the sum over all the tokens. -/
theorem dwd_point (c : Dev nD) (t : Fin cfg0.N) (hr : t.val % 8 = 8 - 1) (y : S1408x1024.Idx) (L : Fin 2816) (hL : L.val = t.val / 8 * 1408 + (y 0).val) :
    (outsAt0 m c t.val t.isLt).2.2.2.2 y = val_main_v110 (F := Ideal) (m (c.tc.loc main_arg0)) (m (c.tc.loc main_arg1)) (m (c.tc.loc main_arg2)) (m (c.tc.loc main_arg3)) (m (c.tc.loc main_arg4)) (ix2 L (y 1)) := by
  rw [acc_sum m c t hr y, zero_add]
  refine Eq.trans ?_ (ref_dwd _ _ _ _ _ (m (c.tc.loc main_arg5)) _ _).symm
  refine Fin.sum_mul_add_congr (fun s k hl => ?_) (by decide)
  refine (congrArg₂ (fun a b : EReal => a * b) (block3 m c _ k (y 0) ⟨s.val * 512 + k.val, hl⟩ L ?_ ?_) (block0 m c _ k (y 1) ⟨s.val * 512 + k.val, hl⟩ ?_)).trans (mul_comm _ _)
  all_goals (have := s.isLt; simp only; omega)

/-- The down projection's weight gradient, after the run. -/
theorem final9 (c : Dev nD) : (dats m 0 c).arrAt 9 cfg0.N = val_main_v110 (F := Ideal) (m (c.tc.loc main_arg0)) (m (c.tc.loc main_arg1)) (m (c.tc.loc main_arg2)) (m (c.tc.loc main_arg3)) (m (c.tc.loc main_arg4)) := by
  refine (dats m 0 c).arrAt_eq_of_covers 9 _ (by decide +kernel) fun t hf y => ?_
  have e0 : (((View.whole main_v78_2).slice (win0_9.rect t)).emb y 0).val = t.val / 8 * 1408 + (y 0).val := by
    blk_simp [index t]
  have e1 : (((View.whole main_v78_2).slice (win0_9.rect t)).emb y 1).val = (y 1).val := by
    blk_simp [index t]
  have hr : t.val % 8 = 7 := (flush0_9 t).mp hf
  blk_simp
  rw [after0_9]
  refine (dwd_last m c t hr y).trans ((dwd_point m c t hr y _ e0).trans (congrArg _ ?_))
  exact (congrArg (ix2 _) (Fin.ext e1.symm)).trans (eq_ix2 _).symm

/-- One row's part of a tile's convolution gradients is the reference's. -/
theorem taps_eq (c : Dev nD) (h0 : Real2 (n := 4096) (k := 1024) (e := .bf16) (m (c.tc.loc main_arg0))) (h2 : Real2 (n := 4096) (k := 2816) (e := .f32) (m (c.tc.loc main_arg2))) (h5 : Real2 (n := 2816) (k := 1024) (e := .bf16) (m (c.tc.loc main_arg5)))
    (u : Fin cfg0.N) (q : Fin 8) (x : Fin 512) (l : Fin 1408) (R : Fin 4096) (L : Fin 2816)
    (hR : R.val = u.val % 8 * 512 + x.val) (hL : L.val = u.val / 8 * 1408 + l.val) :
    tapsT (grid0.coords u 1).val (iblk m c 2 u) (iblk m c 1 u) (fun x => downT (iblk m c 0 u) (iblk m c 6 u) x l * (iblk m c 5 u : FVec Ideal S512x1408 .bf16) (ix2 x l)) q x l
      = taps (m (c.tc.loc main_arg1)) (val_main_v68 (F := Ideal) (m (c.tc.loc main_arg0)) (m (c.tc.loc main_arg1)) (m (c.tc.loc main_arg2)) (m (c.tc.loc main_arg3)) (m (c.tc.loc main_arg4)) (m (c.tc.loc main_arg5))) q R L := by
  have hd : downT (iblk m c 0 u) (iblk m c 6 u) x l * (iblk m c 5 u : FVec Ideal S512x1408 .bf16) (ix2 x l)
      = val_main_v68 (F := Ideal) (m (c.tc.loc main_arg0)) (m (c.tc.loc main_arg1)) (m (c.tc.loc main_arg2)) (m (c.tc.loc main_arg3)) (m (c.tc.loc main_arg4)) (m (c.tc.loc main_arg5)) (ix2 R L) :=
    (congrArg₂ (fun a b : EReal => a * b) (down_eq m c u x l _ _ hR hL) (block5 m c u x l _ _ hR hL)).trans
      ((dgc_eq _ _ _ _ _ _ h0 h2 h5 _ _).trans (ref_dgc_wide _ _ _ _ _ _ _ _).symm)
  have hi : (grid0.coords u 1).val = u.val % 8 := by simp only [index u]
  unfold tapsT taps
  by_cases q3 : q.val < 3
  · rw [if_pos q3, if_pos q3, hi, back_eq m c u _ (by omega) x l R L hR hL, mul_comm]
    exact congrArg _ hd
  · rw [if_neg q3, if_neg q3]
    by_cases q4 : q.val = 3
    · rw [if_pos q4, if_pos q4]
      exact hd
    · rw [if_neg q4, if_neg q4]

/-- A column block's convolution gradients: the tiles' sums are the sum over all the tokens. -/
theorem conv_point (c : Dev nD) (h0 : Real2 (n := 4096) (k := 1024) (e := .bf16) (m (c.tc.loc main_arg0))) (h2 : Real2 (n := 4096) (k := 2816) (e := .f32) (m (c.tc.loc main_arg2))) (h5 : Real2 (n := 2816) (k := 1024) (e := .bf16) (m (c.tc.loc main_arg5)))
    (t : Fin cfg0.N) (hr : t.val % 8 = 8 - 1) (y : S8x1408.Idx) (L : Fin 2816) (hL : L.val = t.val / 8 * 1408 + (y 1).val) :
    (outsAt0 m c t.val t.isLt).2.2.2.1 y = val_main_v107 (F := Ideal) (m (c.tc.loc main_arg0)) (m (c.tc.loc main_arg1)) (m (c.tc.loc main_arg2)) (m (c.tc.loc main_arg3)) (m (c.tc.loc main_arg4)) (m (c.tc.loc main_arg5)) (ix2 (y 0) L) := by
  rw [conv_sum m c t hr y, zero_add]
  refine Eq.trans ?_ (ref_dconv _ _ _ _ _ _ _ _).symm
  refine Fin.sum_mul_add_congr (fun s k hl => ?_) (by decide)
  refine taps_eq m c h0 h2 h5 _ (y 0) k (y 1) ⟨s.val * 512 + k.val, hl⟩ L ?_ ?_
  all_goals (have := s.isLt; simp only; omega)

/-- The convolution's weight and bias gradients, after the run. -/
theorem final10 (c : Dev nD) (h0 : Real2 (n := 4096) (k := 1024) (e := .bf16) (m (c.tc.loc main_arg0))) (h2 : Real2 (n := 4096) (k := 2816) (e := .f32) (m (c.tc.loc main_arg2))) (h5 : Real2 (n := 2816) (k := 1024) (e := .bf16) (m (c.tc.loc main_arg5))) :
    (dats m 0 c).arrAt 10 cfg0.N = val_main_v107 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 10 _ (by decide +kernel) fun t hf y => ?_
  have e0 : (((View.whole main_v78_3).slice (win0_10.rect t)).emb y 0).val = (y 0).val := by
    blk_simp [index t]
  have e1 : (((View.whole main_v78_3).slice (win0_10.rect t)).emb y 1).val = t.val / 8 * 1408 + (y 1).val := by
    blk_simp [index t]
  have hr : t.val % 8 = 7 := (flush0_10 t).mp hf
  blk_simp
  rw [after0_10]
  refine (conv_point m c h0 h2 h5 t hr y _ e1).trans (congrArg _ ?_)
  exact (congrArg (ix2 · _) (Fin.ext e0.symm)).trans (eq_ix2 _).symm

end Cert.ActKernelIdeal.Tile

end
-- ==== Proof.ActClaim.lean ====
module

public import proofs.«01_k».proof.Defs
public import proofs.«01_k».proof.Proof.ActFinal
public import proofs.«01_k».proof.Proof.Gen.ActReferenceIdeal.Run
public import Idealize.ShloMosaic.Lib.Quiescent

@[expose] public section

set_option maxRecDepth 16384

noncomputable section

namespace Cert.ActProof

open Idealize.ShloMosaic Idealize.ShloMosaic.TcCoe Idealize.SL.Sem

/-- The side conditions of the precondition's operations. -/
theorem facts_finite : Cert.Pre_finite.Facts where
  bitsLt_bf16_f32 := by decide
  bcast_S_S4096x1024 := by decide
  bcast_S_S4096x2816 := by decide
  bcast_S_S2816x1024 := by decide

/-- An extended real whose absolute value is below the literal infinity is a real number. -/
theorem real_of_bit (x : EReal) (h : Ideal.cmp .olt (max x (-x)) (Ideal.ofBits .f32 0x7F800000#32) = 1#1) : ∃ v : ℝ, x = (v : EReal) := by
  have ht : Ideal.ofBits .f32 0x7F800000#32 = ⊤ := by simp [Ideal.ofBits, Ideal.ieee]
  rw [ht] at h
  induction x with
  | bot => exact absurd h (by simp [Ideal.cmp])
  | top => exact absurd h (by simp [Ideal.cmp])
  | coe v => exact ⟨v, rfl⟩

/-- The precondition says that the entries of the output's gradient, of the values and of the down projection's weight are real. -/
theorem real_of_finite (m : (ℓ : Loc Cert.ActKernelIdeal.nD Cert.ActKernelIdeal.τ Cert.ActKernelIdeal.sig) → Buf (Elt Ideal) ℓ)
    (h : Cert.Pre_ActKernelIdeal_finite (hPre_finite := facts_finite) m) (c : Dev Cert.ActKernelIdeal.nD) :
    Cert.ActKernelIdeal.Tile.Real2 (n := 4096) (k := 1024) (e := .bf16) (m (c.tc.loc Cert.ActKernelIdeal.main_arg0))
    ∧ Cert.ActKernelIdeal.Tile.Real2 (n := 4096) (k := 2816) (e := .f32) (m (c.tc.loc Cert.ActKernelIdeal.main_arg2))
    ∧ Cert.ActKernelIdeal.Tile.Real2 (n := 2816) (k := 1024) (e := .bf16) (m (c.tc.loc Cert.ActKernelIdeal.main_arg5)) := by
  obtain ⟨h0, h2, h5⟩ := h c
  exact ⟨fun r l => real_of_bit _ (congrFun h0 (ix2 r l)), fun r l => real_of_bit _ (congrFun h2 (ix2 r l)), fun r l => real_of_bit _ (congrFun h5 (ix2 r l))⟩

/-- The reference ends, with its arguments kept and no semaphore raised. -/
theorem quiescent_reference : Cert.quiescent_ActReferenceIdeal (hActReferenceIdeal := Cert.ActReferenceIdeal.Gen.facts) :=
  fun m ρ _ => (θ_run (Cert.ActReferenceIdeal.defs (F := Ideal)) _ _).mono
    (fun r h => ⟨fun c => (h c).2.2.2.2, sem_eq_zero_of_no_sems (by decide) r.2⟩) (Cert.ActReferenceIdeal.Value.run (F := Ideal) m ρ)

/-- The same where the precondition holds. -/
theorem quiescent_reference_finite : Cert.quiescent_ActReferenceIdeal_pre_finite
    (hActReferenceIdeal := Cert.ActReferenceIdeal.Gen.facts) (hPre_finite := facts_finite) :=
  fun m ρ _ => quiescent_reference m ρ trivial

/-- The kernel ends where the precondition holds, as it does everywhere. -/
theorem quiescent_kernel_finite : Cert.quiescent_ActKernelIdeal_pre_finite
    (hActKernelIdeal := Cert.ActKernelIdeal.Gen.facts) (hPre_finite := facts_finite) :=
  fun m ρ _ => Cert.ActKernelIdeal.Gen.frame m ρ

/-- The kernel's four gradients are the reference's, at exact arithmetic. -/
theorem algebraic : Cert.algebraic_ActKernelIdeal_ActReferenceIdeal_pre_finite
    (hActKernelIdeal := Cert.ActKernelIdeal.Gen.facts) (hActReferenceIdeal := Cert.ActReferenceIdeal.Gen.facts) (hPre_finite := facts_finite) :=
  fun m ρ m' ρ' hp hag => ⟨_, _, _, _,
    (θ_run (Cert.ActKernelIdeal.defs (F := Ideal)) _ _).mono
      (fun _ h c => by
        obtain ⟨h0, h2, h5⟩ := real_of_finite m hp c
        exact ⟨(h c).1.trans (Cert.ActKernelIdeal.Tile.final7 m c h0 h2 h5), (h c).2.1.trans (Cert.ActKernelIdeal.Tile.final8 m c),
          (h c).2.2.1.trans (Cert.ActKernelIdeal.Tile.final9 m c), (h c).2.2.2.1.trans (Cert.ActKernelIdeal.Tile.final10 m c h0 h2 h5), (h c).2.2.2.2⟩)
      (Cert.ActKernelIdeal.Value.run_blocks (F := Ideal) m ρ),
    (θ_run (Cert.ActReferenceIdeal.defs (F := Ideal)) _ _).mono
      (fun _ h c => by
        obtain ⟨g0, g1, g2, g3, g4, g5⟩ := hag c
        exact ⟨(h c).1.trans (by rw [← g0, ← g1, ← g2, ← g3, ← g4, ← g5]; exact Cert.ActReferenceIdeal.Read.val_main_v108_eq _),
          (h c).2.1.trans (by rw [← g0, ← g1, ← g3, ← g4, ← g5]; exact Cert.ActReferenceIdeal.Read.val_main_v109_eq _),
          (h c).2.2.1.trans (by rw [← g0, ← g1, ← g2, ← g3, ← g4]; exact Cert.ActReferenceIdeal.Read.val_main_v110_eq _),
          (h c).2.2.2.1.trans (by rw [← g0, ← g1, ← g2, ← g3, ← g4, ← g5]; exact Cert.ActReferenceIdeal.Read.val_main_v107_eq _), (h c).2.2.2.2⟩)
      (Cert.ActReferenceIdeal.Value.run (F := Ideal) m' ρ')⟩

end Cert.ActProof

end
-- ==== Proof.UpTile.lean ====
module

public import proofs.«01_k».proof.Proof.Gen.UpKernelIdeal.Value
public import proofs.«01_k».proof.Proof.Gen.UpReferenceIdeal.Read
public import Idealize.ShloMosaic.Lib.Pointwise
public import Idealize.ShloMosaic.Lib.Tactic
public import Idealize.ShloMosaic.Lib.Pipeline.ValueKit

@[expose] public section

set_option maxRecDepth 16384

noncomputable section

namespace Cert.UpKernelIdeal.Tile

open Cert.UpKernelIdeal Cert.UpKernelIdeal.Gen Idealize.ShloMosaic Idealize.ShloMosaic.TcCoe Idealize.SL.Sem
open Cert.UpReferenceIdeal.Read

variable (m : (ℓ : Loc nD τ sig) → Buf (Elt Ideal) ℓ)

/-- Block indices of the windows at a grid point. -/
theorem index : ∀ t : Fin cfg0.N, win0_0.index t = ![t.val, 0]
    ∧ win0_1.index t = ![min ((t.val + 1) * 32) 255, 0] ∧ win0_2.index t = ![t.val, 0]
    ∧ win0_3.index t = ![0, 0] ∧ win0_4.index t = ![0, 0] ∧ win0_5.index t = ![t.val, 0]
    ∧ win0_6.index t = ![t.val, 0] :=
  (by decide +kernel : ∀ t : Fin grid0.N, _)

/-- The factor by which a tile's following rows are taken: zero past the last tile. -/
theorem factor : ∀ t : Fin cfg0.N, (Scalar.extui (Scalar.cmpi CmpIPredicate.slt
    (BitVec.ofNat 32 (grid0.coords t 0).val) 7#32) : BitVec 32).toInt = if t.val < 7 then 1 else 0 :=
  (by decide +kernel : ∀ t : Fin grid0.N, _)

/-- There are eight row tiles. -/
theorem lt8 (t : Fin cfg0.N) : t.val < 8 := t.isLt

/-- Before the last tile, the block of following rows starts where the tile ends. -/
theorem halo_index (t : Fin cfg0.N) (h : t.val < 7) : win0_1.index t = ![(t.val + 1) * 32, 0] := by
  rw [(index t).2.1, Nat.min_eq_left (by omega)]

/-- A tile's row of the convolution's gradient. -/
theorem block0 (c : Dev nD) (t : Fin cfg0.N) (r : Fin 512) (l : Fin 2816) (R : Fin 4096) (hR : R.val = t.val * 512 + r.val) :
    iblk m c 0 t (ix2 r l) = m (c.tc.loc main_arg0) (ix2 R l) := by
  blk_ext [iblk, V, index t]

/-- A following row of the convolution's gradient. -/
theorem block1 (c : Dev nD) (t : Fin cfg0.N) (h : t.val < 7) (r : Fin 16) (l : Fin 2816) (R : Fin 4096) (hR : R.val = (t.val + 1) * 512 + r.val) :
    iblk m c 1 t (ix2 r l) = m (c.tc.loc main_arg0) (ix2 R l) := by
  blk_ext [iblk, V, halo_index t h]

/-- A tile's row of the value half's gradient. -/
theorem block2 (c : Dev nD) (t : Fin cfg0.N) (r : Fin 512) (l : Fin 2816) (R : Fin 4096) (hR : R.val = t.val * 512 + r.val) :
    iblk m c 2 t (ix2 r l) = m (c.tc.loc main_arg1) (ix2 R l) := by
  blk_ext [iblk, V, index t]

/-- The convolution's taps. -/
theorem block3 (c : Dev nD) (t : Fin cfg0.N) (r : Fin 3) (l : Fin 2816) :
    iblk m c 3 t (ix2 r l) = m (c.tc.loc main_arg4) (ix2 r l) := by
  blk_ext [iblk, V, index t]

/-- The convolution's three taps as the tile loads them. -/
theorem tap2 (c : Dev nD) (t : Fin cfg0.N) (l : Fin 2816) :
    View.ld (iblk m c 3 t) (Rect.unit ![2, 0] ![1, 2816] inb_S3x2816_S1x2816_2_0) (ix2 (0 : Fin 1) l) = m (c.tc.loc main_arg4) (ix2 2 l) := by
  pointwise
  exact block3 m c t 2 l
/-- The middle tap, for the row itself less one. -/
theorem tap1 (c : Dev nD) (t : Fin cfg0.N) (l : Fin 2816) :
    View.ld (iblk m c 3 t) (Rect.unit ![1, 0] ![1, 2816] inb_S3x2816_S1x2816_1_0) (ix2 (0 : Fin 1) l) = m (c.tc.loc main_arg4) (ix2 1 l) := by
  pointwise
  exact block3 m c t 1 l
/-- The first tap, for the row two before. -/
theorem tap0 (c : Dev nD) (t : Fin cfg0.N) (l : Fin 2816) :
    View.ld (iblk m c 3 t) (Rect.unit ![0, 0] ![1, 2816] inb_S3x2816_S1x2816_0_0) (ix2 (0 : Fin 1) l) = m (c.tc.loc main_arg4) (ix2 0 l) := by
  pointwise
  exact block3 m c t 0 l

/-- The projection's weights, transposed by the host. -/
theorem block4 (c : Dev nD) (t : Fin cfg0.N) (r : Fin 5632) (l : Fin 1024) :
    iblk m c 4 t (ix2 r l) = m (c.tc.loc main_arg3) (ix2 l r) := by
  blk_simp [iblk]
  entry_read
  pointwise
  blk_ext [index t]

/-- A row `k` further down times a tap, nothing past the end. -/
def further (X0 : FVec Ideal S4096x2816 .bf16) (X4 : FVec Ideal S3x2816 .f32) (k : ℕ) (a : Fin 3) (R : Fin 4096) (l : Fin 2816) : EReal :=
  if h : R.val + k < 4096 then X0 (ix2 ⟨R.val + k, h⟩ l) * X4 (ix2 a l) else 0

/-- The row `q` of a tile with its following rows appended, these counted by a factor. -/
def extended (x0 : FVec Ideal S512x2816 .bf16) (x1 : FVec Ideal S16x2816 .bf16) (f : EReal) (q : Fin 528) (l : Fin 2816) : EReal :=
  if h : q.val < 512 then x0 (ix2 ⟨q.val, h⟩ l) else x1 (ix2 ⟨q.val - 512, by omega⟩ l) * f

/-- A row of the gradient as the kernel's tile computes it. -/
theorem tile_row (i : grid0.Coords) (x0 : FVec Ideal S512x2816 .bf16) (x1 : FVec Ideal S16x2816 .bf16) (x2 : FVec Ideal S512x2816 .bf16)
    (t2 t1 t0 : FVec Ideal S1x2816 .f32) (r : Fin 512) (L : Fin 5632) :
    k0_pay1 (F := Ideal) i x1 x0 t2 t1 t0 x2 (ix2 r L) = if h : L.val < 2816 then
      x0 (ix2 r ⟨L.val, h⟩) * t2 (ix2 0 ⟨L.val, h⟩)
       + extended x0 x1 (((Scalar.extui (Scalar.cmpi CmpIPredicate.slt (BitVec.ofNat 32 (i 0).val) 7#32) : BitVec 32).toInt : ℝ) : EReal) ⟨(r.val + 528 - 527) % 528, Nat.mod_lt _ (by decide)⟩ ⟨L.val, h⟩ * t1 (ix2 0 ⟨L.val, h⟩)
       + extended x0 x1 (((Scalar.extui (Scalar.cmpi CmpIPredicate.slt (BitVec.ofNat 32 (i 0).val) 7#32) : BitVec 32).toInt : ℝ) : EReal) ⟨(r.val + 528 - 526) % 528, Nat.mod_lt _ (by decide)⟩ ⟨L.val, h⟩ * t0 (ix2 0 ⟨L.val, h⟩)
      else x2 (ix2 r ⟨L.val - 2816, by omega⟩) := by
  pointwise [k0_pay1]
  rfl

/-- A row of the gradient in the reference. -/
theorem ref_row (X0 X1 : FVec Ideal S4096x2816 .bf16) (X4 : FVec Ideal S3x2816 .f32) (R : Fin 4096) (L : Fin 5632) :
    val_main_v44 (F := Ideal) X0 X1 X4 (ix2 R L) = (if h : 2816 ≤ L.val ∧ L.val - 2816 < 2816 then X1 (ix2 R ⟨L.val - 2816, h.2⟩) else 0) +
      if h : L.val < 2816 then
        ((if h_1 : L.val < 2816 then X0 (ix2 R ⟨L.val, h⟩) * X4 (ix2 2 ⟨L.val, h⟩) else 0) +
            if h_1 : (1 ≤ 2 + R.val ∧ 2 + R.val - 1 < 4096) ∧ L.val < 2816 then
              X0 (ix2 ⟨2 + R.val - 1, h_1.1.2⟩ ⟨L.val, h⟩) * X4 (ix2 1 ⟨L.val, h⟩)
            else 0) +
          if h_1 : 2 + R.val < 4096 ∧ L.val < 2816 then X0 (ix2 ⟨2 + R.val, h_1.1⟩ ⟨L.val, h⟩) * X4 (ix2 0 ⟨L.val, h⟩) else 0
      else 0 := by
  pointwise [val_main_v44, val_main_v43, val_main_v42, val_main_v41, val_main_v39, val_main_v38, val_main_v37, val_main_v36, val_main_v35, val_main_v34, val_main_v33, val_main_v32, val_main_v31, val_main_v30, val_main_v29, val_main_v28, val_main_v27, val_main_v8, val_main_v9, val_main_v10, val_main_v14, val_main_v15, val_main_v16, val_main_v21, val_main_v22, val_main_v23, val_main_cst_1, val_main_cst_2, val_main_cst_3, val_main_cst_4, val_main_cst_5]

/-- The appended row `k` further down, times a tap: the array's row, or nothing past the end. -/
theorem extended_eq (t : Fin cfg0.N) (x0 : FVec Ideal S512x2816 .bf16) (x1 : FVec Ideal S16x2816 .bf16) (X0 : FVec Ideal S4096x2816 .bf16) (X4 : FVec Ideal S3x2816 .f32)
    (h0 : ∀ (r : Fin 512) (l : Fin 2816) (R : Fin 4096), R.val = t.val * 512 + r.val → x0 (ix2 r l) = X0 (ix2 R l))
    (h1 : t.val < 7 → ∀ (r : Fin 16) (l : Fin 2816) (R : Fin 4096), R.val = (t.val + 1) * 512 + r.val → x1 (ix2 r l) = X0 (ix2 R l))
    (f : ℤ) (hf : f = if t.val < 7 then 1 else 0) (k : ℕ) (q : Fin 528) (r : Fin 512) (R : Fin 4096) (hR : R.val = t.val * 512 + r.val)
    (hk : 1 ≤ k ∧ k ≤ 2) (hq : q.val = r.val + k) (l : Fin 2816) (a : Fin 3) :
    extended x0 x1 ((f : ℝ) : EReal) q l * X4 (ix2 a l) = further X0 X4 k a R l := by
  have hr := r.isLt
  have ht := lt8 t
  unfold further extended
  by_cases e : q.val < 512
  · rw [dif_pos e, dif_pos (by omega), h0 _ _ ⟨R.val + k, by omega⟩ (by dsimp only; omega)]
  · rw [dif_neg e]
    by_cases h7 : t.val < 7
    · rw [hf, if_pos h7, dif_pos (by omega), h1 h7 _ _ ⟨R.val + k, by omega⟩ (by dsimp only; omega), Int.cast_one, EReal.coe_one, mul_one]
    · rw [hf, if_neg h7, dif_neg (by omega), Int.cast_zero, EReal.coe_zero, mul_zero, zero_mul]

/-- The reference's row, its gate half written with `further`. -/
theorem ref_gate (X0 X1 : FVec Ideal S4096x2816 .bf16) (X4 : FVec Ideal S3x2816 .f32) (R : Fin 4096) (L : Fin 5632) (h : L.val < 2816) :
    val_main_v44 (F := Ideal) X0 X1 X4 (ix2 R L)
      = X0 (ix2 R ⟨L.val, h⟩) * X4 (ix2 2 ⟨L.val, h⟩) + further X0 X4 1 1 R ⟨L.val, h⟩ + further X0 X4 2 0 R ⟨L.val, h⟩ := by
  rw [ref_row, dif_neg (by omega), dif_pos h, dif_pos h, zero_add]
  unfold further
  refine congrArg₂ _ (congrArg _ ?_) ?_
  · by_cases hk : R.val + 1 < 4096
    · rw [dif_pos hk, dif_pos ⟨by omega, h⟩]
      have e : (⟨2 + R.val - 1, by omega⟩ : Fin 4096) = ⟨R.val + 1, hk⟩ := Fin.ext (by simp only; omega)
      rw [e]
    · rw [dif_neg hk, dif_neg (by omega)]
  · by_cases hk : R.val + 2 < 4096
    · rw [dif_pos hk, dif_pos ⟨by omega, h⟩]
      have e : (⟨2 + R.val, by omega⟩ : Fin 4096) = ⟨R.val + 2, hk⟩ := Fin.ext (by simp only; omega)
      rw [e]
    · rw [dif_neg hk, dif_neg (by omega)]

/-- One row of the gradient of the projected rows: the convolution's transpose sums the row and the two that follow
    it, each times its tap; a row past the end counts nothing. -/
theorem dup_row (i : grid0.Coords) (t : Fin cfg0.N) (x0 : FVec Ideal S512x2816 .bf16) (x1 : FVec Ideal S16x2816 .bf16) (x2 : FVec Ideal S512x2816 .bf16)
    (t2 t1 t0 : FVec Ideal S1x2816 .f32) (X0 X1 : FVec Ideal S4096x2816 .bf16) (X4 : FVec Ideal S3x2816 .f32)
    (hf : (Scalar.extui (Scalar.cmpi CmpIPredicate.slt (BitVec.ofNat 32 (i 0).val) 7#32) : BitVec 32).toInt = if t.val < 7 then 1 else 0)
    (h0 : ∀ (r : Fin 512) (l : Fin 2816) (R : Fin 4096), R.val = t.val * 512 + r.val → x0 (ix2 r l) = X0 (ix2 R l))
    (h1 : t.val < 7 → ∀ (r : Fin 16) (l : Fin 2816) (R : Fin 4096), R.val = (t.val + 1) * 512 + r.val → x1 (ix2 r l) = X0 (ix2 R l))
    (h2 : ∀ (r : Fin 512) (l : Fin 2816) (R : Fin 4096), R.val = t.val * 512 + r.val → x2 (ix2 r l) = X1 (ix2 R l))
    (h3 : ∀ l : Fin 2816, t2 (ix2 0 l) = X4 (ix2 2 l)) (h4 : ∀ l : Fin 2816, t1 (ix2 0 l) = X4 (ix2 1 l))
    (h5 : ∀ l : Fin 2816, t0 (ix2 0 l) = X4 (ix2 0 l))
    (r : Fin 512) (L : Fin 5632) (R : Fin 4096) (hR : R.val = t.val * 512 + r.val) :
    k0_pay1 (F := Ideal) i x1 x0 t2 t1 t0 x2 (ix2 r L) = val_main_v44 (F := Ideal) X0 X1 X4 (ix2 R L) := by
  rw [tile_row]
  by_cases h : L.val < 2816
  · rw [dif_pos h, ref_gate _ _ _ _ _ h, h3, h4, h5, h0 r _ R hR,
      extended_eq t x0 x1 X0 X4 h0 h1 _ hf 1 _ r R hR (by omega) (by simp only; omega),
      extended_eq t x0 x1 X0 X4 h0 h1 _ hf 2 _ r R hR (by omega) (by simp only; omega)]
  · rw [dif_neg h, ref_row, dif_pos (by omega), dif_neg h, add_zero, h2 r _ R hR]

/-- The tile's rows of the projected rows' gradient are the reference's rows. -/
theorem dup_point (c : Dev nD) (t : Fin cfg0.N) (r : Fin 512) (l : Fin 5632) (R : Fin 4096) (hR : R.val = t.val * 512 + r.val) :
    k0_pay1 (F := Ideal) (grid0.coords t) (iblk m c 1 t) (iblk m c 0 t) (View.ld (iblk m c 3 t) (Rect.unit ![2, 0] ![1, 2816] inb_S3x2816_S1x2816_2_0))
     (View.ld (iblk m c 3 t) (Rect.unit ![1, 0] ![1, 2816] inb_S3x2816_S1x2816_1_0)) (View.ld (iblk m c 3 t) (Rect.unit ![0, 0] ![1, 2816] inb_S3x2816_S1x2816_0_0)) (iblk m c 2 t) (ix2 r l)
      = val_main_v44 (F := Ideal) (m (c.tc.loc main_arg0)) (m (c.tc.loc main_arg1)) (m (c.tc.loc main_arg4)) (ix2 R l) :=
  dup_row (grid0.coords t) t _ _ _ _ _ _ _ _ _ (factor t) (block0 m c t) (block1 m c t) (block2 m c t) (tap2 m c t) (tap1 m c t) (tap0 m c t) r l R hR

/-- The row of the whole array at which a tile's row lies. -/
theorem row5 (t : Fin cfg0.N) (y : ((cfg0.win 5).xblock (cfg0.grid.coords t)).Idx) :
    (((View.whole main_v2_0).slice (win0_5.rect t)).emb y 0).val = t.val * 512 + (y 0).val := by
  blk_simp [index t]
/-- The column of the whole array at which a tile's column lies. -/
theorem col5 (t : Fin cfg0.N) (y : ((cfg0.win 5).xblock (cfg0.grid.coords t)).Idx) :
    (((View.whole main_v2_0).slice (win0_5.rect t)).emb y 1).val = (y 1).val := by
  blk_simp [index t]
/-- The row of the second result at which a tile's row lies. -/
theorem row6 (t : Fin cfg0.N) (y : ((cfg0.win 6).xblock (cfg0.grid.coords t)).Idx) :
    (((View.whole main_v2_1).slice (win0_6.rect t)).emb y 0).val = t.val * 512 + (y 0).val := by
  blk_simp [index t]
/-- The column of the second result at which a tile's column lies. -/
theorem col6 (t : Fin cfg0.N) (y : ((cfg0.win 6).xblock (cfg0.grid.coords t)).Idx) :
    (((View.whole main_v2_1).slice (win0_6.rect t)).emb y 1).val = (y 1).val := by
  blk_simp [index t]

/-- The gradient of the projected rows after the run. -/
theorem final5 (c : Dev nD) : (dats m 0 c).arrAt 5 cfg0.N
    = val_main_v46 (F := Ideal) (m (c.tc.loc main_arg0)) (m (c.tc.loc main_arg1)) (m (c.tc.loc main_arg4)) := by
  refine (dats m 0 c).arrAt_eq_of_covers 5 _ (by decide +kernel) fun t hf y => ?_
  blk_simp
  rw [after0_5]
  unfold outsAt0
  frame_out
  refine (congrArg _ (eq_ix2 y)).trans ((dup_point m c t (y 0) (y 1) _ (row5 t y)).trans ?_)
  pointwise [val_main_v46]
  exact congrArg _ ((congrArg (ix2 _) (Fin.ext (col5 t y).symm)).trans (eq_ix2 _).symm)

/-- The gradient of the rows that were projected after the run. -/
theorem final6 (c : Dev nD) : (dats m 0 c).arrAt 6 cfg0.N
    = val_main_v47 (F := Ideal) (m (c.tc.loc main_arg0)) (m (c.tc.loc main_arg1)) (m (c.tc.loc main_arg3)) (m (c.tc.loc main_arg4)) := by
  refine (dats m 0 c).arrAt_eq_of_covers 6 _ (by decide +kernel) fun t hf y => ?_
  blk_simp
  rw [after0_6]
  unfold outsAt0
  frame_out
  pointwise [k0_pay2, val_main_v47, val_main_v45]
  refine Fin.sum_fin_congr fun k => ?_
  refine congrArg₂ _ (dup_point m c t (y 0) k _ (row6 t y)) ((block4 m c t k (y 1)).trans ?_)
  exact congrArg _ (congrArg (fun a => ix2 a k) (Fin.ext (col6 t y).symm))

end Cert.UpKernelIdeal.Tile

end
-- ==== Proof.UpClaim.lean ====
module

public import proofs.«01_k».proof.Defs
public import proofs.«01_k».proof.Proof.UpTile
public import proofs.«01_k».proof.Proof.Gen.UpReferenceIdeal.Run
public import Idealize.ShloMosaic.Lib.Quiescent

@[expose] public section

noncomputable section

namespace Cert.UpProof

open Idealize.ShloMosaic Idealize.ShloMosaic.TcCoe Idealize.SL.Sem

/-- The reference ends, with its arguments kept and no semaphore raised. -/
theorem quiescent_reference : Cert.quiescent_UpReferenceIdeal (hUpReferenceIdeal := Cert.UpReferenceIdeal.Gen.facts) :=
  fun m ρ _ => (θ_run (Cert.UpReferenceIdeal.defs (F := Ideal)) _ _).mono
    (fun r h => ⟨fun c => (h c).2.2, sem_eq_zero_of_no_sems (by decide) r.2⟩) (Cert.UpReferenceIdeal.Value.run (F := Ideal) m ρ)

/-- The kernel's two gradients are the reference's, at exact arithmetic. -/
theorem algebraic : Cert.algebraic_UpKernelIdeal_UpReferenceIdeal
    (hUpKernelIdeal := Cert.UpKernelIdeal.Gen.facts) (hUpReferenceIdeal := Cert.UpReferenceIdeal.Gen.facts) :=
  fun m ρ m' ρ' _ hag => ⟨_, _,
    (θ_run (Cert.UpKernelIdeal.defs (F := Ideal)) _ _).mono
      (fun _ h c => ⟨(h c).1.trans (Cert.UpKernelIdeal.Tile.final5 m c), (h c).2.1.trans (Cert.UpKernelIdeal.Tile.final6 m c), (h c).2.2⟩)
      (Cert.UpKernelIdeal.Value.run_blocks (F := Ideal) m ρ),
    (θ_run (Cert.UpReferenceIdeal.defs (F := Ideal)) _ _).mono
      (fun _ h c => ⟨(h c).1.trans (by
          rw [Cert.UpReferenceIdeal.Read.val_main_v46_eq, (hag c).1, (hag c).2.1, (hag c).2.2.2.2.1]),
        (h c).2.1.trans (by
          rw [Cert.UpReferenceIdeal.Read.val_main_v47_eq, (hag c).1, (hag c).2.1, (hag c).2.2.2.1, (hag c).2.2.2.2.1]), (h c).2.2⟩)
      (Cert.UpReferenceIdeal.Value.run (F := Ideal) m' ρ')⟩

end Cert.UpProof

end
-- ==== Proof.WgradTile.lean ====
module

public import proofs.«01_k».proof.Defs
public import proofs.«01_k».proof.Proof.Gen.WgradKernelIdeal.Value
public import proofs.«01_k».proof.Proof.Gen.WgradReferenceIdeal.Run
public import proofs.«01_k».proof.Proof.Gen.WgradReferenceIdeal.Read
public import Idealize.ShloMosaic.Lib.Pointwise
public import Idealize.ShloMosaic.Lib.Tactic
public import Idealize.ShloMosaic.Lib.Pipeline.ValueKit
public import Idealize.ShloMosaic.Lib.Pipeline.ReadBack
public import Idealize.ShloMosaic.Lib.Quiescent

@[expose] public section

set_option maxRecDepth 16384

noncomputable section

namespace Cert.WgradKernelIdeal.Tile

open Cert.WgradKernelIdeal Cert.WgradKernelIdeal.Gen Idealize.ShloMosaic Idealize.ShloMosaic.TcCoe Idealize.SL.Sem
open Cert.WgradReferenceIdeal.Read

variable (m : (ℓ : Loc nD τ sig) → Buf (Elt Ideal) ℓ)

/-- Block indices of the windows at a grid point: the contraction's half is the point's parity. -/
theorem index : ∀ t : Fin cfg0.N, win0_0.index t = ![t.val % 2, t.val / 2]
    ∧ win0_1.index t = ![t.val % 2, 0] ∧ win0_2.index t = ![t.val / 2, 0] :=
  (by decide +kernel : ∀ t : Fin grid0.N, _)

/-- A block of the output's gradient. -/
theorem block0 (c : Dev nD) (t : Fin cfg0.N) (r : Fin 2048) (l : Fin 1408) (R : Fin 4096) (L : Fin 5632)
    (hR : R.val = t.val % 2 * 2048 + r.val) (hL : L.val = t.val / 2 * 1408 + l.val) :
    iblk m c 0 t (ix2 r l) = m (c.tc.loc main_arg0) (ix2 R L) := by
  blk_ext [iblk, V, index t]

/-- A block of the rows that were projected. -/
theorem block1 (c : Dev nD) (t : Fin cfg0.N) (r : Fin 2048) (l : Fin 1024) (R : Fin 4096) (hR : R.val = t.val % 2 * 2048 + r.val) :
    iblk m c 1 t (ix2 r l) = m (c.tc.loc main_arg1) (ix2 R l) := by
  blk_ext [iblk, V, index t]

/-- The reference's gradient at an index: one sum over the tokens. -/
theorem ref_apply (X0 : FVec Ideal S4096x5632 .bf16) (X1 : FVec Ideal S4096x1024 .bf16) (r : Fin 5632) (l : Fin 1024) :
    val_main_v6 (F := Ideal) X0 X1 (ix2 r l) = ∑ k : Fin 4096, X0 (ix2 k r) * X1 (ix2 k l) := by
  pointwise [val_main_v6, val_main_v5, val_main_v4, val_main_v3, val_main_v2, val_main_v0]

/-- What a first half leaves in the accumulator. -/
theorem first_apply (x0 : FVec Ideal S2048x1408 .bf16) (x1 : FVec Ideal S2048x1024 .bf16) (r : Fin 1408) (l : Fin 1024) :
    k0_pay2 (F := Ideal) x0 x1 (ix2 r l) = ∑ k : Fin 2048, x0 (ix2 k r) * x1 (ix2 k l) := by
  pointwise [k0_pay2, k0_pay1]

/-- What a second half writes out. -/
theorem second_apply (x0 : FVec Ideal S2048x1408 .bf16) (x1 : FVec Ideal S2048x1024 .bf16) (a : FVec Ideal S1408x1024 .f32) (r : Fin 1408) (l : Fin 1024) :
    k0_pay4 (F := Ideal) (k0_pay3 (F := Ideal) x0 x1 a) (ix2 r l) = a (ix2 r l) + ∑ k : Fin 2048, x0 (ix2 k r) * x1 (ix2 k l) := by
  pointwise [k0_pay4, k0_pay3, k0_pay1]

/-- The accumulator after a first half. -/
theorem acc_first (c : Dev nD) (t : Fin cfg0.N) (h : t.val % 2 = 0) :
    (outsAt0 m c t.val t.isLt).2 = k0_pay2 (F := Ideal) (iblk m c 0 t) (iblk m c 1 t) := by
  rw [outsAt0_A m c t h (by omega) (by omega)]
  frame_out

/-- What a second half writes out, at an index: the two halves' sums are the whole sum over the tokens. -/
theorem second_point (c : Dev nD) (t : Fin cfg0.N) (h1 : t.val % 2 = 1) (hlt : t.val - 1 < cfg0.N) (r : Fin 1408) (l : Fin 1024)
    (R : Fin 5632) (hR : R.val = t.val / 2 * 1408 + r.val) :
    k0_pay4 (F := Ideal) (k0_pay3 (F := Ideal) (iblk m c 0 t) (iblk m c 1 t) (outsAt0 m c (t.val - 1) hlt).2) (ix2 r l)
      = val_main_v6 (F := Ideal) (m (c.tc.loc main_arg0)) (m (c.tc.loc main_arg1)) (ix2 R l) := by
  rw [second_apply, acc_first m c ⟨t.val - 1, hlt⟩ (by dsimp only; omega), first_apply, ref_apply]
  refine Eq.trans ?_ (Fin.sum_univ_add (a := 2048) (b := 2048) _).symm
  refine congrArg₂ _ (Fin.sum_fin_congr fun k => congrArg₂ _ ?_ ?_) (Fin.sum_fin_congr fun k => congrArg₂ _ ?_ ?_)
  · exact block0 m c _ _ _ _ _ (by simp only [Fin.val_castAdd]; omega) (by rw [hR]; simp only; omega)
  · exact block1 m c _ _ _ _ (by simp only [Fin.val_castAdd]; omega)
  · exact block0 m c _ _ _ _ _ (by simp only [Fin.val_natAdd]; omega) hR
  · exact block1 m c _ _ _ _ (by simp only [Fin.val_natAdd]; omega)

/-- The weight gradient after the run. -/
theorem final2 (c : Dev nD) : (dats m 0 c).arrAt 2 cfg0.N
    = val_main_v6 (F := Ideal) (m (c.tc.loc main_arg0)) (m (c.tc.loc main_arg1)) := by
  refine (dats m 0 c).arrAt_eq_of_covers 2 _ (by decide +kernel) fun t hf y => ?_
  have h1 : t.val % 2 = 1 := (flush0_2 t).mp hf
  blk_simp
  rw [after0_2, outsAt0_B m c t (by omega) h1 h1]
  frame_out
  simp only [read_unread_whole]
  have e0 : (((View.whole main_v0).slice (win0_2.rect t)).emb y 0).val = t.val / 2 * 1408 + (y 0).val := by
    blk_simp [index t]
  have e1 : (((View.whole main_v0).slice (win0_2.rect t)).emb y 1).val = (y 1).val := by
    blk_simp [index t]
  refine (congrArg _ (eq_ix2 y)).trans ((second_point m c t h1 _ (y 0) (y 1) _ e0).trans (congrArg _ ?_))
  exact (congrArg (ix2 _) (Fin.ext e1.symm)).trans (eq_ix2 _).symm

end Cert.WgradKernelIdeal.Tile

namespace Cert.WgradProof

open Idealize.ShloMosaic Idealize.ShloMosaic.TcCoe Idealize.SL.Sem

/-- The reference ends, with its arguments kept and no semaphore raised. -/
theorem quiescent_reference : Cert.quiescent_WgradReferenceIdeal (hWgradReferenceIdeal := Cert.WgradReferenceIdeal.Gen.facts) :=
  fun m ρ _ => (θ_run (Cert.WgradReferenceIdeal.defs (F := Ideal)) _ _).mono
    (fun r h => ⟨fun c => (h c).2, sem_eq_zero_of_no_sems (by decide) r.2⟩) (Cert.WgradReferenceIdeal.Value.run (F := Ideal) m ρ)

/-- The kernel's weight gradient is the reference's, at exact arithmetic. -/
theorem algebraic : Cert.algebraic_WgradKernelIdeal_WgradReferenceIdeal
    (hWgradKernelIdeal := Cert.WgradKernelIdeal.Gen.facts) (hWgradReferenceIdeal := Cert.WgradReferenceIdeal.Gen.facts) :=
  fun m ρ m' ρ' _ hag => ⟨_,
    (θ_run (Cert.WgradKernelIdeal.defs (F := Ideal)) _ _).mono
      (fun _ h c => ⟨(h c).1.trans (Cert.WgradKernelIdeal.Tile.final2 m c), (h c).2⟩)
      (Cert.WgradKernelIdeal.Value.run_blocks (F := Ideal) m ρ),
    (θ_run (Cert.WgradReferenceIdeal.defs (F := Ideal)) _ _).mono
      (fun _ h c => ⟨(h c).1.trans (by
          rw [Cert.WgradReferenceIdeal.Read.val_main_v6_eq, (hag c).1, (hag c).2.1]), (h c).2⟩)
      (Cert.WgradReferenceIdeal.Value.run (F := Ideal) m' ρ')⟩

end Cert.WgradProof

end
-- ==== Proof.InprojTile.lean ====
module

public import proofs.«01_k».proof.Defs
public import proofs.«01_k».proof.Proof.Gen.InprojKernelIdeal.Value
public import proofs.«01_k».proof.Proof.Gen.InprojReferenceIdeal.Run
public import proofs.«01_k».proof.Proof.Gen.InprojReferenceIdeal.Read
public import Idealize.ShloMosaic.Lib.Pointwise
public import Idealize.ShloMosaic.Lib.Tactic
public import Idealize.ShloMosaic.Lib.Pipeline.ValueKit
public import Idealize.ShloMosaic.Lib.Pipeline.ReadBack
public import Idealize.ShloMosaic.Lib.Quiescent
public import proofs.«01_k».proof.Proof.NormBwd

@[expose] public section

set_option maxRecDepth 16384

noncomputable section

namespace Cert.InprojKernelIdeal.Tile

open Cert.InprojKernelIdeal Cert.InprojKernelIdeal.Gen Idealize.ShloMosaic Idealize.ShloMosaic.TcCoe Idealize.SL.Sem
open Cert.InprojReferenceIdeal.Read

variable (m : (ℓ : Loc nD τ sig) → Buf (Elt Ideal) ℓ)

/-- The grid's points and the blocks they take. -/
theorem index : ∀ t : Fin cfg0.N, win0_0.index t = ![t.val, 0] ∧ win0_1.index t = ![0, 0] ∧ win0_2.index t = ![t.val, 0] ∧
    win0_3.index t = ![t.val, 0] ∧ win0_4.index t = ![0, 0] ∧ win0_5.index t = ![0, 0] ∧ win0_6.index t = ![t.val, 0] ∧ win0_7.index t = ![0, 0] :=
  (by decide +kernel : ∀ t : Fin grid0.N, _)

/-- A block of the incoming gradient. -/
theorem block0 (c : Dev nD) (t : Fin cfg0.N) (r : Fin 512) (k : Fin 2560) (R : Fin 4096) (hR : R.val = t.val * 512 + r.val) :
    iblk m c 0 t (ix2 r k) = m (c.tc.loc main_arg0) (ix2 R k) := by
  blk_ext [iblk, V, index t]

/-- The projection's matrix, which the host turned over. -/
theorem block1 (c : Dev nD) (t : Fin cfg0.N) (k : Fin 2560) (l : Fin 1024) :
    iblk m c 1 t (ix2 k l) = m (c.tc.loc main_arg1) (ix2 l k) := by
  blk_simp [iblk]
  entry_read
  pointwise
  blk_ext [index t]

/-- A block of the rows that were normalised. -/
theorem block2 (c : Dev nD) (t : Fin cfg0.N) (r : Fin 512) (k : Fin 1024) (R : Fin 4096) (hR : R.val = t.val * 512 + r.val) :
    iblk m c 2 t (ix2 r k) = m (c.tc.loc main_arg2) (ix2 R k) := by
  blk_ext [iblk, V, index t]

/-- A block of the gradient that is added. -/
theorem block3 (c : Dev nD) (t : Fin cfg0.N) (r : Fin 512) (k : Fin 1024) (R : Fin 4096) (hR : R.val = t.val * 512 + r.val) :
    iblk m c 3 t (ix2 r k) = m (c.tc.loc main_arg3) (ix2 R k) := by
  blk_ext [iblk, V, index t]

/-- The scale of the modulation. -/
theorem block4 (c : Dev nD) (t : Fin cfg0.N) (l : Fin 1024) : iblk m c 4 t (ix2 0 l) = m (c.tc.loc main_arg5) (ix2 0 l) := by
  blk_ext [iblk, V, index t]

/-- The gain of the norm. -/
theorem block5 (c : Dev nD) (t : Fin cfg0.N) (l : Fin 1024) : iblk m c 5 t (ix2 0 l) = m (c.tc.loc main_arg6) (ix2 0 l) := by
  blk_ext [iblk, V, index t]

/-- A first half of a block of the incoming gradient. -/
theorem low0 (c : Dev nD) (t : Fin cfg0.N) (r : Fin 256) (k : Fin 2560) (R : Fin 4096) (hR : R.val = t.val * 512 + (r.val)) :
    View.ld (iblk m c 0 t) (Rect.unit ![0, 0] ![256, 2560] inb_S512x2560_S256x2560_0_0) (ix2 r k) = m (c.tc.loc main_arg0) (ix2 R k) :=
  (View.ld_unit_apply_of _ _ _ _ _ (ix2 ⟨r.val, by omega⟩ k) (fun a => by fin_cases a <;> simp)).trans (block0 m c t _ k R hR)

/-- A first half of a block of the rows that were normalised. -/
theorem low2 (c : Dev nD) (t : Fin cfg0.N) (r : Fin 256) (k : Fin 1024) (R : Fin 4096) (hR : R.val = t.val * 512 + (r.val)) :
    View.ld (iblk m c 2 t) (Rect.unit ![0, 0] ![256, 1024] inb_S512x1024_S256x1024_0_0) (ix2 r k) = m (c.tc.loc main_arg2) (ix2 R k) :=
  (View.ld_unit_apply_of _ _ _ _ _ (ix2 ⟨r.val, by omega⟩ k) (fun a => by fin_cases a <;> simp)).trans (block2 m c t _ k R hR)

/-- A first half of a block of the gradient that is added. -/
theorem low3 (c : Dev nD) (t : Fin cfg0.N) (r : Fin 256) (k : Fin 1024) (R : Fin 4096) (hR : R.val = t.val * 512 + (r.val)) :
    View.ld (iblk m c 3 t) (Rect.unit ![0, 0] ![256, 1024] inb_S512x1024_S256x1024_0_0) (ix2 r k) = m (c.tc.loc main_arg3) (ix2 R k) :=
  (View.ld_unit_apply_of _ _ _ _ _ (ix2 ⟨r.val, by omega⟩ k) (fun a => by fin_cases a <;> simp)).trans (block3 m c t _ k R hR)

/-- A second half of a block of the incoming gradient. -/
theorem high0 (c : Dev nD) (t : Fin cfg0.N) (r : Fin 256) (k : Fin 2560) (R : Fin 4096) (hR : R.val = t.val * 512 + (256 + r.val)) :
    View.ld (iblk m c 0 t) (Rect.unit ![256, 0] ![256, 2560] inb_S512x2560_S256x2560_256_0) (ix2 r k) = m (c.tc.loc main_arg0) (ix2 R k) :=
  (View.ld_unit_apply_of _ _ _ _ _ (ix2 ⟨256 + r.val, by omega⟩ k) (fun a => by fin_cases a <;> simp)).trans (block0 m c t _ k R hR)

/-- A second half of a block of the rows that were normalised. -/
theorem high2 (c : Dev nD) (t : Fin cfg0.N) (r : Fin 256) (k : Fin 1024) (R : Fin 4096) (hR : R.val = t.val * 512 + (256 + r.val)) :
    View.ld (iblk m c 2 t) (Rect.unit ![256, 0] ![256, 1024] inb_S512x1024_S256x1024_256_0) (ix2 r k) = m (c.tc.loc main_arg2) (ix2 R k) :=
  (View.ld_unit_apply_of _ _ _ _ _ (ix2 ⟨256 + r.val, by omega⟩ k) (fun a => by fin_cases a <;> simp)).trans (block2 m c t _ k R hR)

/-- A second half of a block of the gradient that is added. -/
theorem high3 (c : Dev nD) (t : Fin cfg0.N) (r : Fin 256) (k : Fin 1024) (R : Fin 4096) (hR : R.val = t.val * 512 + (256 + r.val)) :
    View.ld (iblk m c 3 t) (Rect.unit ![256, 0] ![256, 1024] inb_S512x1024_S256x1024_256_0) (ix2 r k) = m (c.tc.loc main_arg3) (ix2 R k) :=
  (View.ld_unit_apply_of _ _ _ _ _ (ix2 ⟨256 + r.val, by omega⟩ k) (fun a => by fin_cases a <;> simp)).trans (block3 m c t _ k R hR)

/-- A row of the input's gradient: what is added, and the gradient through the norm of the row `X` for the gradient `Y` of its normalised form. -/
def row (D : EReal) (X Y : Fin 1024 → EReal) (l : Fin 1024) : EReal :=
  D + Ideal.rsqrt (NormBwd.ms X) * (Y l - X l * Ideal.rsqrt (NormBwd.ms X) *
        Ideal.div (∑ x, Y x * (X x * Ideal.rsqrt (NormBwd.ms X))) (Ideal.ofBits .f32 1149239296#32))

/-- The same row by the chain rule. -/
theorem row_eq (D : EReal) (X Y : Fin 1024 → EReal) (l : Fin 1024) :
    row D X Y l = D + (Y l * Ideal.rsqrt (NormBwd.ms X) +
        X l * Ideal.div ((∑ x, X x * Y x) *
          (Ideal.ofBits .f32 3204448256#32 * Ideal.div (Ideal.rsqrt (NormBwd.ms X)) (NormBwd.ms X))) (Ideal.ofBits .f32 1149239296#32) +
        Ideal.div ((∑ x, X x * Y x) *
          (Ideal.ofBits .f32 3204448256#32 * Ideal.div (Ideal.rsqrt (NormBwd.ms X)) (NormBwd.ms X))) (Ideal.ofBits .f32 1149239296#32) * X l) :=
  congrArg (D + ·) (NormBwd.norm_bwd X Y l)

/-- One token's part of row `q` of the sums: for the shift, for the modulation's scale, for the norm's gain. -/
def term (q : ℕ) (h n s g : EReal) : EReal :=
  if q < 1 then h else if q - 1 < 1 then h * (n * g) else if q - 1 - 1 < 1 then h * s * n else 0

/-- What the kernel stores for a first half of a tile. -/
theorem low_apply (x0 : FVec Ideal S256x2560 .bf16) (x1 : FVec Ideal S2560x1024 .bf16) (x2 : FVec Ideal S256x1024 .f32) (x3 : FVec Ideal S256x1024 .bf16) (x4 : FVec Ideal S1x1024 .f32) (x5 : FVec Ideal S1x1024 .f32) (r : Fin 256) (l : Fin 1024) :
    k0_pay12 (F := Ideal) (k0_pay6 x2) (k0_pay7 x2) (k0_pay9 x3) (k0_pay10 x0 x1 x4 x5) (k0_pay11 x0 x1 x2 x4 x5) (ix2 r l)
      = row (x3 (ix2 r l)) (fun k => x2 (ix2 r k))
        (fun k => (∑ j, x0 (ix2 r j) * x1 (ix2 j k)) * (1 + x4 (ix2 0 k)) * x5 (ix2 0 k)) l := by
  pointwise [k0_pay12, k0_pay11, k0_pay10, k0_pay9, k0_pay8, k0_pay7, k0_pay6, k0_pay4]
  rfl

/-- What the kernel stores for a second half of a tile. -/
theorem high_apply (x0 : FVec Ideal S256x2560 .bf16) (x1 : FVec Ideal S2560x1024 .bf16) (x2 : FVec Ideal S256x1024 .f32) (x3 : FVec Ideal S256x1024 .bf16) (x4 : FVec Ideal S1x1024 .f32) (x5 : FVec Ideal S1x1024 .f32) (r : Fin 256) (l : Fin 1024) :
    k0_pay1 (F := Ideal) (k0_pay14 x2) (k0_pay15 x2) (k0_pay16 (k0_pay5 x0 x1) x4) (k0_pay17 x3) (k0_pay18 x5) (ix2 r l)
      = row (x3 (ix2 r l)) (fun k => x2 (ix2 r k))
        (fun k => (∑ j, x0 (ix2 r j) * x1 (ix2 j k)) * (1 + x4 (ix2 0 k)) * x5 (ix2 0 k)) l := by
  pointwise [k0_pay1, k0_pay14, k0_pay15, k0_pay16, k0_pay17, k0_pay18, k0_pay5]
  rfl

/-- The sums of a tile: a first half's rows and a second half's. -/
theorem sums_apply (x0 y0 : FVec Ideal S256x2560 .bf16) (x1 : FVec Ideal S2560x1024 .bf16) (x2 y2 : FVec Ideal S256x1024 .f32) (x4 : FVec Ideal S1x1024 .f32) (x5 : FVec Ideal S1x1024 .f32) (q : Fin 8) (l : Fin 1024) :
    k0_pay2 (F := Ideal) (k0_pay5 y0 x1) (k0_pay13 (k0_pay4 x0 x1) (k0_pay7 x2) (k0_pay8 x0 x1 x4) x5) (k0_pay15 y2) (k0_pay16 (k0_pay5 y0 x1) x4) x5 (ix2 q l)
      = (∑ r, term q (∑ j, x0 (ix2 r j) * x1 (ix2 j l)) (x2 (ix2 r l) * Ideal.rsqrt (NormBwd.ms fun k => x2 (ix2 r k))) (1 + x4 (ix2 0 l)) (x5 (ix2 0 l)))
        + ∑ r, term q (∑ j, y0 (ix2 r j) * x1 (ix2 j l)) (y2 (ix2 r l) * Ideal.rsqrt (NormBwd.ms fun k => y2 (ix2 r k))) (1 + x4 (ix2 0 l)) (x5 (ix2 0 l)) := by
  pointwise [k0_pay2, k0_pay13, k0_pay14, k0_pay15, k0_pay16, k0_pay6, k0_pay7, k0_pay8, k0_pay5, k0_pay4]
  unfold term
  split_ifs
  · rfl
  · rfl
  · rfl
  · simp

/-- A later tile adds its sums to what is there. -/
theorem step_apply (a : FVec Ideal S256x1024 .f32) (b : FVec Ideal S8x1024 .f32) (d e : FVec Ideal S256x1024 .f32) (x5 : FVec Ideal S1x1024 .f32) (o : FVec Ideal S8x1024 .f32) (q : Fin 8) (l : Fin 1024) :
    k0_pay3 (F := Ideal) a b d e x5 o (ix2 q l) = o (ix2 q l) + k0_pay2 (F := Ideal) a b d e x5 (ix2 q l) := by
  pointwise [k0_pay3]

/-- The reference's gradient of the input, at an index. -/
theorem ref_row (dp : FVec Ideal S4096x2560 .bf16) (w : FVec Ideal S1024x2560 .f32) (x : FVec Ideal S4096x1024 .f32) (dx1 : FVec Ideal S4096x1024 .bf16) (sc g : FVec Ideal S1x1024 .f32) (r : Fin 4096) (l : Fin 1024) :
    val_main_v51 (F := Ideal) dp w x dx1 sc g (ix2 r l)
      = row (dx1 (ix2 r l)) (fun k => x (ix2 r k))
        (fun k => (∑ j, dp (ix2 r j) * w (ix2 k j)) * (1 + sc (ix2 0 k)) * g (ix2 0 k)) l := by
  rw [row_eq]
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v30, val_main_v29, val_main_v28, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10]
  simp only [Fin.sum_univ_one, Fin.isValue]
  rfl

/-- The reference's sums, at an index. -/
theorem ref_sums (dp : FVec Ideal S4096x2560 .bf16) (w : FVec Ideal S1024x2560 .f32) (x : FVec Ideal S4096x1024 .f32) (sc g : FVec Ideal S1x1024 .f32) (q : Fin 8) (l : Fin 1024) :
    val_main_v53 (F := Ideal) dp w x sc g (ix2 q l)
      = ∑ r, term q (∑ j, dp (ix2 r j) * w (ix2 l j)) (x (ix2 r l) * Ideal.rsqrt (NormBwd.ms fun k => x (ix2 r k))) (1 + sc (ix2 0 l)) (g (ix2 0 l)) := by
  pointwise [val_main_v53, val_main_v52, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10]
  unfold term
  split_ifs
  · rfl
  · exact Finset.sum_congr rfl fun _ _ => mul_comm _ _
  · exact Finset.sum_congr rfl fun _ _ => mul_comm _ _
  · simp

/-- Two rows of the input's gradient with the same ingredients are equal. -/
theorem row_congr {D D' : EReal} {X X' Y Y' : Fin 1024 → EReal} (l : Fin 1024) (hD : D = D') (hX : ∀ k, X k = X' k) (hY : ∀ k, Y k = Y' k) :
    row D X Y l = row D' X' Y' l := by
  rw [hD, funext hX, funext hY]

/-- A first half's rows of the kernel's gradient are the reference's. -/
theorem low_point (c : Dev nD) (t : Fin cfg0.N) (r : Fin 256) (l : Fin 1024) (R : Fin 4096) (hR : R.val = t.val * 512 + r.val) :
    k0_pay12 (F := Ideal) (k0_pay6 (View.ld (iblk m c 2 t) (Rect.unit ![0, 0] ![256, 1024] inb_S512x1024_S256x1024_0_0))) (k0_pay7 (View.ld (iblk m c 2 t) (Rect.unit ![0, 0] ![256, 1024] inb_S512x1024_S256x1024_0_0))) (k0_pay9 (View.ld (iblk m c 3 t) (Rect.unit ![0, 0] ![256, 1024] inb_S512x1024_S256x1024_0_0))) (k0_pay10 (View.ld (iblk m c 0 t) (Rect.unit ![0, 0] ![256, 2560] inb_S512x2560_S256x2560_0_0)) (iblk m c 1 t) (iblk m c 4 t) (iblk m c 5 t)) (k0_pay11 (View.ld (iblk m c 0 t) (Rect.unit ![0, 0] ![256, 2560] inb_S512x2560_S256x2560_0_0)) (iblk m c 1 t) (View.ld (iblk m c 2 t) (Rect.unit ![0, 0] ![256, 1024] inb_S512x1024_S256x1024_0_0)) (iblk m c 4 t) (iblk m c 5 t)) (ix2 r l)
      = val_main_v51 (F := Ideal) (m (c.tc.loc main_arg0)) (m (c.tc.loc main_arg1)) (m (c.tc.loc main_arg2)) (m (c.tc.loc main_arg3)) (m (c.tc.loc main_arg5)) (m (c.tc.loc main_arg6)) (ix2 R l) := by
  rw [low_apply, ref_row]
  refine row_congr l (low3 m c t r l R hR) (fun k => low2 m c t r k R hR) fun k => ?_
  exact congrArg₂ _ (congrArg₂ _ (Fin.sum_fin_congr fun j => congrArg₂ _ (low0 m c t r j R hR) (block1 m c t j k))
    (congrArg _ (block4 m c t k))) (block5 m c t k)

/-- A second half's rows of the kernel's gradient are the reference's. -/
theorem high_point (c : Dev nD) (t : Fin cfg0.N) (r : Fin 256) (l : Fin 1024) (R : Fin 4096) (hR : R.val = t.val * 512 + (256 + r.val)) :
    k0_pay1 (F := Ideal) (k0_pay14 (View.ld (iblk m c 2 t) (Rect.unit ![256, 0] ![256, 1024] inb_S512x1024_S256x1024_256_0))) (k0_pay15 (View.ld (iblk m c 2 t) (Rect.unit ![256, 0] ![256, 1024] inb_S512x1024_S256x1024_256_0))) (k0_pay16 (k0_pay5 (View.ld (iblk m c 0 t) (Rect.unit ![256, 0] ![256, 2560] inb_S512x2560_S256x2560_256_0)) (iblk m c 1 t)) (iblk m c 4 t)) (k0_pay17 (View.ld (iblk m c 3 t) (Rect.unit ![256, 0] ![256, 1024] inb_S512x1024_S256x1024_256_0))) (k0_pay18 (iblk m c 5 t)) (ix2 r l)
      = val_main_v51 (F := Ideal) (m (c.tc.loc main_arg0)) (m (c.tc.loc main_arg1)) (m (c.tc.loc main_arg2)) (m (c.tc.loc main_arg3)) (m (c.tc.loc main_arg5)) (m (c.tc.loc main_arg6)) (ix2 R l) := by
  rw [high_apply, ref_row]
  refine row_congr l (high3 m c t r l R hR) (fun k => high2 m c t r k R hR) fun k => ?_
  exact congrArg₂ _ (congrArg₂ _ (Fin.sum_fin_congr fun j => congrArg₂ _ (high0 m c t r j R hR) (block1 m c t j k))
    (congrArg _ (block4 m c t k))) (block5 m c t k)

/-- The kernel's gradient of the input is the reference's. -/
theorem final6 (c : Dev nD) : (dats m 0 c).arrAt 6 cfg0.N
    = val_main_v51 (F := Ideal) (m (c.tc.loc main_arg0)) (m (c.tc.loc main_arg1)) (m (c.tc.loc main_arg2)) (m (c.tc.loc main_arg3)) (m (c.tc.loc main_arg5)) (m (c.tc.loc main_arg6)) := by
  refine (dats m 0 c).arrAt_eq_of_covers 6 _ (by decide +kernel) fun t hf y => ?_
  have row6 : (((View.whole main_v2_0).slice (win0_6.rect t)).emb y 0).val = t.val * 512 + (y 0).val := by
    blk_simp [index t]
  have col6 : (((View.whole main_v2_0).slice (win0_6.rect t)).emb y 1).val = (y 1).val := by
    blk_simp [index t]
  blk_simp
  rw [after0_6]
  have hN : t.val < 8 := lt_of_lt_of_eq t.isLt N_0
  by_cases h : t.val % 8 = 0
  · rw [outsAt0_A m c t h (by omega)]
    frame_out
    canon_tiles x h
    · refine (congrArg _ (eq_ix2 x)).trans ((high_point m c t (x 0) (x 1) _ (row6.trans (by rw [h0]))).trans (congrArg _ ?_))
      exact (congrArg (ix2 _) (Fin.ext (h1.symm.trans col6.symm))).trans (eq_ix2 _).symm
    · refine (congrArg _ (eq_ix2 x)).trans ((low_point m c t (x 0) (x 1) _ (row6.trans (by rw [h0]))).trans (congrArg _ ?_))
      exact (congrArg (ix2 _) (Fin.ext (h1.symm.trans col6.symm))).trans (eq_ix2 _).symm
  · rw [outsAt0_B m c t h (by omega)]
    frame_out
    canon_tiles x h
    · refine (congrArg _ (eq_ix2 x)).trans ((high_point m c t (x 0) (x 1) _ (row6.trans (by rw [h0]))).trans (congrArg _ ?_))
      exact (congrArg (ix2 _) (Fin.ext (h1.symm.trans col6.symm))).trans (eq_ix2 _).symm
    · refine (congrArg _ (eq_ix2 x)).trans ((low_point m c t (x 0) (x 1) _ (row6.trans (by rw [h0]))).trans (congrArg _ ?_))
      exact (congrArg (ix2 _) (Fin.ext (h1.symm.trans col6.symm))).trans (eq_ix2 _).symm

/-- One token's part of row `q` of the sums, of the whole arrays. -/
def part (dp : FVec Ideal S4096x2560 .bf16) (w : FVec Ideal S1024x2560 .f32) (x : FVec Ideal S4096x1024 .f32) (sc g : FVec Ideal S1x1024 .f32)
    (q : Fin 8) (l : Fin 1024) (r : Fin 4096) : EReal :=
  term q (∑ j, dp (ix2 r j) * w (ix2 l j)) (x (ix2 r l) * Ideal.rsqrt (NormBwd.ms fun k => x (ix2 r k))) (1 + sc (ix2 0 l)) (g (ix2 0 l))

/-- Equal ingredients give equal parts. -/
theorem term_congr {q : ℕ} {h h' n n' s s' g g' : EReal} (hh : h = h') (hn : n = n') (hs : s = s') (hg : g = g') :
    term q h n s g = term q h' n' s' g' := by
  rw [hh, hn, hs, hg]

/-- A tile's sums are its tokens' parts. -/
theorem sums_point (c : Dev nD) (t : Fin cfg0.N) (q : Fin 8) (l : Fin 1024) :
    k0_pay2 (F := Ideal) (k0_pay5 (View.ld (iblk m c 0 t) (Rect.unit ![256, 0] ![256, 2560] inb_S512x2560_S256x2560_256_0)) (iblk m c 1 t)) (k0_pay13 (k0_pay4 (View.ld (iblk m c 0 t) (Rect.unit ![0, 0] ![256, 2560] inb_S512x2560_S256x2560_0_0)) (iblk m c 1 t)) (k0_pay7 (View.ld (iblk m c 2 t) (Rect.unit ![0, 0] ![256, 1024] inb_S512x1024_S256x1024_0_0))) (k0_pay8 (View.ld (iblk m c 0 t) (Rect.unit ![0, 0] ![256, 2560] inb_S512x2560_S256x2560_0_0)) (iblk m c 1 t) (iblk m c 4 t)) (iblk m c 5 t)) (k0_pay15 (View.ld (iblk m c 2 t) (Rect.unit ![256, 0] ![256, 1024] inb_S512x1024_S256x1024_256_0))) (k0_pay16 (k0_pay5 (View.ld (iblk m c 0 t) (Rect.unit ![256, 0] ![256, 2560] inb_S512x2560_S256x2560_256_0)) (iblk m c 1 t)) (iblk m c 4 t)) (iblk m c 5 t) (ix2 q l)
      = ∑ r : Fin 512, part (m (c.tc.loc main_arg0)) (m (c.tc.loc main_arg1)) (m (c.tc.loc main_arg2)) (m (c.tc.loc main_arg5)) (m (c.tc.loc main_arg6)) q l ⟨t.val * 512 + r.val, by have := lt_of_lt_of_eq t.isLt N_0; omega⟩ := by
  rw [sums_apply]
  refine Eq.trans ?_ (Fin.sum_univ_add (a := 256) (b := 256) _).symm
  refine congrArg₂ _ (Fin.sum_fin_congr fun r => ?_) (Fin.sum_fin_congr fun r => ?_)
  · refine term_congr (Fin.sum_fin_congr fun j => congrArg₂ _ (low0 m c t r j _ rfl) (block1 m c t j l)) ?_
      (congrArg _ (block4 m c t l)) (block5 m c t l)
    exact congrArg₂ _ (low2 m c t r l _ rfl) (congrArg (fun X => Ideal.rsqrt (NormBwd.ms X)) (funext fun k => low2 m c t r k _ rfl))
  · refine term_congr (Fin.sum_fin_congr fun j => congrArg₂ _ (high0 m c t r j _ rfl) (block1 m c t j l)) ?_
      (congrArg _ (block4 m c t l)) (block5 m c t l)
    exact congrArg₂ _ (high2 m c t r l _ rfl) (congrArg (fun X => Ideal.rsqrt (NormBwd.ms X)) (funext fun k => high2 m c t r k _ rfl))

/-- The sums after the last tile. -/
theorem sums_last (c : Dev nD) (t : Fin cfg0.N) (ht : t.val % 8 = 7) (q : Fin 8) (l : Fin 1024) :
    (outsAt0 m c t.val t.isLt).2 (ix2 q l) = val_main_v53 (F := Ideal) (m (c.tc.loc main_arg0)) (m (c.tc.loc main_arg1)) (m (c.tc.loc main_arg2)) (m (c.tc.loc main_arg5)) (m (c.tc.loc main_arg6)) (ix2 q l) := by
  have hN : t.val < 8 := lt_of_lt_of_eq t.isLt N_0
  have hn : cfg0.N = 8 := N_0
  refine (Pipeline.eq_sum_fin_of_reset_step_apply_last (N := cfg0.N) (ι := Fin 8 × Fin 1024) (M := EReal)
    (fun n hn i => (outsAt0 m c n hn).2 (ix2 i.1 i.2)) 8 (fun _ => 0)
    (fun t i => ∑ r : Fin 512, part (m (c.tc.loc main_arg0)) (m (c.tc.loc main_arg1)) (m (c.tc.loc main_arg2)) (m (c.tc.loc main_arg5)) (m (c.tc.loc main_arg6)) i.1 i.2 ⟨t.val * 512 + r.val, by have := lt_of_lt_of_eq t.isLt N_0; omega⟩)
    (fun t h i => ?_) (fun t h i => ?_) (by omega) t (by omega) (q, l)).trans ?_
  · have hN : t.val < 8 := lt_of_lt_of_eq t.isLt N_0
    rw [outsAt0_A m c t h (by omega), zero_add]
    frame_out
    exact sums_point m c t i.1 i.2
  · rw [outsAt0_B m c t h (by omega)]
    frame_out
    rw [step_apply]
    exact congrArg _ (sums_point m c t i.1 i.2)
  · dsimp only
    rw [ref_sums, zero_add]
    exact Fin.sum_mul_add_congr (fun s k hl => rfl) (by rw [hn])

/-- The kernel's sums are the reference's. -/
theorem final7 (c : Dev nD) : (dats m 0 c).arrAt 7 cfg0.N
    = val_main_v53 (F := Ideal) (m (c.tc.loc main_arg0)) (m (c.tc.loc main_arg1)) (m (c.tc.loc main_arg2)) (m (c.tc.loc main_arg5)) (m (c.tc.loc main_arg6)) := by
  refine (dats m 0 c).arrAt_eq_of_covers 7 _ (by decide +kernel) fun t hf y => ?_
  have row7 : (((View.whole main_v2_1).slice (win0_7.rect t)).emb y 0).val = (y 0).val := by
    blk_simp [index t]
  have col7 : (((View.whole main_v2_1).slice (win0_7.rect t)).emb y 1).val = (y 1).val := by
    blk_simp [index t]
  blk_simp
  rw [after0_7]
  refine (congrArg _ (eq_ix2 y)).trans ((sums_last m c t ((flush0_7 t).mp hf) (y 0) (y 1)).trans (congrArg _ ?_))
  exact (congrArg₂ ix2 (Fin.ext row7.symm) (Fin.ext col7.symm)).trans (eq_ix2 _).symm

end Cert.InprojKernelIdeal.Tile

namespace Cert.InprojProof

open Idealize.ShloMosaic Idealize.ShloMosaic.TcCoe Idealize.SL.Sem

/-- The reference runs to its end and leaves its arguments. -/
theorem quiescent_reference : Cert.quiescent_InprojReferenceIdeal (hInprojReferenceIdeal := Cert.InprojReferenceIdeal.Gen.facts) :=
  fun m ρ _ => (θ_run (Cert.InprojReferenceIdeal.defs (F := Ideal)) _ _).mono
    (fun r h => ⟨fun c => (h c).2.2, sem_eq_zero_of_no_sems (by decide) r.2⟩) (Cert.InprojReferenceIdeal.Value.run (F := Ideal) m ρ)

/-- On equal arguments the kernel's results are the reference's. -/
theorem algebraic : Cert.algebraic_InprojKernelIdeal_InprojReferenceIdeal (hInprojKernelIdeal := Cert.InprojKernelIdeal.Gen.facts)
    (hInprojReferenceIdeal := Cert.InprojReferenceIdeal.Gen.facts) :=
  fun m ρ m' ρ' _ hag => ⟨_, _, (θ_run (Cert.InprojKernelIdeal.defs (F := Ideal)) _ _).mono
      (fun _ h c => ⟨(h c).1.trans (Cert.InprojKernelIdeal.Tile.final6 m c), (h c).2.1.trans (Cert.InprojKernelIdeal.Tile.final7 m c), (h c).2.2⟩)
      (Cert.InprojKernelIdeal.Value.run_blocks (F := Ideal) m ρ),
    (θ_run (Cert.InprojReferenceIdeal.defs (F := Ideal)) _ _).mono
      (fun _ h c => ⟨(h c).1.trans (by
          rw [Cert.InprojReferenceIdeal.Read.val_main_v51_eq, (hag c).1, (hag c).2.1, (hag c).2.2.1, (hag c).2.2.2.1, (hag c).2.2.2.2.2.1, (hag c).2.2.2.2.2.2.1]),
        (h c).2.1.trans (by
          rw [Cert.InprojReferenceIdeal.Read.val_main_v53_eq, (hag c).1, (hag c).2.1, (hag c).2.2.1, (hag c).2.2.2.2.2.1, (hag c).2.2.2.2.2.2.1]), (h c).2.2⟩)
      (Cert.InprojReferenceIdeal.Value.run (F := Ideal) m' ρ')⟩

end Cert.InprojProof

end
-- ==== Proof.RopeTable.lean ====
module

public import proofs.«01_k».proof.Defs
public import proofs.«01_k».proof.Proof.Gen.RopeKernelIdeal.Value
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.RopeKernelIdeal.Tile

open Cert.RopeKernelIdeal Cert.RopeKernelIdeal.Gen Idealize.ShloMosaic Idealize.ShloMosaic.TcCoe Idealize.SL.Sem

/-- The host's table that spreads a row's eight cosines, eight sines and a one over the lanes of a slab. -/
theorem table : ∀ (k : Fin 3) (j : Fin 24) (l : Fin 128), lit0t (k.val * 3072 + j.val * 128 + l.val)
    = if k.val = 0 ∧ (l.val % 64 < 16 ∧ j.val = l.val % 8 ∨ 16 ≤ l.val % 64 ∧ j.val = 16) then 0x3F800000#32
      else if k.val = 1 ∧ l.val % 64 < 8 ∧ j.val = 8 + l.val % 8 then 0xBF800000#32
      else if k.val = 2 ∧ 8 ≤ l.val % 64 ∧ l.val % 64 < 16 ∧ j.val = 8 + l.val % 8 then 0x3F800000#32
      else 0x00000000#32 := by
  decide +kernel

end Cert.RopeKernelIdeal.Tile

end
-- ==== Proof.RopeRef.lean ====
module

public import proofs.«01_k».proof.Defs
public import proofs.«01_k».proof.Proof.Gen.RopeReferenceIdeal.Run
public import proofs.«01_k».proof.Proof.Gen.RopeReferenceIdeal.Read
public import Idealize.ShloMosaic.Lib.Pointwise
public import Idealize.ShloMosaic.Lib.Tactic
public import Idealize.ShloMosaic.Lib.Pipeline.ValueKit

@[expose] public section

set_option maxRecDepth 16384

noncomputable section

namespace Cert.RopeRef

open Cert.RopeReferenceIdeal Idealize.ShloMosaic Idealize.ShloMosaic.TcCoe Idealize.SL.Sem
open Cert.RopeReferenceIdeal.Read

/-- The gradient of the rotary embedding at position `p` of a head: `d` the incoming gradient's head, `c` and `s` the row's cosines and sines. -/
def back (d : Fin 64 → EReal) (c s : Fin 8 → EReal) (p : Fin 64) : EReal :=
  if h : p.val < 8 then d p * c ⟨p.val, h⟩ + d ⟨p.val + 8, by omega⟩ * s ⟨p.val, h⟩
  else if h : p.val < 16 then d p * c ⟨p.val - 8, by omega⟩ + -d ⟨p.val - 8, by omega⟩ * s ⟨p.val - 8, by omega⟩
  else d p

/-- A row of head `h` of an array that is laid out in groups of slabs of two heads. -/
def head (D : FVec Ideal S3x2x4096x128 .f32) (R : Fin 4096) (h : Fin 12) (p : Fin 64) : EReal :=
  D (ix4 ⟨h.val / 4, by omega⟩ ⟨h.val / 2 % 2, by omega⟩ R ⟨h.val % 2 * 64 + p.val, by omega⟩)

/-- The gradient through the rotary embedding as the reference adds it up. -/
theorem back_eq (d : Fin 64 → EReal) (c s : Fin 8 → EReal) (p : Fin 64) (x y : EReal) (z : EReal)
    (hx : 16 ≤ p.val → x = d p) (hx' : ¬ 16 ≤ p.val → x = 0)
    (hy : ∀ h : 8 ≤ p.val ∧ p.val - 8 < 8, y = d p * c ⟨p.val - 8, h.2⟩ + -d ⟨p.val - 8, by omega⟩ * s ⟨p.val - 8, h.2⟩) (hy' : ¬ (8 ≤ p.val ∧ p.val - 8 < 8) → y = 0)
    (hz : ∀ h : p.val < 8, z = d ⟨p.val + 8, by omega⟩ * s ⟨p.val, h⟩ + d p * c ⟨p.val, h⟩) (hz' : ¬ p.val < 8 → z = 0) :
    x + y + z = back d c s p := by
  unfold back
  by_cases h8 : p.val < 8
  · rw [dif_pos h8, hx' (by omega), hy' (by omega), hz h8, zero_add, zero_add, add_comm]
  · rw [dif_neg h8, hz' h8, add_zero]
    by_cases h16 : p.val < 16
    · rw [dif_pos h16, hx' (by omega), hy ⟨by omega, by omega⟩, zero_add]
    · rw [dif_neg h16, hx (by omega), hy' (by omega), add_zero]

/-- The keys' gradient as the reference computes it. -/
theorem ref_k (dk : FVec Ideal S3x2x4096x128 .f32) (pos : IVec S4096 32) (R : Fin 4096) (h : Fin 12) (p : Fin 64) :
    val_main_v91 (F := Ideal) dk pos (ix3 R h p) = back (head dk R h) (fun j => val_main_v16 (F := Ideal) pos (ix2 R j)) (fun j => val_main_v18 (F := Ideal) pos (ix2 R j)) p := by
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v19, val_main_v17, val_main_cst_15, val_main_cst_14, val_main_cst_13, val_main_cst_12, val_main_cst_11, val_main_cst_10, val_main_cst_9, val_main_cst_8, val_main_cst_7, val_main_cst_6, val_main_cst_5, val_main_cst_4, val_main_cst_3, val_main_cst_2, val_main_cst_1, val_main_cst_0, val_main_cst]
  refine back_eq _ _ _ p _ _ _ (fun h => ?_) (fun h => dif_neg (by omega)) (fun h => ?_) (fun h => dif_neg h) (fun h => ?_) (fun h => dif_neg h)
  · rw [dif_pos ⟨h, by omega⟩]
    unfold head
    simp only [Nat.add_sub_of_le h]
  · rw [dif_pos h]
    unfold head
    simp only [Nat.add_sub_of_le h.1]
  · rw [dif_pos h]
    unfold head
    simp only [Nat.add_comm 8]

/-- The queries' gradient, whose scale the reference applies first. -/
theorem ref_q (dk : FVec Ideal S3x2x4096x128 .f32) (pos : IVec S4096 32) (R : Fin 4096) (h : Fin 12) (p : Fin 64) :
    val_main_v117 (F := Ideal) dk pos (ix3 R h p) = back (fun p => head dk R h p * Ideal.ofBits .f32 0x3E000000#32) (fun j => val_main_v16 (F := Ideal) pos (ix2 R j)) (fun j => val_main_v18 (F := Ideal) pos (ix2 R j)) p := by
  pointwise [val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v19, val_main_v17, val_main_cst_15, val_main_cst_14, val_main_cst_13, val_main_cst_12, val_main_cst_11, val_main_cst_10, val_main_cst_9, val_main_cst_8, val_main_cst_7, val_main_cst_6, val_main_cst_5, val_main_cst_4, val_main_cst_3, val_main_cst_2, val_main_cst_1, val_main_cst_0, val_main_cst]
  refine back_eq _ _ _ p _ _ _ (fun h => ?_) (fun h => dif_neg (by omega)) (fun h => ?_) (fun h => dif_neg h) (fun h => ?_) (fun h => dif_neg h)
  · rw [dif_pos ⟨h, by omega⟩]
    unfold head
    simp only [Nat.add_sub_of_le h]
  · rw [dif_pos h]
    unfold head
    simp only [Nat.add_sub_of_le h.1]
  · rw [dif_pos h]
    unfold head
    simp only [Nat.add_comm 8]

/-- The gradient of the projection, at a row and a column: the pooled columns' gradient, then the queries', the keys' and the values'. -/
def dproj (du : FVec Ideal S4096x256 .f32) (dq dk dv : FVec Ideal S3x2x4096x128 .f32) (pos : IVec S4096 32) (R : Fin 4096) (n : Fin 2560) : EReal :=
  if h : n.val < 256 then du (ix2 R ⟨n.val, h⟩)
  else if (n.val - 256) / 768 = 0 then back (fun p => head dq R ⟨(n.val - 256) / 64 % 12, by omega⟩ p * Ideal.ofBits .f32 0x3E000000#32)
    (fun j => val_main_v16 (F := Ideal) pos (ix2 R j)) (fun j => val_main_v18 (F := Ideal) pos (ix2 R j)) ⟨(n.val - 256) % 64, by omega⟩
  else if (n.val - 256) / 768 = 1 then back (head dk R ⟨(n.val - 256) / 64 % 12, by omega⟩)
    (fun j => val_main_v16 (F := Ideal) pos (ix2 R j)) (fun j => val_main_v18 (F := Ideal) pos (ix2 R j)) ⟨(n.val - 256) % 64, by omega⟩
  else head dv R ⟨(n.val - 256) / 64 % 12, by omega⟩ ⟨(n.val - 256) % 64, by omega⟩

/-- The pooled columns. -/
theorem dproj_u (du : FVec Ideal S4096x256 .f32) (dq dk dv : FVec Ideal S3x2x4096x128 .f32) (pos : IVec S4096 32) (R : Fin 4096) (n : Fin 2560) (h : n.val < 256) :
    dproj du dq dk dv pos R n = du (ix2 R ⟨n.val, h⟩) := by
  unfold dproj
  rw [dif_pos h]

/-- The queries' columns. -/
theorem dproj_q (du : FVec Ideal S4096x256 .f32) (dq dk dv : FVec Ideal S3x2x4096x128 .f32) (pos : IVec S4096 32) (R : Fin 4096) (n : Fin 2560) (h : ¬ n.val < 256) (g : (n.val - 256) / 768 = 0) :
    dproj du dq dk dv pos R n = back (fun p => head dq R ⟨(n.val - 256) / 64 % 12, by omega⟩ p * Ideal.ofBits .f32 0x3E000000#32)
      (fun j => val_main_v16 (F := Ideal) pos (ix2 R j)) (fun j => val_main_v18 (F := Ideal) pos (ix2 R j)) ⟨(n.val - 256) % 64, by omega⟩ := by
  unfold dproj
  rw [dif_neg h, if_pos g]

/-- The keys' columns. -/
theorem dproj_k (du : FVec Ideal S4096x256 .f32) (dq dk dv : FVec Ideal S3x2x4096x128 .f32) (pos : IVec S4096 32) (R : Fin 4096) (n : Fin 2560) (h : ¬ n.val < 256) (g : (n.val - 256) / 768 = 1) :
    dproj du dq dk dv pos R n = back (head dk R ⟨(n.val - 256) / 64 % 12, by omega⟩)
      (fun j => val_main_v16 (F := Ideal) pos (ix2 R j)) (fun j => val_main_v18 (F := Ideal) pos (ix2 R j)) ⟨(n.val - 256) % 64, by omega⟩ := by
  unfold dproj
  rw [dif_neg h, if_neg (by rw [g]; decide), if_pos g]

/-- The values' columns. -/
theorem dproj_v (du : FVec Ideal S4096x256 .f32) (dq dk dv : FVec Ideal S3x2x4096x128 .f32) (pos : IVec S4096 32) (R : Fin 4096) (n : Fin 2560) (h : ¬ n.val < 256) (g : 2 ≤ (n.val - 256) / 768) :
    dproj du dq dk dv pos R n = head dv R ⟨(n.val - 256) / 64 % 12, by omega⟩ ⟨(n.val - 256) % 64, by omega⟩ := by
  unfold dproj
  rw [dif_neg h, if_neg (fun e => by rw [e] at g; omega), if_neg (fun e => by rw [e] at g; omega)]

/-- Of the three kinds' sources one counts, and the others are zero. -/
theorem sum_eq (q : ℕ) (V K Q : EReal) {D : EReal} (hv : 2 ≤ q → V = D) (hv' : q < 2 → V = 0) (hk : q = 1 → K = D) (hk' : q ≠ 1 → K = 0)
    (hq : q = 0 → Q = D) (hq' : q ≠ 0 → Q = 0) : 0 + (V + K + Q) = D := by
  rw [zero_add]
  by_cases h2 : 2 ≤ q
  · rw [hv h2, hk' (by omega), hq' (by omega), add_zero, add_zero]
  · by_cases h1 : q = 1
    · rw [hv' (by omega), hk h1, hq' (by omega), add_zero, zero_add]
    · rw [hv' (by omega), hk' h1, hq (by omega), add_zero, zero_add]

/-- The reference's gradient of the projection, at an index. -/
theorem ref_all (du : FVec Ideal S4096x256 .f32) (dq dk dv : FVec Ideal S3x2x4096x128 .f32) (pos : IVec S4096 32) (R : Fin 4096) (n : Fin 2560) :
    val_main_v124 (F := Ideal) du dq dk dv pos (ix2 R n) = dproj du dq dk dv pos R n := by
  have hn := n.isLt
  pointwise [val_main_v124, val_main_v123, val_main_v122, val_main_v121, val_main_v120, val_main_v119, val_main_v118, val_main_v94, val_main_v93, val_main_v92, val_main_v70, val_main_v69, val_main_v68, val_main_v67, val_main_v66, val_main_v65, val_main_cst_15, val_main_cst_14, val_main_cst_13, val_main_cst_12, val_main_cst_11, val_main_cst_10, val_main_cst_9, val_main_cst_8, val_main_cst_7, val_main_cst_6, val_main_cst_5, val_main_cst_4, val_main_cst_3, val_main_cst_2, val_main_cst_1, val_main_cst_0, val_main_cst]
  by_cases h : n.val < 256
  · refine (congrArg₂ (· + ·) (dif_pos h) (dif_neg (by omega))).trans ?_
    exact (add_zero _).trans (dproj_u du dq dk dv pos R n h).symm
  · refine (congrArg₂ (· + ·) (dif_neg h) (dif_pos (And.intro (Nat.le_of_not_lt h) (by omega)))).trans ?_
    refine sum_eq ((n.val - 256) / 768) _ _ _ ?_ ?_ ?_ ?_ ?_ ?_
    · exact fun g => (dif_pos (by omega)).trans (dproj_v du dq dk dv pos R n h g).symm
    · exact fun g => dif_neg fun e => by have := e.1; omega
    · exact fun g => (dif_pos (by omega)).trans ((ref_k dk pos R _ _).trans (dproj_k du dq dk dv pos R n h g).symm)
    · exact fun g => dif_neg fun e => by have := e.1; omega
    · exact fun g => (dif_pos (by omega)).trans ((ref_q dq pos R _ _).trans (dproj_q du dq dk dv pos R n h g).symm)
    · exact fun g => dif_neg fun e => by have := e.1; omega

/-- The reference's narrowed gradient of the projection is that. -/
theorem ref_narrow (du : FVec Ideal S4096x256 .f32) (dq dk dv : FVec Ideal S3x2x4096x128 .f32) (pos : IVec S4096 32) (R : Fin 4096) (n : Fin 2560) :
    val_main_v127 (F := Ideal) du dq dk dv pos (ix2 R n) = dproj du dq dk dv pos R n := by
  pointwise [val_main_v127]
  exact ref_all du dq dk dv pos R n

/-- The reference's gradient of the weight, at an index: a sum over the tokens. -/
theorem ref_w (du : FVec Ideal S4096x256 .f32) (dq dk dv : FVec Ideal S3x2x4096x128 .f32) (pos : IVec S4096 32) (x : FVec Ideal S4096x1024 .bf16) (n : Fin 2560) (k : Fin 1024) :
    val_main_v129 (F := Ideal) du dq dk dv pos x (ix2 n k) = ∑ R, dproj du dq dk dv pos R n * x (ix2 R k) := by
  pointwise [val_main_v129, val_main_v128, val_main_v126, val_main_v125, val_main_v20]
  exact Fin.sum_fin_congr fun R => congrArg (· * _) (ref_all du dq dk dv pos R n)

end Cert.RopeRef
end
-- ==== Proof.RopeLanes.lean ====
module

public import proofs.«01_k».proof.Defs
public import proofs.«01_k».proof.Proof.Gen.RopeKernelIdeal.Value
public import Idealize.ShloMosaic.Lib.Pointwise
public import Idealize.ShloMosaic.Lib.Tactic
public import Idealize.ShloMosaic.Lib.Pipeline.ValueKit
public import Idealize.ShloMosaic.Lib.Pipeline.ReadBack
public import proofs.«01_k».proof.Proof.RopeTable
public import proofs.«01_k».proof.Proof.RopeRef

@[expose] public section

set_option maxRecDepth 16384

noncomputable section

namespace Cert.RopeKernelIdeal.Tile

open Cert.RopeKernelIdeal Cert.RopeKernelIdeal.Gen Idealize.ShloMosaic Idealize.ShloMosaic.TcCoe Idealize.SL.Sem

/-- The f32 word of minus one. -/
theorem minus_one : Ideal.ofBits .f32 0xBF800000#32 = -1 := by
  rw [show (-1 : EReal) = ((-(1 : ℝ) : ℝ) : EReal) from rfl]
  simp [Ideal.ofBits, Ideal.ieee, -EReal.coe_mul, -EReal.coe_neg]; norm_num

/-- The table's entry in the slab that multiplies a lane itself. -/
theorem spread0 (j : Fin 24) (l : Fin 128) : Ideal.ofBits .f32 (lit0t (0 * 3072 + j.val * 128 + l.val))
    = if j.val = (if l.val % 64 < 16 then l.val % 8 else 16) then 1 else 0 := by
  refine (congrArg (Ideal.ofBits .f32) (table 0 j l)).trans ?_
  simp only [Fin.val_zero, true_and, show ¬ (0 : ℕ) = 1 by decide, show ¬ (0 : ℕ) = 2 by decide, false_and, if_false]
  by_cases h : l.val % 64 < 16
  · rw [if_pos h]
    by_cases hj : j.val = l.val % 8
    · rw [if_pos (Or.inl ⟨h, hj⟩), if_pos hj]; simp
    · rw [if_neg (by omega), if_neg hj]; simp
  · rw [if_neg h]
    by_cases hj : j.val = 16
    · rw [if_pos (Or.inr ⟨by omega, hj⟩), if_pos hj]; simp
    · rw [if_neg (by omega), if_neg hj]; simp

/-- The table's entry in the slab for the lanes eight below. -/
theorem spread1 (j : Fin 24) (l : Fin 128) : Ideal.ofBits .f32 (lit0t (1 * 3072 + j.val * 128 + l.val))
    = if l.val % 64 < 8 ∧ j.val = 8 + l.val % 8 then -1 else 0 := by
  refine (congrArg (Ideal.ofBits .f32) (table 1 j l)).trans ?_
  simp only [Fin.val_one, true_and, show ¬ (1 : ℕ) = 0 by decide, show ¬ (1 : ℕ) = 2 by decide, false_and, if_false]
  by_cases h : l.val % 64 < 8 ∧ j.val = 8 + l.val % 8
  · rw [if_pos h, if_pos h]; exact minus_one
  · rw [if_neg h, if_neg h]; simp

/-- The table's entry in the slab for the lanes eight above. -/
theorem spread2 (j : Fin 24) (l : Fin 128) : Ideal.ofBits .f32 (lit0t (2 * 3072 + j.val * 128 + l.val))
    = if 8 ≤ l.val % 64 ∧ l.val % 64 < 16 ∧ j.val = 8 + l.val % 8 then 1 else 0 := by
  refine (congrArg (Ideal.ofBits .f32) (table 2 j l)).trans ?_
  simp only [Fin.val_two, true_and, show ¬ (2 : ℕ) = 0 by decide, show ¬ (2 : ℕ) = 1 by decide, false_and, if_false]
  by_cases h : 8 ≤ l.val % 64 ∧ l.val % 64 < 16 ∧ j.val = 8 + l.val % 8
  · rw [if_pos h, if_pos h]; simp
  · rw [if_neg h, if_neg h]; simp

/-- A sum against one entry of the table. -/
theorem sum_pick (f : Fin 24 → EReal) (g : Fin 24 → EReal) (j : Fin 24) (v : EReal) (h : ∀ i, g i = if i.val = j.val then v else 0) :
    ∑ i, f i * g i = f j * v := by
  rw [Finset.sum_eq_single j, h, if_pos rfl]
  · intro i _ hi
    rw [h, if_neg (fun e => hi (Fin.ext e)), mul_zero]
  · exact fun h => absurd (Finset.mem_univ _) h

/-- A sum against no entry of the table. -/
theorem sum_none (f : Fin 24 → EReal) (g : Fin 24 → EReal) (h : ∀ i, g i = 0) : ∑ i, f i * g i = 0 :=
  Finset.sum_eq_zero fun i _ => by rw [h, mul_zero]

/-- The factor of a lane itself: the cosine of its rotation, one where the lane does not rotate. -/
theorem lane0 (f : Fin 24 → EReal) (l : Fin 128) : ∑ j : Fin 24, f j * Ideal.ofBits .f32 (lit0t (0 * 3072 + j.val * 128 + l.val))
    = if l.val % 64 < 16 then f ⟨l.val % 8, by omega⟩ else f 16 := by
  by_cases h : l.val % 64 < 16
  · rw [if_pos h, sum_pick f _ ⟨l.val % 8, by omega⟩ 1 (fun i => by rw [spread0, if_pos h]), mul_one]
  · rw [if_neg h, sum_pick f _ 16 1 (fun i => by rw [spread0, if_neg h]; rfl), mul_one]

/-- The factor towards the lane eight above. -/
theorem lane1 (f : Fin 24 → EReal) (l : Fin 128) : ∑ j : Fin 24, f j * Ideal.ofBits .f32 (lit0t (1 * 3072 + j.val * 128 + l.val))
    = if l.val % 64 < 8 then - f ⟨8 + l.val % 8, by omega⟩ else 0 := by
  by_cases h : l.val % 64 < 8
  · rw [if_pos h, sum_pick f _ ⟨8 + l.val % 8, by omega⟩ (-1) (fun i => by rw [spread1]; simp only [h, true_and]), mul_neg, mul_one]
  · rw [if_neg h, sum_none f _ (fun i => by rw [spread1, if_neg (fun e => h e.1)])]

/-- The factor towards the lane eight below. -/
theorem lane2 (f : Fin 24 → EReal) (l : Fin 128) : ∑ j : Fin 24, f j * Ideal.ofBits .f32 (lit0t (2 * 3072 + j.val * 128 + l.val))
    = if 8 ≤ l.val % 64 ∧ l.val % 64 < 16 then f ⟨8 + l.val % 8, by omega⟩ else 0 := by
  by_cases h : 8 ≤ l.val % 64 ∧ l.val % 64 < 16
  · rw [if_pos h, sum_pick f _ ⟨8 + l.val % 8, by omega⟩ 1 (fun i => by rw [spread2]; simp only [h.1, h.2, true_and]), mul_one]
  · rw [if_neg h, sum_none f _ (fun i => by rw [spread2, if_neg (fun e => h ⟨e.1, e.2.1⟩)])]

/-- The two heads' gradient through the rotary embedding, as the kernel turns a slab's lanes. -/
theorem turn (x : Fin 128 → EReal) (f : Fin 24 → EReal) (a b c : Fin 128 → EReal)
    (ha : ∀ l : Fin 128, a l = if l.val % 64 < 16 then f ⟨l.val % 8, by omega⟩ else f 16)
    (hb : ∀ l : Fin 128, b l = if l.val % 64 < 8 then - f ⟨8 + l.val % 8, by omega⟩ else 0)
    (hc : ∀ l : Fin 128, c l = if 8 ≤ l.val % 64 ∧ l.val % 64 < 16 then f ⟨8 + l.val % 8, by omega⟩ else 0)
    (h16 : f 16 = 1) (l : Fin 128) :
    x l * a l + x ⟨(l.val + 128 - 8) % 128, by omega⟩ * b ⟨(l.val + 128 - 8) % 128, by omega⟩
        + x ⟨(l.val + 128 - 120) % 128, by omega⟩ * c ⟨(l.val + 128 - 120) % 128, by omega⟩
      = RopeRef.back (fun p => x ⟨l.val / 64 * 64 + p.val, by omega⟩) (fun j => f ⟨j.val, by omega⟩) (fun j => f ⟨8 + j.val, by omega⟩) ⟨l.val % 64, by omega⟩ := by
  have hl := l.isLt
  have e : (⟨l.val / 64 * 64 + l.val % 64, by omega⟩ : Fin 128) = l := Fin.ext (by show l.val / 64 * 64 + l.val % 64 = l.val; omega)
  unfold RopeRef.back
  by_cases h8 : l.val % 64 < 8
  · rw [dif_pos h8, ha, hb, hc, if_pos (by omega), if_neg (by show ¬ (l.val + 128 - 8) % 128 % 64 < 8; omega),
      if_pos (by show 8 ≤ (l.val + 128 - 120) % 128 % 64 ∧ (l.val + 128 - 120) % 128 % 64 < 16; omega), mul_zero, add_zero]
    refine congrArg₂ (· + ·) (congrArg₂ (· * ·) (congrArg x e.symm) (congrArg f (Fin.ext ?_))) (congrArg₂ (· * ·) (congrArg x (Fin.ext ?_)) (congrArg f (Fin.ext ?_)))
    · show l.val % 8 = l.val % 64; omega
    · show (l.val + 128 - 120) % 128 = l.val / 64 * 64 + (l.val % 64 + 8); omega
    · show 8 + (l.val + 128 - 120) % 128 % 8 = 8 + l.val % 64; omega
  · rw [dif_neg h8]
    by_cases h16' : l.val % 64 < 16
    · rw [dif_pos h16', ha, hb, hc, if_pos (by omega), if_pos (by show (l.val + 128 - 8) % 128 % 64 < 8; omega),
        if_neg (by show ¬ (8 ≤ (l.val + 128 - 120) % 128 % 64 ∧ (l.val + 128 - 120) % 128 % 64 < 16); omega), mul_zero, add_zero, mul_neg, neg_mul]
      refine congrArg₂ (· + ·) (congrArg₂ (· * ·) (congrArg x e.symm) (congrArg f (Fin.ext ?_))) (congrArg Neg.neg (congrArg₂ (· * ·) (congrArg x (Fin.ext ?_)) (congrArg f (Fin.ext ?_))))
      · show l.val % 8 = l.val % 64 - 8; omega
      · show (l.val + 128 - 8) % 128 = l.val / 64 * 64 + (l.val % 64 - 8); omega
      · show 8 + (l.val + 128 - 8) % 128 % 8 = 8 + (l.val % 64 - 8); omega
    · rw [dif_neg h16', ha, hb, hc, if_neg h16', if_neg (by show ¬ (l.val + 128 - 8) % 128 % 64 < 8; omega),
        if_neg (by show ¬ (8 ≤ (l.val + 128 - 120) % 128 % 64 ∧ (l.val + 128 - 120) % 128 % 64 < 16); omega), mul_zero, mul_zero, add_zero, add_zero, h16, mul_one]
      exact congrArg x e.symm

/-- The scale of a half's root is a real that is not negative, so it passes through a sum. -/
theorem back_scale (d : Fin 64 → EReal) (c s : Fin 8 → EReal) (p : Fin 64) :
    RopeRef.back d c s p * Ideal.ofBits .f32 0x3E000000#32 = RopeRef.back (fun p => d p * Ideal.ofBits .f32 0x3E000000#32) c s p := by
  have e : Ideal.ofBits .f32 0x3E000000#32 = ((1 / 8 : ℝ) : EReal) := by
    simp [Ideal.ofBits, Ideal.ieee, -EReal.coe_mul]; norm_num
  rw [e]
  have hd : ∀ a b : EReal, (a + b) * ((1 / 8 : ℝ) : EReal) = a * ((1 / 8 : ℝ) : EReal) + b * ((1 / 8 : ℝ) : EReal) := fun a b =>
    EReal.right_distrib_of_nonneg_of_ne_top (by norm_num) (EReal.coe_ne_top _) a b
  unfold RopeRef.back
  split_ifs
  · rw [hd, mul_right_comm, mul_right_comm _ _ ((1 / 8 : ℝ) : EReal)]
  · rw [hd, mul_right_comm, mul_right_comm _ _ ((1 / 8 : ℝ) : EReal), neg_mul]
  · rfl

end Cert.RopeKernelIdeal.Tile

end
-- ==== Proof.RopeBlocks.lean ====
module

public import proofs.«01_k».proof.Defs
public import proofs.«01_k».proof.Proof.Gen.RopeKernelIdeal.Value
public import Idealize.ShloMosaic.Lib.Pointwise
public import Idealize.ShloMosaic.Lib.Tactic
public import Idealize.ShloMosaic.Lib.Pipeline.ValueKit
public import Idealize.ShloMosaic.Lib.Pipeline.ReadBack
public import proofs.«01_k».proof.Proof.RopeLanes

@[expose] public section

set_option maxRecDepth 16384

noncomputable section

namespace Cert.RopeKernelIdeal.Tile

open Cert.RopeReferenceIdeal.Read
open Cert.RopeKernelIdeal Cert.RopeKernelIdeal.Gen Idealize.ShloMosaic Idealize.ShloMosaic.TcCoe Idealize.SL.Sem

/-- Indices with equal coordinates are equal. -/
theorem ix4_congr {g g' : Fin 3} {s s' : Fin 2} {R : Fin 4096} {l l' : Fin 128} (hg : g.val = g'.val) (hs : s.val = s'.val) (hl : l.val = l'.val) :
    (ix4 g s R l : S3x2x4096x128.Idx) = ix4 g' s' R l' := by
  rw [Fin.ext hg, Fin.ext hs, Fin.ext hl]

/-- The rotary gradient of equal heads at equal positions. -/
theorem congr_back {d d' : Fin 64 → EReal} {c s : Fin 8 → EReal} {p p' : Fin 64} (hd : ∀ p, d p = d' p) (hp : p.val = p'.val) :
    RopeRef.back d c s p = RopeRef.back d' c s p' := by
  rw [funext hd, Fin.ext hp]

variable (m : (ℓ : Loc nD τ sig) → Buf (Elt Ideal) ℓ)

/-- The grid's points and the blocks they take. -/
theorem index : ∀ t : Fin cfg0.N, win0_0.index t = ![t.val, 0] ∧ win0_1.index t = ![0, 0, t.val, 0] ∧ win0_2.index t = ![0, 0, t.val, 0] ∧
    win0_3.index t = ![0, 0, t.val, 0] ∧ win0_4.index t = ![0, t.val] ∧ win0_5.index t = ![0, 0, 0] ∧ win0_6.index t = ![t.val, 0] ∧
    win0_7.index t = ![t.val, 0] ∧ win0_8.index t = ![0, 0] :=
  (by decide +kernel : ∀ t : Fin grid0.N, _)

/-- A block of the pooled columns' gradient. -/
theorem block0 (c : Dev nD) (t : Fin cfg0.N) (r : Fin 512) (k : Fin 256) (R : Fin 4096) (hR : R.val = t.val * 512 + r.val) :
    iblk m c 0 t (ix2 r k) = m (c.tc.loc main_arg0) (ix2 R k) := by
  blk_ext [iblk, V, index t]

/-- A block of the queries' gradient. -/
theorem block1 (c : Dev nD) (t : Fin cfg0.N) (g : Fin 3) (s : Fin 2) (r : Fin 512) (l : Fin 128) (R : Fin 4096) (hR : R.val = t.val * 512 + r.val) :
    iblk m c 1 t (ix4 g s r l) = m (c.tc.loc main_arg1) (ix4 g s R l) := by
  blk_ext [iblk, V, index t]

/-- A block of the keys' gradient. -/
theorem block2 (c : Dev nD) (t : Fin cfg0.N) (g : Fin 3) (s : Fin 2) (r : Fin 512) (l : Fin 128) (R : Fin 4096) (hR : R.val = t.val * 512 + r.val) :
    iblk m c 2 t (ix4 g s r l) = m (c.tc.loc main_arg2) (ix4 g s R l) := by
  blk_ext [iblk, V, index t]

/-- A block of the values' gradient. -/
theorem block3 (c : Dev nD) (t : Fin cfg0.N) (g : Fin 3) (s : Fin 2) (r : Fin 512) (l : Fin 128) (R : Fin 4096) (hR : R.val = t.val * 512 + r.val) :
    iblk m c 3 t (ix4 g s r l) = m (c.tc.loc main_arg3) (ix4 g s R l) := by
  blk_ext [iblk, V, index t]

/-- A block of the rows that are multiplied by the gradient. -/
theorem block6 (c : Dev nD) (t : Fin cfg0.N) (r : Fin 512) (k : Fin 1024) (R : Fin 4096) (hR : R.val = t.val * 512 + r.val) :
    iblk m c 6 t (ix2 r k) = m (c.tc.loc main_arg5) (ix2 R k) := by
  blk_ext [iblk, V, index t]

/-- The table, which the host spells out. -/
theorem block5 (c : Dev nD) (t : Fin cfg0.N) (k : Fin 3) (j : Fin 24) (l : Fin 128) :
    iblk m c 5 t (ix3 k j l) = Ideal.ofBits .f32 (lit0t (k.val * 3072 + j.val * 128 + l.val)) := by
  have e0 : ((((View.whole main_cst).slice (win0_5.rect t)).emb (ix3 k j l)) 0).val = k.val := by blk_simp [index t]
  have e1 : ((((View.whole main_cst).slice (win0_5.rect t)).emb (ix3 k j l)) 1).val = j.val := by blk_simp [index t]
  have e2 : ((((View.whole main_cst).slice (win0_5.rect t)).emb (ix3 k j l)) 2).val = l.val := by blk_simp [index t]
  have e : (S3x24x128.rowMajor (((View.whole main_cst).slice (win0_5.rect t)).emb (ix3 k j l))).val = k.val * 3072 + j.val * 128 + l.val := by
    refine (Shape.rowMajor_val_three _).trans ?_
    rw [e0, e1, e2]
    show (k.val * 24 + j.val) * 128 + l.val = _
    omega
  blk_simp [iblk]
  entry_read
  exact congrArg (fun x => Ideal.ofBits .f32 (lit0t x)) e

/-- A slab of the queries' gradient, turned and scaled by the kernel, is its columns of the projection's gradient. -/
theorem slab_q (du : FVec Ideal S4096x256 .f32) (dq dk dv : FVec Ideal S3x2x4096x128 .f32) (pos : IVec S4096 32) (R : Fin 4096) (g : Fin 3) (s : Fin 2) (l : Fin 128) (n : Fin 2560)
    (hn : n.val = 256 + 256 * g.val + 128 * s.val + l.val) (x : Fin 128 → EReal) (f : Fin 24 → EReal) (a b c : Fin 128 → EReal)
    (hx : ∀ l, x l = dq (ix4 g s R l))
    (ha : ∀ l : Fin 128, a l = if l.val % 64 < 16 then f ⟨l.val % 8, by omega⟩ else f 16)
    (hb : ∀ l : Fin 128, b l = if l.val % 64 < 8 then - f ⟨8 + l.val % 8, by omega⟩ else 0)
    (hc : ∀ l : Fin 128, c l = if 8 ≤ l.val % 64 ∧ l.val % 64 < 16 then f ⟨8 + l.val % 8, by omega⟩ else 0)
    (hC : ∀ j : Fin 8, f ⟨j.val, by omega⟩ = val_main_v16 (F := Ideal) pos (ix2 R j))
    (hS : ∀ j : Fin 8, f ⟨8 + j.val, by omega⟩ = val_main_v18 (F := Ideal) pos (ix2 R j)) (h16 : f 16 = 1) :
    (x l * a l + x ⟨(l.val + 128 - 8) % 128, by omega⟩ * b ⟨(l.val + 128 - 8) % 128, by omega⟩
        + x ⟨(l.val + 128 - 120) % 128, by omega⟩ * c ⟨(l.val + 128 - 120) % 128, by omega⟩) * Ideal.ofBits .f32 0x3E000000#32
      = RopeRef.dproj du dq dk dv pos R n := by
  have hl := l.isLt
  rw [turn x f a b c ha hb hc h16 l, back_scale, RopeRef.dproj_q du dq dk dv pos R n (by omega) (by omega), funext hC, funext hS]
  refine congr_back (fun p => congrArg (· * _) ((hx _).trans (congrArg dq ?_))) (by show l.val % 64 = (n.val - 256) % 64; omega)
  refine ix4_congr (by show g.val = (n.val - 256) / 64 % 12 / 4; omega) (by show s.val = (n.val - 256) / 64 % 12 / 2 % 2; omega)
    (by show l.val / 64 * 64 + p.val = (n.val - 256) / 64 % 12 % 2 * 64 + p.val; omega)

/-- A slab of the keys' gradient, turned by the kernel, is its columns of the projection's gradient. -/
theorem slab_k (du : FVec Ideal S4096x256 .f32) (dq dk dv : FVec Ideal S3x2x4096x128 .f32) (pos : IVec S4096 32) (R : Fin 4096) (g : Fin 3) (s : Fin 2) (l : Fin 128) (n : Fin 2560)
    (hn : n.val = 1024 + 256 * g.val + 128 * s.val + l.val) (x : Fin 128 → EReal) (f : Fin 24 → EReal) (a b c : Fin 128 → EReal)
    (hx : ∀ l, x l = dk (ix4 g s R l))
    (ha : ∀ l : Fin 128, a l = if l.val % 64 < 16 then f ⟨l.val % 8, by omega⟩ else f 16)
    (hb : ∀ l : Fin 128, b l = if l.val % 64 < 8 then - f ⟨8 + l.val % 8, by omega⟩ else 0)
    (hc : ∀ l : Fin 128, c l = if 8 ≤ l.val % 64 ∧ l.val % 64 < 16 then f ⟨8 + l.val % 8, by omega⟩ else 0)
    (hC : ∀ j : Fin 8, f ⟨j.val, by omega⟩ = val_main_v16 (F := Ideal) pos (ix2 R j))
    (hS : ∀ j : Fin 8, f ⟨8 + j.val, by omega⟩ = val_main_v18 (F := Ideal) pos (ix2 R j)) (h16 : f 16 = 1) :
    x l * a l + x ⟨(l.val + 128 - 8) % 128, by omega⟩ * b ⟨(l.val + 128 - 8) % 128, by omega⟩
        + x ⟨(l.val + 128 - 120) % 128, by omega⟩ * c ⟨(l.val + 128 - 120) % 128, by omega⟩
      = RopeRef.dproj du dq dk dv pos R n := by
  have hl := l.isLt
  rw [turn x f a b c ha hb hc h16 l, RopeRef.dproj_k du dq dk dv pos R n (by omega) (by omega), funext hC, funext hS]
  refine congr_back (fun p => (hx _).trans (congrArg dk ?_)) (by show l.val % 64 = (n.val - 256) % 64; omega)
  refine ix4_congr (by show g.val = (n.val - 256) / 64 % 12 / 4; omega) (by show s.val = (n.val - 256) / 64 % 12 / 2 % 2; omega)
    (by show l.val / 64 * 64 + p.val = (n.val - 256) / 64 % 12 % 2 * 64 + p.val; omega)

/-- A slab of the values' gradient is its columns of the projection's gradient. -/
theorem slab_v (du : FVec Ideal S4096x256 .f32) (dq dk dv : FVec Ideal S3x2x4096x128 .f32) (pos : IVec S4096 32) (R : Fin 4096) (g : Fin 3) (s : Fin 2) (l : Fin 128) (n : Fin 2560)
    (hn : n.val = 1792 + 256 * g.val + 128 * s.val + l.val) (x : EReal) (hx : x = dv (ix4 g s R l)) :
    x = RopeRef.dproj du dq dk dv pos R n := by
  have hl := l.isLt
  rw [hx, RopeRef.dproj_v du dq dk dv pos R n (by omega) (by omega)]
  refine congrArg dv (ix4_congr (by show g.val = (n.val - 256) / 64 % 12 / 4; omega) (by show s.val = (n.val - 256) / 64 % 12 / 2 % 2; omega)
    (by show l.val = (n.val - 256) / 64 % 12 % 2 * 64 + (n.val - 256) % 64; omega))

end Cert.RopeKernelIdeal.Tile

end
-- ==== Proof.RopeRows.lean ====
module

public import proofs.«01_k».proof.Defs
public import proofs.«01_k».proof.Proof.Gen.RopeKernelIdeal.Value
public import Idealize.ShloMosaic.Lib.Pointwise
public import Idealize.ShloMosaic.Lib.Tactic
public import Idealize.ShloMosaic.Lib.Pipeline.ValueKit
public import Idealize.ShloMosaic.Lib.Pipeline.ReadBack
public import proofs.«01_k».proof.Proof.RopeBlocks

public import Idealize.ShloMosaic.Lib.StableHlo.RunRead
public import Idealize.ShloMosaic.Lib.StableHlo.ReadAt

@[expose] public section

set_option maxRecDepth 16384

noncomputable section

namespace Cert.RopeKernelIdeal.Tile

open Cert.RopeReferenceIdeal.Read
open Cert.RopeKernelIdeal Cert.RopeKernelIdeal.Gen Idealize.ShloMosaic Idealize.ShloMosaic.TcCoe Idealize.SL.Sem

/-- The reference's cosines. -/
theorem ref_cos (pos : IVec S4096 32) (R : Fin 4096) (j : Fin 8) : val_main_v16 (F := Ideal) pos (ix2 R j)
    = Ideal.cos ((FloatOps.sitofp .f32 (pos (ix1 R)) : Ideal .f32) * Ideal.pow (Ideal.ofBits .f32 1223959552#32) (Ideal.div (-(Ideal.ofBits .f32 1073741824#32 * (FloatOps.sitofp .f32 (BitVec.ofNat 32 j.val) : Ideal .f32))) (Ideal.ofBits .f32 1098907648#32))) := by
  pointwise [val_main_v18, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- The reference's sines. -/
theorem ref_sin (pos : IVec S4096 32) (R : Fin 4096) (j : Fin 8) : val_main_v18 (F := Ideal) pos (ix2 R j)
    = Ideal.sin ((FloatOps.sitofp .f32 (pos (ix1 R)) : Ideal .f32) * Ideal.pow (Ideal.ofBits .f32 1223959552#32) (Ideal.div (-(Ideal.ofBits .f32 1073741824#32 * (FloatOps.sitofp .f32 (BitVec.ofNat 32 j.val) : Ideal .f32))) (Ideal.ofBits .f32 1098907648#32))) := by
  pointwise [val_main_v18, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

variable (m : (ℓ : Loc nD τ sig) → Buf (Elt Ideal) ℓ) (c : Dev nD)

/-- The host's cosines. -/
theorem rows_cos (j : Fin 8) (R : Fin 4096) : (StableHlo.upto (hostOps0 (F := Ideal)) (fun b => m (c, b)) 25 (Proc.devRef .tc main_v16) : FVec Ideal S8x4096 .f32) (ix2 j R)
    = val_main_v16 (F := Ideal) (m (c.tc.loc main_arg4)) (ix2 R j) := by
  rw [ref_cos]
  after_reads_simp
  pointwise
  exact congrArg Ideal.cos (mul_comm _ _)

/-- The host's sines. -/
theorem rows_sin (j : Fin 8) (R : Fin 4096) : (StableHlo.upto (hostOps0 (F := Ideal)) (fun b => m (c, b)) 25 (Proc.devRef .tc main_v17) : FVec Ideal S8x4096 .f32) (ix2 j R)
    = val_main_v18 (F := Ideal) (m (c.tc.loc main_arg4)) (ix2 R j) := by
  rw [ref_sin]
  after_reads_simp
  pointwise
  exact congrArg Ideal.sin (mul_comm _ _)

/-- The host's ones. -/
theorem rows_one (j : Fin 8) (R : Fin 4096) : (StableHlo.upto (hostOps0 (F := Ideal)) (fun b => m (c, b)) 25 (Proc.devRef .tc main_v18) : FVec Ideal S8x4096 .f32) (ix2 j R) = (1 : EReal) := by
  after_reads_simp
  pointwise

/-- Three arrays, one above the other, at a row. -/
theorem rows_cat (u0 u1 u2 : FVec Ideal S8x4096 .f32) (j : Fin 24) (R : Fin 4096) :
    concatenate S24x4096 0 [⟨S8x4096, u0⟩, ⟨S8x4096, u1⟩, ⟨S8x4096, u2⟩] concatenates_S8x4096_S8x4096_S8x4096_S24x4096_d0 (ix2 j R)
      = if h : j.val < 8 then u0 (ix2 ⟨j.val, h⟩ R) else if h : j.val - 8 < 8 then u1 (ix2 ⟨j.val - 8, h⟩ R)
        else u2 (ix2 ⟨j.val - 8 - 8, by omega⟩ R) := by
  pointwise

/-- What the host leaves in the rows the kernel loads. -/
theorem rows_V : V m c main_v19 = concatenate S24x4096 0 [⟨S8x4096, (StableHlo.upto (hostOps0 (F := Ideal)) (fun b => m (c, b)) 25 (Proc.devRef .tc main_v16) : FVec Ideal S8x4096 .f32)⟩, ⟨S8x4096, (StableHlo.upto (hostOps0 (F := Ideal)) (fun b => m (c, b)) 25 (Proc.devRef .tc main_v17) : FVec Ideal S8x4096 .f32)⟩,
    ⟨S8x4096, (StableHlo.upto (hostOps0 (F := Ideal)) (fun b => m (c, b)) 25 (Proc.devRef .tc main_v18) : FVec Ideal S8x4096 .f32)⟩] concatenates_S8x4096_S8x4096_S8x4096_S24x4096_d0 := by
  refine (StableHlo.after_last_write (i := 25) [] rfl rfl (by simp) _).trans ?_
  exact (StableHlo.nary_result _ _ _ _ _ _).trans rfl

/-- The loaded rows are the host's at the tile's columns. -/
theorem block4_V (t : Fin cfg0.N) (j : Fin 24) (r : Fin 512) (R : Fin 4096) (hR : R.val = t.val * 512 + r.val) :
    iblk m c 4 t (ix2 j r) = V m c main_v19 (ix2 j R) := by
  blk_ext [iblk, index t]

/-- The loaded rows: cosines. -/
theorem block4_cos (t : Fin cfg0.N) (j : Fin 8) (r : Fin 512) (R : Fin 4096) (hR : R.val = t.val * 512 + r.val) :
    iblk m c 4 t (ix2 ⟨j.val, by omega⟩ r) = val_main_v16 (F := Ideal) (m (c.tc.loc main_arg4)) (ix2 R j) :=
  (block4_V m c t _ r R hR).trans ((congrFun (rows_V m c) _).trans ((rows_cat _ _ _ _ R).trans
    ((dif_pos j.isLt).trans (rows_cos m c j R))))

/-- The loaded rows: sines. -/
theorem block4_sin (t : Fin cfg0.N) (j : Fin 8) (r : Fin 512) (R : Fin 4096) (hR : R.val = t.val * 512 + r.val) :
    iblk m c 4 t (ix2 ⟨8 + j.val, by omega⟩ r) = val_main_v18 (F := Ideal) (m (c.tc.loc main_arg4)) (ix2 R j) :=
  (block4_V m c t _ r R hR).trans ((congrFun (rows_V m c) _).trans ((rows_cat _ _ _ _ R).trans
    ((dif_neg (show ¬ 8 + j.val < 8 by omega)).trans ((dif_pos (show 8 + j.val - 8 < 8 by omega)).trans
      ((congrArg _ (congrArg (fun k => ix2 k R) (Fin.ext (by show 8 + j.val - 8 = j.val; omega)))).trans (rows_sin m c j R))))))

/-- The loaded rows: a row of ones. -/
theorem block4_one (t : Fin cfg0.N) (r : Fin 512) (R : Fin 4096) (hR : R.val = t.val * 512 + r.val) : iblk m c 4 t (ix2 16 r) = (1 : EReal) :=
  (block4_V m c t 16 r R hR).trans ((congrFun (rows_V m c) _).trans ((rows_cat _ _ _ _ R).trans
    ((dif_neg (by decide)).trans ((dif_neg (by decide)).trans (rows_one m c _ R)))))

/-- A row's cosines, sines and ones. -/
def cs (t : Fin cfg0.N) (r : Fin 512) : Fin 24 → EReal := fun j => iblk m c 4 t (ix2 j r)

/-- The slab of the spread for the lanes themselves. -/
theorem spread_own (t : Fin cfg0.N) (r : Fin 512) (l : Fin 128) :
    (k0_pay3 (iblk m c 4 t) (View.ld (iblk m c 5 t) (Rect.unit ![0, 0, 0] ![1, 24, 128] inb_S3x24x128_S1x24x128_0_0_0)) (ix2 r l) : EReal)
      = if l.val % 64 < 16 then cs m c t r ⟨l.val % 8, by omega⟩ else cs m c t r 16 := by
  refine Eq.trans ?_ (lane0 (cs m c t r) l)
  refine (show _ = ∑ j : Fin 24, cs m c t r j * (View.ld (iblk m c 5 t) (Rect.unit ![0, 0, 0] ![1, 24, 128] inb_S3x24x128_S1x24x128_0_0_0) (ix3 0 j l) : EReal) by pointwise [k0_pay3, cs]).trans ?_
  refine Finset.sum_congr rfl fun j _ => congrArg (fun z : EReal => cs m c t r j * z) ?_
  exact (View.ld_unit_apply_of _ _ _ _ _ (ix3 0 j l) (fun a => by fin_cases a <;> simp)).trans (block5 m c t 0 j l)

/-- The slab of the spread for the lanes eight above. -/
theorem spread_above (t : Fin cfg0.N) (r : Fin 512) (l : Fin 128) :
    (k0_pay4 (iblk m c 4 t) (View.ld (iblk m c 5 t) (Rect.unit ![1, 0, 0] ![1, 24, 128] inb_S3x24x128_S1x24x128_1_0_0)) (ix2 r l) : EReal)
      = if l.val % 64 < 8 then - cs m c t r ⟨8 + l.val % 8, by omega⟩ else 0 := by
  refine Eq.trans ?_ (lane1 (cs m c t r) l)
  refine (show _ = ∑ j : Fin 24, cs m c t r j * (View.ld (iblk m c 5 t) (Rect.unit ![1, 0, 0] ![1, 24, 128] inb_S3x24x128_S1x24x128_1_0_0) (ix3 0 j l) : EReal) by pointwise [k0_pay4, cs]).trans ?_
  refine Finset.sum_congr rfl fun j _ => congrArg (fun z : EReal => cs m c t r j * z) ?_
  exact (View.ld_unit_apply_of _ _ _ _ _ (ix3 1 j l) (fun a => by fin_cases a <;> simp)).trans (block5 m c t 1 j l)

/-- The slab of the spread for the lanes eight below. -/
theorem spread_below (t : Fin cfg0.N) (r : Fin 512) (l : Fin 128) :
    (k0_pay5 (iblk m c 4 t) (View.ld (iblk m c 5 t) (Rect.unit ![2, 0, 0] ![1, 24, 128] inb_S3x24x128_S1x24x128_2_0_0)) (ix2 r l) : EReal)
      = if 8 ≤ l.val % 64 ∧ l.val % 64 < 16 then cs m c t r ⟨8 + l.val % 8, by omega⟩ else 0 := by
  refine Eq.trans ?_ (lane2 (cs m c t r) l)
  refine (show _ = ∑ j : Fin 24, cs m c t r j * (View.ld (iblk m c 5 t) (Rect.unit ![2, 0, 0] ![1, 24, 128] inb_S3x24x128_S1x24x128_2_0_0) (ix3 0 j l) : EReal) by pointwise [k0_pay5, cs]).trans ?_
  refine Finset.sum_congr rfl fun j _ => congrArg (fun z : EReal => cs m c t r j * z) ?_
  exact (View.ld_unit_apply_of _ _ _ _ _ (ix3 2 j l) (fun a => by fin_cases a <;> simp)).trans (block5 m c t 2 j l)

end Cert.RopeKernelIdeal.Tile

end
-- ==== Proof.RopePieces.lean ====
module

public import proofs.«01_k».proof.Defs
public import proofs.«01_k».proof.Proof.Gen.RopeKernelIdeal.Value
public import Idealize.ShloMosaic.Lib.Pointwise
public import Idealize.ShloMosaic.Lib.Tactic
public import Idealize.ShloMosaic.Lib.Pipeline.ValueKit
public import Idealize.ShloMosaic.Lib.Pipeline.ReadBack
public import proofs.«01_k».proof.Proof.RopeRows

@[expose] public section

set_option maxRecDepth 16384

noncomputable section

namespace Cert.RopeKernelIdeal.Tile

open Cert.RopeKernelIdeal Cert.RopeKernelIdeal.Gen Idealize.ShloMosaic Idealize.ShloMosaic.TcCoe Idealize.SL.Sem

/-- A stored slab at a lane. -/
theorem slab9 (a : FVec Ideal S24x512 .f32) (s0 s1 s2 : FVec Ideal S1x24x128 .f32) (x : FVec Ideal S1x1x512x128 .f32) (r : Fin 512) (l : Fin 128) :
    (k0_pay9 (F := Ideal) (k0_pay7 a s0 a s1 x) (k0_pay8 a s2 x) (ix2 r l) : EReal) = (x (ix4 0 0 r l) * (k0_pay3 a s0 : FVec Ideal S512x128 .f32) (ix2 r l) + x (ix4 0 0 r ⟨(l.val + 128 - 8) % 128, by omega⟩) * (k0_pay4 a s1 : FVec Ideal S512x128 .f32) (ix2 r ⟨(l.val + 128 - 8) % 128, by omega⟩)
        + x (ix4 0 0 r ⟨(l.val + 128 - 120) % 128, by omega⟩) * (k0_pay5 a s2 : FVec Ideal S512x128 .f32) (ix2 r ⟨(l.val + 128 - 120) % 128, by omega⟩)) * Ideal.ofBits .f32 0x3E000000#32 := by
  pointwise [k0_pay9, k0_pay8, k0_pay7, k0_pay6]

/-- A stored slab at a lane. -/
theorem slab10 (a b c : FVec Ideal S512x128 .f32) (x : FVec Ideal S1x1x512x128 .f32) (r : Fin 512) (l : Fin 128) :
    (k0_pay10 a b c x (ix2 r l) : EReal) = (x (ix4 0 0 r l) * a (ix2 r l) + x (ix4 0 0 r ⟨(l.val + 128 - 8) % 128, by omega⟩) * b (ix2 r ⟨(l.val + 128 - 8) % 128, by omega⟩)
        + x (ix4 0 0 r ⟨(l.val + 128 - 120) % 128, by omega⟩) * c (ix2 r ⟨(l.val + 128 - 120) % 128, by omega⟩)) * Ideal.ofBits .f32 0x3E000000#32 := by
  pointwise [k0_pay10]

/-- A stored slab at a lane. -/
theorem slab11 (a b c : FVec Ideal S512x128 .f32) (x : FVec Ideal S1x1x512x128 .f32) (r : Fin 512) (l : Fin 128) :
    (k0_pay11 a b c x (ix2 r l) : EReal) = (x (ix4 0 0 r l) * a (ix2 r l) + x (ix4 0 0 r ⟨(l.val + 128 - 8) % 128, by omega⟩) * b (ix2 r ⟨(l.val + 128 - 8) % 128, by omega⟩)
        + x (ix4 0 0 r ⟨(l.val + 128 - 120) % 128, by omega⟩) * c (ix2 r ⟨(l.val + 128 - 120) % 128, by omega⟩)) * Ideal.ofBits .f32 0x3E000000#32 := by
  pointwise [k0_pay11]

/-- A stored slab at a lane. -/
theorem slab12 (a b c : FVec Ideal S512x128 .f32) (x : FVec Ideal S1x1x512x128 .f32) (r : Fin 512) (l : Fin 128) :
    (k0_pay12 a b c x (ix2 r l) : EReal) = (x (ix4 0 0 r l) * a (ix2 r l) + x (ix4 0 0 r ⟨(l.val + 128 - 8) % 128, by omega⟩) * b (ix2 r ⟨(l.val + 128 - 8) % 128, by omega⟩)
        + x (ix4 0 0 r ⟨(l.val + 128 - 120) % 128, by omega⟩) * c (ix2 r ⟨(l.val + 128 - 120) % 128, by omega⟩)) * Ideal.ofBits .f32 0x3E000000#32 := by
  pointwise [k0_pay12]

/-- A stored slab at a lane. -/
theorem slab13 (a b c : FVec Ideal S512x128 .f32) (x : FVec Ideal S1x1x512x128 .f32) (r : Fin 512) (l : Fin 128) :
    (k0_pay13 a b c x (ix2 r l) : EReal) = (x (ix4 0 0 r l) * a (ix2 r l) + x (ix4 0 0 r ⟨(l.val + 128 - 8) % 128, by omega⟩) * b (ix2 r ⟨(l.val + 128 - 8) % 128, by omega⟩)
        + x (ix4 0 0 r ⟨(l.val + 128 - 120) % 128, by omega⟩) * c (ix2 r ⟨(l.val + 128 - 120) % 128, by omega⟩)) * Ideal.ofBits .f32 0x3E000000#32 := by
  pointwise [k0_pay13]

/-- A stored slab at a lane. -/
theorem slab16 (a b c : FVec Ideal S512x128 .f32) (x : FVec Ideal S1x1x512x128 .f32) (r : Fin 512) (l : Fin 128) :
    (k0_pay16 (k0_pay14 a b c x) k0_pay15 (ix2 r l) : EReal) = (x (ix4 0 0 r l) * a (ix2 r l) + x (ix4 0 0 r ⟨(l.val + 128 - 8) % 128, by omega⟩) * b (ix2 r ⟨(l.val + 128 - 8) % 128, by omega⟩)
        + x (ix4 0 0 r ⟨(l.val + 128 - 120) % 128, by omega⟩) * c (ix2 r ⟨(l.val + 128 - 120) % 128, by omega⟩)) * Ideal.ofBits .f32 0x3E000000#32 := by
  pointwise [k0_pay16, k0_pay15, k0_pay14]

/-- A stored slab at a lane. -/
theorem slab17 (a b c : FVec Ideal S512x128 .f32) (x : FVec Ideal S1x1x512x128 .f32) (r : Fin 512) (l : Fin 128) :
    (k0_pay17 a b c x (ix2 r l) : EReal) = (x (ix4 0 0 r l) * a (ix2 r l) + x (ix4 0 0 r ⟨(l.val + 128 - 8) % 128, by omega⟩) * b (ix2 r ⟨(l.val + 128 - 8) % 128, by omega⟩)
        + x (ix4 0 0 r ⟨(l.val + 128 - 120) % 128, by omega⟩) * c (ix2 r ⟨(l.val + 128 - 120) % 128, by omega⟩)) := by
  pointwise [k0_pay17]

/-- A stored slab at a lane. -/
theorem slab18 (a b c : FVec Ideal S512x128 .f32) (x : FVec Ideal S1x1x512x128 .f32) (r : Fin 512) (l : Fin 128) :
    (k0_pay18 a b c x (ix2 r l) : EReal) = (x (ix4 0 0 r l) * a (ix2 r l) + x (ix4 0 0 r ⟨(l.val + 128 - 8) % 128, by omega⟩) * b (ix2 r ⟨(l.val + 128 - 8) % 128, by omega⟩)
        + x (ix4 0 0 r ⟨(l.val + 128 - 120) % 128, by omega⟩) * c (ix2 r ⟨(l.val + 128 - 120) % 128, by omega⟩)) := by
  pointwise [k0_pay18]

/-- A stored slab at a lane. -/
theorem slab22 (a b c : FVec Ideal S512x128 .f32) (x : FVec Ideal S1x1x512x128 .f32) (r : Fin 512) (l : Fin 128) :
    (k0_pay22 (k0_pay20 a b x) (k0_pay21 c x) (ix2 r l) : EReal) = (x (ix4 0 0 r l) * a (ix2 r l) + x (ix4 0 0 r ⟨(l.val + 128 - 8) % 128, by omega⟩) * b (ix2 r ⟨(l.val + 128 - 8) % 128, by omega⟩)
        + x (ix4 0 0 r ⟨(l.val + 128 - 120) % 128, by omega⟩) * c (ix2 r ⟨(l.val + 128 - 120) % 128, by omega⟩)) := by
  pointwise [k0_pay22, k0_pay21, k0_pay20, k0_pay19]

/-- A stored slab at a lane. -/
theorem slab23 (a b c : FVec Ideal S512x128 .f32) (x : FVec Ideal S1x1x512x128 .f32) (r : Fin 512) (l : Fin 128) :
    (k0_pay23 a b c x (ix2 r l) : EReal) = (x (ix4 0 0 r l) * a (ix2 r l) + x (ix4 0 0 r ⟨(l.val + 128 - 8) % 128, by omega⟩) * b (ix2 r ⟨(l.val + 128 - 8) % 128, by omega⟩)
        + x (ix4 0 0 r ⟨(l.val + 128 - 120) % 128, by omega⟩) * c (ix2 r ⟨(l.val + 128 - 120) % 128, by omega⟩)) := by
  pointwise [k0_pay23]

/-- A stored slab at a lane. -/
theorem slab24 (a b c : FVec Ideal S512x128 .f32) (x : FVec Ideal S1x1x512x128 .f32) (r : Fin 512) (l : Fin 128) :
    (k0_pay24 a b c x (ix2 r l) : EReal) = (x (ix4 0 0 r l) * a (ix2 r l) + x (ix4 0 0 r ⟨(l.val + 128 - 8) % 128, by omega⟩) * b (ix2 r ⟨(l.val + 128 - 8) % 128, by omega⟩)
        + x (ix4 0 0 r ⟨(l.val + 128 - 120) % 128, by omega⟩) * c (ix2 r ⟨(l.val + 128 - 120) % 128, by omega⟩)) := by
  pointwise [k0_pay24]

/-- A stored slab at a lane. -/
theorem slab28 (a b c : FVec Ideal S512x128 .f32) (x : FVec Ideal S1x1x512x128 .f32) (r : Fin 512) (l : Fin 128) :
    (k0_pay28 (k0_pay26 a b x) (k0_pay27 c x) (ix2 r l) : EReal) = (x (ix4 0 0 r l) * a (ix2 r l) + x (ix4 0 0 r ⟨(l.val + 128 - 8) % 128, by omega⟩) * b (ix2 r ⟨(l.val + 128 - 8) % 128, by omega⟩)
        + x (ix4 0 0 r ⟨(l.val + 128 - 120) % 128, by omega⟩) * c (ix2 r ⟨(l.val + 128 - 120) % 128, by omega⟩)) := by
  pointwise [k0_pay28, k0_pay27, k0_pay26, k0_pay25]

/-- A stored slab at a lane. -/
theorem slab29 (x : FVec Ideal S1x1x512x128 .f32) (r : Fin 512) (l : Fin 128) :
    (k0_pay29 (F := Ideal) x (ix2 r l) : EReal) = x (ix4 0 0 r l) := by
  pointwise [k0_pay29]

/-- A stored slab at a lane. -/
theorem slab30 (x : FVec Ideal S1x1x512x128 .f32) (r : Fin 512) (l : Fin 128) :
    (k0_pay30 (F := Ideal) x (ix2 r l) : EReal) = x (ix4 0 0 r l) := by
  pointwise [k0_pay30]

/-- A stored slab at a lane. -/
theorem slab31 (x : FVec Ideal S1x1x512x128 .f32) (r : Fin 512) (l : Fin 128) :
    (k0_pay31 (F := Ideal) x (ix2 r l) : EReal) = x (ix4 0 0 r l) := by
  pointwise [k0_pay31]

/-- A stored slab at a lane. -/
theorem slab32 (x : FVec Ideal S1x1x512x128 .f32) (r : Fin 512) (l : Fin 128) :
    (k0_pay32 (F := Ideal) x (ix2 r l) : EReal) = x (ix4 0 0 r l) := by
  pointwise [k0_pay32]

/-- A stored slab at a lane. -/
theorem slab33 (x : FVec Ideal S1x1x512x128 .f32) (r : Fin 512) (l : Fin 128) :
    (k0_pay33 (F := Ideal) x (ix2 r l) : EReal) = x (ix4 0 0 r l) := by
  pointwise [k0_pay33]

/-- A stored slab at a lane. -/
theorem slab34 (x : FVec Ideal S1x1x512x128 .f32) (r : Fin 512) (l : Fin 128) :
    (k0_pay34 (F := Ideal) x (ix2 r l) : EReal) = x (ix4 0 0 r l) := by
  pointwise [k0_pay34]

/-- A rectangle's index in the whole. -/
theorem unit_val (off size : Fin S512x2560.rank → ℕ) (inb : ∀ a, off a + size a ≤ S512x2560.size a) (x : (Rect.unit (s := S512x2560) off size inb).shape.Idx)
    (a : Fin S512x2560.rank) : ((Rect.unit (s := S512x2560) off size inb).emb x a).val = off a + (x a).val :=
  Rect.idx_unit_val off size inb x a

variable (m : (ℓ : Loc nD τ sig) → Buf (Elt Ideal) ℓ) (c : Dev nD)

/-- The whole arrays' row of a tile's row. -/
def row (t : Fin cfg0.N) (r : Fin 512) : Fin 4096 :=
  ⟨t.val * 512 + r.val, by have h := (show t.val < 8 from t.isLt); omega⟩

/-- A tile of the projection's gradient. -/
def tile (t : Fin cfg0.N) (y : S512x2560.Idx) : EReal :=
  RopeRef.dproj (m (c.tc.loc main_arg0)) (m (c.tc.loc main_arg1)) (m (c.tc.loc main_arg2)) (m (c.tc.loc main_arg3)) (m (c.tc.loc main_arg4))
    (row t (y 0)) (y 1)

/-- The tile at an index given by its coordinates. -/
theorem tile_at (t : Fin cfg0.N) (y : S512x2560.Idx) (r : Fin 512) (n : Fin 2560) (h0 : (y 0).val = r.val) (h1 : (y 1).val = n.val) :
    RopeRef.dproj (m (c.tc.loc main_arg0)) (m (c.tc.loc main_arg1)) (m (c.tc.loc main_arg2)) (m (c.tc.loc main_arg3)) (m (c.tc.loc main_arg4))
      (row t r) n = tile m c t y := by
  unfold tile
  rw [show y 0 = r from Fin.ext h0, show y 1 = n from Fin.ext h1]

/-- The stored slab of columns from 256 on, at a lane. -/
theorem at9 (t : Fin cfg0.N) (r : Fin 512) (l : Fin 128) :
    k0_pay9 (k0_pay7 (iblk m c 4 t) (View.ld (iblk m c 5 t) (Rect.unit ![0, 0, 0] ![1, 24, 128] inb_S3x24x128_S1x24x128_0_0_0)) (iblk m c 4 t) (View.ld (iblk m c 5 t) (Rect.unit ![1, 0, 0] ![1, 24, 128] inb_S3x24x128_S1x24x128_1_0_0)) (View.ld (iblk m c 1 t) (Rect.unit ![0, 0, 0, 0] ![1, 1, 512, 128] inb_S3x2x512x128_S1x1x512x128_0_0_0_0))) (k0_pay8 (iblk m c 4 t) (View.ld (iblk m c 5 t) (Rect.unit ![2, 0, 0] ![1, 24, 128] inb_S3x24x128_S1x24x128_2_0_0)) (View.ld (iblk m c 1 t) (Rect.unit ![0, 0, 0, 0] ![1, 1, 512, 128] inb_S3x2x512x128_S1x1x512x128_0_0_0_0))) (ix2 r l)
      = RopeRef.dproj (m (c.tc.loc main_arg0)) (m (c.tc.loc main_arg1)) (m (c.tc.loc main_arg2)) (m (c.tc.loc main_arg3)) (m (c.tc.loc main_arg4)) (row t r) ⟨256 + l.val, by omega⟩ := by
  refine (slab9 _ _ _ _ _ r l).trans ?_
  exact slab_q (m (c.tc.loc main_arg0)) (m (c.tc.loc main_arg1)) (m (c.tc.loc main_arg2)) (m (c.tc.loc main_arg3)) (m (c.tc.loc main_arg4)) (row t r) 0 0 l ⟨256 + l.val, by omega⟩ (by show 256 + l.val = _; simp)
    (fun l => (View.ld (iblk m c 1 t) (Rect.unit ![0, 0, 0, 0] ![1, 1, 512, 128] inb_S3x2x512x128_S1x1x512x128_0_0_0_0)) (ix4 0 0 r l)) (cs m c t r) (fun l => (k0_pay3 (iblk m c 4 t) (View.ld (iblk m c 5 t) (Rect.unit ![0, 0, 0] ![1, 24, 128] inb_S3x24x128_S1x24x128_0_0_0))) (ix2 r l)) (fun l => (k0_pay4 (iblk m c 4 t) (View.ld (iblk m c 5 t) (Rect.unit ![1, 0, 0] ![1, 24, 128] inb_S3x24x128_S1x24x128_1_0_0))) (ix2 r l)) (fun l => (k0_pay5 (iblk m c 4 t) (View.ld (iblk m c 5 t) (Rect.unit ![2, 0, 0] ![1, 24, 128] inb_S3x24x128_S1x24x128_2_0_0))) (ix2 r l))
    (fun l => (View.ld_unit_apply_of _ _ _ _ _ (ix4 0 0 r l) (fun a => by fin_cases a <;> simp)).trans (block1 m c t 0 0 r l (row t r) rfl))
    (spread_own m c t r) (spread_above m c t r) (spread_below m c t r) (fun j => block4_cos m c t j r (row t r) rfl)
    (fun j => block4_sin m c t j r (row t r) rfl) (block4_one m c t r (row t r) rfl)

/-- The stored slab of columns from 256 on is the tile's. -/
theorem piece9 (t : Fin cfg0.N) (x : S512x128.Idx) :
    k0_pay9 (k0_pay7 (iblk m c 4 t) (View.ld (iblk m c 5 t) (Rect.unit ![0, 0, 0] ![1, 24, 128] inb_S3x24x128_S1x24x128_0_0_0)) (iblk m c 4 t) (View.ld (iblk m c 5 t) (Rect.unit ![1, 0, 0] ![1, 24, 128] inb_S3x24x128_S1x24x128_1_0_0)) (View.ld (iblk m c 1 t) (Rect.unit ![0, 0, 0, 0] ![1, 1, 512, 128] inb_S3x2x512x128_S1x1x512x128_0_0_0_0))) (k0_pay8 (iblk m c 4 t) (View.ld (iblk m c 5 t) (Rect.unit ![2, 0, 0] ![1, 24, 128] inb_S3x24x128_S1x24x128_2_0_0)) (View.ld (iblk m c 1 t) (Rect.unit ![0, 0, 0, 0] ![1, 1, 512, 128] inb_S3x2x512x128_S1x1x512x128_0_0_0_0))) x
      = tile m c t ((Rect.unit (s := S512x2560) ![0, 256] ![512, 128] inb_S512x2560_S512x128_0_256).emb x) := by
  refine (congrArg _ (eq_ix2 x)).trans ((at9 m c t (x 0) (x 1)).trans ?_)
  exact tile_at m c t _ (x 0) _ ((unit_val ![0, 256] ![512, 128] inb_S512x2560_S512x128_0_256 x 0).trans (by simp))
    ((unit_val ![0, 256] ![512, 128] inb_S512x2560_S512x128_0_256 x 1).trans (by simp))

/-- The stored slab of columns from 384 on, at a lane. -/
theorem at10 (t : Fin cfg0.N) (r : Fin 512) (l : Fin 128) :
    k0_pay10 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 1 t) (Rect.unit ![0, 1, 0, 0] ![1, 1, 512, 128] inb_S3x2x512x128_S1x1x512x128_0_1_0_0)) (ix2 r l)
      = RopeRef.dproj (m (c.tc.loc main_arg0)) (m (c.tc.loc main_arg1)) (m (c.tc.loc main_arg2)) (m (c.tc.loc main_arg3)) (m (c.tc.loc main_arg4)) (row t r) ⟨384 + l.val, by omega⟩ := by
  refine (slab10 _ _ _ _ r l).trans ?_
  exact slab_q (m (c.tc.loc main_arg0)) (m (c.tc.loc main_arg1)) (m (c.tc.loc main_arg2)) (m (c.tc.loc main_arg3)) (m (c.tc.loc main_arg4)) (row t r) 0 1 l ⟨384 + l.val, by omega⟩ (by show 384 + l.val = _; simp)
    (fun l => (View.ld (iblk m c 1 t) (Rect.unit ![0, 1, 0, 0] ![1, 1, 512, 128] inb_S3x2x512x128_S1x1x512x128_0_1_0_0)) (ix4 0 0 r l)) (cs m c t r) (fun l => (k0_pay3 (iblk m c 4 t) (View.ld (iblk m c 5 t) (Rect.unit ![0, 0, 0] ![1, 24, 128] inb_S3x24x128_S1x24x128_0_0_0))) (ix2 r l)) (fun l => (k0_pay4 (iblk m c 4 t) (View.ld (iblk m c 5 t) (Rect.unit ![1, 0, 0] ![1, 24, 128] inb_S3x24x128_S1x24x128_1_0_0))) (ix2 r l)) (fun l => (k0_pay5 (iblk m c 4 t) (View.ld (iblk m c 5 t) (Rect.unit ![2, 0, 0] ![1, 24, 128] inb_S3x24x128_S1x24x128_2_0_0))) (ix2 r l))
    (fun l => (View.ld_unit_apply_of _ _ _ _ _ (ix4 0 1 r l) (fun a => by fin_cases a <;> simp)).trans (block1 m c t 0 1 r l (row t r) rfl))
    (spread_own m c t r) (spread_above m c t r) (spread_below m c t r) (fun j => block4_cos m c t j r (row t r) rfl)
    (fun j => block4_sin m c t j r (row t r) rfl) (block4_one m c t r (row t r) rfl)

/-- The stored slab of columns from 384 on is the tile's. -/
theorem piece10 (t : Fin cfg0.N) (x : S512x128.Idx) :
    k0_pay10 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 1 t) (Rect.unit ![0, 1, 0, 0] ![1, 1, 512, 128] inb_S3x2x512x128_S1x1x512x128_0_1_0_0)) x
      = tile m c t ((Rect.unit (s := S512x2560) ![0, 384] ![512, 128] inb_S512x2560_S512x128_0_384).emb x) := by
  refine (congrArg _ (eq_ix2 x)).trans ((at10 m c t (x 0) (x 1)).trans ?_)
  exact tile_at m c t _ (x 0) _ ((unit_val ![0, 384] ![512, 128] inb_S512x2560_S512x128_0_384 x 0).trans (by simp))
    ((unit_val ![0, 384] ![512, 128] inb_S512x2560_S512x128_0_384 x 1).trans (by simp))

/-- The stored slab of columns from 512 on, at a lane. -/
theorem at11 (t : Fin cfg0.N) (r : Fin 512) (l : Fin 128) :
    k0_pay11 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 1 t) (Rect.unit ![1, 0, 0, 0] ![1, 1, 512, 128] inb_S3x2x512x128_S1x1x512x128_1_0_0_0)) (ix2 r l)
      = RopeRef.dproj (m (c.tc.loc main_arg0)) (m (c.tc.loc main_arg1)) (m (c.tc.loc main_arg2)) (m (c.tc.loc main_arg3)) (m (c.tc.loc main_arg4)) (row t r) ⟨512 + l.val, by omega⟩ := by
  refine (slab11 _ _ _ _ r l).trans ?_
  exact slab_q (m (c.tc.loc main_arg0)) (m (c.tc.loc main_arg1)) (m (c.tc.loc main_arg2)) (m (c.tc.loc main_arg3)) (m (c.tc.loc main_arg4)) (row t r) 1 0 l ⟨512 + l.val, by omega⟩ (by show 512 + l.val = _; simp)
    (fun l => (View.ld (iblk m c 1 t) (Rect.unit ![1, 0, 0, 0] ![1, 1, 512, 128] inb_S3x2x512x128_S1x1x512x128_1_0_0_0)) (ix4 0 0 r l)) (cs m c t r) (fun l => (k0_pay3 (iblk m c 4 t) (View.ld (iblk m c 5 t) (Rect.unit ![0, 0, 0] ![1, 24, 128] inb_S3x24x128_S1x24x128_0_0_0))) (ix2 r l)) (fun l => (k0_pay4 (iblk m c 4 t) (View.ld (iblk m c 5 t) (Rect.unit ![1, 0, 0] ![1, 24, 128] inb_S3x24x128_S1x24x128_1_0_0))) (ix2 r l)) (fun l => (k0_pay5 (iblk m c 4 t) (View.ld (iblk m c 5 t) (Rect.unit ![2, 0, 0] ![1, 24, 128] inb_S3x24x128_S1x24x128_2_0_0))) (ix2 r l))
    (fun l => (View.ld_unit_apply_of _ _ _ _ _ (ix4 1 0 r l) (fun a => by fin_cases a <;> simp)).trans (block1 m c t 1 0 r l (row t r) rfl))
    (spread_own m c t r) (spread_above m c t r) (spread_below m c t r) (fun j => block4_cos m c t j r (row t r) rfl)
    (fun j => block4_sin m c t j r (row t r) rfl) (block4_one m c t r (row t r) rfl)

/-- The stored slab of columns from 512 on is the tile's. -/
theorem piece11 (t : Fin cfg0.N) (x : S512x128.Idx) :
    k0_pay11 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 1 t) (Rect.unit ![1, 0, 0, 0] ![1, 1, 512, 128] inb_S3x2x512x128_S1x1x512x128_1_0_0_0)) x
      = tile m c t ((Rect.unit (s := S512x2560) ![0, 512] ![512, 128] inb_S512x2560_S512x128_0_512).emb x) := by
  refine (congrArg _ (eq_ix2 x)).trans ((at11 m c t (x 0) (x 1)).trans ?_)
  exact tile_at m c t _ (x 0) _ ((unit_val ![0, 512] ![512, 128] inb_S512x2560_S512x128_0_512 x 0).trans (by simp))
    ((unit_val ![0, 512] ![512, 128] inb_S512x2560_S512x128_0_512 x 1).trans (by simp))

/-- The stored slab of columns from 640 on, at a lane. -/
theorem at12 (t : Fin cfg0.N) (r : Fin 512) (l : Fin 128) :
    k0_pay12 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 1 t) (Rect.unit ![1, 1, 0, 0] ![1, 1, 512, 128] inb_S3x2x512x128_S1x1x512x128_1_1_0_0)) (ix2 r l)
      = RopeRef.dproj (m (c.tc.loc main_arg0)) (m (c.tc.loc main_arg1)) (m (c.tc.loc main_arg2)) (m (c.tc.loc main_arg3)) (m (c.tc.loc main_arg4)) (row t r) ⟨640 + l.val, by omega⟩ := by
  refine (slab12 _ _ _ _ r l).trans ?_
  exact slab_q (m (c.tc.loc main_arg0)) (m (c.tc.loc main_arg1)) (m (c.tc.loc main_arg2)) (m (c.tc.loc main_arg3)) (m (c.tc.loc main_arg4)) (row t r) 1 1 l ⟨640 + l.val, by omega⟩ (by show 640 + l.val = _; simp)
    (fun l => (View.ld (iblk m c 1 t) (Rect.unit ![1, 1, 0, 0] ![1, 1, 512, 128] inb_S3x2x512x128_S1x1x512x128_1_1_0_0)) (ix4 0 0 r l)) (cs m c t r) (fun l => (k0_pay3 (iblk m c 4 t) (View.ld (iblk m c 5 t) (Rect.unit ![0, 0, 0] ![1, 24, 128] inb_S3x24x128_S1x24x128_0_0_0))) (ix2 r l)) (fun l => (k0_pay4 (iblk m c 4 t) (View.ld (iblk m c 5 t) (Rect.unit ![1, 0, 0] ![1, 24, 128] inb_S3x24x128_S1x24x128_1_0_0))) (ix2 r l)) (fun l => (k0_pay5 (iblk m c 4 t) (View.ld (iblk m c 5 t) (Rect.unit ![2, 0, 0] ![1, 24, 128] inb_S3x24x128_S1x24x128_2_0_0))) (ix2 r l))
    (fun l => (View.ld_unit_apply_of _ _ _ _ _ (ix4 1 1 r l) (fun a => by fin_cases a <;> simp)).trans (block1 m c t 1 1 r l (row t r) rfl))
    (spread_own m c t r) (spread_above m c t r) (spread_below m c t r) (fun j => block4_cos m c t j r (row t r) rfl)
    (fun j => block4_sin m c t j r (row t r) rfl) (block4_one m c t r (row t r) rfl)

/-- The stored slab of columns from 640 on is the tile's. -/
theorem piece12 (t : Fin cfg0.N) (x : S512x128.Idx) :
    k0_pay12 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 1 t) (Rect.unit ![1, 1, 0, 0] ![1, 1, 512, 128] inb_S3x2x512x128_S1x1x512x128_1_1_0_0)) x
      = tile m c t ((Rect.unit (s := S512x2560) ![0, 640] ![512, 128] inb_S512x2560_S512x128_0_640).emb x) := by
  refine (congrArg _ (eq_ix2 x)).trans ((at12 m c t (x 0) (x 1)).trans ?_)
  exact tile_at m c t _ (x 0) _ ((unit_val ![0, 640] ![512, 128] inb_S512x2560_S512x128_0_640 x 0).trans (by simp))
    ((unit_val ![0, 640] ![512, 128] inb_S512x2560_S512x128_0_640 x 1).trans (by simp))

/-- The stored slab of columns from 768 on, at a lane. -/
theorem at13 (t : Fin cfg0.N) (r : Fin 512) (l : Fin 128) :
    k0_pay13 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 1 t) (Rect.unit ![2, 0, 0, 0] ![1, 1, 512, 128] inb_S3x2x512x128_S1x1x512x128_2_0_0_0)) (ix2 r l)
      = RopeRef.dproj (m (c.tc.loc main_arg0)) (m (c.tc.loc main_arg1)) (m (c.tc.loc main_arg2)) (m (c.tc.loc main_arg3)) (m (c.tc.loc main_arg4)) (row t r) ⟨768 + l.val, by omega⟩ := by
  refine (slab13 _ _ _ _ r l).trans ?_
  exact slab_q (m (c.tc.loc main_arg0)) (m (c.tc.loc main_arg1)) (m (c.tc.loc main_arg2)) (m (c.tc.loc main_arg3)) (m (c.tc.loc main_arg4)) (row t r) 2 0 l ⟨768 + l.val, by omega⟩ (by show 768 + l.val = _; simp)
    (fun l => (View.ld (iblk m c 1 t) (Rect.unit ![2, 0, 0, 0] ![1, 1, 512, 128] inb_S3x2x512x128_S1x1x512x128_2_0_0_0)) (ix4 0 0 r l)) (cs m c t r) (fun l => (k0_pay3 (iblk m c 4 t) (View.ld (iblk m c 5 t) (Rect.unit ![0, 0, 0] ![1, 24, 128] inb_S3x24x128_S1x24x128_0_0_0))) (ix2 r l)) (fun l => (k0_pay4 (iblk m c 4 t) (View.ld (iblk m c 5 t) (Rect.unit ![1, 0, 0] ![1, 24, 128] inb_S3x24x128_S1x24x128_1_0_0))) (ix2 r l)) (fun l => (k0_pay5 (iblk m c 4 t) (View.ld (iblk m c 5 t) (Rect.unit ![2, 0, 0] ![1, 24, 128] inb_S3x24x128_S1x24x128_2_0_0))) (ix2 r l))
    (fun l => (View.ld_unit_apply_of _ _ _ _ _ (ix4 2 0 r l) (fun a => by fin_cases a <;> simp)).trans (block1 m c t 2 0 r l (row t r) rfl))
    (spread_own m c t r) (spread_above m c t r) (spread_below m c t r) (fun j => block4_cos m c t j r (row t r) rfl)
    (fun j => block4_sin m c t j r (row t r) rfl) (block4_one m c t r (row t r) rfl)

/-- The stored slab of columns from 768 on is the tile's. -/
theorem piece13 (t : Fin cfg0.N) (x : S512x128.Idx) :
    k0_pay13 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 1 t) (Rect.unit ![2, 0, 0, 0] ![1, 1, 512, 128] inb_S3x2x512x128_S1x1x512x128_2_0_0_0)) x
      = tile m c t ((Rect.unit (s := S512x2560) ![0, 768] ![512, 128] inb_S512x2560_S512x128_0_768).emb x) := by
  refine (congrArg _ (eq_ix2 x)).trans ((at13 m c t (x 0) (x 1)).trans ?_)
  exact tile_at m c t _ (x 0) _ ((unit_val ![0, 768] ![512, 128] inb_S512x2560_S512x128_0_768 x 0).trans (by simp))
    ((unit_val ![0, 768] ![512, 128] inb_S512x2560_S512x128_0_768 x 1).trans (by simp))

/-- The stored slab of columns from 896 on, at a lane. -/
theorem at16 (t : Fin cfg0.N) (r : Fin 512) (l : Fin 128) :
    k0_pay16 (k0_pay14 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 1 t) (Rect.unit ![2, 1, 0, 0] ![1, 1, 512, 128] inb_S3x2x512x128_S1x1x512x128_2_1_0_0))) k0_pay15 (ix2 r l)
      = RopeRef.dproj (m (c.tc.loc main_arg0)) (m (c.tc.loc main_arg1)) (m (c.tc.loc main_arg2)) (m (c.tc.loc main_arg3)) (m (c.tc.loc main_arg4)) (row t r) ⟨896 + l.val, by omega⟩ := by
  refine (slab16 _ _ _ _ r l).trans ?_
  exact slab_q (m (c.tc.loc main_arg0)) (m (c.tc.loc main_arg1)) (m (c.tc.loc main_arg2)) (m (c.tc.loc main_arg3)) (m (c.tc.loc main_arg4)) (row t r) 2 1 l ⟨896 + l.val, by omega⟩ (by show 896 + l.val = _; simp)
    (fun l => (View.ld (iblk m c 1 t) (Rect.unit ![2, 1, 0, 0] ![1, 1, 512, 128] inb_S3x2x512x128_S1x1x512x128_2_1_0_0)) (ix4 0 0 r l)) (cs m c t r) (fun l => (k0_pay3 (iblk m c 4 t) (View.ld (iblk m c 5 t) (Rect.unit ![0, 0, 0] ![1, 24, 128] inb_S3x24x128_S1x24x128_0_0_0))) (ix2 r l)) (fun l => (k0_pay4 (iblk m c 4 t) (View.ld (iblk m c 5 t) (Rect.unit ![1, 0, 0] ![1, 24, 128] inb_S3x24x128_S1x24x128_1_0_0))) (ix2 r l)) (fun l => (k0_pay5 (iblk m c 4 t) (View.ld (iblk m c 5 t) (Rect.unit ![2, 0, 0] ![1, 24, 128] inb_S3x24x128_S1x24x128_2_0_0))) (ix2 r l))
    (fun l => (View.ld_unit_apply_of _ _ _ _ _ (ix4 2 1 r l) (fun a => by fin_cases a <;> simp)).trans (block1 m c t 2 1 r l (row t r) rfl))
    (spread_own m c t r) (spread_above m c t r) (spread_below m c t r) (fun j => block4_cos m c t j r (row t r) rfl)
    (fun j => block4_sin m c t j r (row t r) rfl) (block4_one m c t r (row t r) rfl)

/-- The stored slab of columns from 896 on is the tile's. -/
theorem piece16 (t : Fin cfg0.N) (x : S512x128.Idx) :
    k0_pay16 (k0_pay14 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 1 t) (Rect.unit ![2, 1, 0, 0] ![1, 1, 512, 128] inb_S3x2x512x128_S1x1x512x128_2_1_0_0))) k0_pay15 x
      = tile m c t ((Rect.unit (s := S512x2560) ![0, 896] ![512, 128] inb_S512x2560_S512x128_0_896).emb x) := by
  refine (congrArg _ (eq_ix2 x)).trans ((at16 m c t (x 0) (x 1)).trans ?_)
  exact tile_at m c t _ (x 0) _ ((unit_val ![0, 896] ![512, 128] inb_S512x2560_S512x128_0_896 x 0).trans (by simp))
    ((unit_val ![0, 896] ![512, 128] inb_S512x2560_S512x128_0_896 x 1).trans (by simp))

/-- The stored slab of columns from 1024 on, at a lane. -/
theorem at17 (t : Fin cfg0.N) (r : Fin 512) (l : Fin 128) :
    k0_pay17 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 2 t) (Rect.unit ![0, 0, 0, 0] ![1, 1, 512, 128] inb_S3x2x512x128_S1x1x512x128_0_0_0_0)) (ix2 r l)
      = RopeRef.dproj (m (c.tc.loc main_arg0)) (m (c.tc.loc main_arg1)) (m (c.tc.loc main_arg2)) (m (c.tc.loc main_arg3)) (m (c.tc.loc main_arg4)) (row t r) ⟨1024 + l.val, by omega⟩ := by
  refine (slab17 _ _ _ _ r l).trans ?_
  exact slab_k (m (c.tc.loc main_arg0)) (m (c.tc.loc main_arg1)) (m (c.tc.loc main_arg2)) (m (c.tc.loc main_arg3)) (m (c.tc.loc main_arg4)) (row t r) 0 0 l ⟨1024 + l.val, by omega⟩ (by show 1024 + l.val = _; simp)
    (fun l => (View.ld (iblk m c 2 t) (Rect.unit ![0, 0, 0, 0] ![1, 1, 512, 128] inb_S3x2x512x128_S1x1x512x128_0_0_0_0)) (ix4 0 0 r l)) (cs m c t r) (fun l => (k0_pay3 (iblk m c 4 t) (View.ld (iblk m c 5 t) (Rect.unit ![0, 0, 0] ![1, 24, 128] inb_S3x24x128_S1x24x128_0_0_0))) (ix2 r l)) (fun l => (k0_pay4 (iblk m c 4 t) (View.ld (iblk m c 5 t) (Rect.unit ![1, 0, 0] ![1, 24, 128] inb_S3x24x128_S1x24x128_1_0_0))) (ix2 r l)) (fun l => (k0_pay5 (iblk m c 4 t) (View.ld (iblk m c 5 t) (Rect.unit ![2, 0, 0] ![1, 24, 128] inb_S3x24x128_S1x24x128_2_0_0))) (ix2 r l))
    (fun l => (View.ld_unit_apply_of _ _ _ _ _ (ix4 0 0 r l) (fun a => by fin_cases a <;> simp)).trans (block2 m c t 0 0 r l (row t r) rfl))
    (spread_own m c t r) (spread_above m c t r) (spread_below m c t r) (fun j => block4_cos m c t j r (row t r) rfl)
    (fun j => block4_sin m c t j r (row t r) rfl) (block4_one m c t r (row t r) rfl)

/-- The stored slab of columns from 1024 on is the tile's. -/
theorem piece17 (t : Fin cfg0.N) (x : S512x128.Idx) :
    k0_pay17 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 2 t) (Rect.unit ![0, 0, 0, 0] ![1, 1, 512, 128] inb_S3x2x512x128_S1x1x512x128_0_0_0_0)) x
      = tile m c t ((Rect.unit (s := S512x2560) ![0, 1024] ![512, 128] inb_S512x2560_S512x128_0_1024).emb x) := by
  refine (congrArg _ (eq_ix2 x)).trans ((at17 m c t (x 0) (x 1)).trans ?_)
  exact tile_at m c t _ (x 0) _ ((unit_val ![0, 1024] ![512, 128] inb_S512x2560_S512x128_0_1024 x 0).trans (by simp))
    ((unit_val ![0, 1024] ![512, 128] inb_S512x2560_S512x128_0_1024 x 1).trans (by simp))

/-- The stored slab of columns from 1152 on, at a lane. -/
theorem at18 (t : Fin cfg0.N) (r : Fin 512) (l : Fin 128) :
    k0_pay18 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 2 t) (Rect.unit ![0, 1, 0, 0] ![1, 1, 512, 128] inb_S3x2x512x128_S1x1x512x128_0_1_0_0)) (ix2 r l)
      = RopeRef.dproj (m (c.tc.loc main_arg0)) (m (c.tc.loc main_arg1)) (m (c.tc.loc main_arg2)) (m (c.tc.loc main_arg3)) (m (c.tc.loc main_arg4)) (row t r) ⟨1152 + l.val, by omega⟩ := by
  refine (slab18 _ _ _ _ r l).trans ?_
  exact slab_k (m (c.tc.loc main_arg0)) (m (c.tc.loc main_arg1)) (m (c.tc.loc main_arg2)) (m (c.tc.loc main_arg3)) (m (c.tc.loc main_arg4)) (row t r) 0 1 l ⟨1152 + l.val, by omega⟩ (by show 1152 + l.val = _; simp)
    (fun l => (View.ld (iblk m c 2 t) (Rect.unit ![0, 1, 0, 0] ![1, 1, 512, 128] inb_S3x2x512x128_S1x1x512x128_0_1_0_0)) (ix4 0 0 r l)) (cs m c t r) (fun l => (k0_pay3 (iblk m c 4 t) (View.ld (iblk m c 5 t) (Rect.unit ![0, 0, 0] ![1, 24, 128] inb_S3x24x128_S1x24x128_0_0_0))) (ix2 r l)) (fun l => (k0_pay4 (iblk m c 4 t) (View.ld (iblk m c 5 t) (Rect.unit ![1, 0, 0] ![1, 24, 128] inb_S3x24x128_S1x24x128_1_0_0))) (ix2 r l)) (fun l => (k0_pay5 (iblk m c 4 t) (View.ld (iblk m c 5 t) (Rect.unit ![2, 0, 0] ![1, 24, 128] inb_S3x24x128_S1x24x128_2_0_0))) (ix2 r l))
    (fun l => (View.ld_unit_apply_of _ _ _ _ _ (ix4 0 1 r l) (fun a => by fin_cases a <;> simp)).trans (block2 m c t 0 1 r l (row t r) rfl))
    (spread_own m c t r) (spread_above m c t r) (spread_below m c t r) (fun j => block4_cos m c t j r (row t r) rfl)
    (fun j => block4_sin m c t j r (row t r) rfl) (block4_one m c t r (row t r) rfl)

/-- The stored slab of columns from 1152 on is the tile's. -/
theorem piece18 (t : Fin cfg0.N) (x : S512x128.Idx) :
    k0_pay18 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 2 t) (Rect.unit ![0, 1, 0, 0] ![1, 1, 512, 128] inb_S3x2x512x128_S1x1x512x128_0_1_0_0)) x
      = tile m c t ((Rect.unit (s := S512x2560) ![0, 1152] ![512, 128] inb_S512x2560_S512x128_0_1152).emb x) := by
  refine (congrArg _ (eq_ix2 x)).trans ((at18 m c t (x 0) (x 1)).trans ?_)
  exact tile_at m c t _ (x 0) _ ((unit_val ![0, 1152] ![512, 128] inb_S512x2560_S512x128_0_1152 x 0).trans (by simp))
    ((unit_val ![0, 1152] ![512, 128] inb_S512x2560_S512x128_0_1152 x 1).trans (by simp))

/-- The stored slab of columns from 1280 on, at a lane. -/
theorem at22 (t : Fin cfg0.N) (r : Fin 512) (l : Fin 128) :
    k0_pay22 (k0_pay20 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (View.ld (iblk m c 2 t) (Rect.unit ![1, 0, 0, 0] ![1, 1, 512, 128] inb_S3x2x512x128_S1x1x512x128_1_0_0_0))) (k0_pay21 (k0_pay5 (iblk m c 4 t) (View.ld (iblk m c 5 t) (Rect.unit ![2, 0, 0] ![1, 24, 128] inb_S3x24x128_S1x24x128_2_0_0))) (View.ld (iblk m c 2 t) (Rect.unit ![1, 0, 0, 0] ![1, 1, 512, 128] inb_S3x2x512x128_S1x1x512x128_1_0_0_0))) (ix2 r l)
      = RopeRef.dproj (m (c.tc.loc main_arg0)) (m (c.tc.loc main_arg1)) (m (c.tc.loc main_arg2)) (m (c.tc.loc main_arg3)) (m (c.tc.loc main_arg4)) (row t r) ⟨1280 + l.val, by omega⟩ := by
  refine (slab22 _ _ _ _ r l).trans ?_
  exact slab_k (m (c.tc.loc main_arg0)) (m (c.tc.loc main_arg1)) (m (c.tc.loc main_arg2)) (m (c.tc.loc main_arg3)) (m (c.tc.loc main_arg4)) (row t r) 1 0 l ⟨1280 + l.val, by omega⟩ (by show 1280 + l.val = _; simp)
    (fun l => (View.ld (iblk m c 2 t) (Rect.unit ![1, 0, 0, 0] ![1, 1, 512, 128] inb_S3x2x512x128_S1x1x512x128_1_0_0_0)) (ix4 0 0 r l)) (cs m c t r) (fun l => (k0_pay3 (iblk m c 4 t) (View.ld (iblk m c 5 t) (Rect.unit ![0, 0, 0] ![1, 24, 128] inb_S3x24x128_S1x24x128_0_0_0))) (ix2 r l)) (fun l => (k0_pay4 (iblk m c 4 t) (View.ld (iblk m c 5 t) (Rect.unit ![1, 0, 0] ![1, 24, 128] inb_S3x24x128_S1x24x128_1_0_0))) (ix2 r l)) (fun l => (k0_pay5 (iblk m c 4 t) (View.ld (iblk m c 5 t) (Rect.unit ![2, 0, 0] ![1, 24, 128] inb_S3x24x128_S1x24x128_2_0_0))) (ix2 r l))
    (fun l => (View.ld_unit_apply_of _ _ _ _ _ (ix4 1 0 r l) (fun a => by fin_cases a <;> simp)).trans (block2 m c t 1 0 r l (row t r) rfl))
    (spread_own m c t r) (spread_above m c t r) (spread_below m c t r) (fun j => block4_cos m c t j r (row t r) rfl)
    (fun j => block4_sin m c t j r (row t r) rfl) (block4_one m c t r (row t r) rfl)

/-- The stored slab of columns from 1280 on is the tile's. -/
theorem piece22 (t : Fin cfg0.N) (x : S512x128.Idx) :
    k0_pay22 (k0_pay20 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (View.ld (iblk m c 2 t) (Rect.unit ![1, 0, 0, 0] ![1, 1, 512, 128] inb_S3x2x512x128_S1x1x512x128_1_0_0_0))) (k0_pay21 (k0_pay5 (iblk m c 4 t) (View.ld (iblk m c 5 t) (Rect.unit ![2, 0, 0] ![1, 24, 128] inb_S3x24x128_S1x24x128_2_0_0))) (View.ld (iblk m c 2 t) (Rect.unit ![1, 0, 0, 0] ![1, 1, 512, 128] inb_S3x2x512x128_S1x1x512x128_1_0_0_0))) x
      = tile m c t ((Rect.unit (s := S512x2560) ![0, 1280] ![512, 128] inb_S512x2560_S512x128_0_1280).emb x) := by
  refine (congrArg _ (eq_ix2 x)).trans ((at22 m c t (x 0) (x 1)).trans ?_)
  exact tile_at m c t _ (x 0) _ ((unit_val ![0, 1280] ![512, 128] inb_S512x2560_S512x128_0_1280 x 0).trans (by simp))
    ((unit_val ![0, 1280] ![512, 128] inb_S512x2560_S512x128_0_1280 x 1).trans (by simp))

/-- The stored slab of columns from 1408 on, at a lane. -/
theorem at23 (t : Fin cfg0.N) (r : Fin 512) (l : Fin 128) :
    k0_pay23 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 2 t) (Rect.unit ![1, 1, 0, 0] ![1, 1, 512, 128] inb_S3x2x512x128_S1x1x512x128_1_1_0_0)) (ix2 r l)
      = RopeRef.dproj (m (c.tc.loc main_arg0)) (m (c.tc.loc main_arg1)) (m (c.tc.loc main_arg2)) (m (c.tc.loc main_arg3)) (m (c.tc.loc main_arg4)) (row t r) ⟨1408 + l.val, by omega⟩ := by
  refine (slab23 _ _ _ _ r l).trans ?_
  exact slab_k (m (c.tc.loc main_arg0)) (m (c.tc.loc main_arg1)) (m (c.tc.loc main_arg2)) (m (c.tc.loc main_arg3)) (m (c.tc.loc main_arg4)) (row t r) 1 1 l ⟨1408 + l.val, by omega⟩ (by show 1408 + l.val = _; simp)
    (fun l => (View.ld (iblk m c 2 t) (Rect.unit ![1, 1, 0, 0] ![1, 1, 512, 128] inb_S3x2x512x128_S1x1x512x128_1_1_0_0)) (ix4 0 0 r l)) (cs m c t r) (fun l => (k0_pay3 (iblk m c 4 t) (View.ld (iblk m c 5 t) (Rect.unit ![0, 0, 0] ![1, 24, 128] inb_S3x24x128_S1x24x128_0_0_0))) (ix2 r l)) (fun l => (k0_pay4 (iblk m c 4 t) (View.ld (iblk m c 5 t) (Rect.unit ![1, 0, 0] ![1, 24, 128] inb_S3x24x128_S1x24x128_1_0_0))) (ix2 r l)) (fun l => (k0_pay5 (iblk m c 4 t) (View.ld (iblk m c 5 t) (Rect.unit ![2, 0, 0] ![1, 24, 128] inb_S3x24x128_S1x24x128_2_0_0))) (ix2 r l))
    (fun l => (View.ld_unit_apply_of _ _ _ _ _ (ix4 1 1 r l) (fun a => by fin_cases a <;> simp)).trans (block2 m c t 1 1 r l (row t r) rfl))
    (spread_own m c t r) (spread_above m c t r) (spread_below m c t r) (fun j => block4_cos m c t j r (row t r) rfl)
    (fun j => block4_sin m c t j r (row t r) rfl) (block4_one m c t r (row t r) rfl)

/-- The stored slab of columns from 1408 on is the tile's. -/
theorem piece23 (t : Fin cfg0.N) (x : S512x128.Idx) :
    k0_pay23 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 2 t) (Rect.unit ![1, 1, 0, 0] ![1, 1, 512, 128] inb_S3x2x512x128_S1x1x512x128_1_1_0_0)) x
      = tile m c t ((Rect.unit (s := S512x2560) ![0, 1408] ![512, 128] inb_S512x2560_S512x128_0_1408).emb x) := by
  refine (congrArg _ (eq_ix2 x)).trans ((at23 m c t (x 0) (x 1)).trans ?_)
  exact tile_at m c t _ (x 0) _ ((unit_val ![0, 1408] ![512, 128] inb_S512x2560_S512x128_0_1408 x 0).trans (by simp))
    ((unit_val ![0, 1408] ![512, 128] inb_S512x2560_S512x128_0_1408 x 1).trans (by simp))

/-- The stored slab of columns from 1536 on, at a lane. -/
theorem at24 (t : Fin cfg0.N) (r : Fin 512) (l : Fin 128) :
    k0_pay24 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 2 t) (Rect.unit ![2, 0, 0, 0] ![1, 1, 512, 128] inb_S3x2x512x128_S1x1x512x128_2_0_0_0)) (ix2 r l)
      = RopeRef.dproj (m (c.tc.loc main_arg0)) (m (c.tc.loc main_arg1)) (m (c.tc.loc main_arg2)) (m (c.tc.loc main_arg3)) (m (c.tc.loc main_arg4)) (row t r) ⟨1536 + l.val, by omega⟩ := by
  refine (slab24 _ _ _ _ r l).trans ?_
  exact slab_k (m (c.tc.loc main_arg0)) (m (c.tc.loc main_arg1)) (m (c.tc.loc main_arg2)) (m (c.tc.loc main_arg3)) (m (c.tc.loc main_arg4)) (row t r) 2 0 l ⟨1536 + l.val, by omega⟩ (by show 1536 + l.val = _; simp)
    (fun l => (View.ld (iblk m c 2 t) (Rect.unit ![2, 0, 0, 0] ![1, 1, 512, 128] inb_S3x2x512x128_S1x1x512x128_2_0_0_0)) (ix4 0 0 r l)) (cs m c t r) (fun l => (k0_pay3 (iblk m c 4 t) (View.ld (iblk m c 5 t) (Rect.unit ![0, 0, 0] ![1, 24, 128] inb_S3x24x128_S1x24x128_0_0_0))) (ix2 r l)) (fun l => (k0_pay4 (iblk m c 4 t) (View.ld (iblk m c 5 t) (Rect.unit ![1, 0, 0] ![1, 24, 128] inb_S3x24x128_S1x24x128_1_0_0))) (ix2 r l)) (fun l => (k0_pay5 (iblk m c 4 t) (View.ld (iblk m c 5 t) (Rect.unit ![2, 0, 0] ![1, 24, 128] inb_S3x24x128_S1x24x128_2_0_0))) (ix2 r l))
    (fun l => (View.ld_unit_apply_of _ _ _ _ _ (ix4 2 0 r l) (fun a => by fin_cases a <;> simp)).trans (block2 m c t 2 0 r l (row t r) rfl))
    (spread_own m c t r) (spread_above m c t r) (spread_below m c t r) (fun j => block4_cos m c t j r (row t r) rfl)
    (fun j => block4_sin m c t j r (row t r) rfl) (block4_one m c t r (row t r) rfl)

/-- The stored slab of columns from 1536 on is the tile's. -/
theorem piece24 (t : Fin cfg0.N) (x : S512x128.Idx) :
    k0_pay24 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (k0_pay5 (iblk m c 4 t) (View.ld (iblk m c 5 t) (Rect.unit ![2, 0, 0] ![1, 24, 128] inb_S3x24x128_S1x24x128_2_0_0))) (View.ld (iblk m c 2 t) (Rect.unit ![2, 0, 0, 0] ![1, 1, 512, 128] inb_S3x2x512x128_S1x1x512x128_2_0_0_0)) x
      = tile m c t ((Rect.unit (s := S512x2560) ![0, 1536] ![512, 128] inb_S512x2560_S512x128_0_1536).emb x) := by
  refine (congrArg _ (eq_ix2 x)).trans ((at24 m c t (x 0) (x 1)).trans ?_)
  exact tile_at m c t _ (x 0) _ ((unit_val ![0, 1536] ![512, 128] inb_S512x2560_S512x128_0_1536 x 0).trans (by simp))
    ((unit_val ![0, 1536] ![512, 128] inb_S512x2560_S512x128_0_1536 x 1).trans (by simp))

/-- The stored slab of columns from 1664 on, at a lane. -/
theorem at28 (t : Fin cfg0.N) (r : Fin 512) (l : Fin 128) :
    k0_pay28 (k0_pay26 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (View.ld (iblk m c 2 t) (Rect.unit ![2, 1, 0, 0] ![1, 1, 512, 128] inb_S3x2x512x128_S1x1x512x128_2_1_0_0))) (k0_pay27 (k0_pay5 (iblk m c 4 t) (View.ld (iblk m c 5 t) (Rect.unit ![2, 0, 0] ![1, 24, 128] inb_S3x24x128_S1x24x128_2_0_0))) (View.ld (iblk m c 2 t) (Rect.unit ![2, 1, 0, 0] ![1, 1, 512, 128] inb_S3x2x512x128_S1x1x512x128_2_1_0_0))) (ix2 r l)
      = RopeRef.dproj (m (c.tc.loc main_arg0)) (m (c.tc.loc main_arg1)) (m (c.tc.loc main_arg2)) (m (c.tc.loc main_arg3)) (m (c.tc.loc main_arg4)) (row t r) ⟨1664 + l.val, by omega⟩ := by
  refine (slab28 _ _ _ _ r l).trans ?_
  exact slab_k (m (c.tc.loc main_arg0)) (m (c.tc.loc main_arg1)) (m (c.tc.loc main_arg2)) (m (c.tc.loc main_arg3)) (m (c.tc.loc main_arg4)) (row t r) 2 1 l ⟨1664 + l.val, by omega⟩ (by show 1664 + l.val = _; simp)
    (fun l => (View.ld (iblk m c 2 t) (Rect.unit ![2, 1, 0, 0] ![1, 1, 512, 128] inb_S3x2x512x128_S1x1x512x128_2_1_0_0)) (ix4 0 0 r l)) (cs m c t r) (fun l => (k0_pay3 (iblk m c 4 t) (View.ld (iblk m c 5 t) (Rect.unit ![0, 0, 0] ![1, 24, 128] inb_S3x24x128_S1x24x128_0_0_0))) (ix2 r l)) (fun l => (k0_pay4 (iblk m c 4 t) (View.ld (iblk m c 5 t) (Rect.unit ![1, 0, 0] ![1, 24, 128] inb_S3x24x128_S1x24x128_1_0_0))) (ix2 r l)) (fun l => (k0_pay5 (iblk m c 4 t) (View.ld (iblk m c 5 t) (Rect.unit ![2, 0, 0] ![1, 24, 128] inb_S3x24x128_S1x24x128_2_0_0))) (ix2 r l))
    (fun l => (View.ld_unit_apply_of _ _ _ _ _ (ix4 2 1 r l) (fun a => by fin_cases a <;> simp)).trans (block2 m c t 2 1 r l (row t r) rfl))
    (spread_own m c t r) (spread_above m c t r) (spread_below m c t r) (fun j => block4_cos m c t j r (row t r) rfl)
    (fun j => block4_sin m c t j r (row t r) rfl) (block4_one m c t r (row t r) rfl)

/-- The stored slab of columns from 1664 on is the tile's. -/
theorem piece28 (t : Fin cfg0.N) (x : S512x128.Idx) :
    k0_pay28 (k0_pay26 (k0_pay3 (iblk m c 4 t) (View.ld (iblk m c 5 t) (Rect.unit ![0, 0, 0] ![1, 24, 128] inb_S3x24x128_S1x24x128_0_0_0))) (k0_pay4 (iblk m c 4 t) (View.ld (iblk m c 5 t) (Rect.unit ![1, 0, 0] ![1, 24, 128] inb_S3x24x128_S1x24x128_1_0_0))) (View.ld (iblk m c 2 t) (Rect.unit ![2, 1, 0, 0] ![1, 1, 512, 128] inb_S3x2x512x128_S1x1x512x128_2_1_0_0))) (k0_pay27 (k0_pay5 (iblk m c 4 t) (View.ld (iblk m c 5 t) (Rect.unit ![2, 0, 0] ![1, 24, 128] inb_S3x24x128_S1x24x128_2_0_0))) (View.ld (iblk m c 2 t) (Rect.unit ![2, 1, 0, 0] ![1, 1, 512, 128] inb_S3x2x512x128_S1x1x512x128_2_1_0_0))) x
      = tile m c t ((Rect.unit (s := S512x2560) ![0, 1664] ![512, 128] inb_S512x2560_S512x128_0_1664).emb x) := by
  refine (congrArg _ (eq_ix2 x)).trans ((at28 m c t (x 0) (x 1)).trans ?_)
  exact tile_at m c t _ (x 0) _ ((unit_val ![0, 1664] ![512, 128] inb_S512x2560_S512x128_0_1664 x 0).trans (by simp))
    ((unit_val ![0, 1664] ![512, 128] inb_S512x2560_S512x128_0_1664 x 1).trans (by simp))

/-- The stored slab of columns from 1792 on, at a lane. -/
theorem at29 (t : Fin cfg0.N) (r : Fin 512) (l : Fin 128) :
    k0_pay29 (View.ld (iblk m c 3 t) (Rect.unit ![0, 0, 0, 0] ![1, 1, 512, 128] inb_S3x2x512x128_S1x1x512x128_0_0_0_0)) (ix2 r l)
      = RopeRef.dproj (m (c.tc.loc main_arg0)) (m (c.tc.loc main_arg1)) (m (c.tc.loc main_arg2)) (m (c.tc.loc main_arg3)) (m (c.tc.loc main_arg4)) (row t r) ⟨1792 + l.val, by omega⟩ := by
  refine (slab29 _ r l).trans ?_
  exact slab_v (m (c.tc.loc main_arg0)) (m (c.tc.loc main_arg1)) (m (c.tc.loc main_arg2)) (m (c.tc.loc main_arg3)) (m (c.tc.loc main_arg4)) (row t r) 0 0 l ⟨1792 + l.val, by omega⟩ (by show 1792 + l.val = _; simp) _ ((View.ld_unit_apply_of _ _ _ _ _ (ix4 0 0 r l) (fun a => by fin_cases a <;> simp)).trans (block3 m c t 0 0 r l (row t r) rfl))

/-- The stored slab of columns from 1792 on is the tile's. -/
theorem piece29 (t : Fin cfg0.N) (x : S512x128.Idx) :
    k0_pay29 (View.ld (iblk m c 3 t) (Rect.unit ![0, 0, 0, 0] ![1, 1, 512, 128] inb_S3x2x512x128_S1x1x512x128_0_0_0_0)) x
      = tile m c t ((Rect.unit (s := S512x2560) ![0, 1792] ![512, 128] inb_S512x2560_S512x128_0_1792).emb x) := by
  refine (congrArg _ (eq_ix2 x)).trans ((at29 m c t (x 0) (x 1)).trans ?_)
  exact tile_at m c t _ (x 0) _ ((unit_val ![0, 1792] ![512, 128] inb_S512x2560_S512x128_0_1792 x 0).trans (by simp))
    ((unit_val ![0, 1792] ![512, 128] inb_S512x2560_S512x128_0_1792 x 1).trans (by simp))

/-- The stored slab of columns from 1920 on, at a lane. -/
theorem at30 (t : Fin cfg0.N) (r : Fin 512) (l : Fin 128) :
    k0_pay30 (View.ld (iblk m c 3 t) (Rect.unit ![0, 1, 0, 0] ![1, 1, 512, 128] inb_S3x2x512x128_S1x1x512x128_0_1_0_0)) (ix2 r l)
      = RopeRef.dproj (m (c.tc.loc main_arg0)) (m (c.tc.loc main_arg1)) (m (c.tc.loc main_arg2)) (m (c.tc.loc main_arg3)) (m (c.tc.loc main_arg4)) (row t r) ⟨1920 + l.val, by omega⟩ := by
  refine (slab30 _ r l).trans ?_
  exact slab_v (m (c.tc.loc main_arg0)) (m (c.tc.loc main_arg1)) (m (c.tc.loc main_arg2)) (m (c.tc.loc main_arg3)) (m (c.tc.loc main_arg4)) (row t r) 0 1 l ⟨1920 + l.val, by omega⟩ (by show 1920 + l.val = _; simp) _ ((View.ld_unit_apply_of _ _ _ _ _ (ix4 0 1 r l) (fun a => by fin_cases a <;> simp)).trans (block3 m c t 0 1 r l (row t r) rfl))

/-- The stored slab of columns from 1920 on is the tile's. -/
theorem piece30 (t : Fin cfg0.N) (x : S512x128.Idx) :
    k0_pay30 (View.ld (iblk m c 3 t) (Rect.unit ![0, 1, 0, 0] ![1, 1, 512, 128] inb_S3x2x512x128_S1x1x512x128_0_1_0_0)) x
      = tile m c t ((Rect.unit (s := S512x2560) ![0, 1920] ![512, 128] inb_S512x2560_S512x128_0_1920).emb x) := by
  refine (congrArg _ (eq_ix2 x)).trans ((at30 m c t (x 0) (x 1)).trans ?_)
  exact tile_at m c t _ (x 0) _ ((unit_val ![0, 1920] ![512, 128] inb_S512x2560_S512x128_0_1920 x 0).trans (by simp))
    ((unit_val ![0, 1920] ![512, 128] inb_S512x2560_S512x128_0_1920 x 1).trans (by simp))

/-- The stored slab of columns from 2048 on, at a lane. -/
theorem at31 (t : Fin cfg0.N) (r : Fin 512) (l : Fin 128) :
    k0_pay31 (View.ld (iblk m c 3 t) (Rect.unit ![1, 0, 0, 0] ![1, 1, 512, 128] inb_S3x2x512x128_S1x1x512x128_1_0_0_0)) (ix2 r l)
      = RopeRef.dproj (m (c.tc.loc main_arg0)) (m (c.tc.loc main_arg1)) (m (c.tc.loc main_arg2)) (m (c.tc.loc main_arg3)) (m (c.tc.loc main_arg4)) (row t r) ⟨2048 + l.val, by omega⟩ := by
  refine (slab31 _ r l).trans ?_
  exact slab_v (m (c.tc.loc main_arg0)) (m (c.tc.loc main_arg1)) (m (c.tc.loc main_arg2)) (m (c.tc.loc main_arg3)) (m (c.tc.loc main_arg4)) (row t r) 1 0 l ⟨2048 + l.val, by omega⟩ (by show 2048 + l.val = _; simp) _ ((View.ld_unit_apply_of _ _ _ _ _ (ix4 1 0 r l) (fun a => by fin_cases a <;> simp)).trans (block3 m c t 1 0 r l (row t r) rfl))

/-- The stored slab of columns from 2048 on is the tile's. -/
theorem piece31 (t : Fin cfg0.N) (x : S512x128.Idx) :
    k0_pay31 (View.ld (iblk m c 3 t) (Rect.unit ![1, 0, 0, 0] ![1, 1, 512, 128] inb_S3x2x512x128_S1x1x512x128_1_0_0_0)) x
      = tile m c t ((Rect.unit (s := S512x2560) ![0, 2048] ![512, 128] inb_S512x2560_S512x128_0_2048).emb x) := by
  refine (congrArg _ (eq_ix2 x)).trans ((at31 m c t (x 0) (x 1)).trans ?_)
  exact tile_at m c t _ (x 0) _ ((unit_val ![0, 2048] ![512, 128] inb_S512x2560_S512x128_0_2048 x 0).trans (by simp))
    ((unit_val ![0, 2048] ![512, 128] inb_S512x2560_S512x128_0_2048 x 1).trans (by simp))

/-- The stored slab of columns from 2176 on, at a lane. -/
theorem at32 (t : Fin cfg0.N) (r : Fin 512) (l : Fin 128) :
    k0_pay32 (View.ld (iblk m c 3 t) (Rect.unit ![1, 1, 0, 0] ![1, 1, 512, 128] inb_S3x2x512x128_S1x1x512x128_1_1_0_0)) (ix2 r l)
      = RopeRef.dproj (m (c.tc.loc main_arg0)) (m (c.tc.loc main_arg1)) (m (c.tc.loc main_arg2)) (m (c.tc.loc main_arg3)) (m (c.tc.loc main_arg4)) (row t r) ⟨2176 + l.val, by omega⟩ := by
  refine (slab32 _ r l).trans ?_
  exact slab_v (m (c.tc.loc main_arg0)) (m (c.tc.loc main_arg1)) (m (c.tc.loc main_arg2)) (m (c.tc.loc main_arg3)) (m (c.tc.loc main_arg4)) (row t r) 1 1 l ⟨2176 + l.val, by omega⟩ (by show 2176 + l.val = _; simp) _ ((View.ld_unit_apply_of _ _ _ _ _ (ix4 1 1 r l) (fun a => by fin_cases a <;> simp)).trans (block3 m c t 1 1 r l (row t r) rfl))

/-- The stored slab of columns from 2176 on is the tile's. -/
theorem piece32 (t : Fin cfg0.N) (x : S512x128.Idx) :
    k0_pay32 (View.ld (iblk m c 3 t) (Rect.unit ![1, 1, 0, 0] ![1, 1, 512, 128] inb_S3x2x512x128_S1x1x512x128_1_1_0_0)) x
      = tile m c t ((Rect.unit (s := S512x2560) ![0, 2176] ![512, 128] inb_S512x2560_S512x128_0_2176).emb x) := by
  refine (congrArg _ (eq_ix2 x)).trans ((at32 m c t (x 0) (x 1)).trans ?_)
  exact tile_at m c t _ (x 0) _ ((unit_val ![0, 2176] ![512, 128] inb_S512x2560_S512x128_0_2176 x 0).trans (by simp))
    ((unit_val ![0, 2176] ![512, 128] inb_S512x2560_S512x128_0_2176 x 1).trans (by simp))

/-- The stored slab of columns from 2304 on, at a lane. -/
theorem at33 (t : Fin cfg0.N) (r : Fin 512) (l : Fin 128) :
    k0_pay33 (View.ld (iblk m c 3 t) (Rect.unit ![2, 0, 0, 0] ![1, 1, 512, 128] inb_S3x2x512x128_S1x1x512x128_2_0_0_0)) (ix2 r l)
      = RopeRef.dproj (m (c.tc.loc main_arg0)) (m (c.tc.loc main_arg1)) (m (c.tc.loc main_arg2)) (m (c.tc.loc main_arg3)) (m (c.tc.loc main_arg4)) (row t r) ⟨2304 + l.val, by omega⟩ := by
  refine (slab33 _ r l).trans ?_
  exact slab_v (m (c.tc.loc main_arg0)) (m (c.tc.loc main_arg1)) (m (c.tc.loc main_arg2)) (m (c.tc.loc main_arg3)) (m (c.tc.loc main_arg4)) (row t r) 2 0 l ⟨2304 + l.val, by omega⟩ (by show 2304 + l.val = _; simp) _ ((View.ld_unit_apply_of _ _ _ _ _ (ix4 2 0 r l) (fun a => by fin_cases a <;> simp)).trans (block3 m c t 2 0 r l (row t r) rfl))

/-- The stored slab of columns from 2304 on is the tile's. -/
theorem piece33 (t : Fin cfg0.N) (x : S512x128.Idx) :
    k0_pay33 (View.ld (iblk m c 3 t) (Rect.unit ![2, 0, 0, 0] ![1, 1, 512, 128] inb_S3x2x512x128_S1x1x512x128_2_0_0_0)) x
      = tile m c t ((Rect.unit (s := S512x2560) ![0, 2304] ![512, 128] inb_S512x2560_S512x128_0_2304).emb x) := by
  refine (congrArg _ (eq_ix2 x)).trans ((at33 m c t (x 0) (x 1)).trans ?_)
  exact tile_at m c t _ (x 0) _ ((unit_val ![0, 2304] ![512, 128] inb_S512x2560_S512x128_0_2304 x 0).trans (by simp))
    ((unit_val ![0, 2304] ![512, 128] inb_S512x2560_S512x128_0_2304 x 1).trans (by simp))

/-- The stored slab of columns from 2432 on, at a lane. -/
theorem at34 (t : Fin cfg0.N) (r : Fin 512) (l : Fin 128) :
    k0_pay34 (View.ld (iblk m c 3 t) (Rect.unit ![2, 1, 0, 0] ![1, 1, 512, 128] inb_S3x2x512x128_S1x1x512x128_2_1_0_0)) (ix2 r l)
      = RopeRef.dproj (m (c.tc.loc main_arg0)) (m (c.tc.loc main_arg1)) (m (c.tc.loc main_arg2)) (m (c.tc.loc main_arg3)) (m (c.tc.loc main_arg4)) (row t r) ⟨2432 + l.val, by omega⟩ := by
  refine (slab34 _ r l).trans ?_
  exact slab_v (m (c.tc.loc main_arg0)) (m (c.tc.loc main_arg1)) (m (c.tc.loc main_arg2)) (m (c.tc.loc main_arg3)) (m (c.tc.loc main_arg4)) (row t r) 2 1 l ⟨2432 + l.val, by omega⟩ (by show 2432 + l.val = _; simp) _ ((View.ld_unit_apply_of _ _ _ _ _ (ix4 2 1 r l) (fun a => by fin_cases a <;> simp)).trans (block3 m c t 2 1 r l (row t r) rfl))

/-- The stored slab of columns from 2432 on is the tile's. -/
theorem piece34 (t : Fin cfg0.N) (x : S512x128.Idx) :
    k0_pay34 (View.ld (iblk m c 3 t) (Rect.unit ![2, 1, 0, 0] ![1, 1, 512, 128] inb_S3x2x512x128_S1x1x512x128_2_1_0_0)) x
      = tile m c t ((Rect.unit (s := S512x2560) ![0, 2432] ![512, 128] inb_S512x2560_S512x128_0_2432).emb x) := by
  refine (congrArg _ (eq_ix2 x)).trans ((at34 m c t (x 0) (x 1)).trans ?_)
  exact tile_at m c t _ (x 0) _ ((unit_val ![0, 2432] ![512, 128] inb_S512x2560_S512x128_0_2432 x 0).trans (by simp))
    ((unit_val ![0, 2432] ![512, 128] inb_S512x2560_S512x128_0_2432 x 1).trans (by simp))

/-- The stored pooled columns are the tile's. -/
theorem piece2 (t : Fin cfg0.N) (x : S512x256.Idx) :
    k0_pay2 (iblk m c 0 t) x = tile m c t ((Rect.unit (s := S512x2560) ![0, 0] ![512, 256] inb_S512x2560_S512x256_0_0).emb x) := by
  refine (congrArg _ (eq_ix2 x)).trans ((show k0_pay2 (iblk m c 0 t) (ix2 (x 0) (x 1)) = iblk m c 0 t (ix2 (x 0) (x 1)) by pointwise [k0_pay2]).trans ?_)
  refine (block0 m c t (x 0) (x 1) (row t (x 0)) rfl).trans ?_
  refine ((RopeRef.dproj_u (m (c.tc.loc main_arg0)) (m (c.tc.loc main_arg1)) (m (c.tc.loc main_arg2)) (m (c.tc.loc main_arg3)) (m (c.tc.loc main_arg4))
    (row t (x 0)) ⟨(x 1).val, by have h1 : (x 1).val < 256 := (x 1).isLt; omega⟩ (x 1).isLt).symm).trans ?_
  exact tile_at m c t _ (x 0) _ ((unit_val ![0, 0] ![512, 256] inb_S512x2560_S512x256_0_0 x 0).trans (by simp))
    ((unit_val ![0, 0] ![512, 256] inb_S512x2560_S512x256_0_0 x 1).trans (by simp))

end Cert.RopeKernelIdeal.Tile

end
-- ==== Proof.RopeTile.lean ====
module

public import proofs.«01_k».proof.Defs
public import proofs.«01_k».proof.Proof.Gen.RopeKernelIdeal.Value
public import Idealize.ShloMosaic.Lib.Pointwise
public import Idealize.ShloMosaic.Lib.Tactic
public import Idealize.ShloMosaic.Lib.Pipeline.ValueKit
public import Idealize.ShloMosaic.Lib.Pipeline.ReadBack
public import proofs.«01_k».proof.Proof.RopePieces

@[expose] public section

set_option maxRecDepth 16384

noncomputable section

namespace Cert.RopeKernelIdeal.Tile

open Cert.RopeKernelIdeal Cert.RopeKernelIdeal.Gen Idealize.ShloMosaic Idealize.ShloMosaic.TcCoe Idealize.SL.Sem

variable (m : (ℓ : Loc nD τ sig) → Buf (Elt Ideal) ℓ) (c : Dev nD)

/-- Stores that are blocks of one array leave it wherever they cover. -/
theorem canon_pieces {S : Shape} {e : EltTy} (G : S.Idx → Elt Ideal e) (L : List (View.Piece (Elt Ideal) S e)) (h : View.PiecesOf G L) (y : S.Idx)
    (hc : ∃ p ∈ L, y ∈ p.1.set) : View.canon L y = G y :=
  (congrArg (fun L => View.canon L y) (List.append_nil L).symm).trans (View.canon_append_of_piecesOf G [] L h y hc)

/-- A block read back of the stored tile. -/
theorem read_pieces {κ : Kind} {sp : Space} (v : View sig κ sp S512x2560 .bf16) (L : List (View.Piece (Elt Ideal) S512x2560 .bf16)) (off : Fin S512x2560.rank → ℕ)
    (inb : ∀ a, off a + (![512, 512] : Fin S512x2560.rank → ℕ) a ≤ S512x2560.size a) (G : S512x2560.Idx → Elt Ideal .bf16) (h : View.PiecesOf G L) (x : S512x512.Idx) (z : S512x2560.Idx)
    (hz : ∀ a, (z a).val = off a + (x a).val) (hc : ∃ p ∈ L, z ∈ p.1.set) :
    v.readCov L (Rect.unit (s := S512x2560) off ![512, 512] inb).toLoadRect x = G z := by
  rw [View.readCov_eq_canon']
  refine Eq.trans (congrArg (View.canon L) (funext fun a => Fin.ext ?_)) (canon_pieces G L h z hc)
  exact (Rect.idx_unit_val off ![512, 512] inb x a).trans (hz a).symm

/-- A slab's columns are in its rectangle. -/
theorem mem_slab (o w : ℕ) (inb : ∀ a, (![0, o] : Fin S512x2560.rank → ℕ) a + (![512, w] : Fin S512x2560.rank → ℕ) a ≤ S512x2560.size a) (r : Fin 512) (n : Fin 2560)
    (h : o ≤ n.val ∧ n.val < o + w) : (ix2 r n : S512x2560.Idx) ∈ (Rect.unit (s := S512x2560) ![0, o] ![512, w] inb).set :=
  Rect.mem_set_unit.mpr fun a => by
    fin_cases a
    · show 0 ≤ r.val ∧ r.val < 0 + 512
      omega
    · exact h

/-- The slabs of columns 0 to 511 cover them. -/
theorem cover0 (L : List (View.Piece (Elt Ideal) S512x2560 .bf16)) (w0 : S512x128.Idx → Elt Ideal .bf16) (w1 : S512x128.Idx → Elt Ideal .bf16) (w2 : S512x256.Idx → Elt Ideal .bf16) (r : Fin 512) (n : Fin 2560) (h : 0 ≤ n.val ∧ n.val < 512) :
    ∃ p ∈ (⟨Rect.unit (s := S512x2560) ![0, 384] ![512, 128] inb_S512x2560_S512x128_0_384, w0⟩ :: ⟨Rect.unit (s := S512x2560) ![0, 256] ![512, 128] inb_S512x2560_S512x128_0_256, w1⟩ :: ⟨Rect.unit (s := S512x2560) ![0, 0] ![512, 256] inb_S512x2560_S512x256_0_0, w2⟩ :: L : List (View.Piece (Elt Ideal) S512x2560 .bf16)),
      (ix2 r n : S512x2560.Idx) ∈ p.1.set := by
  by_cases h0 : 384 ≤ n.val
  · refine ⟨_, List.mem_cons_self, ?_⟩
    exact mem_slab 384 128 inb_S512x2560_S512x128_0_384 r n (by omega)
  by_cases h1 : 256 ≤ n.val
  · refine ⟨_, List.mem_cons_of_mem _ (List.mem_cons_self), ?_⟩
    exact mem_slab 256 128 inb_S512x2560_S512x128_0_256 r n (by omega)
  · refine ⟨_, List.mem_cons_of_mem _ (List.mem_cons_of_mem _ (List.mem_cons_self)), ?_⟩
    exact mem_slab 0 256 inb_S512x2560_S512x256_0_0 r n (by omega)

/-- The slabs of columns 512 to 1023 cover them. -/
theorem cover1 (L : List (View.Piece (Elt Ideal) S512x2560 .bf16)) (w0 : S512x128.Idx → Elt Ideal .bf16) (w1 : S512x128.Idx → Elt Ideal .bf16) (w2 : S512x128.Idx → Elt Ideal .bf16) (w3 : S512x128.Idx → Elt Ideal .bf16) (r : Fin 512) (n : Fin 2560) (h : 512 ≤ n.val ∧ n.val < 1024) :
    ∃ p ∈ (⟨Rect.unit (s := S512x2560) ![0, 896] ![512, 128] inb_S512x2560_S512x128_0_896, w0⟩ :: ⟨Rect.unit (s := S512x2560) ![0, 768] ![512, 128] inb_S512x2560_S512x128_0_768, w1⟩ :: ⟨Rect.unit (s := S512x2560) ![0, 640] ![512, 128] inb_S512x2560_S512x128_0_640, w2⟩ :: ⟨Rect.unit (s := S512x2560) ![0, 512] ![512, 128] inb_S512x2560_S512x128_0_512, w3⟩ :: L : List (View.Piece (Elt Ideal) S512x2560 .bf16)),
      (ix2 r n : S512x2560.Idx) ∈ p.1.set := by
  by_cases h0 : 896 ≤ n.val
  · refine ⟨_, List.mem_cons_self, ?_⟩
    exact mem_slab 896 128 inb_S512x2560_S512x128_0_896 r n (by omega)
  by_cases h1 : 768 ≤ n.val
  · refine ⟨_, List.mem_cons_of_mem _ (List.mem_cons_self), ?_⟩
    exact mem_slab 768 128 inb_S512x2560_S512x128_0_768 r n (by omega)
  by_cases h2 : 640 ≤ n.val
  · refine ⟨_, List.mem_cons_of_mem _ (List.mem_cons_of_mem _ (List.mem_cons_self)), ?_⟩
    exact mem_slab 640 128 inb_S512x2560_S512x128_0_640 r n (by omega)
  · refine ⟨_, List.mem_cons_of_mem _ (List.mem_cons_of_mem _ (List.mem_cons_of_mem _ (List.mem_cons_self))), ?_⟩
    exact mem_slab 512 128 inb_S512x2560_S512x128_0_512 r n (by omega)

/-- The slabs of columns 1024 to 1535 cover them. -/
theorem cover2 (L : List (View.Piece (Elt Ideal) S512x2560 .bf16)) (w0 : S512x128.Idx → Elt Ideal .bf16) (w1 : S512x128.Idx → Elt Ideal .bf16) (w2 : S512x128.Idx → Elt Ideal .bf16) (w3 : S512x128.Idx → Elt Ideal .bf16) (r : Fin 512) (n : Fin 2560) (h : 1024 ≤ n.val ∧ n.val < 1536) :
    ∃ p ∈ (⟨Rect.unit (s := S512x2560) ![0, 1408] ![512, 128] inb_S512x2560_S512x128_0_1408, w0⟩ :: ⟨Rect.unit (s := S512x2560) ![0, 1280] ![512, 128] inb_S512x2560_S512x128_0_1280, w1⟩ :: ⟨Rect.unit (s := S512x2560) ![0, 1152] ![512, 128] inb_S512x2560_S512x128_0_1152, w2⟩ :: ⟨Rect.unit (s := S512x2560) ![0, 1024] ![512, 128] inb_S512x2560_S512x128_0_1024, w3⟩ :: L : List (View.Piece (Elt Ideal) S512x2560 .bf16)),
      (ix2 r n : S512x2560.Idx) ∈ p.1.set := by
  by_cases h0 : 1408 ≤ n.val
  · refine ⟨_, List.mem_cons_self, ?_⟩
    exact mem_slab 1408 128 inb_S512x2560_S512x128_0_1408 r n (by omega)
  by_cases h1 : 1280 ≤ n.val
  · refine ⟨_, List.mem_cons_of_mem _ (List.mem_cons_self), ?_⟩
    exact mem_slab 1280 128 inb_S512x2560_S512x128_0_1280 r n (by omega)
  by_cases h2 : 1152 ≤ n.val
  · refine ⟨_, List.mem_cons_of_mem _ (List.mem_cons_of_mem _ (List.mem_cons_self)), ?_⟩
    exact mem_slab 1152 128 inb_S512x2560_S512x128_0_1152 r n (by omega)
  · refine ⟨_, List.mem_cons_of_mem _ (List.mem_cons_of_mem _ (List.mem_cons_of_mem _ (List.mem_cons_self))), ?_⟩
    exact mem_slab 1024 128 inb_S512x2560_S512x128_0_1024 r n (by omega)

/-- The slabs of columns 1536 to 2047 cover them. -/
theorem cover3 (L : List (View.Piece (Elt Ideal) S512x2560 .bf16)) (w0 : S512x128.Idx → Elt Ideal .bf16) (w1 : S512x128.Idx → Elt Ideal .bf16) (w2 : S512x128.Idx → Elt Ideal .bf16) (w3 : S512x128.Idx → Elt Ideal .bf16) (r : Fin 512) (n : Fin 2560) (h : 1536 ≤ n.val ∧ n.val < 2048) :
    ∃ p ∈ (⟨Rect.unit (s := S512x2560) ![0, 1920] ![512, 128] inb_S512x2560_S512x128_0_1920, w0⟩ :: ⟨Rect.unit (s := S512x2560) ![0, 1792] ![512, 128] inb_S512x2560_S512x128_0_1792, w1⟩ :: ⟨Rect.unit (s := S512x2560) ![0, 1664] ![512, 128] inb_S512x2560_S512x128_0_1664, w2⟩ :: ⟨Rect.unit (s := S512x2560) ![0, 1536] ![512, 128] inb_S512x2560_S512x128_0_1536, w3⟩ :: L : List (View.Piece (Elt Ideal) S512x2560 .bf16)),
      (ix2 r n : S512x2560.Idx) ∈ p.1.set := by
  by_cases h0 : 1920 ≤ n.val
  · refine ⟨_, List.mem_cons_self, ?_⟩
    exact mem_slab 1920 128 inb_S512x2560_S512x128_0_1920 r n (by omega)
  by_cases h1 : 1792 ≤ n.val
  · refine ⟨_, List.mem_cons_of_mem _ (List.mem_cons_self), ?_⟩
    exact mem_slab 1792 128 inb_S512x2560_S512x128_0_1792 r n (by omega)
  by_cases h2 : 1664 ≤ n.val
  · refine ⟨_, List.mem_cons_of_mem _ (List.mem_cons_of_mem _ (List.mem_cons_self)), ?_⟩
    exact mem_slab 1664 128 inb_S512x2560_S512x128_0_1664 r n (by omega)
  · refine ⟨_, List.mem_cons_of_mem _ (List.mem_cons_of_mem _ (List.mem_cons_of_mem _ (List.mem_cons_self))), ?_⟩
    exact mem_slab 1536 128 inb_S512x2560_S512x128_0_1536 r n (by omega)

/-- The slabs of columns 2048 to 2559 cover them. -/
theorem cover4 (L : List (View.Piece (Elt Ideal) S512x2560 .bf16)) (w0 : S512x128.Idx → Elt Ideal .bf16) (w1 : S512x128.Idx → Elt Ideal .bf16) (w2 : S512x128.Idx → Elt Ideal .bf16) (w3 : S512x128.Idx → Elt Ideal .bf16) (r : Fin 512) (n : Fin 2560) (h : 2048 ≤ n.val ∧ n.val < 2560) :
    ∃ p ∈ (⟨Rect.unit (s := S512x2560) ![0, 2432] ![512, 128] inb_S512x2560_S512x128_0_2432, w0⟩ :: ⟨Rect.unit (s := S512x2560) ![0, 2304] ![512, 128] inb_S512x2560_S512x128_0_2304, w1⟩ :: ⟨Rect.unit (s := S512x2560) ![0, 2176] ![512, 128] inb_S512x2560_S512x128_0_2176, w2⟩ :: ⟨Rect.unit (s := S512x2560) ![0, 2048] ![512, 128] inb_S512x2560_S512x128_0_2048, w3⟩ :: L : List (View.Piece (Elt Ideal) S512x2560 .bf16)),
      (ix2 r n : S512x2560.Idx) ∈ p.1.set := by
  by_cases h0 : 2432 ≤ n.val
  · refine ⟨_, List.mem_cons_self, ?_⟩
    exact mem_slab 2432 128 inb_S512x2560_S512x128_0_2432 r n (by omega)
  by_cases h1 : 2304 ≤ n.val
  · refine ⟨_, List.mem_cons_of_mem _ (List.mem_cons_self), ?_⟩
    exact mem_slab 2304 128 inb_S512x2560_S512x128_0_2304 r n (by omega)
  by_cases h2 : 2176 ≤ n.val
  · refine ⟨_, List.mem_cons_of_mem _ (List.mem_cons_of_mem _ (List.mem_cons_self)), ?_⟩
    exact mem_slab 2176 128 inb_S512x2560_S512x128_0_2176 r n (by omega)
  · refine ⟨_, List.mem_cons_of_mem _ (List.mem_cons_of_mem _ (List.mem_cons_of_mem _ (List.mem_cons_self))), ?_⟩
    exact mem_slab 2048 128 inb_S512x2560_S512x128_0_2048 r n (by omega)

/-- A row block of the accumulator and the tile's product with it. -/
theorem acc35 (A : FVec Ideal S512x1024 .f32) (D : FVec Ideal S512x512 .bf16) (H : FVec Ideal S512x1024 .bf16) (n : Fin 512) (k : Fin 1024) :
    (k0_pay35 (F := Ideal) A D H (ix2 n k) : EReal) = A (ix2 n k) + ∑ r : Fin 512, D (ix2 r n) * H (ix2 r k) := by
  pointwise [k0_pay35]

/-- A row block of the accumulator and the tile's product with it. -/
theorem acc36 (A : FVec Ideal S512x1024 .f32) (D : FVec Ideal S512x512 .bf16) (H : FVec Ideal S512x1024 .bf16) (n : Fin 512) (k : Fin 1024) :
    (k0_pay36 (F := Ideal) A D H (ix2 n k) : EReal) = A (ix2 n k) + ∑ r : Fin 512, D (ix2 r n) * H (ix2 r k) := by
  pointwise [k0_pay36]

/-- A row block of the accumulator and the tile's product with it. -/
theorem acc38 (A : FVec Ideal S512x1024 .f32) (D : FVec Ideal S512x512 .bf16) (H : FVec Ideal S512x1024 .bf16) (n : Fin 512) (k : Fin 1024) :
    (k0_pay38 (F := Ideal) A (k0_pay37 (F := Ideal) D) H (ix2 n k) : EReal) = A (ix2 n k) + ∑ r : Fin 512, D (ix2 r n) * H (ix2 r k) := by
  pointwise [k0_pay38, k0_pay37]

/-- A row block of the accumulator and the tile's product with it. -/
theorem acc39 (A : FVec Ideal S512x1024 .f32) (D : FVec Ideal S512x512 .bf16) (H : FVec Ideal S512x1024 .bf16) (n : Fin 512) (k : Fin 1024) :
    (k0_pay39 (F := Ideal) A D H (ix2 n k) : EReal) = A (ix2 n k) + ∑ r : Fin 512, D (ix2 r n) * H (ix2 r k) := by
  pointwise [k0_pay39]

/-- A row block of the accumulator and the tile's product with it. -/
theorem acc40 (A : FVec Ideal S512x1024 .f32) (D : FVec Ideal S512x512 .bf16) (H : FVec Ideal S512x1024 .bf16) (n : Fin 512) (k : Fin 1024) :
    (k0_pay40 (F := Ideal) A D H (ix2 n k) : EReal) = A (ix2 n k) + ∑ r : Fin 512, D (ix2 r n) * H (ix2 r k) := by
  pointwise [k0_pay40]

/-- A tile's part of the weight gradient. -/
def part (t : Fin cfg0.N) (n : Fin 2560) (k : Fin 1024) : EReal :=
  ∑ r : Fin 512, tile m c t (ix2 r n) * (iblk m c 6 t (ix2 r k) : EReal)

/-- The accumulator is cleared to zeros. -/
theorem zero_acc (y : S2560x1024.Idx) : (k0_pay1 (F := Ideal) y : EReal) = 0 := by
  rw [eq_ix2 y]
  pointwise [k0_pay1]

/-- What earlier stores wrote is gone where later stores cover. -/
theorem canon_over {S : Shape} {e : EltTy} (L' : List (View.Piece (Elt Ideal) S e)) (y : S.Idx) :
    ∀ L : List (View.Piece (Elt Ideal) S e), (∃ p ∈ L, y ∈ p.1.set) → View.canon (L ++ L') y = View.canon L y
  | [], hc => by obtain ⟨p, hp, _⟩ := hc; exact absurd hp List.not_mem_nil
  | p :: L, hc => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_over L' y L ?_
      obtain ⟨q, hq, hyq⟩ := hc
      rcases List.mem_cons.mp hq with rfl | hq'
      · exact absurd hyq hm
      · exact ⟨q, hq', hyq⟩

set_option maxHeartbeats 2000000 in
/-- What a tile stores of the projection's gradient. -/
theorem out_A (t : Fin cfg0.N) (h0 : t.val % 8 = 0) (y : S512x2560.Idx) : (outsAt0 m c t.val t.isLt).1 y = tile m c t y := by
  rw [outsAt0_A m c t h0 (by omega)]
  dsimp only
  frame_open
  frame_out
  refine canon_pieces (e := .bf16) (tile m c t) _ ?_ y (View.cover_of_tiledBy _ ![512, 128] (by sl_kernel_rfl) _)
  exact ⟨piece34 m c t, piece33 m c t, piece32 m c t, piece31 m c t, piece30 m c t, piece29 m c t, piece28 m c t, piece24 m c t, piece23 m c t, piece22 m c t, piece18 m c t, piece17 m c t, piece16 m c t, piece13 m c t, piece12 m c t, piece11 m c t, piece10 m c t, piece9 m c t, piece2 m c t, trivial⟩

set_option maxHeartbeats 2000000 in
/-- What a tile stores of the projection's gradient. -/
theorem out_B (t : Fin cfg0.N) (h0 : ¬ t.val % 8 = 0) (h1 : ¬ t.val % 8 = 7) (y : S512x2560.Idx) : (outsAt0 m c t.val t.isLt).1 y = tile m c t y := by
  rw [outsAt0_B m c t h0 h1]
  dsimp only
  frame_open
  frame_out
  refine canon_pieces (e := .bf16) (tile m c t) _ ?_ y (View.cover_of_tiledBy _ ![512, 128] (by sl_kernel_rfl) _)
  exact ⟨piece34 m c t, piece33 m c t, piece32 m c t, piece31 m c t, piece30 m c t, piece29 m c t, piece28 m c t, piece24 m c t, piece23 m c t, piece22 m c t, piece18 m c t, piece17 m c t, piece16 m c t, piece13 m c t, piece12 m c t, piece11 m c t, piece10 m c t, piece9 m c t, piece2 m c t, trivial⟩

set_option maxHeartbeats 2000000 in
/-- What a tile stores of the projection's gradient. -/
theorem out_C (t : Fin cfg0.N) (h1 : t.val % 8 = 7) (y : S512x2560.Idx) : (outsAt0 m c t.val t.isLt).1 y = tile m c t y := by
  rw [outsAt0_C m c t (by omega) h1]
  dsimp only
  frame_open
  frame_out
  refine canon_pieces (e := .bf16) (tile m c t) _ ?_ y (View.cover_of_tiledBy _ ![512, 128] (by sl_kernel_rfl) _)
  exact ⟨piece34 m c t, piece33 m c t, piece32 m c t, piece31 m c t, piece30 m c t, piece29 m c t, piece28 m c t, piece24 m c t, piece23 m c t, piece22 m c t, piece18 m c t, piece17 m c t, piece16 m c t, piece13 m c t, piece12 m c t, piece11 m c t, piece10 m c t, piece9 m c t, piece2 m c t, trivial⟩

set_option maxHeartbeats 2000000 in
/-- The accumulator after a tile. -/
theorem acc_A (t : Fin cfg0.N) (h0 : t.val % 8 = 0) (y : S2560x1024.Idx) : ((outsAt0 m c t.val t.isLt).2.2 y : EReal) = 0 + part m c t (y 0) (y 1) := by
  rw [outsAt0_A m c t h0 (by omega)]
  frame_open
  simp (disch := decide) only [↓ View.readCov_skip, ↓ View.readCov_cons_toLoadRect, ↓ View.readCov_fill]
  frame_out
  try simp only [read_unread_whole]
  refine (canon_over [_] y [_, _, _, _, _] (View.cover_of_tiledBy _ ![512, 1024] (by sl_kernel_rfl) _)).trans ?_
  canon_tiles x h using (View.cover_of_tiledBy _ ![512, 1024] (by sl_kernel_rfl) _)
  · refine (congrArg _ (eq_ix2 x)).trans ((acc40 _ _ _ (x 0) (x 1)).trans ?_)
    refine congrArg₂ (fun u v : EReal => u + v) (zero_acc _) (Finset.sum_congr rfl fun r _ => congrArg₂ (fun u v : EReal => u * v) ?_ ?_)
    · refine read_pieces _ _ _ _ (tile m c t) ?_ _ (ix2 r (y 0)) ?_ ?_
      · exact ⟨piece34 m c t, piece33 m c t, piece32 m c t, piece31 m c t, piece30 m c t, piece29 m c t, piece28 m c t, piece24 m c t, piece23 m c t, piece22 m c t, piece18 m c t, piece17 m c t, piece16 m c t, piece13 m c t, piece12 m c t, piece11 m c t, piece10 m c t, piece9 m c t, piece2 m c t, trivial⟩
      · exact fun a => by fin_cases a <;> simp [h0]
      · exact cover4 _ _ _ _ _ r (y 0) (by have : (x 0).val < 512 := (x 0).isLt; omega)
    · exact congrArg (fun k => iblk m c 6 t (ix2 r k)) (Fin.ext h1.symm)
  · refine (congrArg _ (eq_ix2 x)).trans ((acc39 _ _ _ (x 0) (x 1)).trans ?_)
    refine congrArg₂ (fun u v : EReal => u + v) (zero_acc _) (Finset.sum_congr rfl fun r _ => congrArg₂ (fun u v : EReal => u * v) ?_ ?_)
    · refine read_pieces _ _ _ _ (tile m c t) ?_ _ (ix2 r (y 0)) ?_ ?_
      · exact ⟨piece30 m c t, piece29 m c t, piece28 m c t, piece24 m c t, piece23 m c t, piece22 m c t, piece18 m c t, piece17 m c t, piece16 m c t, piece13 m c t, piece12 m c t, piece11 m c t, piece10 m c t, piece9 m c t, piece2 m c t, trivial⟩
      · exact fun a => by fin_cases a <;> simp [h0]
      · exact cover3 _ _ _ _ _ r (y 0) (by have : (x 0).val < 512 := (x 0).isLt; omega)
    · exact congrArg (fun k => iblk m c 6 t (ix2 r k)) (Fin.ext h1.symm)
  · refine (congrArg _ (eq_ix2 x)).trans ((acc38 _ _ _ (x 0) (x 1)).trans ?_)
    refine congrArg₂ (fun u v : EReal => u + v) (zero_acc _) (Finset.sum_congr rfl fun r _ => congrArg₂ (fun u v : EReal => u * v) ?_ ?_)
    · refine read_pieces _ _ _ _ (tile m c t) ?_ _ (ix2 r (y 0)) ?_ ?_
      · exact ⟨piece23 m c t, piece22 m c t, piece18 m c t, piece17 m c t, piece16 m c t, piece13 m c t, piece12 m c t, piece11 m c t, piece10 m c t, piece9 m c t, piece2 m c t, trivial⟩
      · exact fun a => by fin_cases a <;> simp [h0]
      · exact cover2 _ _ _ _ _ r (y 0) (by have : (x 0).val < 512 := (x 0).isLt; omega)
    · exact congrArg (fun k => iblk m c 6 t (ix2 r k)) (Fin.ext h1.symm)
  · refine (congrArg _ (eq_ix2 x)).trans ((acc36 _ _ _ (x 0) (x 1)).trans ?_)
    refine congrArg₂ (fun u v : EReal => u + v) (zero_acc _) (Finset.sum_congr rfl fun r _ => congrArg₂ (fun u v : EReal => u * v) ?_ ?_)
    · refine read_pieces _ _ _ _ (tile m c t) ?_ _ (ix2 r (y 0)) ?_ ?_
      · exact ⟨piece16 m c t, piece13 m c t, piece12 m c t, piece11 m c t, piece10 m c t, piece9 m c t, piece2 m c t, trivial⟩
      · exact fun a => by fin_cases a <;> simp [h0]
      · exact cover1 _ _ _ _ _ r (y 0) (by have : (x 0).val < 512 := (x 0).isLt; omega)
    · exact congrArg (fun k => iblk m c 6 t (ix2 r k)) (Fin.ext h1.symm)
  · refine (congrArg _ (eq_ix2 x)).trans ((acc35 _ _ _ (x 0) (x 1)).trans ?_)
    refine congrArg₂ (fun u v : EReal => u + v) (zero_acc _) (Finset.sum_congr rfl fun r _ => congrArg₂ (fun u v : EReal => u * v) ?_ ?_)
    · refine read_pieces _ _ _ _ (tile m c t) ?_ _ (ix2 r (y 0)) ?_ ?_
      · exact ⟨piece10 m c t, piece9 m c t, piece2 m c t, trivial⟩
      · exact fun a => by fin_cases a <;> simp [h0]
      · exact cover0 _ _ _ _ r (y 0) (by have : (x 0).val < 512 := (x 0).isLt; omega)
    · exact congrArg (fun k => iblk m c 6 t (ix2 r k)) (Fin.ext h1.symm)

set_option maxHeartbeats 2000000 in
/-- The accumulator after a tile. -/
theorem acc_B (t : Fin cfg0.N) (h0 : ¬ t.val % 8 = 0) (h1 : ¬ t.val % 8 = 7) (y : S2560x1024.Idx) : ((outsAt0 m c t.val t.isLt).2.2 y : EReal) = (outsAt0 m c (t.val - 1) (by have := t.isLt; omega)).2.2 y + part m c t (y 0) (y 1) := by
  rw [outsAt0_B m c t h0 h1]
  frame_open
  simp (disch := decide) only [↓ View.readCov_skip, ↓ View.readCov_cons_toLoadRect, ↓ View.readCov_fill]
  frame_out
  try simp only [read_unread_whole]
  canon_tiles x h using (View.cover_of_tiledBy _ ![512, 1024] (by sl_kernel_rfl) _)
  · refine (congrArg _ (eq_ix2 x)).trans ((acc40 _ _ _ (x 0) (x 1)).trans ?_)
    refine congrArg₂ (fun u v : EReal => u + v) (View.ld_unit_apply_of _ _ _ _ _ y (fun a => by fin_cases a <;> simp [h0, h1])) (Finset.sum_congr rfl fun r _ => congrArg₂ (fun u v : EReal => u * v) ?_ ?_)
    · refine read_pieces _ _ _ _ (tile m c t) ?_ _ (ix2 r (y 0)) ?_ ?_
      · exact ⟨piece34 m c t, piece33 m c t, piece32 m c t, piece31 m c t, piece30 m c t, piece29 m c t, piece28 m c t, piece24 m c t, piece23 m c t, piece22 m c t, piece18 m c t, piece17 m c t, piece16 m c t, piece13 m c t, piece12 m c t, piece11 m c t, piece10 m c t, piece9 m c t, piece2 m c t, trivial⟩
      · exact fun a => by fin_cases a <;> simp [h0]
      · exact cover4 _ _ _ _ _ r (y 0) (by have : (x 0).val < 512 := (x 0).isLt; omega)
    · exact congrArg (fun k => iblk m c 6 t (ix2 r k)) (Fin.ext h1.symm)
  · refine (congrArg _ (eq_ix2 x)).trans ((acc39 _ _ _ (x 0) (x 1)).trans ?_)
    refine congrArg₂ (fun u v : EReal => u + v) (View.ld_unit_apply_of _ _ _ _ _ y (fun a => by fin_cases a <;> simp [h0, h1])) (Finset.sum_congr rfl fun r _ => congrArg₂ (fun u v : EReal => u * v) ?_ ?_)
    · refine read_pieces _ _ _ _ (tile m c t) ?_ _ (ix2 r (y 0)) ?_ ?_
      · exact ⟨piece30 m c t, piece29 m c t, piece28 m c t, piece24 m c t, piece23 m c t, piece22 m c t, piece18 m c t, piece17 m c t, piece16 m c t, piece13 m c t, piece12 m c t, piece11 m c t, piece10 m c t, piece9 m c t, piece2 m c t, trivial⟩
      · exact fun a => by fin_cases a <;> simp [h0]
      · exact cover3 _ _ _ _ _ r (y 0) (by have : (x 0).val < 512 := (x 0).isLt; omega)
    · exact congrArg (fun k => iblk m c 6 t (ix2 r k)) (Fin.ext h1.symm)
  · refine (congrArg _ (eq_ix2 x)).trans ((acc38 _ _ _ (x 0) (x 1)).trans ?_)
    refine congrArg₂ (fun u v : EReal => u + v) (View.ld_unit_apply_of _ _ _ _ _ y (fun a => by fin_cases a <;> simp [h0, h1])) (Finset.sum_congr rfl fun r _ => congrArg₂ (fun u v : EReal => u * v) ?_ ?_)
    · refine read_pieces _ _ _ _ (tile m c t) ?_ _ (ix2 r (y 0)) ?_ ?_
      · exact ⟨piece23 m c t, piece22 m c t, piece18 m c t, piece17 m c t, piece16 m c t, piece13 m c t, piece12 m c t, piece11 m c t, piece10 m c t, piece9 m c t, piece2 m c t, trivial⟩
      · exact fun a => by fin_cases a <;> simp [h0]
      · exact cover2 _ _ _ _ _ r (y 0) (by have : (x 0).val < 512 := (x 0).isLt; omega)
    · exact congrArg (fun k => iblk m c 6 t (ix2 r k)) (Fin.ext h1.symm)
  · refine (congrArg _ (eq_ix2 x)).trans ((acc36 _ _ _ (x 0) (x 1)).trans ?_)
    refine congrArg₂ (fun u v : EReal => u + v) (View.ld_unit_apply_of _ _ _ _ _ y (fun a => by fin_cases a <;> simp [h0, h1])) (Finset.sum_congr rfl fun r _ => congrArg₂ (fun u v : EReal => u * v) ?_ ?_)
    · refine read_pieces _ _ _ _ (tile m c t) ?_ _ (ix2 r (y 0)) ?_ ?_
      · exact ⟨piece16 m c t, piece13 m c t, piece12 m c t, piece11 m c t, piece10 m c t, piece9 m c t, piece2 m c t, trivial⟩
      · exact fun a => by fin_cases a <;> simp [h0]
      · exact cover1 _ _ _ _ _ r (y 0) (by have : (x 0).val < 512 := (x 0).isLt; omega)
    · exact congrArg (fun k => iblk m c 6 t (ix2 r k)) (Fin.ext h1.symm)
  · refine (congrArg _ (eq_ix2 x)).trans ((acc35 _ _ _ (x 0) (x 1)).trans ?_)
    refine congrArg₂ (fun u v : EReal => u + v) (View.ld_unit_apply_of _ _ _ _ _ y (fun a => by fin_cases a <;> simp [h0, h1])) (Finset.sum_congr rfl fun r _ => congrArg₂ (fun u v : EReal => u * v) ?_ ?_)
    · refine read_pieces _ _ _ _ (tile m c t) ?_ _ (ix2 r (y 0)) ?_ ?_
      · exact ⟨piece10 m c t, piece9 m c t, piece2 m c t, trivial⟩
      · exact fun a => by fin_cases a <;> simp [h0]
      · exact cover0 _ _ _ _ r (y 0) (by have : (x 0).val < 512 := (x 0).isLt; omega)
    · exact congrArg (fun k => iblk m c 6 t (ix2 r k)) (Fin.ext h1.symm)

set_option maxHeartbeats 2000000 in
/-- The accumulator after a tile. -/
theorem acc_C (t : Fin cfg0.N) (h1 : t.val % 8 = 7) (y : S2560x1024.Idx) : ((outsAt0 m c t.val t.isLt).2.2 y : EReal) = (outsAt0 m c (t.val - 1) (by have := t.isLt; omega)).2.2 y + part m c t (y 0) (y 1) := by
  rw [outsAt0_C m c t (by omega) h1]
  frame_open
  simp (disch := decide) only [↓ View.readCov_skip, ↓ View.readCov_cons_toLoadRect, ↓ View.readCov_fill]
  frame_out
  try simp only [read_unread_whole]
  canon_tiles x h using (View.cover_of_tiledBy _ ![512, 1024] (by sl_kernel_rfl) _)
  · refine (congrArg _ (eq_ix2 x)).trans ((acc40 _ _ _ (x 0) (x 1)).trans ?_)
    refine congrArg₂ (fun u v : EReal => u + v) (View.ld_unit_apply_of _ _ _ _ _ y (fun a => by fin_cases a <;> simp [h0, h1])) (Finset.sum_congr rfl fun r _ => congrArg₂ (fun u v : EReal => u * v) ?_ ?_)
    · refine read_pieces _ _ _ _ (tile m c t) ?_ _ (ix2 r (y 0)) ?_ ?_
      · exact ⟨piece34 m c t, piece33 m c t, piece32 m c t, piece31 m c t, piece30 m c t, piece29 m c t, piece28 m c t, piece24 m c t, piece23 m c t, piece22 m c t, piece18 m c t, piece17 m c t, piece16 m c t, piece13 m c t, piece12 m c t, piece11 m c t, piece10 m c t, piece9 m c t, piece2 m c t, trivial⟩
      · exact fun a => by fin_cases a <;> simp [h0]
      · exact cover4 _ _ _ _ _ r (y 0) (by have : (x 0).val < 512 := (x 0).isLt; omega)
    · exact congrArg (fun k => iblk m c 6 t (ix2 r k)) (Fin.ext h1.symm)
  · refine (congrArg _ (eq_ix2 x)).trans ((acc39 _ _ _ (x 0) (x 1)).trans ?_)
    refine congrArg₂ (fun u v : EReal => u + v) (View.ld_unit_apply_of _ _ _ _ _ y (fun a => by fin_cases a <;> simp [h0, h1])) (Finset.sum_congr rfl fun r _ => congrArg₂ (fun u v : EReal => u * v) ?_ ?_)
    · refine read_pieces _ _ _ _ (tile m c t) ?_ _ (ix2 r (y 0)) ?_ ?_
      · exact ⟨piece30 m c t, piece29 m c t, piece28 m c t, piece24 m c t, piece23 m c t, piece22 m c t, piece18 m c t, piece17 m c t, piece16 m c t, piece13 m c t, piece12 m c t, piece11 m c t, piece10 m c t, piece9 m c t, piece2 m c t, trivial⟩
      · exact fun a => by fin_cases a <;> simp [h0]
      · exact cover3 _ _ _ _ _ r (y 0) (by have : (x 0).val < 512 := (x 0).isLt; omega)
    · exact congrArg (fun k => iblk m c 6 t (ix2 r k)) (Fin.ext h1.symm)
  · refine (congrArg _ (eq_ix2 x)).trans ((acc38 _ _ _ (x 0) (x 1)).trans ?_)
    refine congrArg₂ (fun u v : EReal => u + v) (View.ld_unit_apply_of _ _ _ _ _ y (fun a => by fin_cases a <;> simp [h0, h1])) (Finset.sum_congr rfl fun r _ => congrArg₂ (fun u v : EReal => u * v) ?_ ?_)
    · refine read_pieces _ _ _ _ (tile m c t) ?_ _ (ix2 r (y 0)) ?_ ?_
      · exact ⟨piece23 m c t, piece22 m c t, piece18 m c t, piece17 m c t, piece16 m c t, piece13 m c t, piece12 m c t, piece11 m c t, piece10 m c t, piece9 m c t, piece2 m c t, trivial⟩
      · exact fun a => by fin_cases a <;> simp [h0]
      · exact cover2 _ _ _ _ _ r (y 0) (by have : (x 0).val < 512 := (x 0).isLt; omega)
    · exact congrArg (fun k => iblk m c 6 t (ix2 r k)) (Fin.ext h1.symm)
  · refine (congrArg _ (eq_ix2 x)).trans ((acc36 _ _ _ (x 0) (x 1)).trans ?_)
    refine congrArg₂ (fun u v : EReal => u + v) (View.ld_unit_apply_of _ _ _ _ _ y (fun a => by fin_cases a <;> simp [h0, h1])) (Finset.sum_congr rfl fun r _ => congrArg₂ (fun u v : EReal => u * v) ?_ ?_)
    · refine read_pieces _ _ _ _ (tile m c t) ?_ _ (ix2 r (y 0)) ?_ ?_
      · exact ⟨piece16 m c t, piece13 m c t, piece12 m c t, piece11 m c t, piece10 m c t, piece9 m c t, piece2 m c t, trivial⟩
      · exact fun a => by fin_cases a <;> simp [h0]
      · exact cover1 _ _ _ _ _ r (y 0) (by have : (x 0).val < 512 := (x 0).isLt; omega)
    · exact congrArg (fun k => iblk m c 6 t (ix2 r k)) (Fin.ext h1.symm)
  · refine (congrArg _ (eq_ix2 x)).trans ((acc35 _ _ _ (x 0) (x 1)).trans ?_)
    refine congrArg₂ (fun u v : EReal => u + v) (View.ld_unit_apply_of _ _ _ _ _ y (fun a => by fin_cases a <;> simp [h0, h1])) (Finset.sum_congr rfl fun r _ => congrArg₂ (fun u v : EReal => u * v) ?_ ?_)
    · refine read_pieces _ _ _ _ (tile m c t) ?_ _ (ix2 r (y 0)) ?_ ?_
      · exact ⟨piece10 m c t, piece9 m c t, piece2 m c t, trivial⟩
      · exact fun a => by fin_cases a <;> simp [h0]
      · exact cover0 _ _ _ _ r (y 0) (by have : (x 0).val < 512 := (x 0).isLt; omega)
    · exact congrArg (fun k => iblk m c 6 t (ix2 r k)) (Fin.ext h1.symm)

end Cert.RopeKernelIdeal.Tile

end
-- ==== Proof.RopeClaim.lean ====
module

public import proofs.«01_k».proof.Defs
public import proofs.«01_k».proof.Proof.Gen.RopeKernelIdeal.Value
public import proofs.«01_k».proof.Proof.Gen.RopeReferenceIdeal.Run
public import Idealize.ShloMosaic.Lib.Quiescent
public import Idealize.ShloMosaic.Lib.Pointwise
public import Idealize.ShloMosaic.Lib.Tactic
public import Idealize.ShloMosaic.Lib.Pipeline.ValueKit
public import Idealize.ShloMosaic.Lib.Pipeline.ReadBack
public import proofs.«01_k».proof.Proof.RopeTile

@[expose] public section

set_option maxRecDepth 16384

noncomputable section

namespace Cert.RopeKernelIdeal.Tile

open Cert.RopeKernelIdeal Cert.RopeKernelIdeal.Gen Idealize.ShloMosaic Idealize.ShloMosaic.TcCoe Idealize.SL.Sem

open Cert.RopeReferenceIdeal.Read

variable (m : (ℓ : Loc nD τ sig) → Buf (Elt Ideal) ℓ) (c : Dev nD)

/-- A read of the whole accumulator, narrowed: on extended reals, the stored values. -/
theorem read_acc (L : List (View.Piece (Elt Ideal) S2560x1024 .f32)) (y : S2560x1024.Idx) :
    k0_pay41 ((View.whole cc0_scratch0).readCov L (Rect.unit ![0, 0] ![2560, 1024] inb_S2560x1024_S2560x1024_0_0).toLoadRect) y = View.canon L y := by
  rw [View.readCov_eq_canon']
  refine congrArg (View.canon L) (funext fun a => Fin.ext ?_)
  refine (Rect.idx_unit_val ![0, 0] ![2560, 1024] inb_S2560x1024_S2560x1024_0_0 y a).trans ?_
  fin_cases a <;> simp

set_option maxHeartbeats 2000000 in
/-- What the last tile stores of the weight gradient: the accumulator. -/
theorem dw_last (t : Fin cfg0.N) (h1 : t.val % 8 = 7) (y : S2560x1024.Idx) :
    (outsAt0 m c t.val t.isLt).2.1 y = (outsAt0 m c t.val t.isLt).2.2 y := by
  rw [outsAt0_C m c t (by omega) h1]
  frame_open
  frame_out
  exact read_acc _ y

/-- A tile's part, over the argument arrays. -/
theorem part_eq (t : Fin cfg0.N) (n : Fin 2560) (k : Fin 1024) : part m c t n k
    = ∑ r : Fin 512, RopeRef.dproj (m (c.tc.loc main_arg0)) (m (c.tc.loc main_arg1)) (m (c.tc.loc main_arg2)) (m (c.tc.loc main_arg3)) (m (c.tc.loc main_arg4)) (row t r) n * ((m (c.tc.loc main_arg5)) (ix2 (row t r) k) : EReal) :=
  Finset.sum_congr rfl fun r _ => congrArg (fun z : EReal => _ * z) (block6 m c t r k (row t r) rfl)

/-- The accumulator after the last tile: the reference's weight gradient. -/
theorem acc_last (t : Fin cfg0.N) (ht : t.val % 8 = 7) (y : S2560x1024.Idx) :
    (outsAt0 m c t.val t.isLt).2.2 y = val_main_v129 (F := Ideal) (m (c.tc.loc main_arg0)) (m (c.tc.loc main_arg1)) (m (c.tc.loc main_arg2)) (m (c.tc.loc main_arg3)) (m (c.tc.loc main_arg4)) (m (c.tc.loc main_arg5)) y := by
  have hN : t.val < 8 := lt_of_lt_of_eq t.isLt N_0
  have hn : cfg0.N = 8 := N_0
  refine (Pipeline.eq_sum_fin_of_reset_step_apply_last (N := cfg0.N) (ι := S2560x1024.Idx) (M := EReal)
    (fun n hn y => (outsAt0 m c n hn).2.2 y) 8 (fun _ => 0)
    (fun t y => part m c t (y 0) (y 1))
    (fun t h y => acc_A m c t h y) (fun t h y => ?_) (by omega) t (by omega) y).trans ?_
  · by_cases h1 : t.val % 8 = 7
    · exact acc_C m c t h1 y
    · exact acc_B m c t h h1 y
  · refine (zero_add _).trans ((Finset.sum_congr rfl fun s _ => part_eq m c s (y 0) (y 1)).trans ?_)
    refine Eq.trans ?_ ((congrArg (val_main_v129 (F := Ideal) (m (c.tc.loc main_arg0)) (m (c.tc.loc main_arg1)) (m (c.tc.loc main_arg2)) (m (c.tc.loc main_arg3)) (m (c.tc.loc main_arg4)) (m (c.tc.loc main_arg5))) (eq_ix2 y)).trans (RopeRef.ref_w (m (c.tc.loc main_arg0)) (m (c.tc.loc main_arg1)) (m (c.tc.loc main_arg2)) (m (c.tc.loc main_arg3)) (m (c.tc.loc main_arg4)) (m (c.tc.loc main_arg5)) (y 0) (y 1))).symm
    exact Fin.sum_mul_add_congr (fun s k hl => rfl) (by rw [hn])

/-- The stored tile, at every point of the grid. -/
theorem out_tile (t : Fin cfg0.N) (y : S512x2560.Idx) : (outsAt0 m c t.val t.isLt).1 y = tile m c t y := by
  by_cases h0 : t.val % 8 = 0
  · exact out_A m c t h0 y
  · by_cases h1 : t.val % 8 = 7
    · exact out_C m c t h1 y
    · exact out_B m c t h0 h1 y

/-- The kernel's gradient of the projections is the reference's. -/
theorem final7 : (dats m 0 c).arrAt 7 cfg0.N = val_main_v127 (F := Ideal) (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  have row7 : (((View.whole main_v20_0).slice (win0_7.rect t)).emb y 0).val = t.val * 512 + (y 0).val := by
    blk_simp [index t]
  have col7 : (((View.whole main_v20_0).slice (win0_7.rect t)).emb y 1).val = (y 1).val := by
    blk_simp [index t]
  blk_simp
  rw [after0_7]
  refine (out_tile m c t y).trans ((RopeRef.ref_narrow (m (c.tc.loc main_arg0)) (m (c.tc.loc main_arg1)) (m (c.tc.loc main_arg2)) (m (c.tc.loc main_arg3)) (m (c.tc.loc main_arg4)) (row t (y 0)) (y 1)).symm.trans (congrArg _ ?_))
  exact (congrArg₂ ix2 (Fin.ext row7.symm) (Fin.ext col7.symm)).trans (eq_ix2 _).symm

/-- The kernel's gradient of the weight is the reference's. -/
theorem final8 : (dats m 0 c).arrAt 8 cfg0.N = val_main_v129 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 8 _ (by decide +kernel) fun t hf y => ?_
  have row8 : (((View.whole main_v20_1).slice (win0_8.rect t)).emb y 0).val = (y 0).val := by
    blk_simp [index t]
  have col8 : (((View.whole main_v20_1).slice (win0_8.rect t)).emb y 1).val = (y 1).val := by
    blk_simp [index t]
  have ht := (flush0_8 t).mp hf
  blk_simp
  rw [after0_8]
  refine (dw_last m c t ht y).trans ((acc_last m c t ht y).trans (congrArg _ ?_))
  exact (eq_ix2 y).trans ((congrArg₂ ix2 (Fin.ext row8.symm) (Fin.ext col8.symm)).trans (eq_ix2 _).symm)

end Cert.RopeKernelIdeal.Tile

namespace Cert.RopeProof

open Idealize.ShloMosaic Idealize.ShloMosaic.TcCoe Idealize.SL.Sem

/-- The reference runs to its end and leaves its arguments. -/
theorem quiescent_reference : Cert.quiescent_RopeReferenceIdeal (hRopeReferenceIdeal := Cert.RopeReferenceIdeal.Gen.facts) :=
  fun m ρ _ => (θ_run (Cert.RopeReferenceIdeal.defs (F := Ideal)) _ _).mono
    (fun r h => ⟨fun c => (h c).2.2, sem_eq_zero_of_no_sems (by decide) r.2⟩) (Cert.RopeReferenceIdeal.Value.run (F := Ideal) m ρ)

/-- On equal arguments the kernel's results are the reference's. -/
theorem algebraic : Cert.algebraic_RopeKernelIdeal_RopeReferenceIdeal (hRopeKernelIdeal := Cert.RopeKernelIdeal.Gen.facts)
    (hRopeReferenceIdeal := Cert.RopeReferenceIdeal.Gen.facts) :=
  fun m ρ m' ρ' _ hag => ⟨_, _, (θ_run (Cert.RopeKernelIdeal.defs (F := Ideal)) _ _).mono
      (fun _ h c => ⟨(h c).1.trans (Cert.RopeKernelIdeal.Tile.final7 m c), (h c).2.1.trans (Cert.RopeKernelIdeal.Tile.final8 m c), (h c).2.2⟩)
      (Cert.RopeKernelIdeal.Value.run_blocks (F := Ideal) m ρ),
    (θ_run (Cert.RopeReferenceIdeal.defs (F := Ideal)) _ _).mono
      (fun _ h c => ⟨(h c).1.trans (by
          rw [Cert.RopeReferenceIdeal.Read.val_main_v127_eq, (hag c).1, (hag c).2.1, (hag c).2.2.1, (hag c).2.2.2.1, (hag c).2.2.2.2.1]),
        (h c).2.1.trans (by
          rw [Cert.RopeReferenceIdeal.Read.val_main_v129_eq, (hag c).1, (hag c).2.1, (hag c).2.2.1, (hag c).2.2.2.1, (hag c).2.2.2.2.1, (hag c).2.2.2.2.2.1]), (h c).2.2⟩)
      (Cert.RopeReferenceIdeal.Value.run (F := Ideal) m' ρ')⟩

end Cert.RopeProof

end
-- ==== Proof.PreRef.lean ====
module

public import proofs.«01_k».proof.Defs
public import proofs.«01_k».proof.Proof.Gen.PreReferenceIdeal.Run
public import proofs.«01_k».proof.Proof.Gen.PreReferenceIdeal.Read
public import Idealize.ShloMosaic.Lib.Pointwise
public import Idealize.ShloMosaic.Lib.Tactic
public import Idealize.ShloMosaic.Lib.Pipeline.ValueKit

@[expose] public section

set_option maxRecDepth 16384

noncomputable section

namespace Cert.PreRef

open Cert.PreReferenceIdeal Idealize.ShloMosaic Idealize.ShloMosaic.TcCoe Idealize.SL.Sem
open Cert.PreReferenceIdeal.Read

/-- The rotary embedding at position `p` of a head: `x` the head, `c` and `s` the row's cosines and sines. -/
def fwd (x : Fin 64 → EReal) (c s : Fin 8 → EReal) (p : Fin 64) : EReal :=
  if h : p.val < 8 then x p * c ⟨p.val, h⟩ - x ⟨p.val + 8, by omega⟩ * s ⟨p.val, h⟩
  else if h : p.val < 16 then x p * c ⟨p.val - 8, by omega⟩ + x ⟨p.val - 8, by omega⟩ * s ⟨p.val - 8, by omega⟩
  else x p

/-- The rotary embedding as the reference puts it together of three parts of a head. -/
theorem fwd_eq (x : Fin 64 → EReal) (c s : Fin 8 → EReal) (p : Fin 64) :
    (if h : p.val < 8 then x p * c ⟨p.val, h⟩ - x ⟨8 + p.val, by omega⟩ * s ⟨p.val, h⟩
      else if h' : p.val - 8 < 8 then x ⟨8 + (p.val - 8), by omega⟩ * c ⟨p.val - 8, h'⟩ + x ⟨p.val - 8, by omega⟩ * s ⟨p.val - 8, h'⟩
      else x ⟨16 + (p.val - 8 - 8), by omega⟩) = fwd x c s p := by
  unfold fwd
  by_cases h : p.val < 8
  · rw [dif_pos h, dif_pos h, show (⟨8 + p.val, by omega⟩ : Fin 64) = ⟨p.val + 8, by omega⟩ from Fin.ext (Nat.add_comm _ _)]
  · rw [dif_neg h, dif_neg h]
    by_cases h' : p.val - 8 < 8
    · rw [dif_pos h', dif_pos (by omega), show (⟨8 + (p.val - 8), by omega⟩ : Fin 64) = p from Fin.ext (by simp only; omega)]
    · rw [dif_neg h', dif_neg (by omega), show (⟨16 + (p.val - 8 - 8), by omega⟩ : Fin 64) = p from Fin.ext (by simp only; omega)]

variable (x : FVec Ideal S4096x1024 .f32) (sh sc g : FVec Ideal S1x1024 .f32) (w : FVec Ideal S1024x2560 .f32) (pos : IVec S4096 32)

/-- A row's modulated norm. -/
def hrow (R : Fin 4096) (k : Fin 1024) : EReal :=
  x (ix2 R k) * Ideal.rsqrt (Ideal.div (∑ l : Fin 1024, x (ix2 R l) * x (ix2 R l)) (Ideal.ofBits .f32 0x44800000#32) + Ideal.ofBits .f32 0x358637BD#32)
    * g (ix2 0 k) * (Ideal.ofBits .f32 0x3F800000#32 + sc (ix2 0 k)) + sh (ix2 0 k)

/-- A column of a row's projection. -/
def proj (R : Fin 4096) (n : Fin 2560) : EReal := ∑ k : Fin 1024, hrow x sh sc g R k * w (ix2 k n)

/-- The reference's modulated norm. -/
theorem ref_h (R : Fin 4096) (k : Fin 1024) : val_main_v37 (F := Ideal) x sh sc g (ix2 R k) = hrow x sh sc g R k := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_cst_3, val_main_cst_4, val_main_cst_5, val_main_cst_6, hrow]

/-- The reference's projection. -/
theorem ref_proj (R : Fin 4096) (n : Fin 2560) : val_main_v38 (F := Ideal) x sh sc g w (ix2 R n) = proj x sh sc g w R n := by
  refine (show _ = ∑ k : Fin 1024, (val_main_v37 (F := Ideal) x sh sc g (ix2 R k) : EReal) * w (ix2 k n) by pointwise [val_main_v38]).trans ?_
  exact Finset.sum_congr rfl fun k _ => congrArg (fun z : EReal => z * w (ix2 k n)) (ref_h x sh sc g R k)

/-- A column of a head of the queries. -/
theorem ref_head_q (R : Fin 4096) (h : Fin 12) (p : Fin 64) : val_main_v42 (F := Ideal) x sh sc g w (ix3 R h p) = proj x sh sc g w R ⟨256 + h.val * 64 + p.val, by omega⟩ := by
  refine (show _ = val_main_v38 (F := Ideal) x sh sc g w (ix2 R ⟨256 + h.val * 64 + p.val, by omega⟩) by
    pointwise [val_main_v42, val_main_v41, val_main_v40, val_main_v39]
    exact congrArg _ (congrArg (ix2 R) (Fin.ext (by simp only; omega)))).trans (ref_proj x sh sc g w R _)

/-- A column of a head of the keys. -/
theorem ref_head_k (R : Fin 4096) (h : Fin 12) (p : Fin 64) : val_main_v60 (F := Ideal) x sh sc g w (ix3 R h p) = proj x sh sc g w R ⟨1024 + h.val * 64 + p.val, by omega⟩ := by
  refine (show _ = val_main_v38 (F := Ideal) x sh sc g w (ix2 R ⟨1024 + h.val * 64 + p.val, by omega⟩) by
    pointwise [val_main_v60, val_main_v59, val_main_v40, val_main_v39]
    exact congrArg _ (congrArg (ix2 R) (Fin.ext (by simp only; omega)))).trans (ref_proj x sh sc g w R _)

/-- A column of a head of the values. -/
theorem ref_head_v (R : Fin 4096) (h : Fin 12) (p : Fin 64) : val_main_v76 (F := Ideal) x sh sc g w (ix3 R h p) = proj x sh sc g w R ⟨1792 + h.val * 64 + p.val, by omega⟩ := by
  refine (show _ = val_main_v38 (F := Ideal) x sh sc g w (ix2 R ⟨1792 + h.val * 64 + p.val, by omega⟩) by
    pointwise [val_main_v76, val_main_v75, val_main_v40, val_main_v39]
    exact congrArg _ (congrArg (ix2 R) (Fin.ext (by simp only; omega)))).trans (ref_proj x sh sc g w R _)

/-- The queries' rotary embedding as the reference computes it. -/
theorem ref_q (R : Fin 4096) (h : Fin 12) (p : Fin 64) : val_main_v56 (F := Ideal) x sh sc g w pos (ix3 R h p)
    = fwd (fun p => val_main_v42 (F := Ideal) x sh sc g w (ix3 R h p)) (fun j => val_main_v16 (F := Ideal) pos (ix2 R j)) (fun j => val_main_v18 (F := Ideal) pos (ix2 R j)) p := by
  pointwise [val_main_v56, val_main_v55, val_main_v54, val_main_v53, val_main_v52, val_main_v51, val_main_v50, val_main_v49, val_main_v48, val_main_v47, val_main_v46, val_main_v45, val_main_v44, val_main_v43, val_main_v19, val_main_v17]
  exact fwd_eq (fun p => val_main_v42 (F := Ideal) x sh sc g w (ix3 R h p)) (fun j => val_main_v16 (F := Ideal) pos (ix2 R j)) (fun j => val_main_v18 (F := Ideal) pos (ix2 R j)) p

/-- The keys' rotary embedding as the reference computes it. -/
theorem ref_k (R : Fin 4096) (h : Fin 12) (p : Fin 64) : val_main_v74 (F := Ideal) x sh sc g w pos (ix3 R h p)
    = fwd (fun p => val_main_v60 (F := Ideal) x sh sc g w (ix3 R h p)) (fun j => val_main_v16 (F := Ideal) pos (ix2 R j)) (fun j => val_main_v18 (F := Ideal) pos (ix2 R j)) p := by
  pointwise [val_main_v74, val_main_v73, val_main_v72, val_main_v71, val_main_v70, val_main_v69, val_main_v68, val_main_v67, val_main_v66, val_main_v65, val_main_v64, val_main_v63, val_main_v62, val_main_v61, val_main_v19, val_main_v17]
  exact fwd_eq (fun p => val_main_v60 (F := Ideal) x sh sc g w (ix3 R h p)) (fun j => val_main_v16 (F := Ideal) pos (ix2 R j)) (fun j => val_main_v18 (F := Ideal) pos (ix2 R j)) p

/-- The slabs of the queries, the keys and the values at a row and a lane: two heads to a slab, the queries scaled. -/
def slab (s : Fin 18) (R : Fin 4096) (l : Fin 128) : EReal :=
  if s.val < 6 then fwd (fun p => proj x sh sc g w R ⟨256 + s.val * 128 + l.val / 64 * 64 + p.val, by omega⟩) (fun j => val_main_v16 (F := Ideal) pos (ix2 R j))
    (fun j => val_main_v18 (F := Ideal) pos (ix2 R j)) ⟨l.val % 64, by omega⟩ * Ideal.ofBits .f32 0x3E000000#32
  else if s.val < 12 then fwd (fun p => proj x sh sc g w R ⟨256 + s.val * 128 + l.val / 64 * 64 + p.val, by omega⟩) (fun j => val_main_v16 (F := Ideal) pos (ix2 R j))
    (fun j => val_main_v18 (F := Ideal) pos (ix2 R j)) ⟨l.val % 64, by omega⟩
  else proj x sh sc g w R ⟨256 + s.val * 128 + l.val, by omega⟩

/-- The reference's slabs, as entries of the three kinds of heads. -/
theorem ref_kind (s : Fin 18) (R : Fin 4096) (l : Fin 128) : val_main_v84 (F := Ideal) x sh sc g w pos (ix3 s R l)
    = if s.val < 6 then val_main_v56 (F := Ideal) x sh sc g w pos (ix3 R ⟨(s.val * 2 + l.val / 64) % 12, by omega⟩ ⟨l.val % 64, by omega⟩) * Ideal.ofBits .f32 0x3E000000#32
      else if s.val < 12 then val_main_v74 (F := Ideal) x sh sc g w pos (ix3 R ⟨(s.val * 2 + l.val / 64) % 12, by omega⟩ ⟨l.val % 64, by omega⟩)
      else val_main_v76 (F := Ideal) x sh sc g w (ix3 R ⟨(s.val * 2 + l.val / 64) % 12, by omega⟩ ⟨l.val % 64, by omega⟩) := by
  pointwise [val_main_v84, val_main_v83, val_main_v80, val_main_v79, val_main_v78, val_main_v77, val_main_v58, val_main_v57, val_main_cst_7]
  by_cases h6 : s.val < 6
  · refine (dif_pos (by omega)).trans (Eq.trans ?_ (if_pos h6).symm)
    exact congrArg (fun q => val_main_v56 (F := Ideal) x sh sc g w pos (ix3 R q ⟨l.val % 64, by omega⟩) * Ideal.ofBits .f32 0x3E000000#32) (Fin.ext (by simp only; omega))
  · refine (dif_neg (by omega)).trans (Eq.trans ?_ (if_neg h6).symm)
    by_cases h12 : s.val < 12
    · refine (dif_pos (by omega)).trans (Eq.trans ?_ (if_pos h12).symm)
      exact congrArg (fun q => val_main_v74 (F := Ideal) x sh sc g w pos (ix3 R q ⟨l.val % 64, by omega⟩)) (Fin.ext (by simp only; omega))
    · refine (dif_neg (by omega)).trans (Eq.trans ?_ (if_neg h12).symm)
      exact congrArg (fun q => val_main_v76 (F := Ideal) x sh sc g w (ix3 R q ⟨l.val % 64, by omega⟩)) (Fin.ext (by simp only; omega))

/-- The reference's slabs. -/
theorem ref_slab (s : Fin 18) (R : Fin 4096) (l : Fin 128) : val_main_v84 (F := Ideal) x sh sc g w pos (ix3 s R l) = slab x sh sc g w pos s R l := by
  rw [ref_kind]
  unfold slab
  by_cases h6 : s.val < 6
  · rw [if_pos h6, if_pos h6, ref_q]
    refine congrArg (fun f => fwd f _ _ _ * Ideal.ofBits .f32 0x3E000000#32) (funext fun p => (ref_head_q x sh sc g w R _ p).trans ?_)
    exact congrArg (proj x sh sc g w R) (Fin.ext (by simp only; omega))
  · rw [if_neg h6, if_neg h6]
    by_cases h12 : s.val < 12
    · rw [if_pos h12, if_pos h12, ref_k]
      refine congrArg (fun f => fwd f _ _ _) (funext fun p => (ref_head_k x sh sc g w R _ p).trans ?_)
      exact congrArg (proj x sh sc g w R) (Fin.ext (by simp only; omega))
    · rw [if_neg h12, if_neg h12, ref_head_v]
      exact congrArg (proj x sh sc g w R) (Fin.ext (by simp only; omega))

/-- The reference's first result, stored narrower. -/
theorem ref_h_out (R : Fin 4096) (k : Fin 1024) : (val_main_v81 (F := Ideal) x sh sc g (ix2 R k) : EReal) = hrow x sh sc g R k :=
  (show _ = (val_main_v37 (F := Ideal) x sh sc g (ix2 R k) : EReal) by pointwise [val_main_v81]).trans (ref_h x sh sc g R k)

/-- The reference's second result: the pooled columns of the projection. -/
theorem ref_up (R : Fin 4096) (n : Fin 256) : val_main_v82 (F := Ideal) x sh sc g w (ix2 R n) = proj x sh sc g w R ⟨n.val, by omega⟩ :=
  (show _ = val_main_v38 (F := Ideal) x sh sc g w (ix2 R ⟨n.val, by omega⟩) by pointwise [val_main_v82]).trans (ref_proj x sh sc g w R _)

end Cert.PreRef
-- ==== Proof.PreRows.lean ====
module

public import proofs.«01_k».proof.Defs
public import proofs.«01_k».proof.Proof.Gen.PreKernelIdeal.Value
public import proofs.«01_k».proof.Proof.PreRef
public import proofs.«01_k».proof.Proof.RopeRows
public import Idealize.ShloMosaic.Lib.StableHlo.RunRead
public import Idealize.ShloMosaic.Lib.StableHlo.ReadAt
public import Idealize.ShloMosaic.Lib.Pointwise
public import Idealize.ShloMosaic.Lib.Tactic
public import Idealize.ShloMosaic.Lib.Pipeline.ValueKit

@[expose] public section

set_option maxRecDepth 16384

noncomputable section

namespace Cert.PreKernelIdeal.Tile

open Cert.PreKernelIdeal Cert.PreKernelIdeal.Gen Idealize.ShloMosaic Idealize.ShloMosaic.TcCoe Idealize.SL.Sem
open Cert.PreReferenceIdeal.Read

/-- The grid's points and the blocks they take. -/
theorem index : ∀ t : Fin cfg0.N, win0_0.index t = ![t.val, 0] ∧ win0_1.index t = ![0, 0] ∧ win0_2.index t = ![0, 0] ∧ win0_3.index t = ![0, 0] ∧
    win0_4.index t = ![0, 0] ∧ win0_5.index t = ![0, t.val] ∧ win0_6.index t = ![0, 0, 0] ∧ win0_7.index t = ![t.val, 0] ∧ win0_8.index t = ![t.val, 0] ∧
    win0_9.index t = ![0, t.val, 0] :=
  (by decide +kernel : ∀ t : Fin grid0.N, _)

/-- The host spells out the same table for this call as for its gradient. -/
theorem table_eq : ∀ (k : Fin 3) (j : Fin 24) (l : Fin 128),
    lit0t (k.val * 3072 + j.val * 128 + l.val) = Cert.RopeKernelIdeal.lit0t (k.val * 3072 + j.val * 128 + l.val) := by
  decide +kernel

variable (m : (ℓ : Loc nD τ sig) → Buf (Elt Ideal) ℓ) (c : Dev nD)

/-- A block of the rows. -/
theorem block0 (t : Fin cfg0.N) (r : Fin 512) (k : Fin 1024) (R : Fin 4096) (hR : R.val = t.val * 512 + r.val) :
    iblk m c 0 t (ix2 r k) = m (c.tc.loc main_arg0) (ix2 R k) := by
  blk_ext [iblk, V, index t]

/-- The shift. -/
theorem block1 (t : Fin cfg0.N) (l : Fin 1024) : iblk m c 1 t (ix2 0 l) = m (c.tc.loc main_arg1) (ix2 0 l) := by
  blk_ext [iblk, V, index t]

/-- The scale. -/
theorem block2 (t : Fin cfg0.N) (l : Fin 1024) : iblk m c 2 t (ix2 0 l) = m (c.tc.loc main_arg2) (ix2 0 l) := by
  blk_ext [iblk, V, index t]

/-- The gain. -/
theorem block3 (t : Fin cfg0.N) (l : Fin 1024) : iblk m c 3 t (ix2 0 l) = m (c.tc.loc main_arg3) (ix2 0 l) := by
  blk_ext [iblk, V, index t]

/-- The projection's matrix, which the host turned over and narrowed. -/
theorem block4 (t : Fin cfg0.N) (n : Fin 2560) (k : Fin 1024) : (iblk m c 4 t (ix2 n k) : EReal) = m (c.tc.loc main_arg4) (ix2 k n) := by
  blk_simp [iblk]
  entry_read
  pointwise
  blk_ext [index t]

/-- The table, which the host spells out. -/
theorem block6 (t : Fin cfg0.N) (k : Fin 3) (j : Fin 24) (l : Fin 128) :
    iblk m c 6 t (ix3 k j l) = Ideal.ofBits .f32 (Cert.RopeKernelIdeal.lit0t (k.val * 3072 + j.val * 128 + l.val)) := by
  have e0 : ((((View.whole main_cst).slice (win0_6.rect t)).emb (ix3 k j l)) 0).val = k.val := by blk_simp [index t]
  have e1 : ((((View.whole main_cst).slice (win0_6.rect t)).emb (ix3 k j l)) 1).val = j.val := by blk_simp [index t]
  have e2 : ((((View.whole main_cst).slice (win0_6.rect t)).emb (ix3 k j l)) 2).val = l.val := by blk_simp [index t]
  have e : (S3x24x128.rowMajor (((View.whole main_cst).slice (win0_6.rect t)).emb (ix3 k j l))).val = k.val * 3072 + j.val * 128 + l.val := by
    refine (Shape.rowMajor_val_three _).trans ?_
    rw [e0, e1, e2]
    show (k.val * 24 + j.val) * 128 + l.val = _
    omega
  refine Eq.trans ?_ (congrArg (Ideal.ofBits .f32) (table_eq k j l))
  blk_simp [iblk]
  entry_read
  exact congrArg (fun x => Ideal.ofBits .f32 (lit0t x)) e

/-- The host's cosines. -/
theorem rows_cos (j : Fin 8) (R : Fin 4096) : (StableHlo.upto (hostOps0 (F := Ideal)) (fun b => m (c, b)) 27 (Proc.devRef .tc main_v18) : FVec Ideal S8x4096 .f32) (ix2 j R)
    = val_main_v16 (F := Ideal) (m (c.tc.loc main_arg5)) (ix2 R j) := by
  refine Eq.trans ?_ (Cert.RopeKernelIdeal.Tile.ref_cos (m (c.tc.loc main_arg5)) R j).symm
  after_reads_simp
  pointwise
  exact congrArg Ideal.cos (mul_comm _ _)

/-- The host's sines. -/
theorem rows_sin (j : Fin 8) (R : Fin 4096) : (StableHlo.upto (hostOps0 (F := Ideal)) (fun b => m (c, b)) 27 (Proc.devRef .tc main_v19) : FVec Ideal S8x4096 .f32) (ix2 j R)
    = val_main_v18 (F := Ideal) (m (c.tc.loc main_arg5)) (ix2 R j) := by
  refine Eq.trans ?_ (Cert.RopeKernelIdeal.Tile.ref_sin (m (c.tc.loc main_arg5)) R j).symm
  after_reads_simp
  pointwise
  exact congrArg Ideal.sin (mul_comm _ _)

/-- The host's ones. -/
theorem rows_one (j : Fin 8) (R : Fin 4096) : (StableHlo.upto (hostOps0 (F := Ideal)) (fun b => m (c, b)) 27 (Proc.devRef .tc main_v20) : FVec Ideal S8x4096 .f32) (ix2 j R) = (1 : EReal) := by
  after_reads_simp
  pointwise

/-- What the host leaves in the rows the kernel loads. -/
theorem rows_V : V m c main_v21 = concatenate S24x4096 0 [⟨S8x4096, (StableHlo.upto (hostOps0 (F := Ideal)) (fun b => m (c, b)) 27 (Proc.devRef .tc main_v18) : FVec Ideal S8x4096 .f32)⟩, ⟨S8x4096, (StableHlo.upto (hostOps0 (F := Ideal)) (fun b => m (c, b)) 27 (Proc.devRef .tc main_v19) : FVec Ideal S8x4096 .f32)⟩,
    ⟨S8x4096, (StableHlo.upto (hostOps0 (F := Ideal)) (fun b => m (c, b)) 27 (Proc.devRef .tc main_v20) : FVec Ideal S8x4096 .f32)⟩] concatenates_S8x4096_S8x4096_S8x4096_S24x4096_d0 := by
  refine (StableHlo.after_last_write (i := 27) [] rfl rfl (by simp) _).trans ?_
  exact (StableHlo.nary_result _ _ _ _ _ _).trans rfl

/-- The loaded rows are the host's at the tile's columns. -/
theorem block5_V (t : Fin cfg0.N) (j : Fin 24) (r : Fin 512) (R : Fin 4096) (hR : R.val = t.val * 512 + r.val) :
    iblk m c 5 t (ix2 j r) = V m c main_v21 (ix2 j R) := by
  blk_ext [iblk, index t]

/-- The loaded rows: cosines. -/
theorem block5_cos (t : Fin cfg0.N) (j : Fin 8) (r : Fin 512) (R : Fin 4096) (hR : R.val = t.val * 512 + r.val) :
    iblk m c 5 t (ix2 ⟨j.val, by omega⟩ r) = val_main_v16 (F := Ideal) (m (c.tc.loc main_arg5)) (ix2 R j) :=
  (block5_V m c t _ r R hR).trans ((congrFun (rows_V m c) _).trans ((Cert.RopeKernelIdeal.Tile.rows_cat _ _ _ _ R).trans
    ((dif_pos j.isLt).trans (rows_cos m c j R))))

/-- The loaded rows: sines. -/
theorem block5_sin (t : Fin cfg0.N) (j : Fin 8) (r : Fin 512) (R : Fin 4096) (hR : R.val = t.val * 512 + r.val) :
    iblk m c 5 t (ix2 ⟨8 + j.val, by omega⟩ r) = val_main_v18 (F := Ideal) (m (c.tc.loc main_arg5)) (ix2 R j) :=
  (block5_V m c t _ r R hR).trans ((congrFun (rows_V m c) _).trans ((Cert.RopeKernelIdeal.Tile.rows_cat _ _ _ _ R).trans
    ((dif_neg (show ¬ 8 + j.val < 8 by omega)).trans ((dif_pos (show 8 + j.val - 8 < 8 by omega)).trans
      ((congrArg _ (congrArg (fun k => ix2 k R) (Fin.ext (by show 8 + j.val - 8 = j.val; omega)))).trans (rows_sin m c j R))))))

/-- The loaded rows: a row of ones. -/
theorem block5_one (t : Fin cfg0.N) (r : Fin 512) (R : Fin 4096) (hR : R.val = t.val * 512 + r.val) : iblk m c 5 t (ix2 16 r) = (1 : EReal) :=
  (block5_V m c t 16 r R hR).trans ((congrFun (rows_V m c) _).trans ((Cert.RopeKernelIdeal.Tile.rows_cat _ _ _ _ R).trans
    ((dif_neg (by decide)).trans ((dif_neg (by decide)).trans (rows_one m c _ R)))))

/-- A row's cosines, sines and ones. -/
def cs (t : Fin cfg0.N) (r : Fin 512) : Fin 24 → EReal := fun j => iblk m c 5 t (ix2 j r)

/-- The lanes a slab of the table spreads a row's values to. -/
theorem spread_sum (t : Fin cfg0.N) (k : Fin 3) (r : Fin 512) (l : Fin 128) (inb : ∀ a, (![k.val, 0, 0] : Fin 3 → ℕ) a + (![1, 24, 128] : Fin 3 → ℕ) a ≤ S3x24x128.size a) :
    (∑ j : Fin 24, cs m c t r j * (View.ld (iblk m c 6 t) (Rect.unit (s := S3x24x128) ![k.val, 0, 0] ![1, 24, 128] inb) (ix3 0 j l) : EReal))
      = ∑ j : Fin 24, cs m c t r j * Ideal.ofBits .f32 (Cert.RopeKernelIdeal.lit0t (k.val * 3072 + j.val * 128 + l.val)) := by
  refine Finset.sum_congr rfl fun j _ => congrArg (fun z : EReal => cs m c t r j * z) ?_
  exact (View.ld_unit_apply_of _ _ _ _ _ (ix3 k j l) (fun a => by fin_cases a <;> simp)).trans (block6 m c t k j l)

/-- The kernel's rotary embedding of the two heads of a slab. -/
theorem turn (x : Fin 128 → EReal) (f : Fin 24 → EReal) (h16 : f 16 = 1) (l : Fin 128) :
    x l * (if l.val % 64 < 16 then f ⟨l.val % 8, by omega⟩ else f 16)
        + x ⟨(l.val + 128 - 120) % 128, by omega⟩ * (if l.val % 64 < 8 then - f ⟨8 + l.val % 8, by omega⟩ else 0)
        + x ⟨(l.val + 128 - 8) % 128, by omega⟩ * (if 8 ≤ l.val % 64 ∧ l.val % 64 < 16 then f ⟨8 + l.val % 8, by omega⟩ else 0)
      = PreRef.fwd (fun p => x ⟨l.val / 64 * 64 + p.val, by omega⟩) (fun j => f ⟨j.val, by omega⟩) (fun j => f ⟨8 + j.val, by omega⟩) ⟨l.val % 64, by omega⟩ := by
  have hl := l.isLt
  have e : (⟨l.val / 64 * 64 + l.val % 64, by omega⟩ : Fin 128) = l := Fin.ext (by show l.val / 64 * 64 + l.val % 64 = l.val; omega)
  unfold PreRef.fwd
  by_cases h8 : l.val % 64 < 8
  · rw [dif_pos h8, if_pos (by omega), if_pos h8, if_neg (by omega), mul_zero, add_zero, mul_neg, sub_eq_add_neg]
    refine congrArg₂ (· + ·) (congrArg₂ (· * ·) (congrArg x e.symm) (congrArg f (Fin.ext ?_))) (congrArg Neg.neg (congrArg₂ (· * ·) (congrArg x (Fin.ext ?_)) (congrArg f (Fin.ext ?_))))
    · show l.val % 8 = l.val % 64; omega
    · show (l.val + 128 - 120) % 128 = l.val / 64 * 64 + (l.val % 64 + 8); omega
    · show 8 + l.val % 8 = 8 + l.val % 64; omega
  · rw [dif_neg h8]
    by_cases h16' : l.val % 64 < 16
    · rw [dif_pos h16', if_pos h16', if_neg h8, if_pos ⟨by omega, h16'⟩, mul_zero, add_zero]
      refine congrArg₂ (· + ·) (congrArg₂ (· * ·) (congrArg x e.symm) (congrArg f (Fin.ext ?_))) (congrArg₂ (· * ·) (congrArg x (Fin.ext ?_)) (congrArg f (Fin.ext ?_)))
      · show l.val % 8 = l.val % 64 - 8; omega
      · show (l.val + 128 - 8) % 128 = l.val / 64 * 64 + (l.val % 64 - 8); omega
      · show 8 + l.val % 8 = 8 + (l.val % 64 - 8); omega
    · rw [dif_neg h16', if_neg h16', if_neg h8, if_neg (fun h => h16' h.2), mul_zero, mul_zero, add_zero, add_zero, h16, mul_one]
      exact congrArg x e.symm

end Cert.PreKernelIdeal.Tile
-- ==== Proof.PreTile.lean ====
module

public import proofs.«01_k».proof.Defs
public import proofs.«01_k».proof.Proof.Gen.PreKernelIdeal.Value
public import proofs.«01_k».proof.Proof.PreRows
public import proofs.«01_k».proof.Proof.RopeTile
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.PreKernelIdeal.Tile

open Cert.PreKernelIdeal Cert.PreKernelIdeal.Gen Idealize.ShloMosaic Idealize.ShloMosaic.TcCoe Idealize.SL.Sem
open Cert.PreReferenceIdeal.Read

/-- A column of a row's product with a block of the matrix, from column `o` of the block on. -/
def col (H : FVec Ideal S512x1024 .bf16) (W : FVec Ideal S256x1024 .bf16) (o : ℕ) (ho : o ≤ 128) (r : Fin 512) (l : Fin 128) : EReal :=
  ∑ k : Fin 1024, H (ix2 r k) * W (ix2 ⟨o + l.val, by omega⟩ k)

/-- The kernel's turn of a slab's lanes. -/
def turned (H : FVec Ideal S512x1024 .bf16) (A B C : FVec Ideal S512x128 .f32) (W : FVec Ideal S256x1024 .bf16) (o : ℕ) (ho : o ≤ 128) (r : Fin 512) (l : Fin 128) : EReal :=
  col H W o ho r l * A (ix2 r l) + col H W o ho r ⟨(l.val + 128 - 120) % 128, by omega⟩ * B (ix2 r l)
    + col H W o ho r ⟨(l.val + 128 - 8) % 128, by omega⟩ * C (ix2 r l)

section Payloads
variable (H : FVec Ideal S512x1024 .bf16) (A B C : FVec Ideal S512x128 .f32) (W : FVec Ideal S256x1024 .bf16) (r : Fin 512) (l : Fin 128)

/-- A first slab of the queries. -/
theorem low_q : (k0_pay20 H A B C W (ix3 0 r l) : EReal) = turned H A B C W 0 (by omega) r l * Ideal.ofBits .f32 0x3E000000#32 := by
  pointwise [k0_pay20, k0_pay19, turned, col]

/-- A second slab of the queries. -/
theorem high_q : (k0_pay21 H A B C W (ix3 0 r l) : EReal) = turned H A B C W 128 (by omega) r l * Ideal.ofBits .f32 0x3E000000#32 := by
  pointwise [k0_pay21, k0_pay19, turned, col]

/-- A first slab of the keys. -/
theorem low_k : (k0_pay31 H A B C W (ix3 0 r l) : EReal) = turned H A B C W 0 (by omega) r l := by
  pointwise [k0_pay31, k0_pay30, turned, col]

/-- A second slab of the keys. -/
theorem high_k : (k0_pay32 H A B C W (ix3 0 r l) : EReal) = turned H A B C W 128 (by omega) r l := by
  pointwise [k0_pay32, k0_pay30, turned, col]

/-- A first slab of the values. -/
theorem low_v : (k0_pay6 H W (ix3 0 r l) : EReal) = col H W 0 (by omega) r l := by
  pointwise [k0_pay6, k0_pay5, col]

/-- A second slab of the values. -/
theorem high_v : (k0_pay7 H W (ix3 0 r l) : EReal) = col H W 128 (by omega) r l := by
  pointwise [k0_pay7, k0_pay5, col]

/-- The modulated norm of a tile's row. -/
theorem norm_at (x : FVec Ideal S512x1024 .f32) (g sc sh : FVec Ideal S1x1024 .f32) (k : Fin 1024) : (k0_pay8 (F := Ideal) x g sc sh (ix2 r k) : EReal)
    = x (ix2 r k) * Ideal.rsqrt (Ideal.div (∑ l : Fin 1024, x (ix2 r l) * x (ix2 r l)) (Ideal.ofBits .f32 0x44800000#32) + Ideal.ofBits .f32 0x358637BD#32)
      * g (ix2 0 k) * (Ideal.ofBits .f32 0x3F800000#32 + sc (ix2 0 k)) + sh (ix2 0 k) := by
  pointwise [k0_pay8]

end Payloads

/-- A rectangle's index in the slabs. -/
theorem unit_val (off size : Fin S18x512x128.rank → ℕ) (inb : ∀ a, off a + size a ≤ S18x512x128.size a) (x : (Rect.unit (s := S18x512x128) off size inb).shape.Idx)
    (a : Fin S18x512x128.rank) : ((Rect.unit (s := S18x512x128) off size inb).emb x a).val = off a + (x a).val :=
  Rect.idx_unit_val off size inb x a

variable (m : (ℓ : Loc nD τ sig) → Buf (Elt Ideal) ℓ) (c : Dev nD)

/-- The row of the whole array that a tile's row is. -/
def row (t : Fin cfg0.N) (r : Fin 512) : Fin 4096 := ⟨t.val * 512 + r.val, by have h : t.val < 8 := lt_of_lt_of_eq t.isLt N_0; omega⟩

/-- The tile's modulated norm as the kernel keeps it. -/
def hh (t : Fin cfg0.N) : FVec Ideal S512x1024 .bf16 := k0_pay8 (iblk m c 0 t) (iblk m c 3 t) (iblk m c 2 t) (iblk m c 1 t)

/-- The factors of the lanes themselves. -/
def own (t : Fin cfg0.N) : FVec Ideal S512x128 .f32 := k0_pay12 (k0_pay10 (iblk m c 5 t)) (k0_pay11 (View.ld (iblk m c 6 t) (Rect.unit ![0, 0, 0] ![1, 24, 128] inb_S3x24x128_S1x24x128_0_0_0))) (constant S512x128 .f32 0x00000000#32)

/-- The factors of the lanes eight above. -/
def above (t : Fin cfg0.N) : FVec Ideal S512x128 .f32 := k0_pay13 (iblk m c 5 t) (View.ld (iblk m c 6 t) (Rect.unit ![1, 0, 0] ![1, 24, 128] inb_S3x24x128_S1x24x128_1_0_0))

/-- The factors of the lanes eight below. -/
def below (t : Fin cfg0.N) : FVec Ideal S512x128 .f32 := k0_pay14 (iblk m c 5 t) (View.ld (iblk m c 6 t) (Rect.unit ![2, 0, 0] ![1, 24, 128] inb_S3x24x128_S1x24x128_2_0_0))

/-- The tile's modulated norm is the reference's. -/
theorem hh_eq (t : Fin cfg0.N) (r : Fin 512) (k : Fin 1024) : (hh m c t (ix2 r k) : EReal) = PreRef.hrow (m (c.tc.loc main_arg0)) (m (c.tc.loc main_arg1)) (m (c.tc.loc main_arg2)) (m (c.tc.loc main_arg3)) (row t r) k := by
  have e0 : ∀ l : Fin 1024, iblk m c 0 t (ix2 r l) = m (c.tc.loc main_arg0) (ix2 (row t r) l) := fun l => block0 m c t r l (row t r) rfl
  refine (norm_at r (iblk m c 0 t) (iblk m c 3 t) (iblk m c 2 t) (iblk m c 1 t) k).trans ?_
  unfold PreRef.hrow
  rw [block3, block2, block1]
  simp only [e0]

/-- The factors of the lanes themselves are a cosine or one. -/
theorem own_eq (t : Fin cfg0.N) (r : Fin 512) (l : Fin 128) :
    (own m c t (ix2 r l) : EReal) = if l.val % 64 < 16 then cs m c t r ⟨l.val % 8, by omega⟩ else cs m c t r 16 :=
  (show _ = ∑ j : Fin 24, cs m c t r j * ((View.ld (iblk m c 6 t) (Rect.unit ![0, 0, 0] ![1, 24, 128] inb_S3x24x128_S1x24x128_0_0_0)) (ix3 0 j l) : EReal) by pointwise [own, k0_pay12, k0_pay11, k0_pay10, cs]).trans
    ((spread_sum m c t 0 r l _).trans (Cert.RopeKernelIdeal.Tile.lane0 (cs m c t r) l))

/-- The factors of the lanes eight above are a sine taken negative or zero. -/
theorem above_eq (t : Fin cfg0.N) (r : Fin 512) (l : Fin 128) :
    (above m c t (ix2 r l) : EReal) = if l.val % 64 < 8 then - cs m c t r ⟨8 + l.val % 8, by omega⟩ else 0 :=
  (show _ = ∑ j : Fin 24, cs m c t r j * ((View.ld (iblk m c 6 t) (Rect.unit ![1, 0, 0] ![1, 24, 128] inb_S3x24x128_S1x24x128_1_0_0)) (ix3 0 j l) : EReal) by pointwise [above, k0_pay13, cs]).trans
    ((spread_sum m c t 1 r l _).trans (Cert.RopeKernelIdeal.Tile.lane1 (cs m c t r) l))

/-- The factors of the lanes eight below are a sine or zero. -/
theorem below_eq (t : Fin cfg0.N) (r : Fin 512) (l : Fin 128) :
    (below m c t (ix2 r l) : EReal) = if 8 ≤ l.val % 64 ∧ l.val % 64 < 16 then cs m c t r ⟨8 + l.val % 8, by omega⟩ else 0 :=
  (show _ = ∑ j : Fin 24, cs m c t r j * ((View.ld (iblk m c 6 t) (Rect.unit ![2, 0, 0] ![1, 24, 128] inb_S3x24x128_S1x24x128_2_0_0)) (ix3 0 j l) : EReal) by pointwise [below, k0_pay14, cs]).trans
    ((spread_sum m c t 2 r l _).trans (Cert.RopeKernelIdeal.Tile.lane2 (cs m c t r) l))

/-- The columns of the projection, from column `b` on. -/
theorem col_eq (t : Fin cfg0.N) (b : ℕ) (hb : b + 256 ≤ 2560) (inb : ∀ a, (![b, 0] : Fin 2 → ℕ) a + (![256, 1024] : Fin 2 → ℕ) a ≤ S2560x1024.size a)
    (o : ℕ) (ho : o ≤ 128) (r : Fin 512) (l : Fin 128) :
    col (hh m c t) (View.ld (iblk m c 4 t) (Rect.unit (s := S2560x1024) ![b, 0] ![256, 1024] inb)) o ho r l
      = PreRef.proj (m (c.tc.loc main_arg0)) (m (c.tc.loc main_arg1)) (m (c.tc.loc main_arg2)) (m (c.tc.loc main_arg3)) (m (c.tc.loc main_arg4)) (row t r) ⟨b + (o + l.val), by omega⟩ :=
  Finset.sum_congr rfl fun k _ => congrArg₂ (fun y z : EReal => y * z) (hh_eq m c t r k)
    ((View.ld_unit_apply_of _ _ _ _ _ (ix2 ⟨b + (o + l.val), by omega⟩ k) (fun a => by fin_cases a <;> simp)).trans (block4 m c t _ k))

/-- A slab's turned lanes are the rotary embedding of its heads. -/
theorem turned_eq (t : Fin cfg0.N) (b : ℕ) (hb : b + 256 ≤ 2560) (inb : ∀ a, (![b, 0] : Fin 2 → ℕ) a + (![256, 1024] : Fin 2 → ℕ) a ≤ S2560x1024.size a)
    (o : ℕ) (ho : o ≤ 128) (r : Fin 512) (l : Fin 128) :
    turned (hh m c t) (own m c t) (above m c t) (below m c t) (View.ld (iblk m c 4 t) (Rect.unit (s := S2560x1024) ![b, 0] ![256, 1024] inb)) o ho r l
      = PreRef.fwd (fun p => PreRef.proj (m (c.tc.loc main_arg0)) (m (c.tc.loc main_arg1)) (m (c.tc.loc main_arg2)) (m (c.tc.loc main_arg3)) (m (c.tc.loc main_arg4)) (row t r) ⟨b + (o + (l.val / 64 * 64 + p.val)), by omega⟩)
        (fun j => val_main_v16 (F := Ideal) (m (c.tc.loc main_arg5)) (ix2 (row t r) j)) (fun j => val_main_v18 (F := Ideal) (m (c.tc.loc main_arg5)) (ix2 (row t r) j)) ⟨l.val % 64, by omega⟩ := by
  unfold turned
  rw [own_eq, above_eq, below_eq]
  refine (turn (col (hh m c t) _ o ho r) (cs m c t r) (block5_one m c t r (row t r) rfl) l).trans ?_
  rw [show (fun j : Fin 8 => cs m c t r ⟨j.val, by omega⟩) = fun j => val_main_v16 (F := Ideal) (m (c.tc.loc main_arg5)) (ix2 (row t r) j) from
      funext fun j => block5_cos m c t j r (row t r) rfl,
    show (fun j : Fin 8 => cs m c t r ⟨8 + j.val, by omega⟩) = fun j => val_main_v18 (F := Ideal) (m (c.tc.loc main_arg5)) (ix2 (row t r) j) from
      funext fun j => block5_sin m c t j r (row t r) rfl]
  exact congrArg (fun f => PreRef.fwd f _ _ _) (funext fun p => col_eq m c t b hb inb o ho r _)

/-- What a tile's slabs are, over the argument arrays. -/
def tile (t : Fin cfg0.N) (y : S18x512x128.Idx) : EReal := PreRef.slab (m (c.tc.loc main_arg0)) (m (c.tc.loc main_arg1)) (m (c.tc.loc main_arg2)) (m (c.tc.loc main_arg3)) (m (c.tc.loc main_arg4)) (m (c.tc.loc main_arg5)) (y 0) (row t (y 1)) (y 2)

/-- A stored slab that agrees with the reference's at its rows and lanes is the tile's. -/
theorem piece (t : Fin cfg0.N) (s : ℕ) (hs : s < 18) (inb : ∀ a, (![s, 0, 0] : Fin 3 → ℕ) a + (![1, 512, 128] : Fin 3 → ℕ) a ≤ S18x512x128.size a)
    (P : FVec Ideal S1x512x128 .f32) (h : ∀ r l, (P (ix3 0 r l) : EReal) = PreRef.slab (m (c.tc.loc main_arg0)) (m (c.tc.loc main_arg1)) (m (c.tc.loc main_arg2)) (m (c.tc.loc main_arg3)) (m (c.tc.loc main_arg4)) (m (c.tc.loc main_arg5)) ⟨s, hs⟩ (row t r) l)
    (x : S1x512x128.Idx) : P x = tile m c t ((Rect.unit (s := S18x512x128) ![s, 0, 0] ![1, 512, 128] inb).emb x) := by
  have h0 : (x 0).val < 1 := (x 0).isLt
  have hx : x = ix3 0 (x 1) (x 2) := (eq_ix3 x).trans (congrArg (fun q => ix3 q (x 1) (x 2)) (Fin.ext (show (x 0).val = 0 by omega)))
  refine (congrArg P hx).trans ((h (x 1) (x 2)).trans ?_)
  have e : ∀ (a a' : Fin 18) (R R' : Fin 512) (l l' : Fin 128), a.val = a'.val → R.val = R'.val → l.val = l'.val →
      PreRef.slab (m (c.tc.loc main_arg0)) (m (c.tc.loc main_arg1)) (m (c.tc.loc main_arg2)) (m (c.tc.loc main_arg3)) (m (c.tc.loc main_arg4)) (m (c.tc.loc main_arg5)) a (row t R) l = PreRef.slab (m (c.tc.loc main_arg0)) (m (c.tc.loc main_arg1)) (m (c.tc.loc main_arg2)) (m (c.tc.loc main_arg3)) (m (c.tc.loc main_arg4)) (m (c.tc.loc main_arg5)) a' (row t R') l' :=
    fun a a' R R' l l' ha hR hl => by rw [Fin.ext ha, Fin.ext hR, Fin.ext hl]
  refine e _ _ _ _ _ _ (Eq.symm ((unit_val ![s, 0, 0] ![1, 512, 128] inb x 0).trans ?_)) (Eq.symm ((unit_val ![s, 0, 0] ![1, 512, 128] inb x 1).trans ?_))
    (Eq.symm ((unit_val ![s, 0, 0] ![1, 512, 128] inb x 2).trans ?_))
  · show s + (x 0).val = s
    omega
  · show 0 + (x 1).val = (x 1).val
    omega
  · show 0 + (x 2).val = (x 2).val
    omega

/-- A slab of the queries, from column `b + o` of the projection on. -/
theorem slab_q (t : Fin cfg0.N) (s : ℕ) (hs : s < 18) (h : s < 6) (b : ℕ) (hb : b + 256 ≤ 2560) (inb : ∀ a, (![b, 0] : Fin 2 → ℕ) a + (![256, 1024] : Fin 2 → ℕ) a ≤ S2560x1024.size a)
    (o : ℕ) (ho : o ≤ 128) (e : b + o = 256 + s * 128) (r : Fin 512) (l : Fin 128) :
    turned (hh m c t) (own m c t) (above m c t) (below m c t) (View.ld (iblk m c 4 t) (Rect.unit (s := S2560x1024) ![b, 0] ![256, 1024] inb)) o ho r l * Ideal.ofBits .f32 0x3E000000#32
      = PreRef.slab (m (c.tc.loc main_arg0)) (m (c.tc.loc main_arg1)) (m (c.tc.loc main_arg2)) (m (c.tc.loc main_arg3)) (m (c.tc.loc main_arg4)) (m (c.tc.loc main_arg5)) ⟨s, hs⟩ (row t r) l := by
  unfold PreRef.slab
  rw [if_pos h, turned_eq m c t b hb inb o ho r l]
  exact congrArg (fun f => PreRef.fwd f _ _ _ * Ideal.ofBits .f32 0x3E000000#32) (funext fun p => congrArg (PreRef.proj (m (c.tc.loc main_arg0)) (m (c.tc.loc main_arg1)) (m (c.tc.loc main_arg2)) (m (c.tc.loc main_arg3)) (m (c.tc.loc main_arg4)) (row t r)) (Fin.ext (by simp only; omega)))

/-- A slab of the keys, from column `b + o` of the projection on. -/
theorem slab_k (t : Fin cfg0.N) (s : ℕ) (hs : s < 18) (h : 6 ≤ s ∧ s < 12) (b : ℕ) (hb : b + 256 ≤ 2560) (inb : ∀ a, (![b, 0] : Fin 2 → ℕ) a + (![256, 1024] : Fin 2 → ℕ) a ≤ S2560x1024.size a)
    (o : ℕ) (ho : o ≤ 128) (e : b + o = 256 + s * 128) (r : Fin 512) (l : Fin 128) :
    turned (hh m c t) (own m c t) (above m c t) (below m c t) (View.ld (iblk m c 4 t) (Rect.unit (s := S2560x1024) ![b, 0] ![256, 1024] inb)) o ho r l
      = PreRef.slab (m (c.tc.loc main_arg0)) (m (c.tc.loc main_arg1)) (m (c.tc.loc main_arg2)) (m (c.tc.loc main_arg3)) (m (c.tc.loc main_arg4)) (m (c.tc.loc main_arg5)) ⟨s, hs⟩ (row t r) l := by
  unfold PreRef.slab
  rw [if_neg (by show ¬ s < 6; omega), if_pos h.2, turned_eq m c t b hb inb o ho r l]
  exact congrArg (fun f => PreRef.fwd f _ _ _) (funext fun p => congrArg (PreRef.proj (m (c.tc.loc main_arg0)) (m (c.tc.loc main_arg1)) (m (c.tc.loc main_arg2)) (m (c.tc.loc main_arg3)) (m (c.tc.loc main_arg4)) (row t r)) (Fin.ext (by simp only; omega)))

/-- A slab of the values, from column `b + o` of the projection on. -/
theorem slab_v (t : Fin cfg0.N) (s : ℕ) (hs : s < 18) (h : 12 ≤ s) (b : ℕ) (hb : b + 256 ≤ 2560) (inb : ∀ a, (![b, 0] : Fin 2 → ℕ) a + (![256, 1024] : Fin 2 → ℕ) a ≤ S2560x1024.size a)
    (o : ℕ) (ho : o ≤ 128) (e : b + o = 256 + s * 128) (r : Fin 512) (l : Fin 128) :
    col (hh m c t) (View.ld (iblk m c 4 t) (Rect.unit (s := S2560x1024) ![b, 0] ![256, 1024] inb)) o ho r l
      = PreRef.slab (m (c.tc.loc main_arg0)) (m (c.tc.loc main_arg1)) (m (c.tc.loc main_arg2)) (m (c.tc.loc main_arg3)) (m (c.tc.loc main_arg4)) (m (c.tc.loc main_arg5)) ⟨s, hs⟩ (row t r) l := by
  unfold PreRef.slab
  rw [if_neg (by show ¬ s < 6; omega), if_neg (by show ¬ s < 12; omega), col_eq m c t b hb inb o ho r l]
  exact congrArg (PreRef.proj (m (c.tc.loc main_arg0)) (m (c.tc.loc main_arg1)) (m (c.tc.loc main_arg2)) (m (c.tc.loc main_arg3)) (m (c.tc.loc main_arg4)) (row t r)) (Fin.ext (by simp only; omega))

/-- What a tile leaves in the modulated norm's array. -/
theorem out_7 (t : Fin cfg0.N) (r : Fin 512) (k : Fin 1024) : ((outsAt0 m c t).1 (ix2 r k) : EReal) = PreRef.hrow (m (c.tc.loc main_arg0)) (m (c.tc.loc main_arg1)) (m (c.tc.loc main_arg2)) (m (c.tc.loc main_arg3)) (row t r) k := by
  refine Eq.trans ?_ (hh_eq m c t r k)
  unfold outsAt0
  dsimp only
  frame_open
  frame_out
  rfl

/-- What a tile leaves in the pooled columns. -/
theorem out_8 (t : Fin cfg0.N) (r : Fin 512) (n : Fin 256) : ((outsAt0 m c t).2.1 (ix2 r n) : EReal)
    = PreRef.proj (m (c.tc.loc main_arg0)) (m (c.tc.loc main_arg1)) (m (c.tc.loc main_arg2)) (m (c.tc.loc main_arg3)) (m (c.tc.loc main_arg4)) (row t r) ⟨n.val, by omega⟩ := by
  unfold outsAt0
  dsimp only
  frame_open
  frame_out
  refine (show _ = ∑ k : Fin 1024, (hh m c t (ix2 r k) : EReal) * (View.ld (iblk m c 4 t) (Rect.unit ![0, 0] ![256, 1024] inb_S2560x1024_S256x1024_0_0)) (ix2 n k) by pointwise [hh, k0_pay9]).trans ?_
  exact Finset.sum_congr rfl fun k _ => congrArg₂ (fun y z : EReal => y * z) (hh_eq m c t r k)
    ((View.ld_unit_apply_of _ _ _ _ _ (ix2 ⟨n.val, by omega⟩ k) (fun a => by fin_cases a <;> simp)).trans (block4 m c t _ k))

end Cert.PreKernelIdeal.Tile
-- ==== Proof.PreSlabs.lean ====
module

public import proofs.«01_k».proof.Defs
public import proofs.«01_k».proof.Proof.Gen.PreKernelIdeal.Value
public import proofs.«01_k».proof.Proof.PreTile
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.PreKernelIdeal.Tile

open Cert.PreKernelIdeal Cert.PreKernelIdeal.Gen Idealize.ShloMosaic Idealize.ShloMosaic.TcCoe Idealize.SL.Sem
open Cert.PreReferenceIdeal.Read

variable (m : (ℓ : Loc nD τ sig) → Buf (Elt Ideal) ℓ) (c : Dev nD)

set_option maxHeartbeats 4000000 in
/-- What a tile leaves in the slabs. -/
theorem out_9 (t : Fin cfg0.N) (y : S18x512x128.Idx) : (outsAt0 m c t).2.2 y = tile m c t y := by
  unfold outsAt0
  dsimp only
  frame_open
  simp (disch := decide) only [↓ View.readCov_skip, ↓ View.readCov_cons_toLoadRect, ↓ View.readCov_fill]
  frame_out
  refine Cert.RopeKernelIdeal.Tile.canon_pieces (e := .f32) (tile m c t) _ ?_ y (View.cover_of_tiledBy _ ![1, 512, 128] (by sl_kernel_rfl) _)
  refine ⟨?_, ?_⟩
  · exact piece m c t 17 (by decide) inb_S18x512x128_S1x512x128_17_0_0 _ (fun r l => (high_v (hh m c t) (View.ld (iblk m c 4 t) (Rect.unit ![2304, 0] ![256, 1024] inb_S2560x1024_S256x1024_2304_0)) r l).trans (slab_v m c t 17 (by decide) (by decide) 2304 (by decide) inb_S2560x1024_S256x1024_2304_0 128 (by decide) (by decide) r l))
  refine ⟨?_, ?_⟩
  · exact piece m c t 16 (by decide) inb_S18x512x128_S1x512x128_16_0_0 _ (fun r l => (low_v (hh m c t) (View.ld (iblk m c 4 t) (Rect.unit ![2304, 0] ![256, 1024] inb_S2560x1024_S256x1024_2304_0)) r l).trans (slab_v m c t 16 (by decide) (by decide) 2304 (by decide) inb_S2560x1024_S256x1024_2304_0 0 (by decide) (by decide) r l))
  refine ⟨?_, ?_⟩
  · exact piece m c t 15 (by decide) inb_S18x512x128_S1x512x128_15_0_0 _ (fun r l => (high_v (hh m c t) (View.ld (iblk m c 4 t) (Rect.unit ![2048, 0] ![256, 1024] inb_S2560x1024_S256x1024_2048_0)) r l).trans (slab_v m c t 15 (by decide) (by decide) 2048 (by decide) inb_S2560x1024_S256x1024_2048_0 128 (by decide) (by decide) r l))
  refine ⟨?_, ?_⟩
  · exact piece m c t 14 (by decide) inb_S18x512x128_S1x512x128_14_0_0 _ (fun r l => (low_v (hh m c t) (View.ld (iblk m c 4 t) (Rect.unit ![2048, 0] ![256, 1024] inb_S2560x1024_S256x1024_2048_0)) r l).trans (slab_v m c t 14 (by decide) (by decide) 2048 (by decide) inb_S2560x1024_S256x1024_2048_0 0 (by decide) (by decide) r l))
  refine ⟨?_, ?_⟩
  · exact piece m c t 13 (by decide) inb_S18x512x128_S1x512x128_13_0_0 _ (fun r l => (high_v (hh m c t) (View.ld (iblk m c 4 t) (Rect.unit ![1792, 0] ![256, 1024] inb_S2560x1024_S256x1024_1792_0)) r l).trans (slab_v m c t 13 (by decide) (by decide) 1792 (by decide) inb_S2560x1024_S256x1024_1792_0 128 (by decide) (by decide) r l))
  refine ⟨?_, ?_⟩
  · exact piece m c t 12 (by decide) inb_S18x512x128_S1x512x128_12_0_0 _ (fun r l => (low_v (hh m c t) (View.ld (iblk m c 4 t) (Rect.unit ![1792, 0] ![256, 1024] inb_S2560x1024_S256x1024_1792_0)) r l).trans (slab_v m c t 12 (by decide) (by decide) 1792 (by decide) inb_S2560x1024_S256x1024_1792_0 0 (by decide) (by decide) r l))
  refine ⟨?_, ?_⟩
  · exact piece m c t 11 (by decide) inb_S18x512x128_S1x512x128_11_0_0 _ (fun r l => (high_k (hh m c t) (own m c t) (above m c t) (below m c t) (View.ld (iblk m c 4 t) (Rect.unit ![1536, 0] ![256, 1024] inb_S2560x1024_S256x1024_1536_0)) r l).trans (slab_k m c t 11 (by decide) (by decide) 1536 (by decide) inb_S2560x1024_S256x1024_1536_0 128 (by decide) (by decide) r l))
  refine ⟨?_, ?_⟩
  · exact piece m c t 10 (by decide) inb_S18x512x128_S1x512x128_10_0_0 _ (fun r l => (low_k (hh m c t) (own m c t) (above m c t) (below m c t) (View.ld (iblk m c 4 t) (Rect.unit ![1536, 0] ![256, 1024] inb_S2560x1024_S256x1024_1536_0)) r l).trans (slab_k m c t 10 (by decide) (by decide) 1536 (by decide) inb_S2560x1024_S256x1024_1536_0 0 (by decide) (by decide) r l))
  refine ⟨?_, ?_⟩
  · exact piece m c t 9 (by decide) inb_S18x512x128_S1x512x128_9_0_0 _ (fun r l => (high_k (hh m c t) (own m c t) (above m c t) (below m c t) (View.ld (iblk m c 4 t) (Rect.unit ![1280, 0] ![256, 1024] inb_S2560x1024_S256x1024_1280_0)) r l).trans (slab_k m c t 9 (by decide) (by decide) 1280 (by decide) inb_S2560x1024_S256x1024_1280_0 128 (by decide) (by decide) r l))
  refine ⟨?_, ?_⟩
  · exact piece m c t 8 (by decide) inb_S18x512x128_S1x512x128_8_0_0 _ (fun r l => (low_k (hh m c t) (own m c t) (above m c t) (below m c t) (View.ld (iblk m c 4 t) (Rect.unit ![1280, 0] ![256, 1024] inb_S2560x1024_S256x1024_1280_0)) r l).trans (slab_k m c t 8 (by decide) (by decide) 1280 (by decide) inb_S2560x1024_S256x1024_1280_0 0 (by decide) (by decide) r l))
  refine ⟨?_, ?_⟩
  · exact piece m c t 7 (by decide) inb_S18x512x128_S1x512x128_7_0_0 _ (fun r l => (high_k (hh m c t) (own m c t) (above m c t) (below m c t) (View.ld (iblk m c 4 t) (Rect.unit ![1024, 0] ![256, 1024] inb_S2560x1024_S256x1024_1024_0)) r l).trans (slab_k m c t 7 (by decide) (by decide) 1024 (by decide) inb_S2560x1024_S256x1024_1024_0 128 (by decide) (by decide) r l))
  refine ⟨?_, ?_⟩
  · exact piece m c t 6 (by decide) inb_S18x512x128_S1x512x128_6_0_0 _ (fun r l => (low_k (hh m c t) (own m c t) (above m c t) (below m c t) (View.ld (iblk m c 4 t) (Rect.unit ![1024, 0] ![256, 1024] inb_S2560x1024_S256x1024_1024_0)) r l).trans (slab_k m c t 6 (by decide) (by decide) 1024 (by decide) inb_S2560x1024_S256x1024_1024_0 0 (by decide) (by decide) r l))
  refine ⟨?_, ?_⟩
  · exact piece m c t 5 (by decide) inb_S18x512x128_S1x512x128_5_0_0 _ (fun r l => (high_q (hh m c t) (own m c t) (above m c t) (below m c t) (View.ld (iblk m c 4 t) (Rect.unit ![768, 0] ![256, 1024] inb_S2560x1024_S256x1024_768_0)) r l).trans (slab_q m c t 5 (by decide) (by decide) 768 (by decide) inb_S2560x1024_S256x1024_768_0 128 (by decide) (by decide) r l))
  refine ⟨?_, ?_⟩
  · exact piece m c t 4 (by decide) inb_S18x512x128_S1x512x128_4_0_0 _ (fun r l => (low_q (hh m c t) (own m c t) (above m c t) (below m c t) (View.ld (iblk m c 4 t) (Rect.unit ![768, 0] ![256, 1024] inb_S2560x1024_S256x1024_768_0)) r l).trans (slab_q m c t 4 (by decide) (by decide) 768 (by decide) inb_S2560x1024_S256x1024_768_0 0 (by decide) (by decide) r l))
  refine ⟨?_, ?_⟩
  · exact piece m c t 3 (by decide) inb_S18x512x128_S1x512x128_3_0_0 _ (fun r l => (high_q (hh m c t) (own m c t) (above m c t) (below m c t) (View.ld (iblk m c 4 t) (Rect.unit ![512, 0] ![256, 1024] inb_S2560x1024_S256x1024_512_0)) r l).trans (slab_q m c t 3 (by decide) (by decide) 512 (by decide) inb_S2560x1024_S256x1024_512_0 128 (by decide) (by decide) r l))
  refine ⟨?_, ?_⟩
  · exact piece m c t 2 (by decide) inb_S18x512x128_S1x512x128_2_0_0 _ (fun r l => (low_q (hh m c t) (own m c t) (above m c t) (below m c t) (View.ld (iblk m c 4 t) (Rect.unit ![512, 0] ![256, 1024] inb_S2560x1024_S256x1024_512_0)) r l).trans (slab_q m c t 2 (by decide) (by decide) 512 (by decide) inb_S2560x1024_S256x1024_512_0 0 (by decide) (by decide) r l))
  refine ⟨?_, ?_⟩
  · exact piece m c t 1 (by decide) inb_S18x512x128_S1x512x128_1_0_0 _ (fun r l => (high_q (hh m c t) (own m c t) (above m c t) (below m c t) (View.ld (iblk m c 4 t) (Rect.unit ![256, 0] ![256, 1024] inb_S2560x1024_S256x1024_256_0)) r l).trans (slab_q m c t 1 (by decide) (by decide) 256 (by decide) inb_S2560x1024_S256x1024_256_0 128 (by decide) (by decide) r l))
  refine ⟨?_, ?_⟩
  · exact piece m c t 0 (by decide) inb_S18x512x128_S1x512x128_0_0_0 _ (fun r l => (low_q (hh m c t) (own m c t) (above m c t) (below m c t) (View.ld (iblk m c 4 t) (Rect.unit ![256, 0] ![256, 1024] inb_S2560x1024_S256x1024_256_0)) r l).trans (slab_q m c t 0 (by decide) (by decide) 256 (by decide) inb_S2560x1024_S256x1024_256_0 0 (by decide) (by decide) r l))
  exact trivial

end Cert.PreKernelIdeal.Tile
-- ==== Proof.PreClaim.lean ====
module

public import proofs.«01_k».proof.Defs
public import proofs.«01_k».proof.Proof.Gen.PreKernelIdeal.Value
public import proofs.«01_k».proof.Proof.Gen.PreReferenceIdeal.Run
public import Idealize.ShloMosaic.Lib.Quiescent
public import Idealize.ShloMosaic.Lib.Pointwise
public import Idealize.ShloMosaic.Lib.Tactic
public import Idealize.ShloMosaic.Lib.Pipeline.ValueKit
public import Idealize.ShloMosaic.Lib.Pipeline.ReadBack
public import proofs.«01_k».proof.Proof.PreSlabs

@[expose] public section

set_option maxRecDepth 16384

noncomputable section

namespace Cert.PreKernelIdeal.Tile

open Cert.PreKernelIdeal Cert.PreKernelIdeal.Gen Idealize.ShloMosaic Idealize.ShloMosaic.TcCoe Idealize.SL.Sem

open Cert.PreReferenceIdeal.Read

variable (m : (ℓ : Loc nD τ sig) → Buf (Elt Ideal) ℓ) (c : Dev nD)

/-- The kernel's modulated norm is the reference's. -/
theorem final7 : (dats m 0 c).arrAt 7 cfg0.N = val_main_v81 (F := Ideal) (m (c.tc.loc main_arg0)) (m (c.tc.loc main_arg1)) (m (c.tc.loc main_arg2)) (m (c.tc.loc main_arg3)) := by
  refine (dats m 0 c).arrAt_eq_of_covers 7 _ (by decide +kernel) fun t hf y => ?_
  have row7 : (((View.whole main_v22_0).slice (win0_7.rect t)).emb y 0).val = t.val * 512 + (y 0).val := by
    blk_simp [index t]
  have col7 : (((View.whole main_v22_0).slice (win0_7.rect t)).emb y 1).val = (y 1).val := by
    blk_simp [index t]
  blk_simp
  rw [after0_7]
  refine (congrArg _ (eq_ix2 y)).trans ((out_7 m c t (y 0) (y 1)).trans ((PreRef.ref_h_out (m (c.tc.loc main_arg0)) (m (c.tc.loc main_arg1)) (m (c.tc.loc main_arg2)) (m (c.tc.loc main_arg3)) (row t (y 0)) (y 1)).symm.trans (congrArg _ ?_)))
  exact (congrArg₂ ix2 (Fin.ext row7.symm) (Fin.ext col7.symm)).trans (eq_ix2 _).symm

/-- The kernel's pooled columns are the reference's. -/
theorem final8 : (dats m 0 c).arrAt 8 cfg0.N = val_main_v82 (F := Ideal) (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  have row8 : (((View.whole main_v22_1).slice (win0_8.rect t)).emb y 0).val = t.val * 512 + (y 0).val := by
    blk_simp [index t]
  have col8 : (((View.whole main_v22_1).slice (win0_8.rect t)).emb y 1).val = (y 1).val := by
    blk_simp [index t]
  blk_simp
  rw [after0_8]
  refine (congrArg _ (eq_ix2 y)).trans ((out_8 m c t (y 0) (y 1)).trans ((PreRef.ref_up (m (c.tc.loc main_arg0)) (m (c.tc.loc main_arg1)) (m (c.tc.loc main_arg2)) (m (c.tc.loc main_arg3)) (m (c.tc.loc main_arg4)) (row t (y 0)) (y 1)).symm.trans (congrArg _ ?_)))
  exact (congrArg₂ ix2 (Fin.ext row8.symm) (Fin.ext col8.symm)).trans (eq_ix2 _).symm

/-- The kernel's queries, keys and values are the reference's. -/
theorem final9 : (dats m 0 c).arrAt 9 cfg0.N = val_main_v84 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 9 _ (by decide +kernel) fun t hf y => ?_
  have slab9 : (((View.whole main_v22_2).slice (win0_9.rect t)).emb y 0).val = (y 0).val := by
    blk_simp [index t]
  have row9 : (((View.whole main_v22_2).slice (win0_9.rect t)).emb y 1).val = t.val * 512 + (y 1).val := by
    blk_simp [index t]
  have lane9 : (((View.whole main_v22_2).slice (win0_9.rect t)).emb y 2).val = (y 2).val := by
    blk_simp [index t]
  have e : ∀ (z : S18x4096x128.Idx), (z 0).val = (y 0).val → (z 1).val = t.val * 512 + (y 1).val → (z 2).val = (y 2).val → ix3 (y 0) (row t (y 1)) (y 2) = z :=
    fun z h0 h1 h2 => Eq.symm ((eq_ix3 z).trans (by rw [Fin.ext h0, show z 1 = row t (y 1) from Fin.ext h1, Fin.ext h2]; rfl))
  blk_simp
  rw [after0_9]
  refine (out_9 m c t y).trans ((PreRef.ref_slab (m (c.tc.loc main_arg0)) (m (c.tc.loc main_arg1)) (m (c.tc.loc main_arg2)) (m (c.tc.loc main_arg3)) (m (c.tc.loc main_arg4)) (m (c.tc.loc main_arg5)) (y 0) (row t (y 1)) (y 2)).symm.trans (congrArg _ ?_))
  exact e _ slab9 row9 lane9

end Cert.PreKernelIdeal.Tile

namespace Cert.PreProof

open Idealize.ShloMosaic Idealize.ShloMosaic.TcCoe Idealize.SL.Sem

/-- The reference runs to its end and leaves its arguments. -/
theorem quiescent_reference : Cert.quiescent_PreReferenceIdeal (hPreReferenceIdeal := Cert.PreReferenceIdeal.Gen.facts) :=
  fun m ρ _ => (θ_run (Cert.PreReferenceIdeal.defs (F := Ideal)) _ _).mono
    (fun r h => ⟨fun c => (h c).2.2.2, sem_eq_zero_of_no_sems (by decide) r.2⟩) (Cert.PreReferenceIdeal.Value.run (F := Ideal) m ρ)

/-- On equal arguments the kernel's results are the reference's. -/
theorem algebraic : Cert.algebraic_PreKernelIdeal_PreReferenceIdeal (hPreKernelIdeal := Cert.PreKernelIdeal.Gen.facts)
    (hPreReferenceIdeal := Cert.PreReferenceIdeal.Gen.facts) :=
  fun m ρ m' ρ' _ hag => ⟨_, _, _, (θ_run (Cert.PreKernelIdeal.defs (F := Ideal)) _ _).mono
      (fun _ h c => ⟨(h c).1.trans (Cert.PreKernelIdeal.Tile.final7 m c), (h c).2.1.trans (Cert.PreKernelIdeal.Tile.final8 m c),
        (h c).2.2.1.trans (Cert.PreKernelIdeal.Tile.final9 m c), (h c).2.2.2⟩)
      (Cert.PreKernelIdeal.Value.run_blocks (F := Ideal) m ρ),
    (θ_run (Cert.PreReferenceIdeal.defs (F := Ideal)) _ _).mono
      (fun _ h c => ⟨(h c).1.trans (by
          rw [Cert.PreReferenceIdeal.Read.val_main_v81_eq, (hag c).1, (hag c).2.1, (hag c).2.2.1, (hag c).2.2.2.1]),
        (h c).2.1.trans (by
          rw [Cert.PreReferenceIdeal.Read.val_main_v82_eq, (hag c).1, (hag c).2.1, (hag c).2.2.1, (hag c).2.2.2.1, (hag c).2.2.2.2.1]),
        (h c).2.2.1.trans (by
          rw [Cert.PreReferenceIdeal.Read.val_main_v84_eq, (hag c).1, (hag c).2.1, (hag c).2.2.1, (hag c).2.2.2.1, (hag c).2.2.2.2.1, (hag c).2.2.2.2.2.1]), (h c).2.2.2⟩)
      (Cert.PreReferenceIdeal.Value.run (F := Ideal) m' ρ')⟩

end Cert.PreProof

end
-- ==== Proof.MixRef.lean ====
module

public import proofs.«01_k».proof.Defs
public import proofs.«01_k».proof.Proof.Gen.MixKernelIdeal.Skeleton
public import proofs.«01_k».proof.Proof.Gen.MixReferenceIdeal.Read
public import Idealize.ShloMosaic.Lib.Pointwise
public import Idealize.ShloMosaic.Lib.Tactic
public import Idealize.ShloMosaic.Lib.Pipeline.ValueKit
public import Idealize.ShloMosaic.Lib.Pipeline.ReadBack
public import proofs.«01_k».proof.Proof.NormBwd

@[expose] public section

set_option maxRecDepth 16384

noncomputable section

namespace Cert.MixRef

open Cert.MixKernelIdeal Cert.MixKernelIdeal.Gen Idealize.ShloMosaic Idealize.ShloMosaic.TcCoe
open Cert.MixReferenceIdeal.Read

/-- The gradient through the norm of the row `X` for the gradient `Y` of its normalised form. -/
def back (X Y : Fin 1024 → EReal) (l : Fin 1024) : EReal :=
  Ideal.rsqrt (NormBwd.ms X) * (Y l - X l * Ideal.rsqrt (NormBwd.ms X) *
        Ideal.div (∑ x, Y x * (X x * Ideal.rsqrt (NormBwd.ms X))) (Ideal.ofBits .f32 1149239296#32))

/-- The same gradient by the chain rule. -/
theorem back_eq (X Y : Fin 1024 → EReal) (l : Fin 1024) :
    back X Y l = Y l * Ideal.rsqrt (NormBwd.ms X) +
        X l * Ideal.div ((∑ x, X x * Y x) *
          (Ideal.ofBits .f32 3204448256#32 * Ideal.div (Ideal.rsqrt (NormBwd.ms X)) (NormBwd.ms X))) (Ideal.ofBits .f32 1149239296#32) +
        Ideal.div ((∑ x, X x * Y x) *
          (Ideal.ofBits .f32 3204448256#32 * Ideal.div (Ideal.rsqrt (NormBwd.ms X)) (NormBwd.ms X))) (Ideal.ofBits .f32 1149239296#32) * X l :=
  NormBwd.norm_bwd X Y l

/-- One token's part of row `q` of the sums: for the shift, the scale and the gain of the second norm, for the gate and the gain of the first. -/
def term (q : ℕ) (h s n2 g2 d gt n1 g1 : EReal) : EReal :=
  if q < 1 then h else if q - 1 < 1 then h * (n2 * g2) else if q - 1 - 1 < 1 then h * s * n2
  else if q - 1 - 1 - 1 < 1 then d * (n1 * g1) else if q - 1 - 1 - 1 - 1 < 1 then d * gt * n1 else 0

section Reference

variable (dh dout : FVec Ideal S4096x1024 .bf16) (x1 : FVec Ideal S4096x1024 .f32) (y1 : FVec Ideal S4096x1024 .bf16)
  (cat : FVec Ideal S4096x512 .bf16) (w : FVec Ideal S512x1024 .f32) (sc g2 gt g1 : FVec Ideal S1x1024 .f32)

/-- The reference's gradient of the residual, at an index. -/
theorem ref_dx (r : Fin 4096) (l : Fin 1024) : val_main_v50 (F := Ideal) dh dout x1 sc g2 (ix2 r l)
    = dout (ix2 r l) + back (fun k => x1 (ix2 r k)) (fun k => dh (ix2 r k) * (1 + sc (ix2 0 k)) * g2 (ix2 0 k)) l := by
  rw [back_eq]
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v29, val_main_v28, val_main_v22, val_main_v17, val_main_v16, val_main_v11, val_main_v10, val_main_v9, val_main_v8, val_main_v7, val_main_v6, val_main_v5, val_main_v4, val_main_v3, val_main_v2, val_main_v1, val_main_cst_0, val_main_cst_1, val_main_cst_10, val_main_cst_2, val_main_cst_3, val_main_cst_4, val_main_cst_8, val_main_cst_9]
  simp only [Fin.sum_univ_one, Fin.isValue]
  rfl

/-- The reference's result for it is the same array. -/
theorem ref_dx_out (r : Fin 4096) (l : Fin 1024) : (val_main_v100 (F := Ideal) dh dout x1 sc g2 (ix2 r l) : EReal)
    = val_main_v50 (F := Ideal) dh dout x1 sc g2 (ix2 r l) := by
  pointwise [val_main_v100]

/-- The reference's gradient of the projected rows, at an index. -/
theorem ref_dy (r : Fin 4096) (l : Fin 1024) : val_main_v92 (F := Ideal) dh dout x1 y1 sc g2 gt g1 (ix2 r l)
    = back (fun k => y1 (ix2 r k)) (fun k => val_main_v50 (F := Ideal) dh dout x1 sc g2 (ix2 r k) * gt (ix2 0 k) * g1 (ix2 0 k)) l := by
  have e : (fun k => val_main_v50 (F := Ideal) dh dout x1 sc g2 (ix2 r k) * gt (ix2 0 k) * g1 (ix2 0 k))
      = fun k => gt (ix2 0 k) * val_main_v50 (F := Ideal) dh dout x1 sc g2 (ix2 r k) * g1 (ix2 0 k) :=
    funext fun k => congrArg (· * g1 (ix2 0 k)) (mul_comm _ _)
  rw [e, back_eq]
  pointwise [val_main_v92, val_main_v91, val_main_v90, val_main_v89, val_main_v88, val_main_v87, val_main_v86, val_main_v85, val_main_v84, val_main_v83, val_main_v82, val_main_v81, val_main_v80, val_main_v79, val_main_v78, val_main_v77, val_main_v70, val_main_v69, val_main_v62, val_main_v61, val_main_v60, val_main_v59, val_main_v58, val_main_v57, val_main_v56, val_main_v55, val_main_v54, val_main_v53, val_main_v52, val_main_v51, val_main_cst_11, val_main_cst_12, val_main_cst_13, val_main_cst_14, val_main_cst_17, val_main_cst_18, val_main_cst_19]
  simp only [Fin.sum_univ_one, Fin.isValue]
  rfl

/-- The reference's gradient of the projection's input, at an index. -/
theorem ref_cat (r : Fin 4096) (j : Fin 512) : val_main_v97 (F := Ideal) dh dout x1 y1 w sc g2 gt g1 (ix2 r j)
    = ∑ k : Fin 1024, val_main_v92 (F := Ideal) dh dout x1 y1 sc g2 gt g1 (ix2 r k) * w (ix2 j k) := by
  pointwise [val_main_v97]

/-- The reference's gradient of the pooled columns, at an index. -/
theorem ref_pool (r : Fin 4096) (j : Fin 256) : val_main_v101 (F := Ideal) dh dout x1 y1 w sc g2 gt g1 (ix2 r j)
    = val_main_v97 (F := Ideal) dh dout x1 y1 w sc g2 gt g1 (ix2 r ⟨j.val, by omega⟩) := by
  pointwise [val_main_v101]

/-- The reference's gradient of attention's output, at an index. -/
theorem ref_attn (s : Fin 2) (r : Fin 4096) (l : Fin 128) : val_main_v104 (F := Ideal) dh dout x1 y1 w sc g2 gt g1 (ix3 s r l)
    = val_main_v97 (F := Ideal) dh dout x1 y1 w sc g2 gt g1 (ix2 r ⟨256 + s.val * 128 + l.val, by omega⟩) := by
  pointwise [val_main_v104, val_main_v103, val_main_v102]
  exact congrArg _ (congrArg (ix2 r) (Fin.ext (Nat.add_assoc _ _ _).symm))

/-- The reference's gradient of the projection's weight, at an index. -/
theorem ref_dw (k : Fin 1024) (j : Fin 512) : (val_main_v106 (F := Ideal) dh dout x1 y1 cat sc g2 gt g1 (ix2 k j) : EReal)
    = ∑ r : Fin 4096, val_main_v92 (F := Ideal) dh dout x1 y1 sc g2 gt g1 (ix2 r k) * cat (ix2 r j) := by
  pointwise [val_main_v106, val_main_v105, val_main_v96, val_main_v95, val_main_v93]

/-- One token's part of row `q` of the sums, of the whole arrays. -/
def part (q : ℕ) (l : Fin 1024) (r : Fin 4096) : EReal :=
  term q (dh (ix2 r l)) (1 + sc (ix2 0 l)) (x1 (ix2 r l) * Ideal.rsqrt (NormBwd.ms fun k => x1 (ix2 r k))) (g2 (ix2 0 l))
    (val_main_v50 (F := Ideal) dh dout x1 sc g2 (ix2 r l)) (gt (ix2 0 l)) (y1 (ix2 r l) * Ideal.rsqrt (NormBwd.ms fun k => y1 (ix2 r k))) (g1 (ix2 0 l))

/-- The reference's sums, at an index. -/
theorem ref_sums (q : Fin 8) (l : Fin 1024) : val_main_v99 (F := Ideal) dh dout x1 y1 sc g2 gt g1 (ix2 q l)
    = ∑ r, part dh dout x1 y1 sc g2 gt g1 q l r := by
  pointwise [val_main_v99, val_main_v98, val_main_v76, val_main_v75, val_main_v74, val_main_v73, val_main_v72, val_main_v71, val_main_v70, val_main_v69, val_main_v66, val_main_v65, val_main_v64, val_main_v63, val_main_v59, val_main_v58, val_main_v57, val_main_v56, val_main_v55, val_main_v54, val_main_v53, val_main_v52, val_main_v51, val_main_v32, val_main_v31, val_main_v30, val_main_v29, val_main_v28, val_main_v27, val_main_v26, val_main_v25, val_main_v24, val_main_v23, val_main_v22, val_main_v17, val_main_v16, val_main_v15, val_main_v14, val_main_v13, val_main_v12, val_main_v8, val_main_v7, val_main_v6, val_main_v5, val_main_v4, val_main_v3, val_main_v2, val_main_v1, val_main_cst_0, val_main_cst_1, val_main_cst_11, val_main_cst_12, val_main_cst_13, val_main_cst_15, val_main_cst_16, val_main_cst_2, val_main_cst_20, val_main_cst_4, val_main_cst_5, val_main_cst_6, val_main_cst_7]
  unfold part term
  split_ifs
  · rfl
  · exact Finset.sum_congr rfl fun _ _ => mul_comm _ _
  · exact Finset.sum_congr rfl fun _ _ => mul_comm _ _
  · exact Finset.sum_congr rfl fun _ _ => rfl
  · exact Finset.sum_congr rfl fun r _ => (mul_comm _ _).trans
      (congrArg (· * (y1 (ix2 r l) * Ideal.rsqrt (NormBwd.ms fun k => y1 (ix2 r k)))) (mul_comm (gt (ix2 0 l)) _))
  · simp

end Reference

section Tile

variable (dh dout : FVec Ideal S512x1024 .bf16) (x1 : FVec Ideal S512x1024 .f32) (y1 : FVec Ideal S512x1024 .bf16)
  (cat : FVec Ideal S512x512 .bf16) (w : FVec Ideal S1024x512 .bf16) (sc g2 gt g1 : FVec Ideal S1x1024 .f32) (dx : FVec Ideal S512x1024 .f32)
  (dy : FVec Ideal S512x1024 .bf16)

/-- A tile's gradient of the residual. -/
theorem dx_apply (r : Fin 512) (l : Fin 1024) : k0_pay13 (F := Ideal) dh x1 sc dout g2 (ix2 r l)
    = dout (ix2 r l) + back (fun k => x1 (ix2 r k)) (fun k => dh (ix2 r k) * (1 + sc (ix2 0 k)) * g2 (ix2 0 k)) l := by
  pointwise [k0_pay13, k0_pay12, k0_pay11, k0_pay10, k0_pay9, k0_pay8]
  rfl

/-- It is stored as it is. -/
theorem dx_stored (r : Fin 512) (l : Fin 1024) : (k0_pay14 (F := Ideal) dh x1 sc dout g2 (ix2 r l) : EReal)
    = k0_pay13 (F := Ideal) dh x1 sc dout g2 (ix2 r l) := by
  pointwise [k0_pay14]

/-- A tile's gradient of the projected rows. -/
theorem dy_apply (r : Fin 512) (l : Fin 1024) : (k0_pay19 (F := Ideal) dx y1 gt g1 (ix2 r l) : EReal)
    = back (fun k => y1 (ix2 r k)) (fun k => dx (ix2 r k) * gt (ix2 0 k) * g1 (ix2 0 k)) l := by
  pointwise [k0_pay19, k0_pay18, k0_pay17, k0_pay16, k0_pay15]
  rfl

/-- A tile's gradient of the projection's input. -/
theorem cat_apply (r : Fin 512) (j : Fin 512) : k0_pay20 (F := Ideal) dx y1 gt g1 w (ix2 r j)
    = ∑ k : Fin 1024, k0_pay19 (F := Ideal) dx y1 gt g1 (ix2 r k) * w (ix2 k j) := by
  pointwise [k0_pay20]

/-- Its pooled columns. -/
theorem pool_apply (r : Fin 512) (j : Fin 256) : k0_pay21 (F := Ideal) dx y1 gt g1 w (ix2 r j)
    = k0_pay20 (F := Ideal) dx y1 gt g1 w (ix2 r ⟨j.val, by omega⟩) := by
  pointwise [k0_pay21]

/-- Its first pair of heads. -/
theorem head0_apply (r : Fin 512) (l : Fin 128) : k0_pay24 (F := Ideal) (k0_pay23 (F := Ideal) dx y1 gt g1 w) (ix3 0 r l)
    = k0_pay20 (F := Ideal) dx y1 gt g1 w (ix2 r ⟨256 + l.val, by omega⟩) := by
  pointwise [k0_pay24, k0_pay23]

/-- Its second pair of heads. -/
theorem head1_apply (d : FVec Ideal S512x512 .f32) (r : Fin 512) (l : Fin 128) : k0_pay27 (F := Ideal) d (ix3 0 r l)
    = d (ix2 r ⟨384 + l.val, by omega⟩) := by
  pointwise [k0_pay27, k0_pay26]

/-- A tile's part of the weight's gradient. -/
theorem dw_apply (k : Fin 1024) (j : Fin 512) : k0_pay2 (F := Ideal) dy cat (ix2 k j) = ∑ r : Fin 512, dy (ix2 r k) * cat (ix2 r j) := by
  pointwise [k0_pay2]

/-- A tile's sums. -/
theorem sums_apply (q : Fin 8) (l : Fin 1024) :
    k0_pay3 (F := Ideal) (k0_pay8 dh) (k0_pay10 x1) (k0_pay11 x1 g2) (k0_pay12 dh sc) dx (k0_pay17 y1) (k0_pay18 dx gt) g1 (ix2 q l)
      = ∑ r : Fin 512, term q (dh (ix2 r l)) (1 + sc (ix2 0 l)) (x1 (ix2 r l) * Ideal.rsqrt (NormBwd.ms fun k => x1 (ix2 r k))) (g2 (ix2 0 l))
          (dx (ix2 r l)) (gt (ix2 0 l)) (y1 (ix2 r l) * Ideal.rsqrt (NormBwd.ms fun k => y1 (ix2 r k))) (g1 (ix2 0 l)) := by
  pointwise [k0_pay3, k0_pay18, k0_pay17, k0_pay16, k0_pay15, k0_pay12, k0_pay11, k0_pay10, k0_pay9, k0_pay8]
  unfold term
  split_ifs
  · rfl
  · rfl
  · rfl
  · rfl
  · rfl
  · simp

/-- A later tile adds its part to the weight's gradient. -/
theorem dw_step (a : FVec Ideal S1024x512 .f32) (k : Fin 1024) (j : Fin 512) :
    k0_pay5 (F := Ideal) dy cat a (ix2 k j) = a (ix2 k j) + ∑ r : Fin 512, dy (ix2 r k) * cat (ix2 r j) := by
  rw [← dw_apply]
  pointwise [k0_pay5]

/-- The first tile stores its part. -/
theorem dw_first (k : Fin 1024) (j : Fin 512) : k0_pay4 (F := Ideal) dy cat (ix2 k j) = ∑ r : Fin 512, dy (ix2 r k) * cat (ix2 r j) := by
  rw [← dw_apply]
  pointwise [k0_pay4]

/-- The weight's gradient is stored as it was accumulated. -/
theorem dw_stored (a : FVec Ideal S1024x512 .f32) (k : Fin 1024) (j : Fin 512) : (k0_pay7 (F := Ideal) a (ix2 k j) : EReal) = a (ix2 k j) := by
  pointwise [k0_pay7]

/-- A later tile adds its sums to what is there. -/
theorem step_apply (a b d e f g h : FVec Ideal S512x1024 .f32) (g1 : FVec Ideal S1x1024 .f32) (o : FVec Ideal S8x1024 .f32) (q : Fin 8) (l : Fin 1024) :
    k0_pay6 (F := Ideal) a b d e f g h g1 o (ix2 q l) = o (ix2 q l) + k0_pay3 (F := Ideal) a b d e f g h g1 (ix2 q l) := by
  pointwise [k0_pay6]

end Tile

end Cert.MixRef

end
-- ==== Proof.MixTile.lean ====
module

public import proofs.«01_k».proof.Defs
public import proofs.«01_k».proof.Proof.Gen.MixKernelIdeal.Value
public import proofs.«01_k».proof.Proof.Gen.MixReferenceIdeal.Run
public import Idealize.ShloMosaic.Lib.Pointwise
public import Idealize.ShloMosaic.Lib.Tactic
public import Idealize.ShloMosaic.Lib.Pipeline.ValueKit
public import Idealize.ShloMosaic.Lib.Pipeline.ReadBack
public import Idealize.ShloMosaic.Lib.Quiescent
public import proofs.«01_k».proof.Proof.MixRef

@[expose] public section

set_option maxRecDepth 16384

noncomputable section

namespace Cert.MixKernelIdeal.Tile

open Cert.MixKernelIdeal Cert.MixKernelIdeal.Gen Idealize.ShloMosaic Idealize.ShloMosaic.TcCoe Idealize.SL.Sem
open Cert.MixReferenceIdeal.Read

variable (m : (ℓ : Loc nD τ sig) → Buf (Elt Ideal) ℓ) (c : Dev nD)

/-- The grid's points and the blocks they take. -/
theorem index : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_6.index t = ![0, 0] ∧
    win0_7.index t = ![0, 0] ∧ win0_8.index t = ![0, 0] ∧ win0_9.index t = ![0, 0] ∧ win0_10.index t = ![0, 0] ∧
    win0_11.index t = ![t.val, 0] ∧ win0_12.index t = ![t.val, 0] ∧ win0_13.index t = ![0, t.val, 0] ∧ win0_15.index t = ![0, 0] ∧ win0_16.index t = ![0, 0] :=
  (by decide +kernel : ∀ t : Fin grid0.N, _)

/-- The token that row `r` of the tile at point `t` is. -/
def tok (t : Fin cfg0.N) (r : Fin 512) : Fin 4096 := ⟨t.val * 512 + r.val, by have := lt_of_lt_of_eq t.isLt N_0; omega⟩

/-- A block of the gradient of the second norm's rows. -/
theorem block0 (t : Fin cfg0.N) (r : Fin 512) (k : Fin 1024) : iblk m c 0 t (ix2 r k) = m (c.tc.loc main_arg0) (ix2 (tok t r) k) := by
  unfold tok
  blk_ext [iblk, V, index t]

/-- A block of the residual's gradient. -/
theorem block1 (t : Fin cfg0.N) (r : Fin 512) (k : Fin 1024) : iblk m c 1 t (ix2 r k) = m (c.tc.loc main_arg1) (ix2 (tok t r) k) := by
  unfold tok
  blk_ext [iblk, V, index t]

/-- A block of the rows before the second norm. -/
theorem block2 (t : Fin cfg0.N) (r : Fin 512) (k : Fin 1024) : iblk m c 2 t (ix2 r k) = m (c.tc.loc main_arg2) (ix2 (tok t r) k) := by
  unfold tok
  blk_ext [iblk, V, index t]

/-- A block of the projected rows. -/
theorem block3 (t : Fin cfg0.N) (r : Fin 512) (k : Fin 1024) : iblk m c 3 t (ix2 r k) = m (c.tc.loc main_arg3) (ix2 (tok t r) k) := by
  unfold tok
  blk_ext [iblk, V, index t]

/-- A block of the projection's input. -/
theorem block4 (t : Fin cfg0.N) (r : Fin 512) (k : Fin 512) : iblk m c 4 t (ix2 r k) = m (c.tc.loc main_arg4) (ix2 (tok t r) k) := by
  unfold tok
  blk_ext [iblk, V, index t]

/-- The projection's matrix, which the host turned over. -/
theorem block6 (t : Fin cfg0.N) (k : Fin 1024) (j : Fin 512) : (iblk m c 6 t (ix2 k j) : EReal) = m (c.tc.loc main_arg6) (ix2 j k) := by
  blk_simp [iblk]
  entry_read
  pointwise
  blk_ext [index t]

/-- The scale of the modulation. -/
theorem block7 (t : Fin cfg0.N) (l : Fin 1024) : iblk m c 7 t (ix2 0 l) = m (c.tc.loc main_arg7) (ix2 0 l) := by
  blk_ext [iblk, V, index t]

/-- The gain of the second norm. -/
theorem block8 (t : Fin cfg0.N) (l : Fin 1024) : iblk m c 8 t (ix2 0 l) = m (c.tc.loc main_arg8) (ix2 0 l) := by
  blk_ext [iblk, V, index t]

/-- The gate. -/
theorem block9 (t : Fin cfg0.N) (l : Fin 1024) : iblk m c 9 t (ix2 0 l) = m (c.tc.loc main_arg9) (ix2 0 l) := by
  blk_ext [iblk, V, index t]

/-- The gain of the first norm. -/
theorem block10 (t : Fin cfg0.N) (l : Fin 1024) : iblk m c 10 t (ix2 0 l) = m (c.tc.loc main_arg10) (ix2 0 l) := by
  blk_ext [iblk, V, index t]

/-- A tile's gradient of the residual. -/
def dx (t : Fin cfg0.N) : FVec Ideal S512x1024 .f32 := k0_pay13 (F := Ideal) (iblk m c 0 t) (iblk m c 2 t) (iblk m c 7 t) (iblk m c 1 t) (iblk m c 8 t)

/-- A tile's gradient of the projected rows. -/
def dy (t : Fin cfg0.N) : FVec Ideal S512x1024 .bf16 := k0_pay19 (F := Ideal) (dx m c t) (iblk m c 3 t) (iblk m c 9 t) (iblk m c 10 t)

/-- A tile's gradient of the projection's input. -/
def dcat (t : Fin cfg0.N) : FVec Ideal S512x512 .f32 := k0_pay20 (F := Ideal) (dx m c t) (iblk m c 3 t) (iblk m c 9 t) (iblk m c 10 t) (iblk m c 6 t)

/-- A tile's sums. -/
def sums (t : Fin cfg0.N) : FVec Ideal S8x1024 .f32 :=
  k0_pay3 (F := Ideal) (k0_pay8 (iblk m c 0 t)) (k0_pay10 (iblk m c 2 t)) (k0_pay11 (iblk m c 2 t) (iblk m c 8 t)) (k0_pay12 (iblk m c 0 t) (iblk m c 7 t)) (dx m c t) (k0_pay17 (iblk m c 3 t)) (k0_pay18 (dx m c t) (iblk m c 9 t)) (iblk m c 10 t)

/-- Two gradients through a norm with the same ingredients are equal. -/
theorem back_congr {X X' Y Y' : Fin 1024 → EReal} (l : Fin 1024) (hX : ∀ k, X k = X' k) (hY : ∀ k, Y k = Y' k) :
    MixRef.back X Y l = MixRef.back X' Y' l := by
  rw [funext hX, funext hY]

/-- A tile's gradient of the residual is the reference's. -/
theorem dx_point (t : Fin cfg0.N) (r : Fin 512) (l : Fin 1024) :
    dx m c t (ix2 r l) = val_main_v50 (F := Ideal) (m (c.tc.loc main_arg0)) (m (c.tc.loc main_arg1)) (m (c.tc.loc main_arg2)) (m (c.tc.loc main_arg7)) (m (c.tc.loc main_arg8)) (ix2 (tok t r) l) := by
  refine (MixRef.dx_apply (iblk m c 0 t) (iblk m c 1 t) (iblk m c 2 t) (iblk m c 7 t) (iblk m c 8 t) r l).trans (Eq.trans ?_ (MixRef.ref_dx (m (c.tc.loc main_arg0)) (m (c.tc.loc main_arg1)) (m (c.tc.loc main_arg2)) (m (c.tc.loc main_arg7)) (m (c.tc.loc main_arg8)) (tok t r) l).symm)
  refine congrArg₂ (fun a b : EReal => a + b) (block1 m c t r l) (back_congr l (fun k => block2 m c t r k) fun k => ?_)
  exact congrArg₂ (fun a b : EReal => a * b) (congrArg₂ (fun a b : EReal => a * (1 + b)) (block0 m c t r k) (block7 m c t k)) (block8 m c t k)

/-- A tile's gradient of the projected rows is the reference's. -/
theorem dy_point (t : Fin cfg0.N) (r : Fin 512) (l : Fin 1024) :
    (dy m c t (ix2 r l) : EReal) = val_main_v92 (F := Ideal) (m (c.tc.loc main_arg0)) (m (c.tc.loc main_arg1)) (m (c.tc.loc main_arg2)) (m (c.tc.loc main_arg3)) (m (c.tc.loc main_arg7)) (m (c.tc.loc main_arg8)) (m (c.tc.loc main_arg9)) (m (c.tc.loc main_arg10)) (ix2 (tok t r) l) := by
  refine (MixRef.dy_apply (iblk m c 3 t) (iblk m c 9 t) (iblk m c 10 t) (dx m c t) r l).trans (Eq.trans ?_ (MixRef.ref_dy (m (c.tc.loc main_arg0)) (m (c.tc.loc main_arg1)) (m (c.tc.loc main_arg2)) (m (c.tc.loc main_arg3)) (m (c.tc.loc main_arg7)) (m (c.tc.loc main_arg8)) (m (c.tc.loc main_arg9)) (m (c.tc.loc main_arg10)) (tok t r) l).symm)
  refine back_congr l (fun k => block3 m c t r k) fun k => ?_
  exact congrArg₂ (fun a b : EReal => a * b) (congrArg₂ (fun a b : EReal => a * b) (dx_point m c t r k) (block9 m c t k)) (block10 m c t k)

/-- A tile's gradient of the projection's input is the reference's. -/
theorem cat_point (t : Fin cfg0.N) (r : Fin 512) (j : Fin 512) :
    dcat m c t (ix2 r j) = val_main_v97 (F := Ideal) (m (c.tc.loc main_arg0)) (m (c.tc.loc main_arg1)) (m (c.tc.loc main_arg2)) (m (c.tc.loc main_arg3)) (m (c.tc.loc main_arg6)) (m (c.tc.loc main_arg7)) (m (c.tc.loc main_arg8)) (m (c.tc.loc main_arg9)) (m (c.tc.loc main_arg10)) (ix2 (tok t r) j) := by
  refine (MixRef.cat_apply (iblk m c 3 t) (iblk m c 6 t) (iblk m c 9 t) (iblk m c 10 t) (dx m c t) r j).trans (Eq.trans ?_ (MixRef.ref_cat (m (c.tc.loc main_arg0)) (m (c.tc.loc main_arg1)) (m (c.tc.loc main_arg2)) (m (c.tc.loc main_arg3)) (m (c.tc.loc main_arg6)) (m (c.tc.loc main_arg7)) (m (c.tc.loc main_arg8)) (m (c.tc.loc main_arg9)) (m (c.tc.loc main_arg10)) (tok t r) j).symm)
  exact Fin.sum_fin_congr fun k => congrArg₂ (fun a b : EReal => a * b) (dy_point m c t r k) (block6 m c t k j)

/-- A tile's sums are its tokens' parts. -/
theorem sums_point (t : Fin cfg0.N) (q : Fin 8) (l : Fin 1024) :
    sums m c t (ix2 q l) = ∑ r : Fin 512, MixRef.part (m (c.tc.loc main_arg0)) (m (c.tc.loc main_arg1)) (m (c.tc.loc main_arg2)) (m (c.tc.loc main_arg3)) (m (c.tc.loc main_arg7)) (m (c.tc.loc main_arg8)) (m (c.tc.loc main_arg9)) (m (c.tc.loc main_arg10)) q l (tok t r) := by
  refine (MixRef.sums_apply (iblk m c 0 t) (iblk m c 2 t) (iblk m c 3 t) (iblk m c 7 t) (iblk m c 8 t) (iblk m c 9 t) (iblk m c 10 t) (dx m c t) q l).trans (Fin.sum_fin_congr fun r => ?_)
  unfold MixRef.part
  rw [dx_point, block0, block2, block3, block7, block8, block9, block10,
    funext fun k => block2 m c t r k, funext fun k => block3 m c t r k]

/-- What a point leaves of the residual's gradient. -/
theorem out_dx (t : Fin cfg0.N) : (outsAt0 m c t.val t.isLt).1 = k0_pay14 (F := Ideal) (iblk m c 0 t) (iblk m c 2 t) (iblk m c 7 t) (iblk m c 1 t) (iblk m c 8 t) := by
  have hN : t.val < 8 := lt_of_lt_of_eq t.isLt N_0
  by_cases h : t.val % 8 = 0
  · rw [outsAt0_A m c t h (by omega) (by omega)]
    frame_out
  · by_cases h' : t.val % 8 = 7
    · rw [outsAt0_C m c t h (by omega) h']
      frame_out
    · rw [outsAt0_B m c t h (by omega) h']
      frame_out

/-- What a point leaves of the pooled columns' gradient. -/
theorem out_pool (t : Fin cfg0.N) : (outsAt0 m c t.val t.isLt).2.1 = k0_pay21 (F := Ideal) (dx m c t) (iblk m c 3 t) (iblk m c 9 t) (iblk m c 10 t) (iblk m c 6 t) := by
  unfold dx
  have hN : t.val < 8 := lt_of_lt_of_eq t.isLt N_0
  by_cases h : t.val % 8 = 0
  · rw [outsAt0_A m c t h (by omega) (by omega)]
    frame_out
  · by_cases h' : t.val % 8 = 7
    · rw [outsAt0_C m c t h (by omega) h']
      frame_out
    · rw [outsAt0_B m c t h (by omega) h']
      frame_out

/-- The column of the projection's input that a slab's lane is. -/
def col (y : S2x512x128.Idx) : Fin 512 := ⟨256 + (y 0).val * 128 + (y 2).val, by
  have h0 : (y 0).val < 2 := (y 0).isLt
  have h2 : (y 2).val < 128 := (y 2).isLt
  omega⟩

/-- The second slab that a point stores. -/
theorem slab1 (t : Fin cfg0.N) (y : S2x512x128.Idx) (z : S1x512x128.Idx) (h0 : (y 0).val = 1 + (z 0).val) (h1 : (y 1).val = (z 1).val) (h2 : (y 2).val = (z 2).val) :
    k0_pay27 (F := Ideal) (dcat m c t) z = dcat m c t (ix2 (y 1) (col y)) := by
  have z0 : (z 0).val < 1 := (z 0).isLt
  have e : z = ix3 0 (z 1) (z 2) := (eq_ix3 z).trans (congrArg (fun a => ix3 a (z 1) (z 2)) (Fin.ext (Nat.lt_one_iff.mp z0)))
  refine (congrArg _ e).trans ((MixRef.head1_apply (dcat m c t) (z 1) (z 2)).trans (congrArg _ ?_))
  exact congrArg₂ ix2 (Fin.ext h1.symm) (Fin.ext (by simp only [col]; omega))

/-- The first slab that a point stores. -/
theorem slab0 (t : Fin cfg0.N) (y : S2x512x128.Idx) (z : S1x512x128.Idx) (h0 : (y 0).val = (z 0).val) (h1 : (y 1).val = (z 1).val) (h2 : (y 2).val = (z 2).val) :
    k0_pay24 (F := Ideal) (k0_pay23 (F := Ideal) (dx m c t) (iblk m c 3 t) (iblk m c 9 t) (iblk m c 10 t) (iblk m c 6 t)) z = dcat m c t (ix2 (y 1) (col y)) := by
  have z0 : (z 0).val < 1 := (z 0).isLt
  have e : z = ix3 0 (z 1) (z 2) := (eq_ix3 z).trans (congrArg (fun a => ix3 a (z 1) (z 2)) (Fin.ext (Nat.lt_one_iff.mp z0)))
  refine (congrArg _ e).trans ((MixRef.head0_apply (iblk m c 3 t) (iblk m c 6 t) (iblk m c 9 t) (iblk m c 10 t) (dx m c t) (z 1) (z 2)).trans (congrArg (dcat m c t) ?_))
  exact congrArg₂ ix2 (Fin.ext h1.symm) (Fin.ext (by simp only [col]; omega))

/-- What a point leaves of the gradient of attention's output. -/
theorem out_attn (t : Fin cfg0.N) (y : S2x512x128.Idx) : (outsAt0 m c t.val t.isLt).2.2.1 y = dcat m c t (ix2 (y 1) (col y)) := by
  have hN : t.val < 8 := lt_of_lt_of_eq t.isLt N_0
  by_cases h : t.val % 8 = 0
  · rw [outsAt0_A m c t h (by omega) (by omega)]
    frame_out
    canon_tiles y h
    · exact slab1 m c t _ y h0 h1 h2
    · exact slab0 m c t _ y h0 h1 h2
  · by_cases h' : t.val % 8 = 7
    · rw [outsAt0_C m c t h (by omega) h']
      frame_out
      canon_tiles y h
      · exact slab1 m c t _ y h0 h1 h2
      · exact slab0 m c t _ y h0 h1 h2
    · rw [outsAt0_B m c t h (by omega) h']
      frame_out
      canon_tiles y h
      · exact slab1 m c t _ y h0 h1 h2
      · exact slab0 m c t _ y h0 h1 h2

/-- The first point's accumulators: the weight's gradient and the sums of its tile. -/
theorem acc_first (t : Fin cfg0.N) (h : t.val % 8 = 0) :
    (outsAt0 m c t.val t.isLt).2.2.2.2.2.2 = k0_pay4 (F := Ideal) (dy m c t) (iblk m c 4 t) ∧ (outsAt0 m c t.val t.isLt).2.2.2.2.2.1 = sums m c t := by
  have hN : t.val < 8 := lt_of_lt_of_eq t.isLt N_0
  unfold dy sums dx
  rw [outsAt0_A m c t h (by omega) (by omega)]
  constructor <;> frame_out

/-- A later point's accumulators: its tile's part is added to what is there. -/
theorem acc_next (t : Fin cfg0.N) (h : ¬ t.val % 8 = 0) :
    (outsAt0 m c t.val t.isLt).2.2.2.2.2.2 = k0_pay5 (F := Ideal) (dy m c t) (iblk m c 4 t) (outsAt0 m c (t.val - 1) (Nat.lt_of_le_of_lt (Nat.sub_le _ _) t.isLt)).2.2.2.2.2.2
      ∧ ∀ (q : Fin 8) (l : Fin 1024), (outsAt0 m c t.val t.isLt).2.2.2.2.2.1 (ix2 q l) = (outsAt0 m c (t.val - 1) (Nat.lt_of_le_of_lt (Nat.sub_le _ _) t.isLt)).2.2.2.2.2.1 (ix2 q l) + sums m c t (ix2 q l) := by
  have hN : t.val < 8 := lt_of_lt_of_eq t.isLt N_0
  by_cases h' : t.val % 8 = 7
  · rw [outsAt0_C m c t h (by omega) h']
    refine ⟨?_, fun q l => ?_⟩
    · unfold dy dx
      frame_out
      simp only [read_unread_whole]
    · frame_out
      exact MixRef.step_apply _ _ _ _ _ _ _ _ _ q l
  · rw [outsAt0_B m c t h (by omega) h']
    refine ⟨?_, fun q l => ?_⟩
    · unfold dy dx
      frame_out
      simp only [read_unread_whole]
    · frame_out
      exact MixRef.step_apply _ _ _ _ _ _ _ _ _ q l

/-- The last point writes the accumulated gradient of the weight. -/
theorem out_dw (t : Fin cfg0.N) (h : t.val % 8 = 7) : (outsAt0 m c t.val t.isLt).2.2.2.2.1 = k0_pay7 (F := Ideal) (outsAt0 m c t.val t.isLt).2.2.2.2.2.2 := by
  have hN : t.val < 8 := lt_of_lt_of_eq t.isLt N_0
  rw [outsAt0_C m c t (by omega) (by omega) h]
  frame_out

end Cert.MixKernelIdeal.Tile

end
-- ==== Proof.MixClaim.lean ====
module

public import proofs.«01_k».proof.Defs
public import proofs.«01_k».proof.Proof.Gen.MixKernelIdeal.Value
public import proofs.«01_k».proof.Proof.Gen.MixReferenceIdeal.Run
public import Idealize.ShloMosaic.Lib.Quiescent
public import Idealize.ShloMosaic.Lib.Pointwise
public import Idealize.ShloMosaic.Lib.Tactic
public import Idealize.ShloMosaic.Lib.Pipeline.ValueKit
public import Idealize.ShloMosaic.Lib.Pipeline.ReadBack
public import proofs.«01_k».proof.Proof.MixTile

@[expose] public section

set_option maxRecDepth 16384

noncomputable section

namespace Cert.MixKernelIdeal.Tile

open Cert.MixKernelIdeal Cert.MixKernelIdeal.Gen Idealize.ShloMosaic Idealize.ShloMosaic.TcCoe Idealize.SL.Sem
open Cert.MixReferenceIdeal.Read

variable (m : (ℓ : Loc nD τ sig) → Buf (Elt Ideal) ℓ) (c : Dev nD)

/-- The accumulated gradient of the weight after the last tile. -/
theorem dw_last (t : Fin cfg0.N) (ht : t.val % 8 = 7) (k : Fin 1024) (j : Fin 512) :
    (outsAt0 m c t.val t.isLt).2.2.2.2.2.2 (ix2 k j) = (val_main_v106 (F := Ideal) (m (c.tc.loc main_arg0)) (m (c.tc.loc main_arg1)) (m (c.tc.loc main_arg2)) (m (c.tc.loc main_arg3)) (m (c.tc.loc main_arg4)) (m (c.tc.loc main_arg7)) (m (c.tc.loc main_arg8)) (m (c.tc.loc main_arg9)) (m (c.tc.loc main_arg10)) (ix2 k j) : EReal) := by
  have hN : t.val < 8 := lt_of_lt_of_eq t.isLt N_0
  have hn : cfg0.N = 8 := N_0
  refine (Pipeline.eq_sum_fin_of_reset_step_apply_last (N := cfg0.N) (ι := Fin 1024 × Fin 512) (M := EReal)
    (fun n hn i => (outsAt0 m c n hn).2.2.2.2.2.2 (ix2 i.1 i.2)) 8 (fun _ => 0)
    (fun t i => ∑ r : Fin 512, val_main_v92 (F := Ideal) (m (c.tc.loc main_arg0)) (m (c.tc.loc main_arg1)) (m (c.tc.loc main_arg2)) (m (c.tc.loc main_arg3)) (m (c.tc.loc main_arg7)) (m (c.tc.loc main_arg8)) (m (c.tc.loc main_arg9)) (m (c.tc.loc main_arg10)) (ix2 (tok t r) i.1) * (m (c.tc.loc main_arg4) (ix2 (tok t r) i.2) : EReal))
    (fun t h i => ?_) (fun t h i => ?_) (by omega) t (by omega) (k, j)).trans ?_
  · rw [(acc_first m c t h).1, zero_add]
    exact (MixRef.dw_first (iblk m c 4 t) (dy m c t) i.1 i.2).trans
      (Fin.sum_fin_congr fun r => congrArg₂ (fun a b : EReal => a * b) (dy_point m c t r i.1) (block4 m c t r i.2))
  · rw [(acc_next m c t h).1]
    refine (MixRef.dw_step (iblk m c 4 t) (dy m c t) _ i.1 i.2).trans (congrArg _ ?_)
    exact Fin.sum_fin_congr fun r => congrArg₂ (fun a b : EReal => a * b) (dy_point m c t r i.1) (block4 m c t r i.2)
  · dsimp only
    rw [MixRef.ref_dw, zero_add]
    exact Fin.sum_mul_add_congr (fun s k hl => rfl) (by rw [hn])

/-- The sums after the last tile. -/
theorem sums_last (t : Fin cfg0.N) (ht : t.val % 8 = 7) (q : Fin 8) (l : Fin 1024) :
    (outsAt0 m c t.val t.isLt).2.2.2.2.2.1 (ix2 q l) = val_main_v99 (F := Ideal) (m (c.tc.loc main_arg0)) (m (c.tc.loc main_arg1)) (m (c.tc.loc main_arg2)) (m (c.tc.loc main_arg3)) (m (c.tc.loc main_arg7)) (m (c.tc.loc main_arg8)) (m (c.tc.loc main_arg9)) (m (c.tc.loc main_arg10)) (ix2 q l) := by
  have hN : t.val < 8 := lt_of_lt_of_eq t.isLt N_0
  have hn : cfg0.N = 8 := N_0
  refine (Pipeline.eq_sum_fin_of_reset_step_apply_last (N := cfg0.N) (ι := Fin 8 × Fin 1024) (M := EReal)
    (fun n hn i => (outsAt0 m c n hn).2.2.2.2.2.1 (ix2 i.1 i.2)) 8 (fun _ => 0)
    (fun t i => ∑ r : Fin 512, MixRef.part (m (c.tc.loc main_arg0)) (m (c.tc.loc main_arg1)) (m (c.tc.loc main_arg2)) (m (c.tc.loc main_arg3)) (m (c.tc.loc main_arg7)) (m (c.tc.loc main_arg8)) (m (c.tc.loc main_arg9)) (m (c.tc.loc main_arg10)) i.1 i.2 (tok t r))
    (fun t h i => ?_) (fun t h i => ?_) (by omega) t (by omega) (q, l)).trans ?_
  · rw [(acc_first m c t h).2, zero_add]
    exact sums_point m c t i.1 i.2
  · refine ((acc_next m c t h).2 i.1 i.2).trans (congrArg _ ?_)
    exact sums_point m c t i.1 i.2
  · dsimp only
    rw [MixRef.ref_sums, zero_add]
    exact Fin.sum_mul_add_congr (fun s k hl => rfl) (by rw [hn])

/-- The kernel's gradient of the residual is the reference's. -/
theorem final11 : (dats m 0 c).arrAt 11 cfg0.N = val_main_v100 (F := Ideal) (m (c.tc.loc main_arg0)) (m (c.tc.loc main_arg1)) (m (c.tc.loc main_arg2)) (m (c.tc.loc main_arg7)) (m (c.tc.loc main_arg8)) := by
  refine (dats m 0 c).arrAt_eq_of_covers 11 _ (by decide +kernel) fun t hf y => ?_
  have e0 : (((View.whole main_v2_0).slice (win0_11.rect t)).emb y 0).val = t.val * 512 + (y 0).val := by
    blk_simp [index t]
  have e1 : (((View.whole main_v2_0).slice (win0_11.rect t)).emb y 1).val = (y 1).val := by
    blk_simp [index t]
  blk_simp
  rw [after0_11, out_dx]
  refine (congrArg _ (eq_ix2 y)).trans ((MixRef.dx_stored (iblk m c 0 t) (iblk m c 1 t) (iblk m c 2 t) (iblk m c 7 t) (iblk m c 8 t) (y 0) (y 1)).trans ((dx_point m c t (y 0) (y 1)).trans
    ((MixRef.ref_dx_out (m (c.tc.loc main_arg0)) (m (c.tc.loc main_arg1)) (m (c.tc.loc main_arg2)) (m (c.tc.loc main_arg7)) (m (c.tc.loc main_arg8)) (tok t (y 0)) (y 1)).symm.trans (congrArg _ ?_))))
  exact (congrArg₂ ix2 (Fin.ext e0.symm) (Fin.ext e1.symm)).trans (eq_ix2 _).symm

/-- The kernel's gradient of the pooled columns is the reference's. -/
theorem final12 : (dats m 0 c).arrAt 12 cfg0.N = val_main_v101 (F := Ideal) (m (c.tc.loc main_arg0)) (m (c.tc.loc main_arg1)) (m (c.tc.loc main_arg2)) (m (c.tc.loc main_arg3)) (m (c.tc.loc main_arg6)) (m (c.tc.loc main_arg7)) (m (c.tc.loc main_arg8)) (m (c.tc.loc main_arg9)) (m (c.tc.loc main_arg10)) := by
  refine (dats m 0 c).arrAt_eq_of_covers 12 _ (by decide +kernel) fun t hf y => ?_
  have e0 : (((View.whole main_v2_1).slice (win0_12.rect t)).emb y 0).val = t.val * 512 + (y 0).val := by
    blk_simp [index t]
  have e1 : (((View.whole main_v2_1).slice (win0_12.rect t)).emb y 1).val = (y 1).val := by
    blk_simp [index t]
  blk_simp
  rw [after0_12, out_pool]
  refine (congrArg _ (eq_ix2 y)).trans ((MixRef.pool_apply (iblk m c 3 t) (iblk m c 6 t) (iblk m c 9 t) (iblk m c 10 t) (dx m c t) (y 0) (y 1)).trans ((cat_point m c t (y 0) _).trans
    ((MixRef.ref_pool (m (c.tc.loc main_arg0)) (m (c.tc.loc main_arg1)) (m (c.tc.loc main_arg2)) (m (c.tc.loc main_arg3)) (m (c.tc.loc main_arg6)) (m (c.tc.loc main_arg7)) (m (c.tc.loc main_arg8)) (m (c.tc.loc main_arg9)) (m (c.tc.loc main_arg10)) (tok t (y 0)) (y 1)).symm.trans (congrArg _ ?_))))
  exact (congrArg₂ ix2 (Fin.ext e0.symm) (Fin.ext e1.symm)).trans (eq_ix2 _).symm

/-- The kernel's gradient of attention's output is the reference's. -/
theorem final13 : (dats m 0 c).arrAt 13 cfg0.N = val_main_v104 (F := Ideal) (m (c.tc.loc main_arg0)) (m (c.tc.loc main_arg1)) (m (c.tc.loc main_arg2)) (m (c.tc.loc main_arg3)) (m (c.tc.loc main_arg6)) (m (c.tc.loc main_arg7)) (m (c.tc.loc main_arg8)) (m (c.tc.loc main_arg9)) (m (c.tc.loc main_arg10)) := by
  refine (dats m 0 c).arrAt_eq_of_covers 13 _ (by decide +kernel) fun t hf y => ?_
  have e0 : (((View.whole main_v2_2).slice (win0_13.rect t)).emb y 0).val = (y 0).val := by
    blk_simp [index t]
  have e1 : (((View.whole main_v2_2).slice (win0_13.rect t)).emb y 1).val = t.val * 512 + (y 1).val := by
    blk_simp [index t]
  have e2 : (((View.whole main_v2_2).slice (win0_13.rect t)).emb y 2).val = (y 2).val := by
    blk_simp [index t]
  have e : ∀ (z : S2x4096x128.Idx), (z 0).val = (y 0).val → (z 1).val = t.val * 512 + (y 1).val → (z 2).val = (y 2).val → ix3 (y 0) (tok t (y 1)) (y 2) = z :=
    fun z h0 h1 h2 => Eq.symm ((eq_ix3 z).trans (by rw [Fin.ext h0, show z 1 = tok t (y 1) from Fin.ext h1, Fin.ext h2]; rfl))
  blk_simp
  rw [after0_13]
  refine (out_attn m c t y).trans ((cat_point m c t (y 1) (col y)).trans ((MixRef.ref_attn (m (c.tc.loc main_arg0)) (m (c.tc.loc main_arg1)) (m (c.tc.loc main_arg2)) (m (c.tc.loc main_arg3)) (m (c.tc.loc main_arg6)) (m (c.tc.loc main_arg7)) (m (c.tc.loc main_arg8)) (m (c.tc.loc main_arg9)) (m (c.tc.loc main_arg10)) (y 0) (tok t (y 1)) (y 2)).symm.trans (congrArg _ ?_)))
  exact e _ e0 e1 e2

/-- The kernel's gradient of the projection's weight is the reference's. -/
theorem final15 : (dats m 0 c).arrAt 15 cfg0.N = val_main_v106 (F := Ideal) (m (c.tc.loc main_arg0)) (m (c.tc.loc main_arg1)) (m (c.tc.loc main_arg2)) (m (c.tc.loc main_arg3)) (m (c.tc.loc main_arg4)) (m (c.tc.loc main_arg7)) (m (c.tc.loc main_arg8)) (m (c.tc.loc main_arg9)) (m (c.tc.loc main_arg10)) := by
  refine (dats m 0 c).arrAt_eq_of_covers 15 _ (by decide +kernel) fun t hf y => ?_
  have e0 : (((View.whole main_v2_4).slice (win0_15.rect t)).emb y 0).val = (y 0).val := by
    blk_simp [index t]
  have e1 : (((View.whole main_v2_4).slice (win0_15.rect t)).emb y 1).val = (y 1).val := by
    blk_simp [index t]
  blk_simp
  rw [after0_15, out_dw m c t ((flush0_15 t).mp hf)]
  refine (congrArg _ (eq_ix2 y)).trans ((MixRef.dw_stored (outsAt0 m c t.val t.isLt).2.2.2.2.2.2 (y 0) (y 1)).trans ((dw_last m c t ((flush0_15 t).mp hf) (y 0) (y 1)).trans (congrArg _ ?_)))
  exact (congrArg₂ ix2 (Fin.ext e0.symm) (Fin.ext e1.symm)).trans (eq_ix2 _).symm

/-- The kernel's sums are the reference's. -/
theorem final16 : (dats m 0 c).arrAt 16 cfg0.N = val_main_v99 (F := Ideal) (m (c.tc.loc main_arg0)) (m (c.tc.loc main_arg1)) (m (c.tc.loc main_arg2)) (m (c.tc.loc main_arg3)) (m (c.tc.loc main_arg7)) (m (c.tc.loc main_arg8)) (m (c.tc.loc main_arg9)) (m (c.tc.loc main_arg10)) := by
  refine (dats m 0 c).arrAt_eq_of_covers 16 _ (by decide +kernel) fun t hf y => ?_
  have e0 : (((View.whole main_v2_5).slice (win0_16.rect t)).emb y 0).val = (y 0).val := by
    blk_simp [index t]
  have e1 : (((View.whole main_v2_5).slice (win0_16.rect t)).emb y 1).val = (y 1).val := by
    blk_simp [index t]
  blk_simp
  rw [after0_16]
  refine (congrArg _ (eq_ix2 y)).trans ((sums_last m c t ((flush0_16 t).mp hf) (y 0) (y 1)).trans (congrArg _ ?_))
  exact (congrArg₂ ix2 (Fin.ext e0.symm) (Fin.ext e1.symm)).trans (eq_ix2 _).symm

end Cert.MixKernelIdeal.Tile

namespace Cert.MixProof

open Idealize.ShloMosaic Idealize.ShloMosaic.TcCoe Idealize.SL.Sem

/-- The reference runs to its end and leaves its arguments. -/
theorem quiescent_reference : Cert.quiescent_MixReferenceIdeal (hMixReferenceIdeal := Cert.MixReferenceIdeal.Gen.facts) :=
  fun m ρ _ => (θ_run (Cert.MixReferenceIdeal.defs (F := Ideal)) _ _).mono
    (fun r h => ⟨fun c => (h c).2.2.2.2.2, sem_eq_zero_of_no_sems (by decide) r.2⟩) (Cert.MixReferenceIdeal.Value.run (F := Ideal) m ρ)

/-- On equal arguments the kernel's results are the reference's. -/
theorem algebraic : Cert.algebraic_MixKernelIdeal_MixReferenceIdeal (hMixKernelIdeal := Cert.MixKernelIdeal.Gen.facts)
    (hMixReferenceIdeal := Cert.MixReferenceIdeal.Gen.facts) :=
  fun m ρ m' ρ' _ hag => ⟨_, _, _, _, _, (θ_run (Cert.MixKernelIdeal.defs (F := Ideal)) _ _).mono
      (fun _ h c => ⟨(h c).1.trans (Cert.MixKernelIdeal.Tile.final11 m c), (h c).2.1.trans (Cert.MixKernelIdeal.Tile.final12 m c),
        (h c).2.2.1.trans (Cert.MixKernelIdeal.Tile.final13 m c), (h c).2.2.2.2.1.trans (Cert.MixKernelIdeal.Tile.final15 m c),
        (h c).2.2.2.2.2.1.trans (Cert.MixKernelIdeal.Tile.final16 m c), (h c).2.2.2.2.2.2⟩)
      (Cert.MixKernelIdeal.Value.run_blocks (F := Ideal) m ρ),
    (θ_run (Cert.MixReferenceIdeal.defs (F := Ideal)) _ _).mono
      (fun _ h c => ⟨(h c).1.trans (by
          rw [Cert.MixReferenceIdeal.Read.val_main_v100_eq, (hag c).1, (hag c).2.1, (hag c).2.2.1, (hag c).2.2.2.2.2.2.2.1, (hag c).2.2.2.2.2.2.2.2.1]),
        (h c).2.1.trans (by
          rw [Cert.MixReferenceIdeal.Read.val_main_v101_eq, (hag c).1, (hag c).2.1, (hag c).2.2.1, (hag c).2.2.2.1, (hag c).2.2.2.2.2.2.1, (hag c).2.2.2.2.2.2.2.1, (hag c).2.2.2.2.2.2.2.2.1, (hag c).2.2.2.2.2.2.2.2.2.1, (hag c).2.2.2.2.2.2.2.2.2.2.1]),
        (h c).2.2.1.trans (by
          rw [Cert.MixReferenceIdeal.Read.val_main_v104_eq, (hag c).1, (hag c).2.1, (hag c).2.2.1, (hag c).2.2.2.1, (hag c).2.2.2.2.2.2.1, (hag c).2.2.2.2.2.2.2.1, (hag c).2.2.2.2.2.2.2.2.1, (hag c).2.2.2.2.2.2.2.2.2.1, (hag c).2.2.2.2.2.2.2.2.2.2.1]),
        (h c).2.2.2.1.trans (by
          rw [Cert.MixReferenceIdeal.Read.val_main_v106_eq, (hag c).1, (hag c).2.1, (hag c).2.2.1, (hag c).2.2.2.1, (hag c).2.2.2.2.1, (hag c).2.2.2.2.2.2.2.1, (hag c).2.2.2.2.2.2.2.2.1, (hag c).2.2.2.2.2.2.2.2.2.1, (hag c).2.2.2.2.2.2.2.2.2.2.1]),
        (h c).2.2.2.2.1.trans (by
          rw [Cert.MixReferenceIdeal.Read.val_main_v99_eq, (hag c).1, (hag c).2.1, (hag c).2.2.1, (hag c).2.2.2.1, (hag c).2.2.2.2.2.2.2.1, (hag c).2.2.2.2.2.2.2.2.1, (hag c).2.2.2.2.2.2.2.2.2.1, (hag c).2.2.2.2.2.2.2.2.2.2.1]),
        (h c).2.2.2.2.2⟩)
      (Cert.MixReferenceIdeal.Value.run (F := Ideal) m' ρ')⟩

end Cert.MixProof

end
-- ==== Proof.lean ====
/- The proof of the claim: each call's frames are the generated runs', its value claims the modules' of that call. -/
module

public import proofs.«01_k».proof.Defs
public import proofs.«01_k».proof.Proof.Gen.ActKernel
public import proofs.«01_k».proof.Proof.Gen.ActKernel.Skeleton
public import proofs.«01_k».proof.Proof.Gen.ActKernel.Launch
public import proofs.«01_k».proof.Proof.Gen.ActKernel.Points
public import proofs.«01_k».proof.Proof.Gen.ActKernel.Frame
public import proofs.«01_k».proof.Proof.Gen.ActKernelIdeal
public import proofs.«01_k».proof.Proof.Gen.ActKernelIdeal.Skeleton
public import proofs.«01_k».proof.Proof.Gen.ActKernelIdeal.Launch
public import proofs.«01_k».proof.Proof.Gen.ActKernelIdeal.Points
public import proofs.«01_k».proof.Proof.Gen.ActKernelIdeal.Frame
public import proofs.«01_k».proof.Proof.Gen.ActReferenceIdeal
public import proofs.«01_k».proof.Proof.Gen.ActKernelIdeal.Value
public import proofs.«01_k».proof.Proof.Gen.ActReferenceIdeal.Run
public import proofs.«01_k».proof.Proof.Gen.ActReferenceIdeal.Read
public import proofs.«01_k».proof.Proof.ActClaim
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpReferenceIdeal
public import proofs.«01_k».proof.Proof.Gen.UpKernelIdeal.Value
public import proofs.«01_k».proof.Proof.Gen.UpReferenceIdeal.Run
public import proofs.«01_k».proof.Proof.Gen.UpReferenceIdeal.Read
public import proofs.«01_k».proof.Proof.UpClaim
public import proofs.«01_k».proof.Proof.Gen.WgradKernel
public import proofs.«01_k».proof.Proof.Gen.WgradKernel.Skeleton
public import proofs.«01_k».proof.Proof.Gen.WgradKernel.Launch
public import proofs.«01_k».proof.Proof.Gen.WgradKernel.Points
public import proofs.«01_k».proof.Proof.Gen.WgradKernel.Frame
public import proofs.«01_k».proof.Proof.Gen.WgradKernelIdeal
public import proofs.«01_k».proof.Proof.Gen.WgradKernelIdeal.Skeleton
public import proofs.«01_k».proof.Proof.Gen.WgradKernelIdeal.Launch
public import proofs.«01_k».proof.Proof.Gen.WgradKernelIdeal.Points
public import proofs.«01_k».proof.Proof.Gen.WgradKernelIdeal.Frame
public import proofs.«01_k».proof.Proof.Gen.WgradReferenceIdeal
public import proofs.«01_k».proof.Proof.Gen.WgradKernelIdeal.Value
public import proofs.«01_k».proof.Proof.Gen.WgradReferenceIdeal.Run
public import proofs.«01_k».proof.Proof.Gen.WgradReferenceIdeal.Read
public import proofs.«01_k».proof.Proof.WgradTile
public import proofs.«01_k».proof.Proof.Gen.InprojKernel
public import proofs.«01_k».proof.Proof.Gen.InprojKernel.Skeleton
public import proofs.«01_k».proof.Proof.Gen.InprojKernel.Launch
public import proofs.«01_k».proof.Proof.Gen.InprojKernel.Points
public import proofs.«01_k».proof.Proof.Gen.InprojKernel.Frame
public import proofs.«01_k».proof.Proof.Gen.InprojKernelIdeal
public import proofs.«01_k».proof.Proof.Gen.InprojKernelIdeal.Skeleton
public import proofs.«01_k».proof.Proof.Gen.InprojKernelIdeal.Launch
public import proofs.«01_k».proof.Proof.Gen.InprojKernelIdeal.Points
public import proofs.«01_k».proof.Proof.Gen.InprojKernelIdeal.Frame
public import proofs.«01_k».proof.Proof.Gen.InprojReferenceIdeal
public import proofs.«01_k».proof.Proof.Gen.InprojKernelIdeal.Value
public import proofs.«01_k».proof.Proof.Gen.InprojReferenceIdeal.Run
public import proofs.«01_k».proof.Proof.Gen.InprojReferenceIdeal.Read
public import proofs.«01_k».proof.Proof.InprojTile
public import proofs.«01_k».proof.Proof.Gen.RopeKernel
public import proofs.«01_k».proof.Proof.Gen.RopeKernel.Skeleton
public import proofs.«01_k».proof.Proof.Gen.RopeKernel.Launch
public import proofs.«01_k».proof.Proof.Gen.RopeKernel.Points
public import proofs.«01_k».proof.Proof.Gen.RopeKernel.Frame
public import proofs.«01_k».proof.Proof.Gen.RopeKernelIdeal
public import proofs.«01_k».proof.Proof.Gen.RopeKernelIdeal.Skeleton
public import proofs.«01_k».proof.Proof.Gen.RopeKernelIdeal.Launch
public import proofs.«01_k».proof.Proof.Gen.RopeKernelIdeal.Points
public import proofs.«01_k».proof.Proof.Gen.RopeKernelIdeal.Frame
public import proofs.«01_k».proof.Proof.Gen.RopeReferenceIdeal
public import proofs.«01_k».proof.Proof.Gen.RopeKernelIdeal.Value
public import proofs.«01_k».proof.Proof.Gen.RopeReferenceIdeal.Run
public import proofs.«01_k».proof.Proof.Gen.RopeReferenceIdeal.Read
public import proofs.«01_k».proof.Proof.RopeClaim
public import proofs.«01_k».proof.Proof.Gen.PreKernel
public import proofs.«01_k».proof.Proof.Gen.PreKernel.Skeleton
public import proofs.«01_k».proof.Proof.Gen.PreKernel.Launch
public import proofs.«01_k».proof.Proof.Gen.PreKernel.Points
public import proofs.«01_k».proof.Proof.Gen.PreKernel.Frame
public import proofs.«01_k».proof.Proof.Gen.PreKernelIdeal
public import proofs.«01_k».proof.Proof.Gen.PreKernelIdeal.Skeleton
public import proofs.«01_k».proof.Proof.Gen.PreKernelIdeal.Launch
public import proofs.«01_k».proof.Proof.Gen.PreKernelIdeal.Points
public import proofs.«01_k».proof.Proof.Gen.PreKernelIdeal.Frame
public import proofs.«01_k».proof.Proof.Gen.PreReferenceIdeal
public import proofs.«01_k».proof.Proof.Gen.PreKernelIdeal.Value
public import proofs.«01_k».proof.Proof.Gen.PreReferenceIdeal.Run
public import proofs.«01_k».proof.Proof.Gen.PreReferenceIdeal.Read
public import proofs.«01_k».proof.Proof.PreClaim
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.MixKernelIdeal.Value
public import proofs.«01_k».proof.Proof.Gen.MixReferenceIdeal.Run
public import proofs.«01_k».proof.Proof.Gen.MixReferenceIdeal.Read
public import proofs.«01_k».proof.Proof.MixClaim
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- Every claim of the certificate. -/
theorem claim : Cert.Claim := ⟨Cert.ActKernel.Gen.facts,
    Cert.ActKernelIdeal.Gen.facts,
    Cert.ActReferenceIdeal.Gen.facts,
    Cert.UpKernel.Gen.facts,
    Cert.UpKernelIdeal.Gen.facts,
    Cert.UpReferenceIdeal.Gen.facts,
    Cert.WgradKernel.Gen.facts,
    Cert.WgradKernelIdeal.Gen.facts,
    Cert.WgradReferenceIdeal.Gen.facts,
    Cert.InprojKernel.Gen.facts,
    Cert.InprojKernelIdeal.Gen.facts,
    Cert.InprojReferenceIdeal.Gen.facts,
    Cert.RopeKernel.Gen.facts,
    Cert.RopeKernelIdeal.Gen.facts,
    Cert.RopeReferenceIdeal.Gen.facts,
    Cert.PreKernel.Gen.facts,
    Cert.PreKernelIdeal.Gen.facts,
    Cert.PreReferenceIdeal.Gen.facts,
    Cert.MixKernel.Gen.facts,
    Cert.MixKernelIdeal.Gen.facts,
    Cert.MixReferenceIdeal.Gen.facts,
    Cert.ActProof.facts_finite,
    fun m ρ _ => Cert.ActKernel.Gen.frame m ρ,
    fun m ρ _ => Cert.ActKernelIdeal.Gen.frame m ρ,
    Cert.ActProof.quiescent_kernel_finite,
    Cert.ActProof.quiescent_reference,
    Cert.ActProof.quiescent_reference_finite,
    fun m ρ _ => Cert.UpKernel.Gen.frame m ρ,
    fun m ρ _ => Cert.UpKernelIdeal.Gen.frame m ρ,
    Cert.UpProof.quiescent_reference,
    fun m ρ _ => Cert.WgradKernel.Gen.frame m ρ,
    fun m ρ _ => Cert.WgradKernelIdeal.Gen.frame m ρ,
    Cert.WgradProof.quiescent_reference,
    fun m ρ _ => Cert.InprojKernel.Gen.frame m ρ,
    fun m ρ _ => Cert.InprojKernelIdeal.Gen.frame m ρ,
    Cert.InprojProof.quiescent_reference,
    fun m ρ _ => Cert.RopeKernel.Gen.frame m ρ,
    fun m ρ _ => Cert.RopeKernelIdeal.Gen.frame m ρ,
    Cert.RopeProof.quiescent_reference,
    fun m ρ _ => Cert.PreKernel.Gen.frame m ρ,
    fun m ρ _ => Cert.PreKernelIdeal.Gen.frame m ρ,
    Cert.PreProof.quiescent_reference,
    fun m ρ _ => Cert.MixKernel.Gen.frame m ρ,
    fun m ρ _ => Cert.MixKernelIdeal.Gen.frame m ρ,
    Cert.MixProof.quiescent_reference,
    trivial,
    Cert.ActProof.algebraic,
    trivial,
    Cert.UpProof.algebraic,
    trivial,
    Cert.WgradProof.algebraic,
    trivial,
    Cert.InprojProof.algebraic,
    trivial,
    Cert.RopeProof.algebraic,
    trivial,
    Cert.PreProof.algebraic,
    trivial,
    Cert.MixProof.algebraic⟩

end Cert.Proof

end
